-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2560 : Shape := ⟨2, ![2048, 2560]⟩
abbrev S2x1024 : Shape := ⟨2, ![2, 1024]⟩
abbrev S2x1024x2560 : Shape := ⟨3, ![2, 1024, 2560]⟩
abbrev S51200x2560 : Shape := ⟨2, ![51200, 2560]⟩
abbrev S51200 : Shape := ⟨1, ![51200]⟩
abbrev S25600x2560 : Shape := ⟨2, ![25600, 2560]⟩
abbrev S51200x20 : Shape := ⟨2, ![51200, 20]⟩
abbrev S2048x1 : Shape := ⟨2, ![2048, 1]⟩
abbrev S2048x128 : Shape := ⟨2, ![2048, 128]⟩
abbrev S1x51200 : Shape := ⟨2, ![1, 51200]⟩
abbrev S512x2560 : Shape := ⟨2, ![512, 2560]⟩
abbrev S1x512 : Shape := ⟨2, ![1, 512]⟩
abbrev S256x2560 : Shape := ⟨2, ![256, 2560]⟩
abbrev S512x20 : Shape := ⟨2, ![512, 20]⟩
abbrev S512x512 : Shape := ⟨2, ![512, 512]⟩
abbrev S256x128 : Shape := ⟨2, ![256, 128]⟩
abbrev S256x1x128 : Shape := ⟨3, ![256, 1, 128]⟩
abbrev S256x2x128 : Shape := ⟨3, ![256, 2, 128]⟩
abbrev S512x128 : Shape := ⟨2, ![512, 128]⟩
abbrev S512x1 : Shape := ⟨2, ![512, 1]⟩
abbrev S1x128 : Shape := ⟨2, ![1, 128]⟩
abbrev S64x128 : Shape := ⟨2, ![64, 128]⟩
abbrev S2048 : Shape := ⟨1, ![2048]⟩

abbrev nBuf : Space → Nat
  | .hbm => 17
  | .vmem => 25
  | .smem => 0
  | _ => 0

abbrev bufTy : (tb : Table) → Fin (tcTables nBuf tb) → BufTy
  | .hbm, ⟨0, _⟩ => ⟨S2048x2560, .fp8e4m3⟩
  | .hbm, ⟨1, _⟩ => ⟨S2x1024, .f32⟩
  | .hbm, ⟨2, _⟩ => ⟨S2x1024x2560, .bf16⟩
  | .hbm, ⟨3, _⟩ => ⟨S51200x2560, .fp8e4m3⟩
  | .hbm, ⟨4, _⟩ => ⟨S51200, .f32⟩
  | .hbm, ⟨5, _⟩ => ⟨S25600x2560, .i8⟩
  | .hbm, ⟨6, _⟩ => ⟨S51200x20, .f32⟩
  | .hbm, ⟨7, _⟩ => ⟨S2x1024, .i32⟩
  | .hbm, ⟨8, _⟩ => ⟨S2048x1, .f32⟩
  | .hbm, ⟨9, _⟩ => ⟨S2048x128, .f32⟩
  | .hbm, ⟨10, _⟩ => ⟨S2048x1, .i32⟩
  | .hbm, ⟨11, _⟩ => ⟨S2048x128, .i32⟩
  | .hbm, ⟨12, _⟩ => ⟨S2048x2560, .bf16⟩
  | .hbm, ⟨13, _⟩ => ⟨S1x51200, .f32⟩
  | .hbm, ⟨14, _⟩ => ⟨S2048x1, .f32⟩
  | .hbm, ⟨15, _⟩ => ⟨S2048x1, .f32⟩
  | .hbm, ⟨16, _⟩ => ⟨S2048x1, .f32⟩
  | .local _ .vmem, ⟨0, _⟩ => ⟨S2048x2560, .fp8e4m3⟩
  | .local _ .vmem, ⟨1, _⟩ => ⟨S2048x2560, .bf16⟩
  | .local _ .vmem, ⟨2, _⟩ => ⟨S2048x128, .f32⟩
  | .local _ .vmem, ⟨3, _⟩ => ⟨S2048x128, .i32⟩
  | .local _ .vmem, ⟨4, _⟩ => ⟨S512x2560, .fp8e4m3⟩
  | .local _ .vmem, ⟨5, _⟩ => ⟨S512x2560, .fp8e4m3⟩
  | .local _ .vmem, ⟨6, _⟩ => ⟨S1x512, .f32⟩
  | .local _ .vmem, ⟨7, _⟩ => ⟨S1x512, .f32⟩
  | .local _ .vmem, ⟨8, _⟩ => ⟨S256x2560, .i8⟩
  | .local _ .vmem, ⟨9, _⟩ => ⟨S256x2560, .i8⟩
  | .local _ .vmem, ⟨10, _⟩ => ⟨S512x20, .f32⟩
  | .local _ .vmem, ⟨11, _⟩ => ⟨S512x20, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S512x2560, .bf16⟩
  | .local _ .vmem, ⟨16, _⟩ => ⟨S512x512, .f32⟩
  | .local _ .vmem, ⟨17, _⟩ => ⟨S512x512, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | _, _ => ⟨S2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v4953 : BitVec 1 := Scalar.cmpi .eq arg0 c99_i32
  let v4954 : BitVec 32 := Scalar.extui v4953
  let c0_i32_1972 : BitVec 32 := 0#32
  let v4955 : BitVec 1 := Scalar.cmpi .ne v4954 c0_i32_1972
  v4955

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== ReferenceIdeal.lean ====
abbrev S2048x2560 : Shape := ⟨2, ![2048, 2560]⟩
abbrev S2x1024 : Shape := ⟨2, ![2, 1024]⟩
abbrev S2x1024x2560 : Shape := ⟨3, ![2, 1024, 2560]⟩
abbrev S51200x2560 : Shape := ⟨2, ![51200, 2560]⟩
abbrev S51200 : Shape := ⟨1, ![51200]⟩
abbrev S25600x2560 : Shape := ⟨2, ![25600, 2560]⟩
abbrev S51200x20 : Shape := ⟨2, ![51200, 20]⟩
abbrev S2048x1 : Shape := ⟨2, ![2048, 1]⟩
abbrev S1x51200 : Shape := ⟨2, ![1, 51200]⟩
abbrev S2048x51200 : Shape := ⟨2, ![2048, 51200]⟩
abbrev S25600x2x20 : Shape := ⟨3, ![25600, 2, 20]⟩
abbrev S25600x20x128 : Shape := ⟨3, ![25600, 20, 128]⟩
abbrev S25600x1x20 : Shape := ⟨3, ![25600, 1, 20]⟩
abbrev S25600x20 : Shape := ⟨2, ![25600, 20]⟩
abbrev S25600x20x1 : Shape := ⟨3, ![25600, 20, 1]⟩
abbrev S2048x25600 : Shape := ⟨2, ![2048, 25600]⟩
abbrev S2048x25600x1 : Shape := ⟨3, ![2048, 25600, 1]⟩
abbrev S2048x25600x2 : Shape := ⟨3, ![2048, 25600, 2]⟩
abbrev S2048 : Shape := ⟨1, ![2048]⟩

abbrev nBuf : Space → Nat
  | .hbm => 15
  | .vmem => 11
  | .smem => 0
  | _ => 0

abbrev bufTy : (tb : Table) → Fin (tcTables nBuf tb) → BufTy
  | .hbm, ⟨0, _⟩ => ⟨S2048x2560, .fp8e4m3⟩
  | .hbm, ⟨1, _⟩ => ⟨S2x1024, .f32⟩
  | .hbm, ⟨2, _⟩ => ⟨S2x1024x2560, .bf16⟩
  | .hbm, ⟨3, _⟩ => ⟨S51200x2560, .fp8e4m3⟩
  | .hbm, ⟨4, _⟩ => ⟨S51200, .f32⟩
  | .hbm, ⟨5, _⟩ => ⟨S25600x2560, .i8⟩
  | .hbm, ⟨6, _⟩ => ⟨S51200x20, .f32⟩
  | .hbm, ⟨7, _⟩ => ⟨S2x1024, .i32⟩
  | .hbm, ⟨8, _⟩ => ⟨S2048x1, .f32⟩
  | .hbm, ⟨9, _⟩ => ⟨S2048x2560, .bf16⟩
  | .hbm, ⟨10, _⟩ => ⟨S1x51200, .f32⟩
  | .hbm, ⟨11, _⟩ => ⟨S2048x1, .i32⟩
  | .hbm, ⟨12, _⟩ => ⟨S2048x1, .f32⟩
  | .hbm, ⟨13, _⟩ => ⟨S2048x1, .f32⟩
  | .hbm, ⟨14, _⟩ => ⟨S2048x1, .f32⟩
  | .local _ .vmem, ⟨0, _⟩ => ⟨S2048x2560, .fp8e4m3⟩
  | .local _ .vmem, ⟨1, _⟩ => ⟨S2048x1, .f32⟩
  | .local _ .vmem, ⟨2, _⟩ => ⟨S2048x2560, .bf16⟩
  | .local _ .vmem, ⟨3, _⟩ => ⟨S51200x2560, .fp8e4m3⟩
  | .local _ .vmem, ⟨4, _⟩ => ⟨S1x51200, .f32⟩
  | .local _ .vmem, ⟨5, _⟩ => ⟨S25600x2560, .i8⟩
  | .local _ .vmem, ⟨6, _⟩ => ⟨S51200x20, .f32⟩
  | .local _ .vmem, ⟨7, _⟩ => ⟨S2048x1, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | _, _ => ⟨S2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S51200x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x51200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S25600x2560 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S51200x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Heads.lean ====
/- What the two heads compute, written over plain arrays of extended reals and of words: logits of the policy and of the
   reference model, the log-probability of a target, and the divergence of two rows of logits.  No program occurs here. -/
module

public import Idealize.ShloMosaic.Lib.Pipeline.ValueKit

@[expose] public section

noncomputable section

namespace Cert.Heads

open Idealize.ShloMosaic

/-- The signed value of one of the two nibbles of a byte: the low one at even, the high one at odd `p`. -/
def nibble (b : BitVec 8) (p : ℕ) : ℤ := if p % 2 = 0 then (b.setWidth 4).toInt else ((b >>> 4).setWidth 4).toInt

/-- A nibble as an extended real. -/
abbrev nib (b : BitVec 8) (p : ℕ) : EReal := ((nibble b p : ℝ) : EReal)

/-- The policy logit of token row `r` and column `v`: the dot product of the codes, times the two scales. -/
def zP (xc : FVec Ideal ⟨2, ![2048, 2560]⟩ .fp8e4m3) (xs : FVec Ideal ⟨2, ![2, 1024]⟩ .f32)
    (wp : FVec Ideal ⟨2, ![51200, 2560]⟩ .fp8e4m3) (wps : FVec Ideal ⟨1, ![51200]⟩ .f32) (r : Fin 2048) (v : Fin 51200) : EReal :=
  (∑ k : Fin 2560, xc (ix2 r k) * wp (ix2 v k))
    * (xs (ix2 (⟨r.val / 1024, by omega⟩ : Fin 2) (⟨r.val % 1024, by omega⟩ : Fin 1024)) * wps (ix1 v))

/-- The reference model's logit of token row `r` and column `v`: the dot product with the dequantised nibbles. -/
def zQ (xr : FVec Ideal ⟨3, ![2, 1024, 2560]⟩ .bf16) (wq : IVec ⟨2, ![25600, 2560]⟩ 8)
    (wqs : FVec Ideal ⟨2, ![51200, 20]⟩ .f32) (r : Fin 2048) (v : Fin 51200) : EReal :=
  ∑ k : Fin 2560, xr (ix3 (⟨r.val / 1024, by omega⟩ : Fin 2) (⟨r.val % 1024, by omega⟩ : Fin 1024) k)
    * (nib (wq (ix2 (⟨v.val / 2, by omega⟩ : Fin 25600) k)) v.val * wqs (ix2 v (⟨k.val / 128, by omega⟩ : Fin 20)))

/-- The greatest logit of a row. -/
def top (z : Fin 51200 → EReal) : EReal := Finset.univ.sup z

/-- The sum of the exponentials of a row of logits, the greatest one subtracted. -/
def mass (z : Fin 51200 → EReal) : EReal := ∑ v, Ideal.exp (z v - top z)

/-- The logarithm of a row's sum of exponentials. -/
def lse (z : Fin 51200 → EReal) : EReal := top z + Ideal.log (mass z)

/-- The logit of the target (0 where the target is no column). -/
def pick (z : Fin 51200 → EReal) (t : BitVec 32) : EReal := ∑ v : Fin 51200, if t = BitVec.ofNat 32 v.val then z v else 0

/-- The log-probability of the target. -/
def logp (z : Fin 51200 → EReal) (t : BitVec 32) : EReal := pick z t - lse z

/-- The divergence of the second distribution from the first. -/
def kl (z w : Fin 51200 → EReal) : EReal :=
  Ideal.div (∑ v, Ideal.exp (z v - top z) * (z v - w v)) (mass z) - lse z + lse w

/-- A fold of the maximum from `⊥` is the supremum. -/
theorem fold_max {ι : Type*} [Fintype ι] (f : ι → EReal) : Finset.univ.fold max ⊥ f = Finset.univ.sup f := rfl

/-- The word of `-∞`. -/
theorem neg_inf : Ideal.ofBits .f32 0xFF800000#32 = ⊥ := by
  simp [Ideal.ofBits, Ideal.ieee]

/-- A selection by equality of words. -/
theorem select_eq {α : Type} (a b : BitVec 32) (x y : α) : Scalar.select (IntOp.cmpi .eq a b) x y = if a = b then x else y := by
  by_cases h : a = b
  · simp [Scalar.select, IntOp.cmpi, h]
  · have : (a == b) = false := by simpa using h
    simp [Scalar.select, IntOp.cmpi, h, this]

theorem nibble_even (b : BitVec 8) {p : ℕ} (h : p % 2 = 0) : nibble b p = nibble b 0 := by simp [nibble, h]
theorem nibble_odd (b : BitVec 8) {p : ℕ} (h : p % 2 = 1) : nibble b p = nibble b 1 := by simp [nibble, h]

/-- The low nibble as the kernel reads it: shifted left and back with the sign. -/
theorem shift_low : ∀ b : BitVec 8, (((b.setWidth 32) <<< 28).sshiftRight 28).toInt = nibble b 0 := by decide
theorem shift_high : ∀ b : BitVec 8, (((b.setWidth 32) <<< 24).sshiftRight 28).toInt = nibble b 1 := by decide

end Cert.Heads

end
-- ==== Proof.Block.lean ====
/- One block of 64 token rows of the main call: the vectors it stores, and those vectors entry by entry. -/
module

public import proofs.«01_k».proof.Proof.Gen.KernelIdeal.Value
public import proofs.«01_k».proof.Proof.Heads
public import Idealize.ShloMosaic.Lib.Pipeline.ValueKit
public import Idealize.ShloMosaic.Lib.Pipeline.ReadBack
public import Idealize.ShloMosaic.Lib.WholeRead

@[expose] public section

set_option maxRecDepth 16384

noncomputable section

namespace Cert.Blk

open Idealize.ShloMosaic Idealize.ShloMosaic.TcCoe Idealize.SL.Sem
open Cert.KernelIdeal Cert.KernelIdeal.Gen

/-! ## The vectors of one block -/

/-- The first input times the row scale and the scaled column scales: four chunks of 128 columns. -/
def p0 (w : FVec Ideal S1x512 .f32) (xs z : Vec Ideal S64x128 .f32) : FVec Ideal S64x128 .f32 :=
  mulf z (mulf (shapeCast S64x128 xs shapeCasts_S64x128_S64x128) (broadcastTo S64x128 (extractStridedSlice S1x128 ![0, 0] w slices_S1x512_o0_0_S1x128) broadcasts_S1x128_S64x128))
def p1 (w : FVec Ideal S1x512 .f32) (xs z : Vec Ideal S64x128 .f32) : FVec Ideal S64x128 .f32 :=
  mulf z (mulf (shapeCast S64x128 xs shapeCasts_S64x128_S64x128) (broadcastTo S64x128 (extractStridedSlice S1x128 ![0, 128] w slices_S1x512_o0_128_S1x128) broadcasts_S1x128_S64x128))
def p2 (w : FVec Ideal S1x512 .f32) (xs z : Vec Ideal S64x128 .f32) : FVec Ideal S64x128 .f32 :=
  mulf z (mulf (shapeCast S64x128 xs shapeCasts_S64x128_S64x128) (broadcastTo S64x128 (extractStridedSlice S1x128 ![0, 256] w slices_S1x512_o0_256_S1x128) broadcasts_S1x128_S64x128))
def p3 (w : FVec Ideal S1x512 .f32) (xs z : Vec Ideal S64x128 .f32) : FVec Ideal S64x128 .f32 :=
  mulf z (mulf (shapeCast S64x128 xs shapeCasts_S64x128_S64x128) (broadcastTo S64x128 (extractStridedSlice S1x128 ![0, 384] w slices_S1x512_o0_384_S1x128) broadcasts_S1x128_S64x128))

/-- The second input in base-2 units. -/
def q (z : Vec Ideal S64x128 .f32) : FVec Ideal S64x128 .f32 :=
  mulf z (broadcast S64x128 (Named.named κ "log2e" 0x3FB8AA3B#32 : Ideal .f32))

/-- Whether the target is this column, chunk by chunk (`c` is the chunk's first column). -/
def hit (ln : IVec S1x128 32) (tg : Vec Ideal S64x128 .i32) (c : BitVec 32) : IVec S64x128 1 :=
  cmpi .eq (shapeCast S64x128 tg shapeCasts_S64x128_S64x128) (broadcastTo S64x128 (addi ln (broadcast S1x128 c)) broadcasts_S1x128_S64x128)

section
variable (w : FVec Ideal S1x512 .f32) (ln : IVec S1x128 32) (xs : Vec Ideal S64x128 .f32) (tg : Vec Ideal S64x128 .i32)
  (z0 z1 z2 z3 y0 y1 y2 y3 m s t n u a b : Vec Ideal S64x128 .f32)

/-- The new maximum of the first input. -/
def mpV : FVec Ideal S64x128 .f32 := maximumf (maximumf (maximumf (maximumf m (p0 w xs z0)) (p1 w xs z1)) (p2 w xs z2)) (p3 w xs z3)
/-- The new maximum of the second input. -/
def mqV : FVec Ideal S64x128 .f32 := maximumf (maximumf (maximumf (maximumf n (q y0)) (q y1)) (q y2)) (q y3)
/-- The new sum of exponentials of the first input. -/
def spV : FVec Ideal S64x128 .f32 :=
  addf (addf (addf (addf (mulf s (exp2 (subf m (mpV w xs z0 z1 z2 z3 m)))) (exp2 (subf (p0 w xs z0) (mpV w xs z0 z1 z2 z3 m))))
    (exp2 (subf (p1 w xs z1) (mpV w xs z0 z1 z2 z3 m)))) (exp2 (subf (p2 w xs z2) (mpV w xs z0 z1 z2 z3 m)))) (exp2 (subf (p3 w xs z3) (mpV w xs z0 z1 z2 z3 m)))
/-- The new weighted sum. -/
def ttV : FVec Ideal S64x128 .f32 :=
  addf (addf (addf (addf (mulf t (exp2 (subf m (mpV w xs z0 z1 z2 z3 m))))
      (mulf (exp2 (subf (p0 w xs z0) (mpV w xs z0 z1 z2 z3 m))) (subf (p0 w xs z0) (q y0))))
      (mulf (exp2 (subf (p1 w xs z1) (mpV w xs z0 z1 z2 z3 m))) (subf (p1 w xs z1) (q y1))))
      (mulf (exp2 (subf (p2 w xs z2) (mpV w xs z0 z1 z2 z3 m))) (subf (p2 w xs z2) (q y2))))
      (mulf (exp2 (subf (p3 w xs z3) (mpV w xs z0 z1 z2 z3 m))) (subf (p3 w xs z3) (q y3)))
/-- The new sum of exponentials of the second input. -/
def sqV : FVec Ideal S64x128 .f32 :=
  addf (addf (addf (addf (mulf u (exp2 (subf n (mqV y0 y1 y2 y3 n)))) (exp2 (subf (q y0) (mqV y0 y1 y2 y3 n))))
    (exp2 (subf (q y1) (mqV y0 y1 y2 y3 n)))) (exp2 (subf (q y2) (mqV y0 y1 y2 y3 n)))) (exp2 (subf (q y3) (mqV y0 y1 y2 y3 n)))
/-- The first input at the target. -/
def tpV : FVec Ideal S64x128 .f32 :=
  select (hit ln tg 384#32) (p3 w xs z3) (select (hit ln tg 256#32) (p2 w xs z2) (select (hit ln tg 128#32) (p1 w xs z1) (select (hit ln tg 0#32) (p0 w xs z0) a)))
/-- The second input at the target. -/
def tqV : FVec Ideal S64x128 .f32 :=
  select (hit ln tg 384#32) (q y3) (select (hit ln tg 256#32) (q y2) (select (hit ln tg 128#32) (q y1) (select (hit ln tg 0#32) (q y0) b)))

/-! ## Entry by entry -/

/-- `log2e` as the program names it. -/
theorem log2e_name : (Named.named κ "log2e" 0x3FB8AA3B#32 : Ideal .f32) = (((Real.log 2)⁻¹ : ℝ) : EReal) :=
  IdealRules.named_const.ideal_named_scalar _ _ _ _ rfl

theorem p0_at (i : Fin 64) (l : Fin 128) : p0 w xs z0 (ix2 i l) = z0 (ix2 i l) * (xs (ix2 i l) * w (ix2 0 ⟨0 + l.val, by omega⟩)) := by
  unfold p0; pointwise
theorem p1_at (i : Fin 64) (l : Fin 128) : p1 w xs z0 (ix2 i l) = z0 (ix2 i l) * (xs (ix2 i l) * w (ix2 0 ⟨128 + l.val, by omega⟩)) := by
  unfold p1; pointwise
theorem p2_at (i : Fin 64) (l : Fin 128) : p2 w xs z0 (ix2 i l) = z0 (ix2 i l) * (xs (ix2 i l) * w (ix2 0 ⟨256 + l.val, by omega⟩)) := by
  unfold p2; pointwise
theorem p3_at (i : Fin 64) (l : Fin 128) : p3 w xs z0 (ix2 i l) = z0 (ix2 i l) * (xs (ix2 i l) * w (ix2 0 ⟨384 + l.val, by omega⟩)) := by
  unfold p3; pointwise
theorem q_at (i : Fin 64) (l : Fin 128) : q y0 (ix2 i l) = y0 (ix2 i l) * (((Real.log 2)⁻¹ : ℝ) : EReal) := by
  rw [← log2e_name]; unfold q; pointwise
theorem hit_at (c : BitVec 32) (i : Fin 64) (l : Fin 128) (x y : EReal) :
    Scalar.select (hit ln tg c (ix2 i l)) x y = if tg (ix2 i l) = ln (ix2 0 l) + c then x else y := by
  have h : hit ln tg c (ix2 i l) = IntOp.cmpi .eq (tg (ix2 i l)) (ln (ix2 0 l) + c) := by unfold hit; pointwise; rfl
  rw [h, Heads.select_eq]

/-! ## One entry's update by four columns -/

/-- The maximum. -/
def upM (m : EReal) (p : Fin 4 → EReal) : EReal := max (max (max (max m (p 0)) (p 1)) (p 2)) (p 3)
/-- The sum of exponentials. -/
def upS (s m : EReal) (p : Fin 4 → EReal) : EReal :=
  s * Ideal.exp2 (m - upM m p) + Ideal.exp2 (p 0 - upM m p) + Ideal.exp2 (p 1 - upM m p) + Ideal.exp2 (p 2 - upM m p) + Ideal.exp2 (p 3 - upM m p)
/-- The weighted sum. -/
def upT (t m : EReal) (p q : Fin 4 → EReal) : EReal :=
  t * Ideal.exp2 (m - upM m p) + Ideal.exp2 (p 0 - upM m p) * (p 0 - q 0) + Ideal.exp2 (p 1 - upM m p) * (p 1 - q 1)
    + Ideal.exp2 (p 2 - upM m p) * (p 2 - q 2) + Ideal.exp2 (p 3 - upM m p) * (p 3 - q 3)
/-- The value at the target. -/
def upA (a : EReal) (T : BitVec 32) (L : BitVec 32) (p : Fin 4 → EReal) : EReal :=
  if T = L + 384#32 then p 3 else if T = L + 256#32 then p 2 else if T = L + 128#32 then p 1 else if T = L + 0#32 then p 0 else a

variable (i : Fin 64) (l : Fin 128) (P Q : Fin 4 → EReal) (M S : EReal) (T L : BitVec 32)

theorem mpV_at (h0 : p0 w xs z0 (ix2 i l) = P 0) (h1 : p1 w xs z1 (ix2 i l) = P 1) (h2 : p2 w xs z2 (ix2 i l) = P 2)
    (h3 : p3 w xs z3 (ix2 i l) = P 3) (hm : m (ix2 i l) = M) : mpV w xs z0 z1 z2 z3 m (ix2 i l) = upM M P := by
  unfold mpV upM; rw [← h0, ← h1, ← h2, ← h3, ← hm]; pointwise
theorem mqV_at (h0 : q y0 (ix2 i l) = Q 0) (h1 : q y1 (ix2 i l) = Q 1) (h2 : q y2 (ix2 i l) = Q 2)
    (h3 : q y3 (ix2 i l) = Q 3) (hm : n (ix2 i l) = M) : mqV y0 y1 y2 y3 n (ix2 i l) = upM M Q := by
  unfold mqV upM; rw [← h0, ← h1, ← h2, ← h3, ← hm]; pointwise
theorem spV_at (h0 : p0 w xs z0 (ix2 i l) = P 0) (h1 : p1 w xs z1 (ix2 i l) = P 1) (h2 : p2 w xs z2 (ix2 i l) = P 2)
    (h3 : p3 w xs z3 (ix2 i l) = P 3) (hm : m (ix2 i l) = M) (hs : s (ix2 i l) = S) :
    spV w xs z0 z1 z2 z3 m s (ix2 i l) = upS S M P := by
  unfold spV upS; rw [← mpV_at w xs z0 z1 z2 z3 m i l P M h0 h1 h2 h3 hm, ← h0, ← h1, ← h2, ← h3, ← hm, ← hs]; pointwise; rfl
theorem sqV_at (h0 : q y0 (ix2 i l) = Q 0) (h1 : q y1 (ix2 i l) = Q 1) (h2 : q y2 (ix2 i l) = Q 2)
    (h3 : q y3 (ix2 i l) = Q 3) (hm : n (ix2 i l) = M) (hs : u (ix2 i l) = S) :
    sqV y0 y1 y2 y3 n u (ix2 i l) = upS S M Q := by
  unfold sqV upS; rw [← mqV_at y0 y1 y2 y3 n i l Q M h0 h1 h2 h3 hm, ← h0, ← h1, ← h2, ← h3, ← hm, ← hs]; pointwise; rfl
theorem ttV_at (h0 : p0 w xs z0 (ix2 i l) = P 0) (h1 : p1 w xs z1 (ix2 i l) = P 1) (h2 : p2 w xs z2 (ix2 i l) = P 2)
    (h3 : p3 w xs z3 (ix2 i l) = P 3) (g0 : q y0 (ix2 i l) = Q 0) (g1 : q y1 (ix2 i l) = Q 1) (g2 : q y2 (ix2 i l) = Q 2)
    (g3 : q y3 (ix2 i l) = Q 3) (hm : m (ix2 i l) = M) (hs : t (ix2 i l) = S) :
    ttV w xs z0 z1 z2 z3 y0 y1 y2 y3 m t (ix2 i l) = upT S M P Q := by
  unfold ttV upT
  rw [← mpV_at w xs z0 z1 z2 z3 m i l P M h0 h1 h2 h3 hm, ← h0, ← h1, ← h2, ← h3, ← g0, ← g1, ← g2, ← g3, ← hm, ← hs]; pointwise; rfl
theorem tpV_at (h0 : p0 w xs z0 (ix2 i l) = P 0) (h1 : p1 w xs z1 (ix2 i l) = P 1) (h2 : p2 w xs z2 (ix2 i l) = P 2)
    (h3 : p3 w xs z3 (ix2 i l) = P 3) (ht : tg (ix2 i l) = T) (hl : ln (ix2 0 l) = L) (hs : a (ix2 i l) = S) :
    tpV w ln xs tg z0 z1 z2 z3 a (ix2 i l) = upA S T L P := by
  unfold tpV upA; rw [← h0, ← h1, ← h2, ← h3, ← ht, ← hl, ← hs, ← hit_at, ← hit_at, ← hit_at, ← hit_at]; pointwise
theorem tqV_at (h0 : q y0 (ix2 i l) = Q 0) (h1 : q y1 (ix2 i l) = Q 1) (h2 : q y2 (ix2 i l) = Q 2)
    (h3 : q y3 (ix2 i l) = Q 3) (ht : tg (ix2 i l) = T) (hl : ln (ix2 0 l) = L) (hs : b (ix2 i l) = S) :
    tqV ln tg y0 y1 y2 y3 b (ix2 i l) = upA S T L Q := by
  unfold tqV upA; rw [← h0, ← h1, ← h2, ← h3, ← ht, ← hl, ← hs, ← hit_at, ← hit_at, ← hit_at, ← hit_at]; pointwise

end

/-! ## A block of one grid point -/

/-- What one grid point works on: the two products of the point's 512 columns, the row scales, the targets, the column scales and the columns' numbers. -/
structure Data where
  Z : Fin 2048 → Fin 512 → EReal
  Y : Fin 2048 → Fin 512 → EReal
  X : Vec Ideal S2048x128 .f32
  T : Vec Ideal S2048x128 .i32
  W : FVec Ideal S1x512 .f32
  N : IVec S1x128 32

/-- The column of chunk `c` and lane `l`. -/
def col (c : Fin 4) (l : Fin 128) : Fin 512 := ⟨128 * c.val + l.val, by omega⟩

namespace Data
variable (D : Data)
/-- The four columns of a lane, first input. -/
def P (r : Fin 2048) (l : Fin 128) (c : Fin 4) : EReal := D.Z r (col c l) * (D.X (ix2 r l) * D.W (ix2 0 (col c l)))
/-- The four columns of a lane, second input. -/
def Q (r : Fin 2048) (l : Fin 128) (c : Fin 4) : EReal := D.Y r (col c l) * (((Real.log 2)⁻¹ : ℝ) : EReal)
variable (M S : Vec Ideal S2048x128 .f32)
def gMP : Vec Ideal S2048x128 .f32 := fun y => upM (M y) (D.P (y 0) (y 1))
def gMQ : Vec Ideal S2048x128 .f32 := fun y => upM (M y) (D.Q (y 0) (y 1))
def gSP : Vec Ideal S2048x128 .f32 := fun y => upS (S y) (M y) (D.P (y 0) (y 1))
def gSQ : Vec Ideal S2048x128 .f32 := fun y => upS (S y) (M y) (D.Q (y 0) (y 1))
def gTT : Vec Ideal S2048x128 .f32 := fun y => upT (S y) (M y) (D.P (y 0) (y 1)) (D.Q (y 0) (y 1))
def gTP : Vec Ideal S2048x128 .f32 := fun y => upA (S y) (D.T y) (D.N (ix2 0 (y 1))) (D.P (y 0) (y 1))
def gTQ : Vec Ideal S2048x128 .f32 := fun y => upA (S y) (D.T y) (D.N (ix2 0 (y 1))) (D.Q (y 0) (y 1))
end Data

/-- The block `v` holds the rows of `V` from row `o` on. -/
def RowsOf {α : Type} (o : ℕ) (v : S64x128.Idx → α) (V : S2048x128.Idx → α) : Prop :=
  ∀ (i : Fin 64) (l : Fin 128) (h : o + i.val < 2048), v (ix2 i l) = V (ix2 ⟨o + i.val, h⟩ l)
/-- The block `z` holds the rows of `Z` from row `o` on, at the columns of chunk `c`. -/
def ColsOf (o : ℕ) (c : Fin 4) (z : S64x128.Idx → EReal) (Z : Fin 2048 → Fin 512 → EReal) : Prop :=
  ∀ (i : Fin 64) (l : Fin 128) (h : o + i.val < 2048), z (ix2 i l) = Z ⟨o + i.val, h⟩ (col c l)

/-- The four chunks of the first input of the rows from `o` on. -/
structure BlkP (D : Data) (o : ℕ) (xs z0 z1 z2 z3 : Vec Ideal S64x128 .f32) : Prop where
  h0 : ∀ (i : Fin 64) (l : Fin 128) (h : o + i.val < 2048), p0 D.W xs z0 (ix2 i l) = D.P ⟨o + i.val, h⟩ l 0
  h1 : ∀ (i : Fin 64) (l : Fin 128) (h : o + i.val < 2048), p1 D.W xs z1 (ix2 i l) = D.P ⟨o + i.val, h⟩ l 1
  h2 : ∀ (i : Fin 64) (l : Fin 128) (h : o + i.val < 2048), p2 D.W xs z2 (ix2 i l) = D.P ⟨o + i.val, h⟩ l 2
  h3 : ∀ (i : Fin 64) (l : Fin 128) (h : o + i.val < 2048), p3 D.W xs z3 (ix2 i l) = D.P ⟨o + i.val, h⟩ l 3
/-- The four chunks of the second input of the rows from `o` on. -/
structure BlkQ (D : Data) (o : ℕ) (y0 y1 y2 y3 : Vec Ideal S64x128 .f32) : Prop where
  h0 : ∀ (i : Fin 64) (l : Fin 128) (h : o + i.val < 2048), q y0 (ix2 i l) = D.Q ⟨o + i.val, h⟩ l 0
  h1 : ∀ (i : Fin 64) (l : Fin 128) (h : o + i.val < 2048), q y1 (ix2 i l) = D.Q ⟨o + i.val, h⟩ l 1
  h2 : ∀ (i : Fin 64) (l : Fin 128) (h : o + i.val < 2048), q y2 (ix2 i l) = D.Q ⟨o + i.val, h⟩ l 2
  h3 : ∀ (i : Fin 64) (l : Fin 128) (h : o + i.val < 2048), q y3 (ix2 i l) = D.Q ⟨o + i.val, h⟩ l 3

section
variable (D : Data) {o : ℕ} {xs z0 z1 z2 z3 y0 y1 y2 y3 m s : Vec Ideal S64x128 .f32} {tg : Vec Ideal S64x128 .i32} {M S : Vec Ideal S2048x128 .f32}

theorem blkP (hx : RowsOf o xs D.X) (h0 : ColsOf o 0 z0 D.Z) (h1 : ColsOf o 1 z1 D.Z) (h2 : ColsOf o 2 z2 D.Z) (h3 : ColsOf o 3 z3 D.Z) :
    BlkP D o xs z0 z1 z2 z3 where
  h0 i l h := by rw [p0_at, h0 i l h, hx i l h]; rfl
  h1 i l h := by rw [p1_at, h1 i l h, hx i l h]; rfl
  h2 i l h := by rw [p2_at, h2 i l h, hx i l h]; rfl
  h3 i l h := by rw [p3_at, h3 i l h, hx i l h]; rfl
theorem blkQ (h0 : ColsOf o 0 y0 D.Y) (h1 : ColsOf o 1 y1 D.Y) (h2 : ColsOf o 2 y2 D.Y) (h3 : ColsOf o 3 y3 D.Y) :
    BlkQ D o y0 y1 y2 y3 where
  h0 i l h := by rw [q_at, h0 i l h]; rfl
  h1 i l h := by rw [q_at, h1 i l h]; rfl
  h2 i l h := by rw [q_at, h2 i l h]; rfl
  h3 i l h := by rw [q_at, h3 i l h]; rfl

/-- A block stored whole rows deep: index by index it suffices to look at rows and lanes. -/
theorem piece {inb : ∀ a, (![o, 0] : Fin 2 → ℕ) a + S64x128.size a ≤ S2048x128.size a} {v : FVec Ideal S64x128 .f32} {G : Vec Ideal S2048x128 .f32}
    (h : ∀ (i : Fin 64) (l : Fin 128) (h : o + i.val < 2048), v (ix2 i l) = G (ix2 ⟨o + i.val, h⟩ l))
    (x : (Rect.unit (s := S2048x128) ![o, 0] S64x128.size inb).shape.Idx) :
    shapeCast S64x128 v shapeCasts_S64x128_S64x128 x = G ((Rect.unit (s := S2048x128) ![o, 0] S64x128.size inb).emb x) := by
  obtain ⟨i, l, rfl⟩ : ∃ (i : Fin 64) (l : Fin 128), x = ix2 i l := ⟨x 0, x 1, eq_ix2 x⟩
  have h0 := inb 0
  have hi : o + i.val < 2048 := by have : o + 64 ≤ 2048 := h0; omega
  have e : (Rect.unit (s := S2048x128) ![o, 0] S64x128.size inb).emb (ix2 i l) = ix2 ⟨o + i.val, hi⟩ l := by
    funext a; apply Fin.ext
    refine Fin.cases ?_ (fun a => ?_) a
    · simp [Rect.emb, Rect.unit]
    · obtain rfl : a = 0 := Subsingleton.elim _ _
      simp [Rect.emb, Rect.unit]
  rw [e, ← h i l hi]
  pointwise

variable {inb : ∀ a, (![o, 0] : Fin 2 → ℕ) a + S64x128.size a ≤ S2048x128.size a}

theorem piece_mp (B : BlkP D o xs z0 z1 z2 z3) (hm : RowsOf o m M) (x : (Rect.unit (s := S2048x128) ![o, 0] S64x128.size inb).shape.Idx) :
    shapeCast S64x128 (mpV D.W xs z0 z1 z2 z3 m) shapeCasts_S64x128_S64x128 x = D.gMP M ((Rect.unit (s := S2048x128) ![o, 0] S64x128.size inb).emb x) :=
  piece (fun i l h => mpV_at _ _ _ _ _ _ _ i l _ _ (B.h0 i l h) (B.h1 i l h) (B.h2 i l h) (B.h3 i l h) (hm i l h)) x
theorem piece_mq (C : BlkQ D o y0 y1 y2 y3) (hm : RowsOf o m M) (x : (Rect.unit (s := S2048x128) ![o, 0] S64x128.size inb).shape.Idx) :
    shapeCast S64x128 (mqV y0 y1 y2 y3 m) shapeCasts_S64x128_S64x128 x = D.gMQ M ((Rect.unit (s := S2048x128) ![o, 0] S64x128.size inb).emb x) :=
  piece (fun i l h => mqV_at _ _ _ _ _ i l _ _ (C.h0 i l h) (C.h1 i l h) (C.h2 i l h) (C.h3 i l h) (hm i l h)) x
theorem piece_sp (B : BlkP D o xs z0 z1 z2 z3) (hm : RowsOf o m M) (hs : RowsOf o s S) (x : (Rect.unit (s := S2048x128) ![o, 0] S64x128.size inb).shape.Idx) :
    shapeCast S64x128 (spV D.W xs z0 z1 z2 z3 m s) shapeCasts_S64x128_S64x128 x = D.gSP M S ((Rect.unit (s := S2048x128) ![o, 0] S64x128.size inb).emb x) :=
  piece (fun i l h => spV_at _ _ _ _ _ _ _ _ i l _ _ _ (B.h0 i l h) (B.h1 i l h) (B.h2 i l h) (B.h3 i l h) (hm i l h) (hs i l h)) x
theorem piece_sq (C : BlkQ D o y0 y1 y2 y3) (hm : RowsOf o m M) (hs : RowsOf o s S) (x : (Rect.unit (s := S2048x128) ![o, 0] S64x128.size inb).shape.Idx) :
    shapeCast S64x128 (sqV y0 y1 y2 y3 m s) shapeCasts_S64x128_S64x128 x = D.gSQ M S ((Rect.unit (s := S2048x128) ![o, 0] S64x128.size inb).emb x) :=
  piece (fun i l h => sqV_at _ _ _ _ _ _ i l _ _ _ (C.h0 i l h) (C.h1 i l h) (C.h2 i l h) (C.h3 i l h) (hm i l h) (hs i l h)) x
theorem piece_tt (B : BlkP D o xs z0 z1 z2 z3) (C : BlkQ D o y0 y1 y2 y3) (hm : RowsOf o m M) (hs : RowsOf o s S) (x : (Rect.unit (s := S2048x128) ![o, 0] S64x128.size inb).shape.Idx) :
    shapeCast S64x128 (ttV D.W xs z0 z1 z2 z3 y0 y1 y2 y3 m s) shapeCasts_S64x128_S64x128 x = D.gTT M S ((Rect.unit (s := S2048x128) ![o, 0] S64x128.size inb).emb x) :=
  piece (fun i l h => ttV_at _ _ _ _ _ _ _ _ _ _ _ _ i l _ _ _ _ (B.h0 i l h) (B.h1 i l h) (B.h2 i l h) (B.h3 i l h)
    (C.h0 i l h) (C.h1 i l h) (C.h2 i l h) (C.h3 i l h) (hm i l h) (hs i l h)) x
theorem piece_tp (B : BlkP D o xs z0 z1 z2 z3) (ht : RowsOf o tg D.T) (hs : RowsOf o s S) (x : (Rect.unit (s := S2048x128) ![o, 0] S64x128.size inb).shape.Idx) :
    shapeCast S64x128 (tpV D.W D.N xs tg z0 z1 z2 z3 s) shapeCasts_S64x128_S64x128 x = D.gTP S ((Rect.unit (s := S2048x128) ![o, 0] S64x128.size inb).emb x) :=
  piece (fun i l h => tpV_at _ _ _ _ _ _ _ _ _ i l _ _ _ _ (B.h0 i l h) (B.h1 i l h) (B.h2 i l h) (B.h3 i l h) (ht i l h) rfl (hs i l h)) x
theorem piece_tq (C : BlkQ D o y0 y1 y2 y3) (ht : RowsOf o tg D.T) (hs : RowsOf o s S) (x : (Rect.unit (s := S2048x128) ![o, 0] S64x128.size inb).shape.Idx) :
    shapeCast S64x128 (tqV D.N tg y0 y1 y2 y3 s) shapeCasts_S64x128_S64x128 x = D.gTQ S ((Rect.unit (s := S2048x128) ![o, 0] S64x128.size inb).emb x) :=
  piece (fun i l h => tqV_at _ _ _ _ _ _ _ i l _ _ _ _ (C.h0 i l h) (C.h1 i l h) (C.h2 i l h) (C.h3 i l h) (ht i l h) rfl (hs i l h)) x
end

/-! ## What the loads of a block read -/

/-- A block loaded from a buffer whose contents are known holds its rows. -/
theorem rows_unread {sig : RefSig} {sp : Space} {e : EltTy} {o : ℕ} (m : Memref sig .tc sp S2048x128 e) (hm : m.IsWhole) (X : S2048x128.Idx → Elt Ideal e)
    (inb : ∀ a, (![o, 0] : Fin 2 → ℕ) a + S64x128.size a ≤ S2048x128.size a) :
    RowsOf o (View.readAt (Elt Ideal) m.view (Rect.unit (s := S2048x128) ![o, 0] S64x128.size inb).toLoadRect (hm.unread X)) X := by
  intro i l h
  rw [Memref.IsWhole.readAt_unread]
  show X _ = X _
  congr 1
  funext a; apply Fin.ext
  refine Fin.cases ?_ (fun a => ?_) a
  · simp [LoadRect.idx, Rect.toLoadRect, Rect.unit]
  · obtain rfl : a = 0 := Subsingleton.elim _ _
    simp [LoadRect.idx, Rect.toLoadRect, Rect.unit]

/-- A load after stores of which only the `n`-th last and earlier ones touch it reads what those left. -/
theorem readCov_over {sig : RefSig} {κ : Kind} {sp : Space} {s : Shape} {e : EltTy} (v : View sig κ sp s e) (B : LoadRect s) :
    ∀ (n : ℕ) (L : List (View.Piece (Elt Ideal) s e)), ((L.take n).all fun p => LoadRect.disj p.1 B) = true → v.readCov L B = v.readCov (L.drop n) B
  | 0, _, _ => rfl
  | _ + 1, [], _ => rfl
  | n + 1, ⟨r, w⟩ :: L, h => by
    simp only [List.take_succ_cons, List.all_cons, Bool.and_eq_true] at h
    rw [View.readCov_skip v r w L B h.1, readCov_over v B n L h.2, List.drop_succ_cons]

/-- A block loaded after a fill of the whole buffer and `n` stores elsewhere holds the fill's rows. -/
theorem rows_fill {sig : RefSig} {κ : Kind} {sp : Space} {o : ℕ} (v : View sig κ sp S2048x128 .f32) (n : ℕ) (L : List (View.Piece (Elt Ideal) S2048x128 .f32))
    (X : Vec Ideal S2048x128 .f32) (inb : ∀ a, (![o, 0] : Fin 2 → ℕ) a + S64x128.size a ≤ S2048x128.size a)
    (inb0 : ∀ a, (![0, 0] : Fin 2 → ℕ) a + S2048x128.size a ≤ S2048x128.size a)
    (h : ((L.take n).all fun p => LoadRect.disj p.1 (Rect.unit (s := S2048x128) ![o, 0] S64x128.size inb).toLoadRect) = true)
    (hd : L.drop n = [⟨Rect.unit (s := S2048x128) ![0, 0] S2048x128.size inb0, X⟩]) :
    RowsOf o (v.readCov L (Rect.unit (s := S2048x128) ![o, 0] S64x128.size inb).toLoadRect) X := by
  intro i l hi
  rw [readCov_over v _ n L h, hd, View.readCov_fill (h := by intro a; fin_cases a <;> rfl)]
  show X _ = X _
  congr 1
  funext a; apply Fin.ext
  refine Fin.cases ?_ (fun a => ?_) a
  · simp [Rect.emb, Rect.unit]
  · obtain rfl : a = 0 := Subsingleton.elim _ _
    simp [Rect.emb, Rect.unit]

/-- A chunk loaded after a store of the whole product holds that product's rows and columns. -/
theorem cols_fill {sig : RefSig} {κ : Kind} {sp : Space} {o oi oj : ℕ} {c : Fin 4} (t : ℕ) (v : View sig κ sp S512x512 .f32) {L : List (View.Piece (Elt Ideal) S512x512 .f32)}
    {X : Vec Ideal S512x512 .f32} {Z : Fin 2048 → Fin 512 → EReal} {inb : ∀ a, (![oi, oj] : Fin 2 → ℕ) a + S64x128.size a ≤ S512x512.size a}
    {inb0 : ∀ a, (![0, 0] : Fin 2 → ℕ) a + S512x512.size a ≤ S512x512.size a}
    (hX : ∀ (i j : Fin 512) (h : t + i.val < 2048), X (ix2 i j) = Z ⟨t + i.val, h⟩ j) (ho : o = t + oi) (hc : oj = 128 * c.val) :
    ColsOf o c (v.readCov (⟨Rect.unit (s := S512x512) ![0, 0] S512x512.size inb0, X⟩ :: L) (Rect.unit (s := S512x512) ![oi, oj] S64x128.size inb).toLoadRect) Z := by
  subst ho hc
  intro i l hi
  rw [View.readCov_fill (h := by intro a; fin_cases a <;> rfl)]
  have h0 : oi + 64 ≤ 512 := inb 0
  have hx := hX ⟨oi + i.val, by omega⟩ (col c l) (by simp only; omega)
  refine Eq.trans ?_ (hx.trans ?_)
  · show X _ = X _
    congr 1
    funext a; apply Fin.ext
    refine Fin.cases ?_ (fun a => ?_) a
    · simp [Rect.emb, Rect.unit]
    · obtain rfl : a = 0 := Subsingleton.elim _ _
      simp [Rect.emb, Rect.unit]
      rfl
  · congr 1
    apply Fin.ext
    simp only [Nat.add_assoc]

end Cert.Blk

end
-- ==== Proof.Tile.lean ====
/- The products of one grid point: a tile of 512 token rows against the point's 512 columns, and the dequantised columns. -/
module

public import proofs.«01_k».proof.Proof.Block

@[expose] public section

set_option maxRecDepth 16384

noncomputable section

namespace Cert.Blk

open Idealize.ShloMosaic Idealize.ShloMosaic.TcCoe Idealize.SL.Sem
open Cert.KernelIdeal Cert.KernelIdeal.Gen

/-! ## The products -/

/-- The first product of a token tile. -/
def zT (A : Vec Ideal S512x2560 .fp8e4m3) (B : Vec Ideal S512x2560 .fp8e4m3) : FVec Ideal S512x512 .f32 :=
  shapeCast S512x512 (matmul (φ₁ := .fp8e4m3) (φ₂ := .fp8e4m3) dot_S512x2560_S512x2560_S512x512_1_1_0_0_n_n none A B (constant S512x512 .f32 0x00000000#32)) shapeCasts_S512x512_S512x512
/-- The second product of a token tile. -/
def yT (A : Vec Ideal S512x2560 .bf16) (B : Vec Ideal S512x2560 .bf16) : FVec Ideal S512x512 .f32 :=
  shapeCast S512x512 (matmul (φ₁ := .bf16) (φ₂ := .bf16) dot_S512x2560_S512x2560_S512x512_1_1_0_0_n_n none (shapeCast S512x2560 A shapeCasts_S512x2560_S512x2560) B (constant S512x512 .f32 0x00000000#32)) shapeCasts_S512x512_S512x512

theorem zT_at (A B : Vec Ideal S512x2560 .fp8e4m3) (i j : Fin 512) : (zT A B (ix2 i j) : EReal) = ∑ k : Fin 2560, A (ix2 i k) * B (ix2 j k) := by
  unfold zT; pointwise
theorem yT_at (A B : Vec Ideal S512x2560 .bf16) (i j : Fin 512) : (yT A B (ix2 i j) : EReal) = ∑ k : Fin 2560, A (ix2 i k) * B (ix2 j k) := by
  unfold yT; pointwise

/-! ## The dequantised columns -/

/-- The low nibble, shifted up and back. -/
theorem low : ∀ b : BitVec 8, (IntOp.shrsi .vector (IntOp.shli .vector (BitVec.setWidth 32 b) 28#32) 28#32).toInt = Heads.nibble b 0 := by decide
/-- The high nibble, shifted up and back. -/
theorem high : ∀ b : BitVec 8, (IntOp.shrsi .vector (IntOp.shli .vector (BitVec.setWidth 32 b) 24#32) 28#32).toInt = Heads.nibble b 1 := by decide

/-- One group of 128 input columns of the second weights, dequantised. -/
def wdV (g : ℕ) (hg : S512x20.Slices ![0, g] S512x1) (r : FVec Ideal S512x20 .bf16) (b : Vec Ideal S256x128 .i8) : FVec Ideal S512x128 .bf16 :=
  mulf (sitofp .bf16 (shapeCast S512x128 (concatenate S256x2x128 1
      [⟨S256x1x128, shapeCast S256x1x128 (shrsi (shli (extui 32 b natLt_8_32) (broadcast S256x128 28#32)) (broadcast S256x128 28#32)) shapeCasts_S256x128_S256x1x128⟩,
       ⟨S256x1x128, shapeCast S256x1x128 (shrsi (shli (extui 32 b natLt_8_32) (broadcast S256x128 24#32)) (broadcast S256x128 28#32)) shapeCasts_S256x128_S256x1x128⟩]
      concatenates_S256x1x128_S256x1x128_S256x2x128_d1) shapeCasts_S256x2x128_S512x128))
    (broadcastTo S512x128 (shapeCast S512x1 (extractStridedSlice S512x1 ![0, g] r hg) shapeCasts_S512x1_S512x1) broadcasts_S512x1_S512x128)

theorem wdV_at (g : ℕ) (hg : S512x20.Slices ![0, g] S512x1) (h : g < 20) (r : FVec Ideal S512x20 .bf16) (b : Vec Ideal S256x128 .i8) (v : Fin 512) (d : Fin 128) :
    (wdV g hg r b (ix2 v d) : EReal) = Heads.nib (b (ix2 (⟨v.val / 2, by omega⟩ : Fin 256) d)) v.val * r (ix2 v ⟨g, h⟩) := by
  unfold wdV
  pointwise
  by_cases hv : v.val % 2 < 1
  · rw [dif_pos hv]
    simp only [FloatOps.sitofp, low, Heads.nib, Heads.nibble_even (b (ix2 (⟨v.val / 2, by omega⟩ : Fin 256) d)) (p := v.val) (by omega)]
  · rw [dif_neg hv]
    simp only [FloatOps.sitofp, high, Heads.nib, Heads.nibble_odd (b (ix2 (⟨v.val / 2, by omega⟩ : Fin 256) d)) (p := v.val) (by omega)]

/-! ## The data of one grid point, from the blocks its windows hold -/

/-- The dequantised second weights of the point's columns. -/
def WD (x6 : Vec Ideal S256x2560 .i8) (x7 : Vec Ideal S512x20 .f32) : Vec Ideal S512x2560 .bf16 := fun y =>
  Heads.nib (x6 (ix2 (⟨(y 0).val / 2, by have : (y 0).val < 512 := (y 0).isLt; omega⟩ : Fin 256) (y 1))) (y 0).val
    * x7 (ix2 (y 0) (⟨(y 1).val / 128, by have : (y 1).val < 2560 := (y 1).isLt; omega⟩ : Fin 20))

/-- The data of a grid point. -/
def mkD (x0 : Vec Ideal S2048x2560 .fp8e4m3) (x1 : Vec Ideal S2048x2560 .bf16) (x2 : Vec Ideal S2048x128 .f32) (x3 : Vec Ideal S2048x128 .i32)
    (x4 : Vec Ideal S512x2560 .fp8e4m3) (x6 : Vec Ideal S256x2560 .i8) (x7 : Vec Ideal S512x20 .f32) (W : FVec Ideal S1x512 .f32) (N : IVec S1x128 32) : Data where
  Z r j := ∑ k : Fin 2560, x0 (ix2 r k) * x4 (ix2 j k)
  Y r j := ∑ k : Fin 2560, x1 (ix2 r k) * WD x6 x7 (ix2 j k)
  X := x2
  T := x3
  W := W
  N := N

/-- A box loaded from a buffer whose contents are known, at an index. -/
theorem unread_at {sig : RefSig} {sp : Space} {e : EltTy} {a b a' b' o o' : ℕ} (m : Memref sig .tc sp (⟨2, ![a, b]⟩ : Shape) e) (hm : m.IsWhole) (X : (⟨2, ![a, b]⟩ : Shape).Idx → Elt Ideal e)
    (inb : ∀ k, (![o, o'] : Fin 2 → ℕ) k + (![a', b'] : Fin 2 → ℕ) k ≤ (⟨2, ![a, b]⟩ : Shape).size k) (i : Fin a') (j : Fin b') (hi : o + i.val < a) (hj : o' + j.val < b) :
    View.readAt (Elt Ideal) m.view (Rect.unit (s := (⟨2, ![a, b]⟩ : Shape)) ![o, o'] ![a', b'] inb).toLoadRect (hm.unread X) (ix2 i j) = X (ix2 ⟨o + i.val, hi⟩ ⟨o' + j.val, hj⟩) := by
  rw [Memref.IsWhole.readAt_unread]
  show X _ = X _
  congr 1
  funext k; apply Fin.ext
  refine Fin.cases ?_ (fun k => ?_) k
  · simp [LoadRect.idx, Rect.toLoadRect, Rect.unit]
  · obtain rfl : k = 0 := Subsingleton.elim _ _
    simp [LoadRect.idx, Rect.toLoadRect, Rect.unit]

section
variable {sig : RefSig} {sp : Space}

/-- The first product of the token tile from row `t` on. -/
theorem z_tile {t : ℕ} (arg1 : Memref sig .tc sp S2048x2560 .fp8e4m3) (h1 : arg1.IsWhole) (x0 : Vec Ideal S2048x2560 .fp8e4m3)
    (arg5 : Memref sig .tc sp S512x2560 .fp8e4m3) (h5 : arg5.IsWhole) (x4 : Vec Ideal S512x2560 .fp8e4m3)
    (i1 : ∀ k, (![t, 0] : Fin 2 → ℕ) k + S512x2560.size k ≤ S2048x2560.size k) (i5 : ∀ k, (![0, 0] : Fin 2 → ℕ) k + S512x2560.size k ≤ S512x2560.size k)
    (i j : Fin 512) (h : t + i.val < 2048) :
    zT (View.readAt (Elt Ideal) arg1.view (Rect.unit (s := S2048x2560) ![t, 0] S512x2560.size i1).toLoadRect (h1.unread x0))
      (View.readAt (Elt Ideal) arg5.view (Rect.unit (s := S512x2560) ![0, 0] S512x2560.size i5).toLoadRect (h5.unread x4)) (ix2 i j)
      = ∑ k : Fin 2560, x0 (ix2 ⟨t + i.val, h⟩ k) * x4 (ix2 j k) := by
  rw [zT_at]
  refine Finset.sum_congr rfl fun k _ => ?_
  have e1 := unread_at arg1 h1 x0 i1 i k h (by omega)
  have e2 := unread_at arg5 h5 x4 i5 j k (by omega) (by omega)
  simp only [Nat.zero_add] at e1 e2
  exact congrArg₂ (fun a b : EReal => a * b) e1 e2

/-- The second product of the token tile from row `t` on. -/
theorem y_tile {t : ℕ} (arg2 : Memref sig .tc sp S2048x2560 .bf16) (h2 : arg2.IsWhole) (x1 : Vec Ideal S2048x2560 .bf16) {V W : Vec Ideal S512x2560 .bf16}
    (hV : V = W) (i1 : ∀ k, (![t, 0] : Fin 2 → ℕ) k + S512x2560.size k ≤ S2048x2560.size k) (i j : Fin 512) (h : t + i.val < 2048) :
    yT (View.readAt (Elt Ideal) arg2.view (Rect.unit (s := S2048x2560) ![t, 0] S512x2560.size i1).toLoadRect (h2.unread x1)) V (ix2 i j)
      = ∑ k : Fin 2560, x1 (ix2 ⟨t + i.val, h⟩ k) * W (ix2 j k) := by
  rw [yT_at, hV]
  refine Finset.sum_congr rfl fun k _ => ?_
  have e1 := unread_at arg2 h2 x1 i1 i k h (by omega)
  simp only [Nat.zero_add] at e1
  exact congrArg (fun a : EReal => a * _) e1

/-- One group of the dequantised weights, from the codes and the scales at an index. -/
theorem piece_wd_of {o : ℕ} (g : ℕ) (hg : S512x20.Slices ![0, g] S512x1) (r : FVec Ideal S512x20 .bf16) (b : Vec Ideal S256x128 .i8)
    (x6 : Vec Ideal S256x2560 .i8) (x7 : Vec Ideal S512x20 .f32) (ho : o = 128 * g)
    (hb : ∀ (i : Fin 256) (l : Fin 128) (h : o + l.val < 2560), b (ix2 i l) = x6 (ix2 i ⟨o + l.val, h⟩))
    (hr : ∀ (i : Fin 512) (k : Fin 20), r (ix2 i k) = x7 (ix2 i k))
    {inb : ∀ k, (![0, o] : Fin 2 → ℕ) k + S512x128.size k ≤ S512x2560.size k}
    (x : (Rect.unit (s := S512x2560) ![0, o] S512x128.size inb).shape.Idx) :
    shapeCast S512x128 (wdV g hg r b) shapeCasts_S512x128_S512x128 x
      = WD x6 x7 ((Rect.unit (s := S512x2560) ![0, o] S512x128.size inb).emb x) := by
  obtain ⟨i, l, rfl⟩ : ∃ (i : Fin 512) (l : Fin 128), x = ix2 i l := ⟨x 0, x 1, eq_ix2 x⟩
  have h1 : o + 128 ≤ 2560 := inb 1
  have hi : o + l.val < 2560 := by omega
  have e : (Rect.unit (s := S512x2560) ![0, o] S512x128.size inb).emb (ix2 i l) = ix2 i ⟨o + l.val, hi⟩ := by
    funext a; apply Fin.ext
    refine Fin.cases ?_ (fun a => ?_) a
    · simp [Rect.emb, Rect.unit]
    · obtain rfl : a = 0 := Subsingleton.elim _ _
      simp [Rect.emb, Rect.unit]
  have hgl : g < 20 := by omega
  rw [e]
  have e0 : shapeCast S512x128 (wdV g hg r b) shapeCasts_S512x128_S512x128 (ix2 i l) = wdV g hg r b (ix2 i l) := by
    generalize wdV g hg r b = U
    pointwise
  refine e0.trans ((wdV_at g hg hgl r b i l).trans ?_)
  rw [hb _ _ hi, hr]
  have hd : (⟨g, hgl⟩ : Fin 20) = ⟨(o + l.val) / 128, by omega⟩ := Fin.ext (by simp only; omega)
  rw [hd]
  rfl

/-- One stored group of the dequantised weights, from the loads of the kernel. -/
theorem piece_wd {o : ℕ} (g : ℕ) (hg : S512x20.Slices ![0, g] S512x1) (arg7 : Memref sig .tc sp S256x2560 .i8) (h7 : arg7.IsWhole) (arg8 : Memref sig .tc sp S512x20 .f32) (h8 : arg8.IsWhole)
    (x6 : Vec Ideal S256x2560 .i8) (x7 : Vec Ideal S512x20 .f32) (ho : o = 128 * g)
    (i7 : ∀ k, (![0, o] : Fin 2 → ℕ) k + S256x128.size k ≤ S256x2560.size k) (i8 : ∀ k, (![0, 0] : Fin 2 → ℕ) k + S512x20.size k ≤ S512x20.size k)
    {inb : ∀ k, (![0, o] : Fin 2 → ℕ) k + S512x128.size k ≤ S512x2560.size k}
    (x : (Rect.unit (s := S512x2560) ![0, o] S512x128.size inb).shape.Idx) :
    shapeCast S512x128 (wdV g hg (truncf .bf16 (View.readAt (Elt Ideal) arg8.view (Rect.unit (s := S512x20) ![0, 0] S512x20.size i8).toLoadRect (h8.unread x7) : FVec Ideal S512x20 .f32) bitsLt_bf16_f32)
      (View.readAt (Elt Ideal) arg7.view (Rect.unit (s := S256x2560) ![0, o] S256x128.size i7).toLoadRect (h7.unread x6))) shapeCasts_S512x128_S512x128 x
      = WD x6 x7 ((Rect.unit (s := S512x2560) ![0, o] S512x128.size inb).emb x) := by
  refine piece_wd_of g hg _ _ x6 x7 ho (fun i l h => ?_) (fun i k => ?_) x
  · have e := unread_at arg7 h7 x6 i7 i l (by omega) h
    simp only [Nat.zero_add] at e
    exact e
  · have e := unread_at arg8 h8 x7 i8 i k (by omega) (by omega)
    simp only [Nat.zero_add] at e
    exact e

/-- The dequantised weights read back whole, from any stores that are their groups and tile them. -/
theorem wd_whole {κ : Kind} (v : View sig κ sp S512x2560 .bf16) (L : List (View.Piece (Elt Ideal) S512x2560 .bf16)) (W : Vec Ideal S512x2560 .bf16)
    (h : View.PiecesOf W L) (hc : ∀ y, ∃ p ∈ L, y ∈ p.1.set) (inb : ∀ k, (![0, 0] : Fin 2 → ℕ) k + S512x2560.size k ≤ S512x2560.size k) :
    v.readCov L (Rect.unit (s := S512x2560) ![0, 0] S512x2560.size inb).toLoadRect = W := by
  rw [View.readCov_eq_canon']
  funext x
  rw [View.canon_apply_of_pieces W L h.mem _ (hc _)]
  congr 1
  funext a; apply Fin.ext
  refine Fin.cases ?_ (fun a => ?_) a
  · simp [LoadRect.idx, Rect.toLoadRect, Rect.unit]
  · obtain rfl : a = 0 := Subsingleton.elim _ _
    simp [LoadRect.idx, Rect.toLoadRect, Rect.unit]

/-- A chunk of a product block, read back from the store that filled the whole block last. -/
theorem cols_of {o oi oj : ℕ} {c : Fin 4} (t : ℕ) (v : View sig .tc sp S512x512 .f32) (L : List (View.Piece (Elt Ideal) S512x512 .f32)) {L' : List (View.Piece (Elt Ideal) S512x512 .f32)}
    {X : Vec Ideal S512x512 .f32} {Z : Fin 2048 → Fin 512 → EReal} (inb : ∀ a, (![oi, oj] : Fin 2 → ℕ) a + S64x128.size a ≤ S512x512.size a)
    {inb0 : ∀ a, (![0, 0] : Fin 2 → ℕ) a + S512x512.size a ≤ S512x512.size a} (hL : L = ⟨Rect.unit (s := S512x512) ![0, 0] S512x512.size inb0, X⟩ :: L')
    (hX : ∀ (i j : Fin 512) (h : t + i.val < 2048), X (ix2 i j) = Z ⟨t + i.val, h⟩ j) (ho : o = t + oi) (hc : oj = 128 * c.val) :
    ColsOf o c (v.readCov L (Rect.unit (s := S512x512) ![oi, oj] S64x128.size inb).toLoadRect) Z := by
  subst hL
  exact cols_fill t v hX ho hc

end

section
variable {sig : RefSig} {sp : Space} (D : Data) {o t oi : ℕ} {L L' : List (View.Piece (Elt Ideal) S512x512 .f32)} {X : Vec Ideal S512x512 .f32}
  {inb0 : ∀ a, (![0, 0] : Fin 2 → ℕ) a + S512x512.size a ≤ S512x512.size a}

/-- A chunk of 64 rows and 128 columns loaded from a product buffer. -/
abbrev rd (v : View sig .tc sp S512x512 .f32) (L : List (View.Piece (Elt Ideal) S512x512 .f32)) {oi oj : ℕ} (inb : ∀ a, (![oi, oj] : Fin 2 → ℕ) a + S64x128.size a ≤ S512x512.size a) : Vec Ideal S64x128 .f32 :=
  v.readCov L (Rect.unit (s := S512x512) ![oi, oj] S64x128.size inb).toLoadRect
/-- A block of 64 rows loaded from a whole buffer of known contents. -/
abbrev ra {e : EltTy} (m : Memref sig .tc sp S2048x128 e) (hm : m.IsWhole) (x : Vec Ideal S2048x128 e) {o : ℕ} (inb : ∀ a, (![o, 0] : Fin 2 → ℕ) a + S64x128.size a ≤ S2048x128.size a) : Vec Ideal S64x128 e :=
  View.readAt (Elt Ideal) m.view (Rect.unit (s := S2048x128) ![o, 0] S64x128.size inb).toLoadRect (hm.unread x)

/-- The first input of a block of rows, from the row scales and the product buffer as the kernel loads them. -/
theorem blkP_of (arg3 : Memref sig .tc sp S2048x128 .f32) (h3 : arg3.IsWhole) (ix : ∀ a, (![o, 0] : Fin 2 → ℕ) a + S64x128.size a ≤ S2048x128.size a) (v : View sig .tc sp S512x512 .f32)
    (hX : ∀ (i j : Fin 512) (h : t + i.val < 2048), X (ix2 i j) = D.Z ⟨t + i.val, h⟩ j) (ho : o = t + oi)
    (hL : L = ⟨Rect.unit (s := S512x512) ![0, 0] S512x512.size inb0, X⟩ :: L')
    (i0 : ∀ a, (![oi, 0] : Fin 2 → ℕ) a + S64x128.size a ≤ S512x512.size a) (i1 : ∀ a, (![oi, 128] : Fin 2 → ℕ) a + S64x128.size a ≤ S512x512.size a)
    (i2 : ∀ a, (![oi, 256] : Fin 2 → ℕ) a + S64x128.size a ≤ S512x512.size a) (i3 : ∀ a, (![oi, 384] : Fin 2 → ℕ) a + S64x128.size a ≤ S512x512.size a) :
    BlkP D o (ra arg3 h3 D.X ix) (rd v L i0) (rd v L i1) (rd v L i2) (rd v L i3) :=
  blkP _ (rows_unread arg3 h3 D.X ix) (cols_of t v L i0 hL hX ho rfl) (cols_of t v L i1 hL hX ho rfl) (cols_of t v L i2 hL hX ho rfl) (cols_of t v L i3 hL hX ho rfl)

/-- The second input of a block of rows, from the product buffer as the kernel loads it. -/
theorem blkQ_of (v : View sig .tc sp S512x512 .f32)
    (hX : ∀ (i j : Fin 512) (h : t + i.val < 2048), X (ix2 i j) = D.Y ⟨t + i.val, h⟩ j) (ho : o = t + oi)
    (hL : L = ⟨Rect.unit (s := S512x512) ![0, 0] S512x512.size inb0, X⟩ :: L')
    (i0 : ∀ a, (![oi, 0] : Fin 2 → ℕ) a + S64x128.size a ≤ S512x512.size a) (i1 : ∀ a, (![oi, 128] : Fin 2 → ℕ) a + S64x128.size a ≤ S512x512.size a)
    (i2 : ∀ a, (![oi, 256] : Fin 2 → ℕ) a + S64x128.size a ≤ S512x512.size a) (i3 : ∀ a, (![oi, 384] : Fin 2 → ℕ) a + S64x128.size a ≤ S512x512.size a) :
    BlkQ D o (rd v L i0) (rd v L i1) (rd v L i2) (rd v L i3) :=
  blkQ _ (cols_of t v L i0 hL hX ho rfl) (cols_of t v L i1 hL hX ho rfl) (cols_of t v L i2 hL hX ho rfl) (cols_of t v L i3 hL hX ho rfl)
end

/-! ## The stored blocks, with the column scales and the lanes written out -/

section
variable {x0 : Vec Ideal S2048x2560 .fp8e4m3} {x1 : Vec Ideal S2048x2560 .bf16} {x2 : Vec Ideal S2048x128 .f32} {x3 : Vec Ideal S2048x128 .i32}
  {x4 : Vec Ideal S512x2560 .fp8e4m3} {x6 : Vec Ideal S256x2560 .i8} {x7 : Vec Ideal S512x20 .f32} {W : FVec Ideal S1x512 .f32} {N : IVec S1x128 32}
  {o : ℕ} {xs z0 z1 z2 z3 y0 y1 y2 y3 m s : Vec Ideal S64x128 .f32} {tg : Vec Ideal S64x128 .i32} {M S : Vec Ideal S2048x128 .f32}
  {inb : ∀ a, (![o, 0] : Fin 2 → ℕ) a + S64x128.size a ≤ S2048x128.size a}

theorem st_mp (B : BlkP (mkD x0 x1 x2 x3 x4 x6 x7 W N) o xs z0 z1 z2 z3) (hm : RowsOf o m M) (x : (Rect.unit (s := S2048x128) ![o, 0] S64x128.size inb).shape.Idx) :
    shapeCast S64x128 (mpV W xs z0 z1 z2 z3 m) shapeCasts_S64x128_S64x128 x = (mkD x0 x1 x2 x3 x4 x6 x7 W N).gMP M ((Rect.unit (s := S2048x128) ![o, 0] S64x128.size inb).emb x) := piece_mp _ B hm x
theorem st_mq (C : BlkQ (mkD x0 x1 x2 x3 x4 x6 x7 W N) o y0 y1 y2 y3) (hm : RowsOf o m M) (x : (Rect.unit (s := S2048x128) ![o, 0] S64x128.size inb).shape.Idx) :
    shapeCast S64x128 (mqV y0 y1 y2 y3 m) shapeCasts_S64x128_S64x128 x = (mkD x0 x1 x2 x3 x4 x6 x7 W N).gMQ M ((Rect.unit (s := S2048x128) ![o, 0] S64x128.size inb).emb x) := piece_mq _ C hm x
theorem st_sp (B : BlkP (mkD x0 x1 x2 x3 x4 x6 x7 W N) o xs z0 z1 z2 z3) (hm : RowsOf o m M) (hs : RowsOf o s S) (x : (Rect.unit (s := S2048x128) ![o, 0] S64x128.size inb).shape.Idx) :
    shapeCast S64x128 (spV W xs z0 z1 z2 z3 m s) shapeCasts_S64x128_S64x128 x = (mkD x0 x1 x2 x3 x4 x6 x7 W N).gSP M S ((Rect.unit (s := S2048x128) ![o, 0] S64x128.size inb).emb x) := piece_sp _ B hm hs x
theorem st_sq (C : BlkQ (mkD x0 x1 x2 x3 x4 x6 x7 W N) o y0 y1 y2 y3) (hm : RowsOf o m M) (hs : RowsOf o s S) (x : (Rect.unit (s := S2048x128) ![o, 0] S64x128.size inb).shape.Idx) :
    shapeCast S64x128 (sqV y0 y1 y2 y3 m s) shapeCasts_S64x128_S64x128 x = (mkD x0 x1 x2 x3 x4 x6 x7 W N).gSQ M S ((Rect.unit (s := S2048x128) ![o, 0] S64x128.size inb).emb x) := piece_sq _ C hm hs x
theorem st_tt (B : BlkP (mkD x0 x1 x2 x3 x4 x6 x7 W N) o xs z0 z1 z2 z3) (C : BlkQ (mkD x0 x1 x2 x3 x4 x6 x7 W N) o y0 y1 y2 y3) (hm : RowsOf o m M) (hs : RowsOf o s S) (x : (Rect.unit (s := S2048x128) ![o, 0] S64x128.size inb).shape.Idx) :
    shapeCast S64x128 (ttV W xs z0 z1 z2 z3 y0 y1 y2 y3 m s) shapeCasts_S64x128_S64x128 x = (mkD x0 x1 x2 x3 x4 x6 x7 W N).gTT M S ((Rect.unit (s := S2048x128) ![o, 0] S64x128.size inb).emb x) := piece_tt _ B C hm hs x
theorem st_tp (B : BlkP (mkD x0 x1 x2 x3 x4 x6 x7 W N) o xs z0 z1 z2 z3) (ht : RowsOf o tg x3) (hs : RowsOf o s S) (x : (Rect.unit (s := S2048x128) ![o, 0] S64x128.size inb).shape.Idx) :
    shapeCast S64x128 (tpV W N xs tg z0 z1 z2 z3 s) shapeCasts_S64x128_S64x128 x = (mkD x0 x1 x2 x3 x4 x6 x7 W N).gTP S ((Rect.unit (s := S2048x128) ![o, 0] S64x128.size inb).emb x) := piece_tp _ B ht hs x
theorem st_tq (C : BlkQ (mkD x0 x1 x2 x3 x4 x6 x7 W N) o y0 y1 y2 y3) (ht : RowsOf o tg x3) (hs : RowsOf o s S) (x : (Rect.unit (s := S2048x128) ![o, 0] S64x128.size inb).shape.Idx) :
    shapeCast S64x128 (tqV N tg y0 y1 y2 y3 s) shapeCasts_S64x128_S64x128 x = (mkD x0 x1 x2 x3 x4 x6 x7 W N).gTQ S ((Rect.unit (s := S2048x128) ![o, 0] S64x128.size inb).emb x) := piece_tq _ C ht hs x
end

/-- One more stored block of `G`. -/
theorem pieces_cons {s : Shape} {e : EltTy} {G : s.Idx → Elt Ideal e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

/-- One more stored block of `G`, named by its rows and its contents. -/
theorem pieces_to {s : Shape} {e : EltTy} {G : s.Idx → Elt Ideal e} {p : View.Piece (Elt Ideal) s e} {L : List (View.Piece (Elt Ideal) s e)} {r : Rect s} {v : r.shape.Idx → Elt Ideal e}
    (h : ∀ x : r.shape.Idx, v x = G (r.emb x)) (he : p = ⟨r, v⟩) (hL : View.PiecesOf G L) : View.PiecesOf G (p :: L) := by
  subst he
  exact ⟨h, hL⟩
/-- The same among the first stores of a list. -/
theorem pieces_take {s : Shape} {e : EltTy} {G : s.Idx → Elt Ideal e} {p : View.Piece (Elt Ideal) s e} {L : List (View.Piece (Elt Ideal) s e)} {n : ℕ} {r : Rect s} {v : r.shape.Idx → Elt Ideal e}
    (h : ∀ x : r.shape.Idx, v x = G (r.emb x)) (he : p = ⟨r, v⟩) (hL : View.PiecesOf G (L.take n)) : View.PiecesOf G ((p :: L).take (n + 1)) := by
  subst he
  exact ⟨h, hL⟩
/-- No store at all. -/
theorem pieces_last {s : Shape} {e : EltTy} {G : s.Idx → Elt Ideal e} {L : List (View.Piece (Elt Ideal) s e)} : View.PiecesOf G (L.take 0) := trivial

end Cert.Blk

end
-- ==== Proof.CaseABlocks.lean ====
/- The stores of the first case of the main call, block by block. -/
module

public import proofs.«01_k».proof.Proof.Tile

@[expose] public section

set_option maxRecDepth 16384

noncomputable section

namespace Cert.Blk.CaseA

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : cond0_0 i) (hc1 : ¬cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32)

/-- The dequantised weights, stored group by group. -/
theorem wd_pieces : View.PiecesOf (WD x6 x7) (kernelRun0_A.sl.HS0_20 c a7 k7 a8 k8 x6 x7) :=
  pieces_cons (piece_wd (o := 2432) 19 slices_S512x20_o0_19_S512x1 a7 k7 a8 k8 x6 x7 rfl inb_S256x2560_S256x128_0_2432 inb_S512x20_S512x20_0_0 (inb := inb_S512x2560_S512x128_0_2432))
    (pieces_cons (piece_wd (o := 2304) 18 slices_S512x20_o0_18_S512x1 a7 k7 a8 k8 x6 x7 rfl inb_S256x2560_S256x128_0_2304 inb_S512x20_S512x20_0_0 (inb := inb_S512x2560_S512x128_0_2304))
    (pieces_cons (piece_wd (o := 2176) 17 slices_S512x20_o0_17_S512x1 a7 k7 a8 k8 x6 x7 rfl inb_S256x2560_S256x128_0_2176 inb_S512x20_S512x20_0_0 (inb := inb_S512x2560_S512x128_0_2176))
    (pieces_cons (piece_wd (o := 2048) 16 slices_S512x20_o0_16_S512x1 a7 k7 a8 k8 x6 x7 rfl inb_S256x2560_S256x128_0_2048 inb_S512x20_S512x20_0_0 (inb := inb_S512x2560_S512x128_0_2048))
    (pieces_cons (piece_wd (o := 1920) 15 slices_S512x20_o0_15_S512x1 a7 k7 a8 k8 x6 x7 rfl inb_S256x2560_S256x128_0_1920 inb_S512x20_S512x20_0_0 (inb := inb_S512x2560_S512x128_0_1920))
    (pieces_cons (piece_wd (o := 1792) 14 slices_S512x20_o0_14_S512x1 a7 k7 a8 k8 x6 x7 rfl inb_S256x2560_S256x128_0_1792 inb_S512x20_S512x20_0_0 (inb := inb_S512x2560_S512x128_0_1792))
    (pieces_cons (piece_wd (o := 1664) 13 slices_S512x20_o0_13_S512x1 a7 k7 a8 k8 x6 x7 rfl inb_S256x2560_S256x128_0_1664 inb_S512x20_S512x20_0_0 (inb := inb_S512x2560_S512x128_0_1664))
    (pieces_cons (piece_wd (o := 1536) 12 slices_S512x20_o0_12_S512x1 a7 k7 a8 k8 x6 x7 rfl inb_S256x2560_S256x128_0_1536 inb_S512x20_S512x20_0_0 (inb := inb_S512x2560_S512x128_0_1536))
    (pieces_cons (piece_wd (o := 1408) 11 slices_S512x20_o0_11_S512x1 a7 k7 a8 k8 x6 x7 rfl inb_S256x2560_S256x128_0_1408 inb_S512x20_S512x20_0_0 (inb := inb_S512x2560_S512x128_0_1408))
    (pieces_cons (piece_wd (o := 1280) 10 slices_S512x20_o0_10_S512x1 a7 k7 a8 k8 x6 x7 rfl inb_S256x2560_S256x128_0_1280 inb_S512x20_S512x20_0_0 (inb := inb_S512x2560_S512x128_0_1280))
    (pieces_cons (piece_wd (o := 1152) 9 slices_S512x20_o0_9_S512x1 a7 k7 a8 k8 x6 x7 rfl inb_S256x2560_S256x128_0_1152 inb_S512x20_S512x20_0_0 (inb := inb_S512x2560_S512x128_0_1152))
    (pieces_cons (piece_wd (o := 1024) 8 slices_S512x20_o0_8_S512x1 a7 k7 a8 k8 x6 x7 rfl inb_S256x2560_S256x128_0_1024 inb_S512x20_S512x20_0_0 (inb := inb_S512x2560_S512x128_0_1024))
    (pieces_cons (piece_wd (o := 896) 7 slices_S512x20_o0_7_S512x1 a7 k7 a8 k8 x6 x7 rfl inb_S256x2560_S256x128_0_896 inb_S512x20_S512x20_0_0 (inb := inb_S512x2560_S512x128_0_896))
    (pieces_cons (piece_wd (o := 768) 6 slices_S512x20_o0_6_S512x1 a7 k7 a8 k8 x6 x7 rfl inb_S256x2560_S256x128_0_768 inb_S512x20_S512x20_0_0 (inb := inb_S512x2560_S512x128_0_768))
    (pieces_cons (piece_wd (o := 640) 5 slices_S512x20_o0_5_S512x1 a7 k7 a8 k8 x6 x7 rfl inb_S256x2560_S256x128_0_640 inb_S512x20_S512x20_0_0 (inb := inb_S512x2560_S512x128_0_640))
    (pieces_cons (piece_wd (o := 512) 4 slices_S512x20_o0_4_S512x1 a7 k7 a8 k8 x6 x7 rfl inb_S256x2560_S256x128_0_512 inb_S512x20_S512x20_0_0 (inb := inb_S512x2560_S512x128_0_512))
    (pieces_cons (piece_wd (o := 384) 3 slices_S512x20_o0_3_S512x1 a7 k7 a8 k8 x6 x7 rfl inb_S256x2560_S256x128_0_384 inb_S512x20_S512x20_0_0 (inb := inb_S512x2560_S512x128_0_384))
    (pieces_cons (piece_wd (o := 256) 2 slices_S512x20_o0_2_S512x1 a7 k7 a8 k8 x6 x7 rfl inb_S256x2560_S256x128_0_256 inb_S512x20_S512x20_0_0 (inb := inb_S512x2560_S512x128_0_256))
    (pieces_cons (piece_wd (o := 128) 1 slices_S512x20_o0_1_S512x1 a7 k7 a8 k8 x6 x7 rfl inb_S256x2560_S256x128_0_128 inb_S512x20_S512x20_0_0 (inb := inb_S512x2560_S512x128_0_128))
    (pieces_cons (piece_wd (o := 0) 0 slices_S512x20_o0_0_S512x1 a7 k7 a8 k8 x6 x7 rfl inb_S256x2560_S256x128_0_0 inb_S512x20_S512x20_0_0 (inb := inb_S512x2560_S512x128_0_0))
    (trivial))))))))))))))))))))

/-- The dequantised weights as the products load them. -/
theorem wd : a12.view.readCov (kernelRun0_A.sl.HS0_20 c a7 k7 a8 k8 x6 x7) (Rect.unit (s := S512x2560) ![0, 0] S512x2560.size inb_S512x2560_S512x2560_0_0).toLoadRect = WD x6 x7 :=
  wd_whole a12.view _ _ (wd_pieces c a7 k7 a8 k8 x6 x7) (fun y => View.cover_of_tiledL (kernelRun0_A.sl.HS0_20 c a7 k7 a8 k8 x6 x7) S512x128.size (by sl_kernel_rfl) y) _

/-! The two inputs of each block of 64 rows, as the kernel loads them. -/

theorem bp_0 : BlkP (mkD x0 x1 x2 x3 x4 x6 x7 (kernelRun0_A.sl.r_3 c a6 k6 x5) (kernelRun0_A.sl.r_4 i)) 0 (ra a3 k3 x2 inb_S2048x128_S64x128_0_0) (rd a13.view (kernelRun0_A.sl.HS1_1 c a1 k1 a5 k5 x0 x4) inb_S512x512_S64x128_0_0) (rd a13.view (kernelRun0_A.sl.HS1_1 c a1 k1 a5 k5 x0 x4) inb_S512x512_S64x128_0_128) (rd a13.view (kernelRun0_A.sl.HS1_1 c a1 k1 a5 k5 x0 x4) inb_S512x512_S64x128_0_256) (rd a13.view (kernelRun0_A.sl.HS1_1 c a1 k1 a5 k5 x0 x4) inb_S512x512_S64x128_0_384) :=
  blkP_of _ a3 k3 _ a13.view (t := 0) (oi := 0) (z_tile a1 k1 x0 a5 k5 x4 inb_S2048x2560_S512x2560_0_0 inb_S512x2560_S512x2560_0_0) rfl rfl _ _ _ _

theorem bq_0 : BlkQ (mkD x0 x1 x2 x3 x4 x6 x7 (kernelRun0_A.sl.r_3 c a6 k6 x5) (kernelRun0_A.sl.r_4 i)) 0 (rd a14.view (kernelRun0_A.sl.HS2_1 c a2 k2 a7 k7 a8 k8 a12 x1 x6 x7) inb_S512x512_S64x128_0_0) (rd a14.view (kernelRun0_A.sl.HS2_1 c a2 k2 a7 k7 a8 k8 a12 x1 x6 x7) inb_S512x512_S64x128_0_128) (rd a14.view (kernelRun0_A.sl.HS2_1 c a2 k2 a7 k7 a8 k8 a12 x1 x6 x7) inb_S512x512_S64x128_0_256) (rd a14.view (kernelRun0_A.sl.HS2_1 c a2 k2 a7 k7 a8 k8 a12 x1 x6 x7) inb_S512x512_S64x128_0_384) :=
  blkQ_of _ a14.view (t := 0) (oi := 0) (y_tile a2 k2 x1 (wd c a7 k7 a8 k8 a12 x6 x7) inb_S2048x2560_S512x2560_0_0) rfl rfl _ _ _ _

theorem bp_1 : BlkP (mkD x0 x1 x2 x3 x4 x6 x7 (kernelRun0_A.sl.r_3 c a6 k6 x5) (kernelRun0_A.sl.r_4 i)) 64 (ra a3 k3 x2 inb_S2048x128_S64x128_64_0) (rd a13.view (kernelRun0_A.sl.HS1_1 c a1 k1 a5 k5 x0 x4) inb_S512x512_S64x128_64_0) (rd a13.view (kernelRun0_A.sl.HS1_1 c a1 k1 a5 k5 x0 x4) inb_S512x512_S64x128_64_128) (rd a13.view (kernelRun0_A.sl.HS1_1 c a1 k1 a5 k5 x0 x4) inb_S512x512_S64x128_64_256) (rd a13.view (kernelRun0_A.sl.HS1_1 c a1 k1 a5 k5 x0 x4) inb_S512x512_S64x128_64_384) :=
  blkP_of _ a3 k3 _ a13.view (t := 0) (oi := 64) (z_tile a1 k1 x0 a5 k5 x4 inb_S2048x2560_S512x2560_0_0 inb_S512x2560_S512x2560_0_0) rfl rfl _ _ _ _

theorem bq_1 : BlkQ (mkD x0 x1 x2 x3 x4 x6 x7 (kernelRun0_A.sl.r_3 c a6 k6 x5) (kernelRun0_A.sl.r_4 i)) 64 (rd a14.view (kernelRun0_A.sl.HS2_1 c a2 k2 a7 k7 a8 k8 a12 x1 x6 x7) inb_S512x512_S64x128_64_0) (rd a14.view (kernelRun0_A.sl.HS2_1 c a2 k2 a7 k7 a8 k8 a12 x1 x6 x7) inb_S512x512_S64x128_64_128) (rd a14.view (kernelRun0_A.sl.HS2_1 c a2 k2 a7 k7 a8 k8 a12 x1 x6 x7) inb_S512x512_S64x128_64_256) (rd a14.view (kernelRun0_A.sl.HS2_1 c a2 k2 a7 k7 a8 k8 a12 x1 x6 x7) inb_S512x512_S64x128_64_384) :=
  blkQ_of _ a14.view (t := 0) (oi := 64) (y_tile a2 k2 x1 (wd c a7 k7 a8 k8 a12 x6 x7) inb_S2048x2560_S512x2560_0_0) rfl rfl _ _ _ _

theorem bp_2 : BlkP (mkD x0 x1 x2 x3 x4 x6 x7 (kernelRun0_A.sl.r_3 c a6 k6 x5) (kernelRun0_A.sl.r_4 i)) 128 (ra a3 k3 x2 inb_S2048x128_S64x128_128_0) (rd a13.view (kernelRun0_A.sl.HS1_1 c a1 k1 a5 k5 x0 x4) inb_S512x512_S64x128_128_0) (rd a13.view (kernelRun0_A.sl.HS1_1 c a1 k1 a5 k5 x0 x4) inb_S512x512_S64x128_128_128) (rd a13.view (kernelRun0_A.sl.HS1_1 c a1 k1 a5 k5 x0 x4) inb_S512x512_S64x128_128_256) (rd a13.view (kernelRun0_A.sl.HS1_1 c a1 k1 a5 k5 x0 x4) inb_S512x512_S64x128_128_384) :=
  blkP_of _ a3 k3 _ a13.view (t := 0) (oi := 128) (z_tile a1 k1 x0 a5 k5 x4 inb_S2048x2560_S512x2560_0_0 inb_S512x2560_S512x2560_0_0) rfl rfl _ _ _ _

theorem bq_2 : BlkQ (mkD x0 x1 x2 x3 x4 x6 x7 (kernelRun0_A.sl.r_3 c a6 k6 x5) (kernelRun0_A.sl.r_4 i)) 128 (rd a14.view (kernelRun0_A.sl.HS2_1 c a2 k2 a7 k7 a8 k8 a12 x1 x6 x7) inb_S512x512_S64x128_128_0) (rd a14.view (kernelRun0_A.sl.HS2_1 c a2 k2 a7 k7 a8 k8 a12 x1 x6 x7) inb_S512x512_S64x128_128_128) (rd a14.view (kernelRun0_A.sl.HS2_1 c a2 k2 a7 k7 a8 k8 a12 x1 x6 x7) inb_S512x512_S64x128_128_256) (rd a14.view (kernelRun0_A.sl.HS2_1 c a2 k2 a7 k7 a8 k8 a12 x1 x6 x7) inb_S512x512_S64x128_128_384) :=
  blkQ_of _ a14.view (t := 0) (oi := 128) (y_tile a2 k2 x1 (wd c a7 k7 a8 k8 a12 x6 x7) inb_S2048x2560_S512x2560_0_0) rfl rfl _ _ _ _

theorem bp_3 : BlkP (mkD x0 x1 x2 x3 x4 x6 x7 (kernelRun0_A.sl.r_3 c a6 k6 x5) (kernelRun0_A.sl.r_4 i)) 192 (ra a3 k3 x2 inb_S2048x128_S64x128_192_0) (rd a13.view (kernelRun0_A.sl.HS1_1 c a1 k1 a5 k5 x0 x4) inb_S512x512_S64x128_192_0) (rd a13.view (kernelRun0_A.sl.HS1_1 c a1 k1 a5 k5 x0 x4) inb_S512x512_S64x128_192_128) (rd a13.view (kernelRun0_A.sl.HS1_1 c a1 k1 a5 k5 x0 x4) inb_S512x512_S64x128_192_256) (rd a13.view (kernelRun0_A.sl.HS1_1 c a1 k1 a5 k5 x0 x4) inb_S512x512_S64x128_192_384) :=
  blkP_of _ a3 k3 _ a13.view (t := 0) (oi := 192) (z_tile a1 k1 x0 a5 k5 x4 inb_S2048x2560_S512x2560_0_0 inb_S512x2560_S512x2560_0_0) rfl rfl _ _ _ _

theorem bq_3 : BlkQ (mkD x0 x1 x2 x3 x4 x6 x7 (kernelRun0_A.sl.r_3 c a6 k6 x5) (kernelRun0_A.sl.r_4 i)) 192 (rd a14.view (kernelRun0_A.sl.HS2_1 c a2 k2 a7 k7 a8 k8 a12 x1 x6 x7) inb_S512x512_S64x128_192_0) (rd a14.view (kernelRun0_A.sl.HS2_1 c a2 k2 a7 k7 a8 k8 a12 x1 x6 x7) inb_S512x512_S64x128_192_128) (rd a14.view (kernelRun0_A.sl.HS2_1 c a2 k2 a7 k7 a8 k8 a12 x1 x6 x7) inb_S512x512_S64x128_192_256) (rd a14.view (kernelRun0_A.sl.HS2_1 c a2 k2 a7 k7 a8 k8 a12 x1 x6 x7) inb_S512x512_S64x128_192_384) :=
  blkQ_of _ a14.view (t := 0) (oi := 192) (y_tile a2 k2 x1 (wd c a7 k7 a8 k8 a12 x6 x7) inb_S2048x2560_S512x2560_0_0) rfl rfl _ _ _ _

theorem bp_4 : BlkP (mkD x0 x1 x2 x3 x4 x6 x7 (kernelRun0_A.sl.r_3 c a6 k6 x5) (kernelRun0_A.sl.r_4 i)) 256 (ra a3 k3 x2 inb_S2048x128_S64x128_256_0) (rd a13.view (kernelRun0_A.sl.HS1_1 c a1 k1 a5 k5 x0 x4) inb_S512x512_S64x128_256_0) (rd a13.view (kernelRun0_A.sl.HS1_1 c a1 k1 a5 k5 x0 x4) inb_S512x512_S64x128_256_128) (rd a13.view (kernelRun0_A.sl.HS1_1 c a1 k1 a5 k5 x0 x4) inb_S512x512_S64x128_256_256) (rd a13.view (kernelRun0_A.sl.HS1_1 c a1 k1 a5 k5 x0 x4) inb_S512x512_S64x128_256_384) :=
  blkP_of _ a3 k3 _ a13.view (t := 0) (oi := 256) (z_tile a1 k1 x0 a5 k5 x4 inb_S2048x2560_S512x2560_0_0 inb_S512x2560_S512x2560_0_0) rfl rfl _ _ _ _

theorem bq_4 : BlkQ (mkD x0 x1 x2 x3 x4 x6 x7 (kernelRun0_A.sl.r_3 c a6 k6 x5) (kernelRun0_A.sl.r_4 i)) 256 (rd a14.view (kernelRun0_A.sl.HS2_1 c a2 k2 a7 k7 a8 k8 a12 x1 x6 x7) inb_S512x512_S64x128_256_0) (rd a14.view (kernelRun0_A.sl.HS2_1 c a2 k2 a7 k7 a8 k8 a12 x1 x6 x7) inb_S512x512_S64x128_256_128) (rd a14.view (kernelRun0_A.sl.HS2_1 c a2 k2 a7 k7 a8 k8 a12 x1 x6 x7) inb_S512x512_S64x128_256_256) (rd a14.view (kernelRun0_A.sl.HS2_1 c a2 k2 a7 k7 a8 k8 a12 x1 x6 x7) inb_S512x512_S64x128_256_384) :=
  blkQ_of _ a14.view (t := 0) (oi := 256) (y_tile a2 k2 x1 (wd c a7 k7 a8 k8 a12 x6 x7) inb_S2048x2560_S512x2560_0_0) rfl rfl _ _ _ _

theorem bp_5 : BlkP (mkD x0 x1 x2 x3 x4 x6 x7 (kernelRun0_A.sl.r_3 c a6 k6 x5) (kernelRun0_A.sl.r_4 i)) 320 (ra a3 k3 x2 inb_S2048x128_S64x128_320_0) (rd a13.view (kernelRun0_A.sl.HS1_1 c a1 k1 a5 k5 x0 x4) inb_S512x512_S64x128_320_0) (rd a13.view (kernelRun0_A.sl.HS1_1 c a1 k1 a5 k5 x0 x4) inb_S512x512_S64x128_320_128) (rd a13.view (kernelRun0_A.sl.HS1_1 c a1 k1 a5 k5 x0 x4) inb_S512x512_S64x128_320_256) (rd a13.view (kernelRun0_A.sl.HS1_1 c a1 k1 a5 k5 x0 x4) inb_S512x512_S64x128_320_384) :=
  blkP_of _ a3 k3 _ a13.view (t := 0) (oi := 320) (z_tile a1 k1 x0 a5 k5 x4 inb_S2048x2560_S512x2560_0_0 inb_S512x2560_S512x2560_0_0) rfl rfl _ _ _ _

theorem bq_5 : BlkQ (mkD x0 x1 x2 x3 x4 x6 x7 (kernelRun0_A.sl.r_3 c a6 k6 x5) (kernelRun0_A.sl.r_4 i)) 320 (rd a14.view (kernelRun0_A.sl.HS2_1 c a2 k2 a7 k7 a8 k8 a12 x1 x6 x7) inb_S512x512_S64x128_320_0) (rd a14.view (kernelRun0_A.sl.HS2_1 c a2 k2 a7 k7 a8 k8 a12 x1 x6 x7) inb_S512x512_S64x128_320_128) (rd a14.view (kernelRun0_A.sl.HS2_1 c a2 k2 a7 k7 a8 k8 a12 x1 x6 x7) inb_S512x512_S64x128_320_256) (rd a14.view (kernelRun0_A.sl.HS2_1 c a2 k2 a7 k7 a8 k8 a12 x1 x6 x7) inb_S512x512_S64x128_320_384) :=
  blkQ_of _ a14.view (t := 0) (oi := 320) (y_tile a2 k2 x1 (wd c a7 k7 a8 k8 a12 x6 x7) inb_S2048x2560_S512x2560_0_0) rfl rfl _ _ _ _

theorem bp_6 : BlkP (mkD x0 x1 x2 x3 x4 x6 x7 (kernelRun0_A.sl.r_3 c a6 k6 x5) (kernelRun0_A.sl.r_4 i)) 384 (ra a3 k3 x2 inb_S2048x128_S64x128_384_0) (rd a13.view (kernelRun0_A.sl.HS1_1 c a1 k1 a5 k5 x0 x4) inb_S512x512_S64x128_384_0) (rd a13.view (kernelRun0_A.sl.HS1_1 c a1 k1 a5 k5 x0 x4) inb_S512x512_S64x128_384_128) (rd a13.view (kernelRun0_A.sl.HS1_1 c a1 k1 a5 k5 x0 x4) inb_S512x512_S64x128_384_256) (rd a13.view (kernelRun0_A.sl.HS1_1 c a1 k1 a5 k5 x0 x4) inb_S512x512_S64x128_384_384) :=
  blkP_of _ a3 k3 _ a13.view (t := 0) (oi := 384) (z_tile a1 k1 x0 a5 k5 x4 inb_S2048x2560_S512x2560_0_0 inb_S512x2560_S512x2560_0_0) rfl rfl _ _ _ _

theorem bq_6 : BlkQ (mkD x0 x1 x2 x3 x4 x6 x7 (kernelRun0_A.sl.r_3 c a6 k6 x5) (kernelRun0_A.sl.r_4 i)) 384 (rd a14.view (kernelRun0_A.sl.HS2_1 c a2 k2 a7 k7 a8 k8 a12 x1 x6 x7) inb_S512x512_S64x128_384_0) (rd a14.view (kernelRun0_A.sl.HS2_1 c a2 k2 a7 k7 a8 k8 a12 x1 x6 x7) inb_S512x512_S64x128_384_128) (rd a14.view (kernelRun0_A.sl.HS2_1 c a2 k2 a7 k7 a8 k8 a12 x1 x6 x7) inb_S512x512_S64x128_384_256) (rd a14.view (kernelRun0_A.sl.HS2_1 c a2 k2 a7 k7 a8 k8 a12 x1 x6 x7) inb_S512x512_S64x128_384_384) :=
  blkQ_of _ a14.view (t := 0) (oi := 384) (y_tile a2 k2 x1 (wd c a7 k7 a8 k8 a12 x6 x7) inb_S2048x2560_S512x2560_0_0) rfl rfl _ _ _ _

theorem bp_7 : BlkP (mkD x0 x1 x2 x3 x4 x6 x7 (kernelRun0_A.sl.r_3 c a6 k6 x5) (kernelRun0_A.sl.r_4 i)) 448 (ra a3 k3 x2 inb_S2048x128_S64x128_448_0) (rd a13.view (kernelRun0_A.sl.HS1_1 c a1 k1 a5 k5 x0 x4) inb_S512x512_S64x128_448_0) (rd a13.view (kernelRun0_A.sl.HS1_1 c a1 k1 a5 k5 x0 x4) inb_S512x512_S64x128_448_128) (rd a13.view (kernelRun0_A.sl.HS1_1 c a1 k1 a5 k5 x0 x4) inb_S512x512_S64x128_448_256) (rd a13.view (kernelRun0_A.sl.HS1_1 c a1 k1 a5 k5 x0 x4) inb_S512x512_S64x128_448_384) :=
  blkP_of _ a3 k3 _ a13.view (t := 0) (oi := 448) (z_tile a1 k1 x0 a5 k5 x4 inb_S2048x2560_S512x2560_0_0 inb_S512x2560_S512x2560_0_0) rfl rfl _ _ _ _

theorem bq_7 : BlkQ (mkD x0 x1 x2 x3 x4 x6 x7 (kernelRun0_A.sl.r_3 c a6 k6 x5) (kernelRun0_A.sl.r_4 i)) 448 (rd a14.view (kernelRun0_A.sl.HS2_1 c a2 k2 a7 k7 a8 k8 a12 x1 x6 x7) inb_S512x512_S64x128_448_0) (rd a14.view (kernelRun0_A.sl.HS2_1 c a2 k2 a7 k7 a8 k8 a12 x1 x6 x7) inb_S512x512_S64x128_448_128) (rd a14.view (kernelRun0_A.sl.HS2_1 c a2 k2 a7 k7 a8 k8 a12 x1 x6 x7) inb_S512x512_S64x128_448_256) (rd a14.view (kernelRun0_A.sl.HS2_1 c a2 k2 a7 k7 a8 k8 a12 x1 x6 x7) inb_S512x512_S64x128_448_384) :=
  blkQ_of _ a14.view (t := 0) (oi := 448) (y_tile a2 k2 x1 (wd c a7 k7 a8 k8 a12 x6 x7) inb_S2048x2560_S512x2560_0_0) rfl rfl _ _ _ _

theorem bp_8 : BlkP (mkD x0 x1 x2 x3 x4 x6 x7 (kernelRun0_A.sl.r_3 c a6 k6 x5) (kernelRun0_A.sl.r_4 i)) 512 (ra a3 k3 x2 inb_S2048x128_S64x128_512_0) (rd a13.view (kernelRun0_A.sl.HS1_2 c a1 k1 a5 k5 x0 x4) inb_S512x512_S64x128_0_0) (rd a13.view (kernelRun0_A.sl.HS1_2 c a1 k1 a5 k5 x0 x4) inb_S512x512_S64x128_0_128) (rd a13.view (kernelRun0_A.sl.HS1_2 c a1 k1 a5 k5 x0 x4) inb_S512x512_S64x128_0_256) (rd a13.view (kernelRun0_A.sl.HS1_2 c a1 k1 a5 k5 x0 x4) inb_S512x512_S64x128_0_384) :=
  blkP_of _ a3 k3 _ a13.view (t := 512) (oi := 0) (z_tile a1 k1 x0 a5 k5 x4 inb_S2048x2560_S512x2560_512_0 inb_S512x2560_S512x2560_0_0) rfl rfl _ _ _ _

theorem bq_8 : BlkQ (mkD x0 x1 x2 x3 x4 x6 x7 (kernelRun0_A.sl.r_3 c a6 k6 x5) (kernelRun0_A.sl.r_4 i)) 512 (rd a14.view (kernelRun0_A.sl.HS2_2 c a2 k2 a7 k7 a8 k8 a12 x1 x6 x7) inb_S512x512_S64x128_0_0) (rd a14.view (kernelRun0_A.sl.HS2_2 c a2 k2 a7 k7 a8 k8 a12 x1 x6 x7) inb_S512x512_S64x128_0_128) (rd a14.view (kernelRun0_A.sl.HS2_2 c a2 k2 a7 k7 a8 k8 a12 x1 x6 x7) inb_S512x512_S64x128_0_256) (rd a14.view (kernelRun0_A.sl.HS2_2 c a2 k2 a7 k7 a8 k8 a12 x1 x6 x7) inb_S512x512_S64x128_0_384) :=
  blkQ_of _ a14.view (t := 512) (oi := 0) (y_tile a2 k2 x1 (wd c a7 k7 a8 k8 a12 x6 x7) inb_S2048x2560_S512x2560_512_0) rfl rfl _ _ _ _

theorem bp_9 : BlkP (mkD x0 x1 x2 x3 x4 x6 x7 (kernelRun0_A.sl.r_3 c a6 k6 x5) (kernelRun0_A.sl.r_4 i)) 576 (ra a3 k3 x2 inb_S2048x128_S64x128_576_0) (rd a13.view (kernelRun0_A.sl.HS1_2 c a1 k1 a5 k5 x0 x4) inb_S512x512_S64x128_64_0) (rd a13.view (kernelRun0_A.sl.HS1_2 c a1 k1 a5 k5 x0 x4) inb_S512x512_S64x128_64_128) (rd a13.view (kernelRun0_A.sl.HS1_2 c a1 k1 a5 k5 x0 x4) inb_S512x512_S64x128_64_256) (rd a13.view (kernelRun0_A.sl.HS1_2 c a1 k1 a5 k5 x0 x4) inb_S512x512_S64x128_64_384) :=
  blkP_of _ a3 k3 _ a13.view (t := 512) (oi := 64) (z_tile a1 k1 x0 a5 k5 x4 inb_S2048x2560_S512x2560_512_0 inb_S512x2560_S512x2560_0_0) rfl rfl _ _ _ _

theorem bq_9 : BlkQ (mkD x0 x1 x2 x3 x4 x6 x7 (kernelRun0_A.sl.r_3 c a6 k6 x5) (kernelRun0_A.sl.r_4 i)) 576 (rd a14.view (kernelRun0_A.sl.HS2_2 c a2 k2 a7 k7 a8 k8 a12 x1 x6 x7) inb_S512x512_S64x128_64_0) (rd a14.view (kernelRun0_A.sl.HS2_2 c a2 k2 a7 k7 a8 k8 a12 x1 x6 x7) inb_S512x512_S64x128_64_128) (rd a14.view (kernelRun0_A.sl.HS2_2 c a2 k2 a7 k7 a8 k8 a12 x1 x6 x7) inb_S512x512_S64x128_64_256) (rd a14.view (kernelRun0_A.sl.HS2_2 c a2 k2 a7 k7 a8 k8 a12 x1 x6 x7) inb_S512x512_S64x128_64_384) :=
  blkQ_of _ a14.view (t := 512) (oi := 64) (y_tile a2 k2 x1 (wd c a7 k7 a8 k8 a12 x6 x7) inb_S2048x2560_S512x2560_512_0) rfl rfl _ _ _ _

theorem bp_10 : BlkP (mkD x0 x1 x2 x3 x4 x6 x7 (kernelRun0_A.sl.r_3 c a6 k6 x5) (kernelRun0_A.sl.r_4 i)) 640 (ra a3 k3 x2 inb_S2048x128_S64x128_640_0) (rd a13.view (kernelRun0_A.sl.HS1_2 c a1 k1 a5 k5 x0 x4) inb_S512x512_S64x128_128_0) (rd a13.view (kernelRun0_A.sl.HS1_2 c a1 k1 a5 k5 x0 x4) inb_S512x512_S64x128_128_128) (rd a13.view (kernelRun0_A.sl.HS1_2 c a1 k1 a5 k5 x0 x4) inb_S512x512_S64x128_128_256) (rd a13.view (kernelRun0_A.sl.HS1_2 c a1 k1 a5 k5 x0 x4) inb_S512x512_S64x128_128_384) :=
  blkP_of _ a3 k3 _ a13.view (t := 512) (oi := 128) (z_tile a1 k1 x0 a5 k5 x4 inb_S2048x2560_S512x2560_512_0 inb_S512x2560_S512x2560_0_0) rfl rfl _ _ _ _

theorem bq_10 : BlkQ (mkD x0 x1 x2 x3 x4 x6 x7 (kernelRun0_A.sl.r_3 c a6 k6 x5) (kernelRun0_A.sl.r_4 i)) 640 (rd a14.view (kernelRun0_A.sl.HS2_2 c a2 k2 a7 k7 a8 k8 a12 x1 x6 x7) inb_S512x512_S64x128_128_0) (rd a14.view (kernelRun0_A.sl.HS2_2 c a2 k2 a7 k7 a8 k8 a12 x1 x6 x7) inb_S512x512_S64x128_128_128) (rd a14.view (kernelRun0_A.sl.HS2_2 c a2 k2 a7 k7 a8 k8 a12 x1 x6 x7) inb_S512x512_S64x128_128_256) (rd a14.view (kernelRun0_A.sl.HS2_2 c a2 k2 a7 k7 a8 k8 a12 x1 x6 x7) inb_S512x512_S64x128_128_384) :=
  blkQ_of _ a14.view (t := 512) (oi := 128) (y_tile a2 k2 x1 (wd c a7 k7 a8 k8 a12 x6 x7) inb_S2048x2560_S512x2560_512_0) rfl rfl _ _ _ _

theorem bp_11 : BlkP (mkD x0 x1 x2 x3 x4 x6 x7 (kernelRun0_A.sl.r_3 c a6 k6 x5) (kernelRun0_A.sl.r_4 i)) 704 (ra a3 k3 x2 inb_S2048x128_S64x128_704_0) (rd a13.view (kernelRun0_A.sl.HS1_2 c a1 k1 a5 k5 x0 x4) inb_S512x512_S64x128_192_0) (rd a13.view (kernelRun0_A.sl.HS1_2 c a1 k1 a5 k5 x0 x4) inb_S512x512_S64x128_192_128) (rd a13.view (kernelRun0_A.sl.HS1_2 c a1 k1 a5 k5 x0 x4) inb_S512x512_S64x128_192_256) (rd a13.view (kernelRun0_A.sl.HS1_2 c a1 k1 a5 k5 x0 x4) inb_S512x512_S64x128_192_384) :=
  blkP_of _ a3 k3 _ a13.view (t := 512) (oi := 192) (z_tile a1 k1 x0 a5 k5 x4 inb_S2048x2560_S512x2560_512_0 inb_S512x2560_S512x2560_0_0) rfl rfl _ _ _ _

theorem bq_11 : BlkQ (mkD x0 x1 x2 x3 x4 x6 x7 (kernelRun0_A.sl.r_3 c a6 k6 x5) (kernelRun0_A.sl.r_4 i)) 704 (rd a14.view (kernelRun0_A.sl.HS2_2 c a2 k2 a7 k7 a8 k8 a12 x1 x6 x7) inb_S512x512_S64x128_192_0) (rd a14.view (kernelRun0_A.sl.HS2_2 c a2 k2 a7 k7 a8 k8 a12 x1 x6 x7) inb_S512x512_S64x128_192_128) (rd a14.view (kernelRun0_A.sl.HS2_2 c a2 k2 a7 k7 a8 k8 a12 x1 x6 x7) inb_S512x512_S64x128_192_256) (rd a14.view (kernelRun0_A.sl.HS2_2 c a2 k2 a7 k7 a8 k8 a12 x1 x6 x7) inb_S512x512_S64x128_192_384) :=
  blkQ_of _ a14.view (t := 512) (oi := 192) (y_tile a2 k2 x1 (wd c a7 k7 a8 k8 a12 x6 x7) inb_S2048x2560_S512x2560_512_0) rfl rfl _ _ _ _

theorem bp_12 : BlkP (mkD x0 x1 x2 x3 x4 x6 x7 (kernelRun0_A.sl.r_3 c a6 k6 x5) (kernelRun0_A.sl.r_4 i)) 768 (ra a3 k3 x2 inb_S2048x128_S64x128_768_0) (rd a13.view (kernelRun0_A.sl.HS1_2 c a1 k1 a5 k5 x0 x4) inb_S512x512_S64x128_256_0) (rd a13.view (kernelRun0_A.sl.HS1_2 c a1 k1 a5 k5 x0 x4) inb_S512x512_S64x128_256_128) (rd a13.view (kernelRun0_A.sl.HS1_2 c a1 k1 a5 k5 x0 x4) inb_S512x512_S64x128_256_256) (rd a13.view (kernelRun0_A.sl.HS1_2 c a1 k1 a5 k5 x0 x4) inb_S512x512_S64x128_256_384) :=
  blkP_of _ a3 k3 _ a13.view (t := 512) (oi := 256) (z_tile a1 k1 x0 a5 k5 x4 inb_S2048x2560_S512x2560_512_0 inb_S512x2560_S512x2560_0_0) rfl rfl _ _ _ _

theorem bq_12 : BlkQ (mkD x0 x1 x2 x3 x4 x6 x7 (kernelRun0_A.sl.r_3 c a6 k6 x5) (kernelRun0_A.sl.r_4 i)) 768 (rd a14.view (kernelRun0_A.sl.HS2_2 c a2 k2 a7 k7 a8 k8 a12 x1 x6 x7) inb_S512x512_S64x128_256_0) (rd a14.view (kernelRun0_A.sl.HS2_2 c a2 k2 a7 k7 a8 k8 a12 x1 x6 x7) inb_S512x512_S64x128_256_128) (rd a14.view (kernelRun0_A.sl.HS2_2 c a2 k2 a7 k7 a8 k8 a12 x1 x6 x7) inb_S512x512_S64x128_256_256) (rd a14.view (kernelRun0_A.sl.HS2_2 c a2 k2 a7 k7 a8 k8 a12 x1 x6 x7) inb_S512x512_S64x128_256_384) :=
  blkQ_of _ a14.view (t := 512) (oi := 256) (y_tile a2 k2 x1 (wd c a7 k7 a8 k8 a12 x6 x7) inb_S2048x2560_S512x2560_512_0) rfl rfl _ _ _ _

theorem bp_13 : BlkP (mkD x0 x1 x2 x3 x4 x6 x7 (kernelRun0_A.sl.r_3 c a6 k6 x5) (kernelRun0_A.sl.r_4 i)) 832 (ra a3 k3 x2 inb_S2048x128_S64x128_832_0) (rd a13.view (kernelRun0_A.sl.HS1_2 c a1 k1 a5 k5 x0 x4) inb_S512x512_S64x128_320_0) (rd a13.view (kernelRun0_A.sl.HS1_2 c a1 k1 a5 k5 x0 x4) inb_S512x512_S64x128_320_128) (rd a13.view (kernelRun0_A.sl.HS1_2 c a1 k1 a5 k5 x0 x4) inb_S512x512_S64x128_320_256) (rd a13.view (kernelRun0_A.sl.HS1_2 c a1 k1 a5 k5 x0 x4) inb_S512x512_S64x128_320_384) :=
  blkP_of _ a3 k3 _ a13.view (t := 512) (oi := 320) (z_tile a1 k1 x0 a5 k5 x4 inb_S2048x2560_S512x2560_512_0 inb_S512x2560_S512x2560_0_0) rfl rfl _ _ _ _

theorem bq_13 : BlkQ (mkD x0 x1 x2 x3 x4 x6 x7 (kernelRun0_A.sl.r_3 c a6 k6 x5) (kernelRun0_A.sl.r_4 i)) 832 (rd a14.view (kernelRun0_A.sl.HS2_2 c a2 k2 a7 k7 a8 k8 a12 x1 x6 x7) inb_S512x512_S64x128_320_0) (rd a14.view (kernelRun0_A.sl.HS2_2 c a2 k2 a7 k7 a8 k8 a12 x1 x6 x7) inb_S512x512_S64x128_320_128) (rd a14.view (kernelRun0_A.sl.HS2_2 c a2 k2 a7 k7 a8 k8 a12 x1 x6 x7) inb_S512x512_S64x128_320_256) (rd a14.view (kernelRun0_A.sl.HS2_2 c a2 k2 a7 k7 a8 k8 a12 x1 x6 x7) inb_S512x512_S64x128_320_384) :=
  blkQ_of _ a14.view (t := 512) (oi := 320) (y_tile a2 k2 x1 (wd c a7 k7 a8 k8 a12 x6 x7) inb_S2048x2560_S512x2560_512_0) rfl rfl _ _ _ _

theorem bp_14 : BlkP (mkD x0 x1 x2 x3 x4 x6 x7 (kernelRun0_A.sl.r_3 c a6 k6 x5) (kernelRun0_A.sl.r_4 i)) 896 (ra a3 k3 x2 inb_S2048x128_S64x128_896_0) (rd a13.view (kernelRun0_A.sl.HS1_2 c a1 k1 a5 k5 x0 x4) inb_S512x512_S64x128_384_0) (rd a13.view (kernelRun0_A.sl.HS1_2 c a1 k1 a5 k5 x0 x4) inb_S512x512_S64x128_384_128) (rd a13.view (kernelRun0_A.sl.HS1_2 c a1 k1 a5 k5 x0 x4) inb_S512x512_S64x128_384_256) (rd a13.view (kernelRun0_A.sl.HS1_2 c a1 k1 a5 k5 x0 x4) inb_S512x512_S64x128_384_384) :=
  blkP_of _ a3 k3 _ a13.view (t := 512) (oi := 384) (z_tile a1 k1 x0 a5 k5 x4 inb_S2048x2560_S512x2560_512_0 inb_S512x2560_S512x2560_0_0) rfl rfl _ _ _ _

theorem bq_14 : BlkQ (mkD x0 x1 x2 x3 x4 x6 x7 (kernelRun0_A.sl.r_3 c a6 k6 x5) (kernelRun0_A.sl.r_4 i)) 896 (rd a14.view (kernelRun0_A.sl.HS2_2 c a2 k2 a7 k7 a8 k8 a12 x1 x6 x7) inb_S512x512_S64x128_384_0) (rd a14.view (kernelRun0_A.sl.HS2_2 c a2 k2 a7 k7 a8 k8 a12 x1 x6 x7) inb_S512x512_S64x128_384_128) (rd a14.view (kernelRun0_A.sl.HS2_2 c a2 k2 a7 k7 a8 k8 a12 x1 x6 x7) inb_S512x512_S64x128_384_256) (rd a14.view (kernelRun0_A.sl.HS2_2 c a2 k2 a7 k7 a8 k8 a12 x1 x6 x7) inb_S512x512_S64x128_384_384) :=
  blkQ_of _ a14.view (t := 512) (oi := 384) (y_tile a2 k2 x1 (wd c a7 k7 a8 k8 a12 x6 x7) inb_S2048x2560_S512x2560_512_0) rfl rfl _ _ _ _

theorem bp_15 : BlkP (mkD x0 x1 x2 x3 x4 x6 x7 (kernelRun0_A.sl.r_3 c a6 k6 x5) (kernelRun0_A.sl.r_4 i)) 960 (ra a3 k3 x2 inb_S2048x128_S64x128_960_0) (rd a13.view (kernelRun0_A.sl.HS1_2 c a1 k1 a5 k5 x0 x4) inb_S512x512_S64x128_448_0) (rd a13.view (kernelRun0_A.sl.HS1_2 c a1 k1 a5 k5 x0 x4) inb_S512x512_S64x128_448_128) (rd a13.view (kernelRun0_A.sl.HS1_2 c a1 k1 a5 k5 x0 x4) inb_S512x512_S64x128_448_256) (rd a13.view (kernelRun0_A.sl.HS1_2 c a1 k1 a5 k5 x0 x4) inb_S512x512_S64x128_448_384) :=
  blkP_of _ a3 k3 _ a13.view (t := 512) (oi := 448) (z_tile a1 k1 x0 a5 k5 x4 inb_S2048x2560_S512x2560_512_0 inb_S512x2560_S512x2560_0_0) rfl rfl _ _ _ _

theorem bq_15 : BlkQ (mkD x0 x1 x2 x3 x4 x6 x7 (kernelRun0_A.sl.r_3 c a6 k6 x5) (kernelRun0_A.sl.r_4 i)) 960 (rd a14.view (kernelRun0_A.sl.HS2_2 c a2 k2 a7 k7 a8 k8 a12 x1 x6 x7) inb_S512x512_S64x128_448_0) (rd a14.view (kernelRun0_A.sl.HS2_2 c a2 k2 a7 k7 a8 k8 a12 x1 x6 x7) inb_S512x512_S64x128_448_128) (rd a14.view (kernelRun0_A.sl.HS2_2 c a2 k2 a7 k7 a8 k8 a12 x1 x6 x7) inb_S512x512_S64x128_448_256) (rd a14.view (kernelRun0_A.sl.HS2_2 c a2 k2 a7 k7 a8 k8 a12 x1 x6 x7) inb_S512x512_S64x128_448_384) :=
  blkQ_of _ a14.view (t := 512) (oi := 448) (y_tile a2 k2 x1 (wd c a7 k7 a8 k8 a12 x6 x7) inb_S2048x2560_S512x2560_512_0) rfl rfl _ _ _ _

theorem bp_16 : BlkP (mkD x0 x1 x2 x3 x4 x6 x7 (kernelRun0_A.sl.r_3 c a6 k6 x5) (kernelRun0_A.sl.r_4 i)) 1024 (ra a3 k3 x2 inb_S2048x128_S64x128_1024_0) (rd a13.view (kernelRun0_A.sl.HS1_3 c a1 k1 a5 k5 x0 x4) inb_S512x512_S64x128_0_0) (rd a13.view (kernelRun0_A.sl.HS1_3 c a1 k1 a5 k5 x0 x4) inb_S512x512_S64x128_0_128) (rd a13.view (kernelRun0_A.sl.HS1_3 c a1 k1 a5 k5 x0 x4) inb_S512x512_S64x128_0_256) (rd a13.view (kernelRun0_A.sl.HS1_3 c a1 k1 a5 k5 x0 x4) inb_S512x512_S64x128_0_384) :=
  blkP_of _ a3 k3 _ a13.view (t := 1024) (oi := 0) (z_tile a1 k1 x0 a5 k5 x4 inb_S2048x2560_S512x2560_1024_0 inb_S512x2560_S512x2560_0_0) rfl rfl _ _ _ _

theorem bq_16 : BlkQ (mkD x0 x1 x2 x3 x4 x6 x7 (kernelRun0_A.sl.r_3 c a6 k6 x5) (kernelRun0_A.sl.r_4 i)) 1024 (rd a14.view (kernelRun0_A.sl.HS2_3 c a2 k2 a7 k7 a8 k8 a12 x1 x6 x7) inb_S512x512_S64x128_0_0) (rd a14.view (kernelRun0_A.sl.HS2_3 c a2 k2 a7 k7 a8 k8 a12 x1 x6 x7) inb_S512x512_S64x128_0_128) (rd a14.view (kernelRun0_A.sl.HS2_3 c a2 k2 a7 k7 a8 k8 a12 x1 x6 x7) inb_S512x512_S64x128_0_256) (rd a14.view (kernelRun0_A.sl.HS2_3 c a2 k2 a7 k7 a8 k8 a12 x1 x6 x7) inb_S512x512_S64x128_0_384) :=
  blkQ_of _ a14.view (t := 1024) (oi := 0) (y_tile a2 k2 x1 (wd c a7 k7 a8 k8 a12 x6 x7) inb_S2048x2560_S512x2560_1024_0) rfl rfl _ _ _ _

theorem bp_17 : BlkP (mkD x0 x1 x2 x3 x4 x6 x7 (kernelRun0_A.sl.r_3 c a6 k6 x5) (kernelRun0_A.sl.r_4 i)) 1088 (ra a3 k3 x2 inb_S2048x128_S64x128_1088_0) (rd a13.view (kernelRun0_A.sl.HS1_3 c a1 k1 a5 k5 x0 x4) inb_S512x512_S64x128_64_0) (rd a13.view (kernelRun0_A.sl.HS1_3 c a1 k1 a5 k5 x0 x4) inb_S512x512_S64x128_64_128) (rd a13.view (kernelRun0_A.sl.HS1_3 c a1 k1 a5 k5 x0 x4) inb_S512x512_S64x128_64_256) (rd a13.view (kernelRun0_A.sl.HS1_3 c a1 k1 a5 k5 x0 x4) inb_S512x512_S64x128_64_384) :=
  blkP_of _ a3 k3 _ a13.view (t := 1024) (oi := 64) (z_tile a1 k1 x0 a5 k5 x4 inb_S2048x2560_S512x2560_1024_0 inb_S512x2560_S512x2560_0_0) rfl rfl _ _ _ _

theorem bq_17 : BlkQ (mkD x0 x1 x2 x3 x4 x6 x7 (kernelRun0_A.sl.r_3 c a6 k6 x5) (kernelRun0_A.sl.r_4 i)) 1088 (rd a14.view (kernelRun0_A.sl.HS2_3 c a2 k2 a7 k7 a8 k8 a12 x1 x6 x7) inb_S512x512_S64x128_64_0) (rd a14.view (kernelRun0_A.sl.HS2_3 c a2 k2 a7 k7 a8 k8 a12 x1 x6 x7) inb_S512x512_S64x128_64_128) (rd a14.view (kernelRun0_A.sl.HS2_3 c a2 k2 a7 k7 a8 k8 a12 x1 x6 x7) inb_S512x512_S64x128_64_256) (rd a14.view (kernelRun0_A.sl.HS2_3 c a2 k2 a7 k7 a8 k8 a12 x1 x6 x7) inb_S512x512_S64x128_64_384) :=
  blkQ_of _ a14.view (t := 1024) (oi := 64) (y_tile a2 k2 x1 (wd c a7 k7 a8 k8 a12 x6 x7) inb_S2048x2560_S512x2560_1024_0) rfl rfl _ _ _ _

theorem bp_18 : BlkP (mkD x0 x1 x2 x3 x4 x6 x7 (kernelRun0_A.sl.r_3 c a6 k6 x5) (kernelRun0_A.sl.r_4 i)) 1152 (ra a3 k3 x2 inb_S2048x128_S64x128_1152_0) (rd a13.view (kernelRun0_A.sl.HS1_3 c a1 k1 a5 k5 x0 x4) inb_S512x512_S64x128_128_0) (rd a13.view (kernelRun0_A.sl.HS1_3 c a1 k1 a5 k5 x0 x4) inb_S512x512_S64x128_128_128) (rd a13.view (kernelRun0_A.sl.HS1_3 c a1 k1 a5 k5 x0 x4) inb_S512x512_S64x128_128_256) (rd a13.view (kernelRun0_A.sl.HS1_3 c a1 k1 a5 k5 x0 x4) inb_S512x512_S64x128_128_384) :=
  blkP_of _ a3 k3 _ a13.view (t := 1024) (oi := 128) (z_tile a1 k1 x0 a5 k5 x4 inb_S2048x2560_S512x2560_1024_0 inb_S512x2560_S512x2560_0_0) rfl rfl _ _ _ _

theorem bq_18 : BlkQ (mkD x0 x1 x2 x3 x4 x6 x7 (kernelRun0_A.sl.r_3 c a6 k6 x5) (kernelRun0_A.sl.r_4 i)) 1152 (rd a14.view (kernelRun0_A.sl.HS2_3 c a2 k2 a7 k7 a8 k8 a12 x1 x6 x7) inb_S512x512_S64x128_128_0) (rd a14.view (kernelRun0_A.sl.HS2_3 c a2 k2 a7 k7 a8 k8 a12 x1 x6 x7) inb_S512x512_S64x128_128_128) (rd a14.view (kernelRun0_A.sl.HS2_3 c a2 k2 a7 k7 a8 k8 a12 x1 x6 x7) inb_S512x512_S64x128_128_256) (rd a14.view (kernelRun0_A.sl.HS2_3 c a2 k2 a7 k7 a8 k8 a12 x1 x6 x7) inb_S512x512_S64x128_128_384) :=
  blkQ_of _ a14.view (t := 1024) (oi := 128) (y_tile a2 k2 x1 (wd c a7 k7 a8 k8 a12 x6 x7) inb_S2048x2560_S512x2560_1024_0) rfl rfl _ _ _ _

theorem bp_19 : BlkP (mkD x0 x1 x2 x3 x4 x6 x7 (kernelRun0_A.sl.r_3 c a6 k6 x5) (kernelRun0_A.sl.r_4 i)) 1216 (ra a3 k3 x2 inb_S2048x128_S64x128_1216_0) (rd a13.view (kernelRun0_A.sl.HS1_3 c a1 k1 a5 k5 x0 x4) inb_S512x512_S64x128_192_0) (rd a13.view (kernelRun0_A.sl.HS1_3 c a1 k1 a5 k5 x0 x4) inb_S512x512_S64x128_192_128) (rd a13.view (kernelRun0_A.sl.HS1_3 c a1 k1 a5 k5 x0 x4) inb_S512x512_S64x128_192_256) (rd a13.view (kernelRun0_A.sl.HS1_3 c a1 k1 a5 k5 x0 x4) inb_S512x512_S64x128_192_384) :=
  blkP_of _ a3 k3 _ a13.view (t := 1024) (oi := 192) (z_tile a1 k1 x0 a5 k5 x4 inb_S2048x2560_S512x2560_1024_0 inb_S512x2560_S512x2560_0_0) rfl rfl _ _ _ _

theorem bq_19 : BlkQ (mkD x0 x1 x2 x3 x4 x6 x7 (kernelRun0_A.sl.r_3 c a6 k6 x5) (kernelRun0_A.sl.r_4 i)) 1216 (rd a14.view (kernelRun0_A.sl.HS2_3 c a2 k2 a7 k7 a8 k8 a12 x1 x6 x7) inb_S512x512_S64x128_192_0) (rd a14.view (kernelRun0_A.sl.HS2_3 c a2 k2 a7 k7 a8 k8 a12 x1 x6 x7) inb_S512x512_S64x128_192_128) (rd a14.view (kernelRun0_A.sl.HS2_3 c a2 k2 a7 k7 a8 k8 a12 x1 x6 x7) inb_S512x512_S64x128_192_256) (rd a14.view (kernelRun0_A.sl.HS2_3 c a2 k2 a7 k7 a8 k8 a12 x1 x6 x7) inb_S512x512_S64x128_192_384) :=
  blkQ_of _ a14.view (t := 1024) (oi := 192) (y_tile a2 k2 x1 (wd c a7 k7 a8 k8 a12 x6 x7) inb_S2048x2560_S512x2560_1024_0) rfl rfl _ _ _ _

theorem bp_20 : BlkP (mkD x0 x1 x2 x3 x4 x6 x7 (kernelRun0_A.sl.r_3 c a6 k6 x5) (kernelRun0_A.sl.r_4 i)) 1280 (ra a3 k3 x2 inb_S2048x128_S64x128_1280_0) (rd a13.view (kernelRun0_A.sl.HS1_3 c a1 k1 a5 k5 x0 x4) inb_S512x512_S64x128_256_0) (rd a13.view (kernelRun0_A.sl.HS1_3 c a1 k1 a5 k5 x0 x4) inb_S512x512_S64x128_256_128) (rd a13.view (kernelRun0_A.sl.HS1_3 c a1 k1 a5 k5 x0 x4) inb_S512x512_S64x128_256_256) (rd a13.view (kernelRun0_A.sl.HS1_3 c a1 k1 a5 k5 x0 x4) inb_S512x512_S64x128_256_384) :=
  blkP_of _ a3 k3 _ a13.view (t := 1024) (oi := 256) (z_tile a1 k1 x0 a5 k5 x4 inb_S2048x2560_S512x2560_1024_0 inb_S512x2560_S512x2560_0_0) rfl rfl _ _ _ _

theorem bq_20 : BlkQ (mkD x0 x1 x2 x3 x4 x6 x7 (kernelRun0_A.sl.r_3 c a6 k6 x5) (kernelRun0_A.sl.r_4 i)) 1280 (rd a14.view (kernelRun0_A.sl.HS2_3 c a2 k2 a7 k7 a8 k8 a12 x1 x6 x7) inb_S512x512_S64x128_256_0) (rd a14.view (kernelRun0_A.sl.HS2_3 c a2 k2 a7 k7 a8 k8 a12 x1 x6 x7) inb_S512x512_S64x128_256_128) (rd a14.view (kernelRun0_A.sl.HS2_3 c a2 k2 a7 k7 a8 k8 a12 x1 x6 x7) inb_S512x512_S64x128_256_256) (rd a14.view (kernelRun0_A.sl.HS2_3 c a2 k2 a7 k7 a8 k8 a12 x1 x6 x7) inb_S512x512_S64x128_256_384) :=
  blkQ_of _ a14.view (t := 1024) (oi := 256) (y_tile a2 k2 x1 (wd c a7 k7 a8 k8 a12 x6 x7) inb_S2048x2560_S512x2560_1024_0) rfl rfl _ _ _ _

theorem bp_21 : BlkP (mkD x0 x1 x2 x3 x4 x6 x7 (kernelRun0_A.sl.r_3 c a6 k6 x5) (kernelRun0_A.sl.r_4 i)) 1344 (ra a3 k3 x2 inb_S2048x128_S64x128_1344_0) (rd a13.view (kernelRun0_A.sl.HS1_3 c a1 k1 a5 k5 x0 x4) inb_S512x512_S64x128_320_0) (rd a13.view (kernelRun0_A.sl.HS1_3 c a1 k1 a5 k5 x0 x4) inb_S512x512_S64x128_320_128) (rd a13.view (kernelRun0_A.sl.HS1_3 c a1 k1 a5 k5 x0 x4) inb_S512x512_S64x128_320_256) (rd a13.view (kernelRun0_A.sl.HS1_3 c a1 k1 a5 k5 x0 x4) inb_S512x512_S64x128_320_384) :=
  blkP_of _ a3 k3 _ a13.view (t := 1024) (oi := 320) (z_tile a1 k1 x0 a5 k5 x4 inb_S2048x2560_S512x2560_1024_0 inb_S512x2560_S512x2560_0_0) rfl rfl _ _ _ _

theorem bq_21 : BlkQ (mkD x0 x1 x2 x3 x4 x6 x7 (kernelRun0_A.sl.r_3 c a6 k6 x5) (kernelRun0_A.sl.r_4 i)) 1344 (rd a14.view (kernelRun0_A.sl.HS2_3 c a2 k2 a7 k7 a8 k8 a12 x1 x6 x7) inb_S512x512_S64x128_320_0) (rd a14.view (kernelRun0_A.sl.HS2_3 c a2 k2 a7 k7 a8 k8 a12 x1 x6 x7) inb_S512x512_S64x128_320_128) (rd a14.view (kernelRun0_A.sl.HS2_3 c a2 k2 a7 k7 a8 k8 a12 x1 x6 x7) inb_S512x512_S64x128_320_256) (rd a14.view (kernelRun0_A.sl.HS2_3 c a2 k2 a7 k7 a8 k8 a12 x1 x6 x7) inb_S512x512_S64x128_320_384) :=
  blkQ_of _ a14.view (t := 1024) (oi := 320) (y_tile a2 k2 x1 (wd c a7 k7 a8 k8 a12 x6 x7) inb_S2048x2560_S512x2560_1024_0) rfl rfl _ _ _ _

theorem bp_22 : BlkP (mkD x0 x1 x2 x3 x4 x6 x7 (kernelRun0_A.sl.r_3 c a6 k6 x5) (kernelRun0_A.sl.r_4 i)) 1408 (ra a3 k3 x2 inb_S2048x128_S64x128_1408_0) (rd a13.view (kernelRun0_A.sl.HS1_3 c a1 k1 a5 k5 x0 x4) inb_S512x512_S64x128_384_0) (rd a13.view (kernelRun0_A.sl.HS1_3 c a1 k1 a5 k5 x0 x4) inb_S512x512_S64x128_384_128) (rd a13.view (kernelRun0_A.sl.HS1_3 c a1 k1 a5 k5 x0 x4) inb_S512x512_S64x128_384_256) (rd a13.view (kernelRun0_A.sl.HS1_3 c a1 k1 a5 k5 x0 x4) inb_S512x512_S64x128_384_384) :=
  blkP_of _ a3 k3 _ a13.view (t := 1024) (oi := 384) (z_tile a1 k1 x0 a5 k5 x4 inb_S2048x2560_S512x2560_1024_0 inb_S512x2560_S512x2560_0_0) rfl rfl _ _ _ _

theorem bq_22 : BlkQ (mkD x0 x1 x2 x3 x4 x6 x7 (kernelRun0_A.sl.r_3 c a6 k6 x5) (kernelRun0_A.sl.r_4 i)) 1408 (rd a14.view (kernelRun0_A.sl.HS2_3 c a2 k2 a7 k7 a8 k8 a12 x1 x6 x7) inb_S512x512_S64x128_384_0) (rd a14.view (kernelRun0_A.sl.HS2_3 c a2 k2 a7 k7 a8 k8 a12 x1 x6 x7) inb_S512x512_S64x128_384_128) (rd a14.view (kernelRun0_A.sl.HS2_3 c a2 k2 a7 k7 a8 k8 a12 x1 x6 x7) inb_S512x512_S64x128_384_256) (rd a14.view (kernelRun0_A.sl.HS2_3 c a2 k2 a7 k7 a8 k8 a12 x1 x6 x7) inb_S512x512_S64x128_384_384) :=
  blkQ_of _ a14.view (t := 1024) (oi := 384) (y_tile a2 k2 x1 (wd c a7 k7 a8 k8 a12 x6 x7) inb_S2048x2560_S512x2560_1024_0) rfl rfl _ _ _ _

theorem bp_23 : BlkP (mkD x0 x1 x2 x3 x4 x6 x7 (kernelRun0_A.sl.r_3 c a6 k6 x5) (kernelRun0_A.sl.r_4 i)) 1472 (ra a3 k3 x2 inb_S2048x128_S64x128_1472_0) (rd a13.view (kernelRun0_A.sl.HS1_3 c a1 k1 a5 k5 x0 x4) inb_S512x512_S64x128_448_0) (rd a13.view (kernelRun0_A.sl.HS1_3 c a1 k1 a5 k5 x0 x4) inb_S512x512_S64x128_448_128) (rd a13.view (kernelRun0_A.sl.HS1_3 c a1 k1 a5 k5 x0 x4) inb_S512x512_S64x128_448_256) (rd a13.view (kernelRun0_A.sl.HS1_3 c a1 k1 a5 k5 x0 x4) inb_S512x512_S64x128_448_384) :=
  blkP_of _ a3 k3 _ a13.view (t := 1024) (oi := 448) (z_tile a1 k1 x0 a5 k5 x4 inb_S2048x2560_S512x2560_1024_0 inb_S512x2560_S512x2560_0_0) rfl rfl _ _ _ _

theorem bq_23 : BlkQ (mkD x0 x1 x2 x3 x4 x6 x7 (kernelRun0_A.sl.r_3 c a6 k6 x5) (kernelRun0_A.sl.r_4 i)) 1472 (rd a14.view (kernelRun0_A.sl.HS2_3 c a2 k2 a7 k7 a8 k8 a12 x1 x6 x7) inb_S512x512_S64x128_448_0) (rd a14.view (kernelRun0_A.sl.HS2_3 c a2 k2 a7 k7 a8 k8 a12 x1 x6 x7) inb_S512x512_S64x128_448_128) (rd a14.view (kernelRun0_A.sl.HS2_3 c a2 k2 a7 k7 a8 k8 a12 x1 x6 x7) inb_S512x512_S64x128_448_256) (rd a14.view (kernelRun0_A.sl.HS2_3 c a2 k2 a7 k7 a8 k8 a12 x1 x6 x7) inb_S512x512_S64x128_448_384) :=
  blkQ_of _ a14.view (t := 1024) (oi := 448) (y_tile a2 k2 x1 (wd c a7 k7 a8 k8 a12 x6 x7) inb_S2048x2560_S512x2560_1024_0) rfl rfl _ _ _ _

theorem bp_24 : BlkP (mkD x0 x1 x2 x3 x4 x6 x7 (kernelRun0_A.sl.r_3 c a6 k6 x5) (kernelRun0_A.sl.r_4 i)) 1536 (ra a3 k3 x2 inb_S2048x128_S64x128_1536_0) (rd a13.view (kernelRun0_A.sl.HS1_4 c a1 k1 a5 k5 x0 x4) inb_S512x512_S64x128_0_0) (rd a13.view (kernelRun0_A.sl.HS1_4 c a1 k1 a5 k5 x0 x4) inb_S512x512_S64x128_0_128) (rd a13.view (kernelRun0_A.sl.HS1_4 c a1 k1 a5 k5 x0 x4) inb_S512x512_S64x128_0_256) (rd a13.view (kernelRun0_A.sl.HS1_4 c a1 k1 a5 k5 x0 x4) inb_S512x512_S64x128_0_384) :=
  blkP_of _ a3 k3 _ a13.view (t := 1536) (oi := 0) (z_tile a1 k1 x0 a5 k5 x4 inb_S2048x2560_S512x2560_1536_0 inb_S512x2560_S512x2560_0_0) rfl rfl _ _ _ _

theorem bq_24 : BlkQ (mkD x0 x1 x2 x3 x4 x6 x7 (kernelRun0_A.sl.r_3 c a6 k6 x5) (kernelRun0_A.sl.r_4 i)) 1536 (rd a14.view (kernelRun0_A.sl.HS2_4 c a2 k2 a7 k7 a8 k8 a12 x1 x6 x7) inb_S512x512_S64x128_0_0) (rd a14.view (kernelRun0_A.sl.HS2_4 c a2 k2 a7 k7 a8 k8 a12 x1 x6 x7) inb_S512x512_S64x128_0_128) (rd a14.view (kernelRun0_A.sl.HS2_4 c a2 k2 a7 k7 a8 k8 a12 x1 x6 x7) inb_S512x512_S64x128_0_256) (rd a14.view (kernelRun0_A.sl.HS2_4 c a2 k2 a7 k7 a8 k8 a12 x1 x6 x7) inb_S512x512_S64x128_0_384) :=
  blkQ_of _ a14.view (t := 1536) (oi := 0) (y_tile a2 k2 x1 (wd c a7 k7 a8 k8 a12 x6 x7) inb_S2048x2560_S512x2560_1536_0) rfl rfl _ _ _ _

theorem bp_25 : BlkP (mkD x0 x1 x2 x3 x4 x6 x7 (kernelRun0_A.sl.r_3 c a6 k6 x5) (kernelRun0_A.sl.r_4 i)) 1600 (ra a3 k3 x2 inb_S2048x128_S64x128_1600_0) (rd a13.view (kernelRun0_A.sl.HS1_4 c a1 k1 a5 k5 x0 x4) inb_S512x512_S64x128_64_0) (rd a13.view (kernelRun0_A.sl.HS1_4 c a1 k1 a5 k5 x0 x4) inb_S512x512_S64x128_64_128) (rd a13.view (kernelRun0_A.sl.HS1_4 c a1 k1 a5 k5 x0 x4) inb_S512x512_S64x128_64_256) (rd a13.view (kernelRun0_A.sl.HS1_4 c a1 k1 a5 k5 x0 x4) inb_S512x512_S64x128_64_384) :=
  blkP_of _ a3 k3 _ a13.view (t := 1536) (oi := 64) (z_tile a1 k1 x0 a5 k5 x4 inb_S2048x2560_S512x2560_1536_0 inb_S512x2560_S512x2560_0_0) rfl rfl _ _ _ _

theorem bq_25 : BlkQ (mkD x0 x1 x2 x3 x4 x6 x7 (kernelRun0_A.sl.r_3 c a6 k6 x5) (kernelRun0_A.sl.r_4 i)) 1600 (rd a14.view (kernelRun0_A.sl.HS2_4 c a2 k2 a7 k7 a8 k8 a12 x1 x6 x7) inb_S512x512_S64x128_64_0) (rd a14.view (kernelRun0_A.sl.HS2_4 c a2 k2 a7 k7 a8 k8 a12 x1 x6 x7) inb_S512x512_S64x128_64_128) (rd a14.view (kernelRun0_A.sl.HS2_4 c a2 k2 a7 k7 a8 k8 a12 x1 x6 x7) inb_S512x512_S64x128_64_256) (rd a14.view (kernelRun0_A.sl.HS2_4 c a2 k2 a7 k7 a8 k8 a12 x1 x6 x7) inb_S512x512_S64x128_64_384) :=
  blkQ_of _ a14.view (t := 1536) (oi := 64) (y_tile a2 k2 x1 (wd c a7 k7 a8 k8 a12 x6 x7) inb_S2048x2560_S512x2560_1536_0) rfl rfl _ _ _ _

theorem bp_26 : BlkP (mkD x0 x1 x2 x3 x4 x6 x7 (kernelRun0_A.sl.r_3 c a6 k6 x5) (kernelRun0_A.sl.r_4 i)) 1664 (ra a3 k3 x2 inb_S2048x128_S64x128_1664_0) (rd a13.view (kernelRun0_A.sl.HS1_4 c a1 k1 a5 k5 x0 x4) inb_S512x512_S64x128_128_0) (rd a13.view (kernelRun0_A.sl.HS1_4 c a1 k1 a5 k5 x0 x4) inb_S512x512_S64x128_128_128) (rd a13.view (kernelRun0_A.sl.HS1_4 c a1 k1 a5 k5 x0 x4) inb_S512x512_S64x128_128_256) (rd a13.view (kernelRun0_A.sl.HS1_4 c a1 k1 a5 k5 x0 x4) inb_S512x512_S64x128_128_384) :=
  blkP_of _ a3 k3 _ a13.view (t := 1536) (oi := 128) (z_tile a1 k1 x0 a5 k5 x4 inb_S2048x2560_S512x2560_1536_0 inb_S512x2560_S512x2560_0_0) rfl rfl _ _ _ _

theorem bq_26 : BlkQ (mkD x0 x1 x2 x3 x4 x6 x7 (kernelRun0_A.sl.r_3 c a6 k6 x5) (kernelRun0_A.sl.r_4 i)) 1664 (rd a14.view (kernelRun0_A.sl.HS2_4 c a2 k2 a7 k7 a8 k8 a12 x1 x6 x7) inb_S512x512_S64x128_128_0) (rd a14.view (kernelRun0_A.sl.HS2_4 c a2 k2 a7 k7 a8 k8 a12 x1 x6 x7) inb_S512x512_S64x128_128_128) (rd a14.view (kernelRun0_A.sl.HS2_4 c a2 k2 a7 k7 a8 k8 a12 x1 x6 x7) inb_S512x512_S64x128_128_256) (rd a14.view (kernelRun0_A.sl.HS2_4 c a2 k2 a7 k7 a8 k8 a12 x1 x6 x7) inb_S512x512_S64x128_128_384) :=
  blkQ_of _ a14.view (t := 1536) (oi := 128) (y_tile a2 k2 x1 (wd c a7 k7 a8 k8 a12 x6 x7) inb_S2048x2560_S512x2560_1536_0) rfl rfl _ _ _ _

theorem bp_27 : BlkP (mkD x0 x1 x2 x3 x4 x6 x7 (kernelRun0_A.sl.r_3 c a6 k6 x5) (kernelRun0_A.sl.r_4 i)) 1728 (ra a3 k3 x2 inb_S2048x128_S64x128_1728_0) (rd a13.view (kernelRun0_A.sl.HS1_4 c a1 k1 a5 k5 x0 x4) inb_S512x512_S64x128_192_0) (rd a13.view (kernelRun0_A.sl.HS1_4 c a1 k1 a5 k5 x0 x4) inb_S512x512_S64x128_192_128) (rd a13.view (kernelRun0_A.sl.HS1_4 c a1 k1 a5 k5 x0 x4) inb_S512x512_S64x128_192_256) (rd a13.view (kernelRun0_A.sl.HS1_4 c a1 k1 a5 k5 x0 x4) inb_S512x512_S64x128_192_384) :=
  blkP_of _ a3 k3 _ a13.view (t := 1536) (oi := 192) (z_tile a1 k1 x0 a5 k5 x4 inb_S2048x2560_S512x2560_1536_0 inb_S512x2560_S512x2560_0_0) rfl rfl _ _ _ _

theorem bq_27 : BlkQ (mkD x0 x1 x2 x3 x4 x6 x7 (kernelRun0_A.sl.r_3 c a6 k6 x5) (kernelRun0_A.sl.r_4 i)) 1728 (rd a14.view (kernelRun0_A.sl.HS2_4 c a2 k2 a7 k7 a8 k8 a12 x1 x6 x7) inb_S512x512_S64x128_192_0) (rd a14.view (kernelRun0_A.sl.HS2_4 c a2 k2 a7 k7 a8 k8 a12 x1 x6 x7) inb_S512x512_S64x128_192_128) (rd a14.view (kernelRun0_A.sl.HS2_4 c a2 k2 a7 k7 a8 k8 a12 x1 x6 x7) inb_S512x512_S64x128_192_256) (rd a14.view (kernelRun0_A.sl.HS2_4 c a2 k2 a7 k7 a8 k8 a12 x1 x6 x7) inb_S512x512_S64x128_192_384) :=
  blkQ_of _ a14.view (t := 1536) (oi := 192) (y_tile a2 k2 x1 (wd c a7 k7 a8 k8 a12 x6 x7) inb_S2048x2560_S512x2560_1536_0) rfl rfl _ _ _ _

theorem bp_28 : BlkP (mkD x0 x1 x2 x3 x4 x6 x7 (kernelRun0_A.sl.r_3 c a6 k6 x5) (kernelRun0_A.sl.r_4 i)) 1792 (ra a3 k3 x2 inb_S2048x128_S64x128_1792_0) (rd a13.view (kernelRun0_A.sl.HS1_4 c a1 k1 a5 k5 x0 x4) inb_S512x512_S64x128_256_0) (rd a13.view (kernelRun0_A.sl.HS1_4 c a1 k1 a5 k5 x0 x4) inb_S512x512_S64x128_256_128) (rd a13.view (kernelRun0_A.sl.HS1_4 c a1 k1 a5 k5 x0 x4) inb_S512x512_S64x128_256_256) (rd a13.view (kernelRun0_A.sl.HS1_4 c a1 k1 a5 k5 x0 x4) inb_S512x512_S64x128_256_384) :=
  blkP_of _ a3 k3 _ a13.view (t := 1536) (oi := 256) (z_tile a1 k1 x0 a5 k5 x4 inb_S2048x2560_S512x2560_1536_0 inb_S512x2560_S512x2560_0_0) rfl rfl _ _ _ _

theorem bq_28 : BlkQ (mkD x0 x1 x2 x3 x4 x6 x7 (kernelRun0_A.sl.r_3 c a6 k6 x5) (kernelRun0_A.sl.r_4 i)) 1792 (rd a14.view (kernelRun0_A.sl.HS2_4 c a2 k2 a7 k7 a8 k8 a12 x1 x6 x7) inb_S512x512_S64x128_256_0) (rd a14.view (kernelRun0_A.sl.HS2_4 c a2 k2 a7 k7 a8 k8 a12 x1 x6 x7) inb_S512x512_S64x128_256_128) (rd a14.view (kernelRun0_A.sl.HS2_4 c a2 k2 a7 k7 a8 k8 a12 x1 x6 x7) inb_S512x512_S64x128_256_256) (rd a14.view (kernelRun0_A.sl.HS2_4 c a2 k2 a7 k7 a8 k8 a12 x1 x6 x7) inb_S512x512_S64x128_256_384) :=
  blkQ_of _ a14.view (t := 1536) (oi := 256) (y_tile a2 k2 x1 (wd c a7 k7 a8 k8 a12 x6 x7) inb_S2048x2560_S512x2560_1536_0) rfl rfl _ _ _ _

theorem bp_29 : BlkP (mkD x0 x1 x2 x3 x4 x6 x7 (kernelRun0_A.sl.r_3 c a6 k6 x5) (kernelRun0_A.sl.r_4 i)) 1856 (ra a3 k3 x2 inb_S2048x128_S64x128_1856_0) (rd a13.view (kernelRun0_A.sl.HS1_4 c a1 k1 a5 k5 x0 x4) inb_S512x512_S64x128_320_0) (rd a13.view (kernelRun0_A.sl.HS1_4 c a1 k1 a5 k5 x0 x4) inb_S512x512_S64x128_320_128) (rd a13.view (kernelRun0_A.sl.HS1_4 c a1 k1 a5 k5 x0 x4) inb_S512x512_S64x128_320_256) (rd a13.view (kernelRun0_A.sl.HS1_4 c a1 k1 a5 k5 x0 x4) inb_S512x512_S64x128_320_384) :=
  blkP_of _ a3 k3 _ a13.view (t := 1536) (oi := 320) (z_tile a1 k1 x0 a5 k5 x4 inb_S2048x2560_S512x2560_1536_0 inb_S512x2560_S512x2560_0_0) rfl rfl _ _ _ _

theorem bq_29 : BlkQ (mkD x0 x1 x2 x3 x4 x6 x7 (kernelRun0_A.sl.r_3 c a6 k6 x5) (kernelRun0_A.sl.r_4 i)) 1856 (rd a14.view (kernelRun0_A.sl.HS2_4 c a2 k2 a7 k7 a8 k8 a12 x1 x6 x7) inb_S512x512_S64x128_320_0) (rd a14.view (kernelRun0_A.sl.HS2_4 c a2 k2 a7 k7 a8 k8 a12 x1 x6 x7) inb_S512x512_S64x128_320_128) (rd a14.view (kernelRun0_A.sl.HS2_4 c a2 k2 a7 k7 a8 k8 a12 x1 x6 x7) inb_S512x512_S64x128_320_256) (rd a14.view (kernelRun0_A.sl.HS2_4 c a2 k2 a7 k7 a8 k8 a12 x1 x6 x7) inb_S512x512_S64x128_320_384) :=
  blkQ_of _ a14.view (t := 1536) (oi := 320) (y_tile a2 k2 x1 (wd c a7 k7 a8 k8 a12 x6 x7) inb_S2048x2560_S512x2560_1536_0) rfl rfl _ _ _ _

theorem bp_30 : BlkP (mkD x0 x1 x2 x3 x4 x6 x7 (kernelRun0_A.sl.r_3 c a6 k6 x5) (kernelRun0_A.sl.r_4 i)) 1920 (ra a3 k3 x2 inb_S2048x128_S64x128_1920_0) (rd a13.view (kernelRun0_A.sl.HS1_4 c a1 k1 a5 k5 x0 x4) inb_S512x512_S64x128_384_0) (rd a13.view (kernelRun0_A.sl.HS1_4 c a1 k1 a5 k5 x0 x4) inb_S512x512_S64x128_384_128) (rd a13.view (kernelRun0_A.sl.HS1_4 c a1 k1 a5 k5 x0 x4) inb_S512x512_S64x128_384_256) (rd a13.view (kernelRun0_A.sl.HS1_4 c a1 k1 a5 k5 x0 x4) inb_S512x512_S64x128_384_384) :=
  blkP_of _ a3 k3 _ a13.view (t := 1536) (oi := 384) (z_tile a1 k1 x0 a5 k5 x4 inb_S2048x2560_S512x2560_1536_0 inb_S512x2560_S512x2560_0_0) rfl rfl _ _ _ _

theorem bq_30 : BlkQ (mkD x0 x1 x2 x3 x4 x6 x7 (kernelRun0_A.sl.r_3 c a6 k6 x5) (kernelRun0_A.sl.r_4 i)) 1920 (rd a14.view (kernelRun0_A.sl.HS2_4 c a2 k2 a7 k7 a8 k8 a12 x1 x6 x7) inb_S512x512_S64x128_384_0) (rd a14.view (kernelRun0_A.sl.HS2_4 c a2 k2 a7 k7 a8 k8 a12 x1 x6 x7) inb_S512x512_S64x128_384_128) (rd a14.view (kernelRun0_A.sl.HS2_4 c a2 k2 a7 k7 a8 k8 a12 x1 x6 x7) inb_S512x512_S64x128_384_256) (rd a14.view (kernelRun0_A.sl.HS2_4 c a2 k2 a7 k7 a8 k8 a12 x1 x6 x7) inb_S512x512_S64x128_384_384) :=
  blkQ_of _ a14.view (t := 1536) (oi := 384) (y_tile a2 k2 x1 (wd c a7 k7 a8 k8 a12 x6 x7) inb_S2048x2560_S512x2560_1536_0) rfl rfl _ _ _ _

theorem bp_31 : BlkP (mkD x0 x1 x2 x3 x4 x6 x7 (kernelRun0_A.sl.r_3 c a6 k6 x5) (kernelRun0_A.sl.r_4 i)) 1984 (ra a3 k3 x2 inb_S2048x128_S64x128_1984_0) (rd a13.view (kernelRun0_A.sl.HS1_4 c a1 k1 a5 k5 x0 x4) inb_S512x512_S64x128_448_0) (rd a13.view (kernelRun0_A.sl.HS1_4 c a1 k1 a5 k5 x0 x4) inb_S512x512_S64x128_448_128) (rd a13.view (kernelRun0_A.sl.HS1_4 c a1 k1 a5 k5 x0 x4) inb_S512x512_S64x128_448_256) (rd a13.view (kernelRun0_A.sl.HS1_4 c a1 k1 a5 k5 x0 x4) inb_S512x512_S64x128_448_384) :=
  blkP_of _ a3 k3 _ a13.view (t := 1536) (oi := 448) (z_tile a1 k1 x0 a5 k5 x4 inb_S2048x2560_S512x2560_1536_0 inb_S512x2560_S512x2560_0_0) rfl rfl _ _ _ _

theorem bq_31 : BlkQ (mkD x0 x1 x2 x3 x4 x6 x7 (kernelRun0_A.sl.r_3 c a6 k6 x5) (kernelRun0_A.sl.r_4 i)) 1984 (rd a14.view (kernelRun0_A.sl.HS2_4 c a2 k2 a7 k7 a8 k8 a12 x1 x6 x7) inb_S512x512_S64x128_448_0) (rd a14.view (kernelRun0_A.sl.HS2_4 c a2 k2 a7 k7 a8 k8 a12 x1 x6 x7) inb_S512x512_S64x128_448_128) (rd a14.view (kernelRun0_A.sl.HS2_4 c a2 k2 a7 k7 a8 k8 a12 x1 x6 x7) inb_S512x512_S64x128_448_256) (rd a14.view (kernelRun0_A.sl.HS2_4 c a2 k2 a7 k7 a8 k8 a12 x1 x6 x7) inb_S512x512_S64x128_448_384) :=
  blkQ_of _ a14.view (t := 1536) (oi := 448) (y_tile a2 k2 x1 (wd c a7 k7 a8 k8 a12 x6 x7) inb_S2048x2560_S512x2560_1536_0) rfl rfl _ _ _ _

end Cert.Blk.CaseA

end
-- ==== Proof.CaseA1.lean ====
/- The stores of the first case of the main call, one carried scratch at a time. -/
module

public import proofs.«01_k».proof.Proof.CaseABlocks

@[expose] public section

set_option maxRecDepth 16384
set_option maxHeartbeats 4000000

noncomputable section

namespace Cert.Blk.CaseA

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : cond0_0 i) (hc1 : ¬cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32)

/-- What the point leaves in scratch `a15`. -/
theorem pieces_3 : View.PiecesOf ((mkD x0 x1 x2 x3 x4 x6 x7 (kernelRun0_A.sl.r_3 c a6 k6 x5) (kernelRun0_A.sl.r_4 i)).gMP (k0_pay16 (F := Ideal))) (List.take 32 (kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.1) := by
  have h0 := st_mp (bp_0 c i a1 k1 a3 k3 a5 k5 a6 k6 a13 x0 x1 x2 x3 x4 x5 x6 x7) (rows_fill a15.view 0 (kernelRun0_A.sl.HS3_1 (F := Ideal) ) (k0_pay16 (F := Ideal)) inb_S2048x128_S64x128_0_0 inb_S2048x128_S2048x128_0_0 (by rfl) rfl) (inb := inb_S2048x128_S64x128_0_0)
  have h1 := st_mp (bp_1 c i a1 k1 a3 k3 a5 k5 a6 k6 a13 x0 x1 x2 x3 x4 x5 x6 x7) (rows_fill a15.view 1 (kernelRun0_A.sl.HS3_2 (F := Ideal) c a1 k1 a3 k3 a5 k5 a6 k6 a13 a15 x0 x2 x4 x5) (k0_pay16 (F := Ideal)) inb_S2048x128_S64x128_64_0 inb_S2048x128_S2048x128_0_0 (by rfl) rfl) (inb := inb_S2048x128_S64x128_64_0)
  have h2 := st_mp (bp_2 c i a1 k1 a3 k3 a5 k5 a6 k6 a13 x0 x1 x2 x3 x4 x5 x6 x7) (rows_fill a15.view 2 (kernelRun0_A.sl.HS3_3 (F := Ideal) c a1 k1 a3 k3 a5 k5 a6 k6 a13 a15 x0 x2 x4 x5) (k0_pay16 (F := Ideal)) inb_S2048x128_S64x128_128_0 inb_S2048x128_S2048x128_0_0 (by rfl) rfl) (inb := inb_S2048x128_S64x128_128_0)
  have h3 := st_mp (bp_3 c i a1 k1 a3 k3 a5 k5 a6 k6 a13 x0 x1 x2 x3 x4 x5 x6 x7) (rows_fill a15.view 3 (kernelRun0_A.sl.HS3_4 (F := Ideal) c a1 k1 a3 k3 a5 k5 a6 k6 a13 a15 x0 x2 x4 x5) (k0_pay16 (F := Ideal)) inb_S2048x128_S64x128_192_0 inb_S2048x128_S2048x128_0_0 (by rfl) rfl) (inb := inb_S2048x128_S64x128_192_0)
  have h4 := st_mp (bp_4 c i a1 k1 a3 k3 a5 k5 a6 k6 a13 x0 x1 x2 x3 x4 x5 x6 x7) (rows_fill a15.view 4 (kernelRun0_A.sl.HS3_5 (F := Ideal) c a1 k1 a3 k3 a5 k5 a6 k6 a13 a15 x0 x2 x4 x5) (k0_pay16 (F := Ideal)) inb_S2048x128_S64x128_256_0 inb_S2048x128_S2048x128_0_0 (by rfl) rfl) (inb := inb_S2048x128_S64x128_256_0)
  have h5 := st_mp (bp_5 c i a1 k1 a3 k3 a5 k5 a6 k6 a13 x0 x1 x2 x3 x4 x5 x6 x7) (rows_fill a15.view 5 (kernelRun0_A.sl.HS3_6 (F := Ideal) c a1 k1 a3 k3 a5 k5 a6 k6 a13 a15 x0 x2 x4 x5) (k0_pay16 (F := Ideal)) inb_S2048x128_S64x128_320_0 inb_S2048x128_S2048x128_0_0 (by rfl) rfl) (inb := inb_S2048x128_S64x128_320_0)
  have h6 := st_mp (bp_6 c i a1 k1 a3 k3 a5 k5 a6 k6 a13 x0 x1 x2 x3 x4 x5 x6 x7) (rows_fill a15.view 6 (kernelRun0_A.sl.HS3_7 (F := Ideal) c a1 k1 a3 k3 a5 k5 a6 k6 a13 a15 x0 x2 x4 x5) (k0_pay16 (F := Ideal)) inb_S2048x128_S64x128_384_0 inb_S2048x128_S2048x128_0_0 (by rfl) rfl) (inb := inb_S2048x128_S64x128_384_0)
  have h7 := st_mp (bp_7 c i a1 k1 a3 k3 a5 k5 a6 k6 a13 x0 x1 x2 x3 x4 x5 x6 x7) (rows_fill a15.view 7 (kernelRun0_A.sl.HS3_8 (F := Ideal) c a1 k1 a3 k3 a5 k5 a6 k6 a13 a15 x0 x2 x4 x5) (k0_pay16 (F := Ideal)) inb_S2048x128_S64x128_448_0 inb_S2048x128_S2048x128_0_0 (by rfl) rfl) (inb := inb_S2048x128_S64x128_448_0)
  have h8 := st_mp (bp_8 c i a1 k1 a3 k3 a5 k5 a6 k6 a13 x0 x1 x2 x3 x4 x5 x6 x7) (rows_fill a15.view 8 (kernelRun0_A.sl.HS3_9 (F := Ideal) c a1 k1 a3 k3 a5 k5 a6 k6 a13 a15 x0 x2 x4 x5) (k0_pay16 (F := Ideal)) inb_S2048x128_S64x128_512_0 inb_S2048x128_S2048x128_0_0 (by rfl) rfl) (inb := inb_S2048x128_S64x128_512_0)
  have h9 := st_mp (bp_9 c i a1 k1 a3 k3 a5 k5 a6 k6 a13 x0 x1 x2 x3 x4 x5 x6 x7) (rows_fill a15.view 9 (kernelRun0_A.sl.HS3_10 (F := Ideal) c a1 k1 a3 k3 a5 k5 a6 k6 a13 a15 x0 x2 x4 x5) (k0_pay16 (F := Ideal)) inb_S2048x128_S64x128_576_0 inb_S2048x128_S2048x128_0_0 (by rfl) rfl) (inb := inb_S2048x128_S64x128_576_0)
  have h10 := st_mp (bp_10 c i a1 k1 a3 k3 a5 k5 a6 k6 a13 x0 x1 x2 x3 x4 x5 x6 x7) (rows_fill a15.view 10 (kernelRun0_A.sl.HS3_11 (F := Ideal) c a1 k1 a3 k3 a5 k5 a6 k6 a13 a15 x0 x2 x4 x5) (k0_pay16 (F := Ideal)) inb_S2048x128_S64x128_640_0 inb_S2048x128_S2048x128_0_0 (by rfl) rfl) (inb := inb_S2048x128_S64x128_640_0)
  have h11 := st_mp (bp_11 c i a1 k1 a3 k3 a5 k5 a6 k6 a13 x0 x1 x2 x3 x4 x5 x6 x7) (rows_fill a15.view 11 (kernelRun0_A.sl.HS3_12 (F := Ideal) c a1 k1 a3 k3 a5 k5 a6 k6 a13 a15 x0 x2 x4 x5) (k0_pay16 (F := Ideal)) inb_S2048x128_S64x128_704_0 inb_S2048x128_S2048x128_0_0 (by rfl) rfl) (inb := inb_S2048x128_S64x128_704_0)
  have h12 := st_mp (bp_12 c i a1 k1 a3 k3 a5 k5 a6 k6 a13 x0 x1 x2 x3 x4 x5 x6 x7) (rows_fill a15.view 12 (kernelRun0_A.sl.HS3_13 (F := Ideal) c a1 k1 a3 k3 a5 k5 a6 k6 a13 a15 x0 x2 x4 x5) (k0_pay16 (F := Ideal)) inb_S2048x128_S64x128_768_0 inb_S2048x128_S2048x128_0_0 (by rfl) rfl) (inb := inb_S2048x128_S64x128_768_0)
  have h13 := st_mp (bp_13 c i a1 k1 a3 k3 a5 k5 a6 k6 a13 x0 x1 x2 x3 x4 x5 x6 x7) (rows_fill a15.view 13 (kernelRun0_A.sl.HS3_14 (F := Ideal) c a1 k1 a3 k3 a5 k5 a6 k6 a13 a15 x0 x2 x4 x5) (k0_pay16 (F := Ideal)) inb_S2048x128_S64x128_832_0 inb_S2048x128_S2048x128_0_0 (by rfl) rfl) (inb := inb_S2048x128_S64x128_832_0)
  have h14 := st_mp (bp_14 c i a1 k1 a3 k3 a5 k5 a6 k6 a13 x0 x1 x2 x3 x4 x5 x6 x7) (rows_fill a15.view 14 (kernelRun0_A.sl.HS3_15 (F := Ideal) c a1 k1 a3 k3 a5 k5 a6 k6 a13 a15 x0 x2 x4 x5) (k0_pay16 (F := Ideal)) inb_S2048x128_S64x128_896_0 inb_S2048x128_S2048x128_0_0 (by rfl) rfl) (inb := inb_S2048x128_S64x128_896_0)
  have h15 := st_mp (bp_15 c i a1 k1 a3 k3 a5 k5 a6 k6 a13 x0 x1 x2 x3 x4 x5 x6 x7) (rows_fill a15.view 15 (kernelRun0_A.sl.HS3_16 (F := Ideal) c a1 k1 a3 k3 a5 k5 a6 k6 a13 a15 x0 x2 x4 x5) (k0_pay16 (F := Ideal)) inb_S2048x128_S64x128_960_0 inb_S2048x128_S2048x128_0_0 (by rfl) rfl) (inb := inb_S2048x128_S64x128_960_0)
  have h16 := st_mp (bp_16 c i a1 k1 a3 k3 a5 k5 a6 k6 a13 x0 x1 x2 x3 x4 x5 x6 x7) (rows_fill a15.view 16 (kernelRun0_A.sl.HS3_17 (F := Ideal) c a1 k1 a3 k3 a5 k5 a6 k6 a13 a15 x0 x2 x4 x5) (k0_pay16 (F := Ideal)) inb_S2048x128_S64x128_1024_0 inb_S2048x128_S2048x128_0_0 (by rfl) rfl) (inb := inb_S2048x128_S64x128_1024_0)
  have h17 := st_mp (bp_17 c i a1 k1 a3 k3 a5 k5 a6 k6 a13 x0 x1 x2 x3 x4 x5 x6 x7) (rows_fill a15.view 17 (kernelRun0_A.sl.HS3_18 (F := Ideal) c a1 k1 a3 k3 a5 k5 a6 k6 a13 a15 x0 x2 x4 x5) (k0_pay16 (F := Ideal)) inb_S2048x128_S64x128_1088_0 inb_S2048x128_S2048x128_0_0 (by rfl) rfl) (inb := inb_S2048x128_S64x128_1088_0)
  have h18 := st_mp (bp_18 c i a1 k1 a3 k3 a5 k5 a6 k6 a13 x0 x1 x2 x3 x4 x5 x6 x7) (rows_fill a15.view 18 (kernelRun0_A.sl.HS3_19 (F := Ideal) c a1 k1 a3 k3 a5 k5 a6 k6 a13 a15 x0 x2 x4 x5) (k0_pay16 (F := Ideal)) inb_S2048x128_S64x128_1152_0 inb_S2048x128_S2048x128_0_0 (by rfl) rfl) (inb := inb_S2048x128_S64x128_1152_0)
  have h19 := st_mp (bp_19 c i a1 k1 a3 k3 a5 k5 a6 k6 a13 x0 x1 x2 x3 x4 x5 x6 x7) (rows_fill a15.view 19 (kernelRun0_A.sl.HS3_20 (F := Ideal) c a1 k1 a3 k3 a5 k5 a6 k6 a13 a15 x0 x2 x4 x5) (k0_pay16 (F := Ideal)) inb_S2048x128_S64x128_1216_0 inb_S2048x128_S2048x128_0_0 (by rfl) rfl) (inb := inb_S2048x128_S64x128_1216_0)
  have h20 := st_mp (bp_20 c i a1 k1 a3 k3 a5 k5 a6 k6 a13 x0 x1 x2 x3 x4 x5 x6 x7) (rows_fill a15.view 20 (kernelRun0_A.sl.HS3_21 (F := Ideal) c a1 k1 a3 k3 a5 k5 a6 k6 a13 a15 x0 x2 x4 x5) (k0_pay16 (F := Ideal)) inb_S2048x128_S64x128_1280_0 inb_S2048x128_S2048x128_0_0 (by rfl) rfl) (inb := inb_S2048x128_S64x128_1280_0)
  have h21 := st_mp (bp_21 c i a1 k1 a3 k3 a5 k5 a6 k6 a13 x0 x1 x2 x3 x4 x5 x6 x7) (rows_fill a15.view 21 (kernelRun0_A.sl.HS3_22 (F := Ideal) c a1 k1 a3 k3 a5 k5 a6 k6 a13 a15 x0 x2 x4 x5) (k0_pay16 (F := Ideal)) inb_S2048x128_S64x128_1344_0 inb_S2048x128_S2048x128_0_0 (by rfl) rfl) (inb := inb_S2048x128_S64x128_1344_0)
  have h22 := st_mp (bp_22 c i a1 k1 a3 k3 a5 k5 a6 k6 a13 x0 x1 x2 x3 x4 x5 x6 x7) (rows_fill a15.view 22 (kernelRun0_A.sl.HS3_23 (F := Ideal) c a1 k1 a3 k3 a5 k5 a6 k6 a13 a15 x0 x2 x4 x5) (k0_pay16 (F := Ideal)) inb_S2048x128_S64x128_1408_0 inb_S2048x128_S2048x128_0_0 (by rfl) rfl) (inb := inb_S2048x128_S64x128_1408_0)
  have h23 := st_mp (bp_23 c i a1 k1 a3 k3 a5 k5 a6 k6 a13 x0 x1 x2 x3 x4 x5 x6 x7) (rows_fill a15.view 23 (kernelRun0_A.sl.HS3_24 (F := Ideal) c a1 k1 a3 k3 a5 k5 a6 k6 a13 a15 x0 x2 x4 x5) (k0_pay16 (F := Ideal)) inb_S2048x128_S64x128_1472_0 inb_S2048x128_S2048x128_0_0 (by rfl) rfl) (inb := inb_S2048x128_S64x128_1472_0)
  have h24 := st_mp (bp_24 c i a1 k1 a3 k3 a5 k5 a6 k6 a13 x0 x1 x2 x3 x4 x5 x6 x7) (rows_fill a15.view 24 (kernelRun0_A.sl.HS3_25 (F := Ideal) c a1 k1 a3 k3 a5 k5 a6 k6 a13 a15 x0 x2 x4 x5) (k0_pay16 (F := Ideal)) inb_S2048x128_S64x128_1536_0 inb_S2048x128_S2048x128_0_0 (by rfl) rfl) (inb := inb_S2048x128_S64x128_1536_0)
  have h25 := st_mp (bp_25 c i a1 k1 a3 k3 a5 k5 a6 k6 a13 x0 x1 x2 x3 x4 x5 x6 x7) (rows_fill a15.view 25 (kernelRun0_A.sl.HS3_26 (F := Ideal) c a1 k1 a3 k3 a5 k5 a6 k6 a13 a15 x0 x2 x4 x5) (k0_pay16 (F := Ideal)) inb_S2048x128_S64x128_1600_0 inb_S2048x128_S2048x128_0_0 (by rfl) rfl) (inb := inb_S2048x128_S64x128_1600_0)
  have h26 := st_mp (bp_26 c i a1 k1 a3 k3 a5 k5 a6 k6 a13 x0 x1 x2 x3 x4 x5 x6 x7) (rows_fill a15.view 26 (kernelRun0_A.sl.HS3_27 (F := Ideal) c a1 k1 a3 k3 a5 k5 a6 k6 a13 a15 x0 x2 x4 x5) (k0_pay16 (F := Ideal)) inb_S2048x128_S64x128_1664_0 inb_S2048x128_S2048x128_0_0 (by rfl) rfl) (inb := inb_S2048x128_S64x128_1664_0)
  have h27 := st_mp (bp_27 c i a1 k1 a3 k3 a5 k5 a6 k6 a13 x0 x1 x2 x3 x4 x5 x6 x7) (rows_fill a15.view 27 (kernelRun0_A.sl.HS3_28 (F := Ideal) c a1 k1 a3 k3 a5 k5 a6 k6 a13 a15 x0 x2 x4 x5) (k0_pay16 (F := Ideal)) inb_S2048x128_S64x128_1728_0 inb_S2048x128_S2048x128_0_0 (by rfl) rfl) (inb := inb_S2048x128_S64x128_1728_0)
  have h28 := st_mp (bp_28 c i a1 k1 a3 k3 a5 k5 a6 k6 a13 x0 x1 x2 x3 x4 x5 x6 x7) (rows_fill a15.view 28 (kernelRun0_A.sl.HS3_29 (F := Ideal) c a1 k1 a3 k3 a5 k5 a6 k6 a13 a15 x0 x2 x4 x5) (k0_pay16 (F := Ideal)) inb_S2048x128_S64x128_1792_0 inb_S2048x128_S2048x128_0_0 (by rfl) rfl) (inb := inb_S2048x128_S64x128_1792_0)
  have h29 := st_mp (bp_29 c i a1 k1 a3 k3 a5 k5 a6 k6 a13 x0 x1 x2 x3 x4 x5 x6 x7) (rows_fill a15.view 29 (kernelRun0_A.sl.HS3_30 (F := Ideal) c a1 k1 a3 k3 a5 k5 a6 k6 a13 a15 x0 x2 x4 x5) (k0_pay16 (F := Ideal)) inb_S2048x128_S64x128_1856_0 inb_S2048x128_S2048x128_0_0 (by rfl) rfl) (inb := inb_S2048x128_S64x128_1856_0)
  have h30 := st_mp (bp_30 c i a1 k1 a3 k3 a5 k5 a6 k6 a13 x0 x1 x2 x3 x4 x5 x6 x7) (rows_fill a15.view 30 (kernelRun0_A.sl.HS3_31 (F := Ideal) c a1 k1 a3 k3 a5 k5 a6 k6 a13 a15 x0 x2 x4 x5) (k0_pay16 (F := Ideal)) inb_S2048x128_S64x128_1920_0 inb_S2048x128_S2048x128_0_0 (by rfl) rfl) (inb := inb_S2048x128_S64x128_1920_0)
  have h31 := st_mp (bp_31 c i a1 k1 a3 k3 a5 k5 a6 k6 a13 x0 x1 x2 x3 x4 x5 x6 x7) (rows_fill a15.view 31 (kernelRun0_A.sl.HS3_32 (F := Ideal) c a1 k1 a3 k3 a5 k5 a6 k6 a13 a15 x0 x2 x4 x5) (k0_pay16 (F := Ideal)) inb_S2048x128_S64x128_1984_0 inb_S2048x128_S2048x128_0_0 (by rfl) rfl) (inb := inb_S2048x128_S64x128_1984_0)
  refine pieces_take h31 (by congr 1) ?_
  refine pieces_take h30 (by congr 1) ?_
  refine pieces_take h29 (by congr 1) ?_
  refine pieces_take h28 (by congr 1) ?_
  refine pieces_take h27 (by congr 1) ?_
  refine pieces_take h26 (by congr 1) ?_
  refine pieces_take h25 (by congr 1) ?_
  refine pieces_take h24 (by congr 1) ?_
  refine pieces_take h23 (by congr 1) ?_
  refine pieces_take h22 (by congr 1) ?_
  refine pieces_take h21 (by congr 1) ?_
  refine pieces_take h20 (by congr 1) ?_
  refine pieces_take h19 (by congr 1) ?_
  refine pieces_take h18 (by congr 1) ?_
  refine pieces_take h17 (by congr 1) ?_
  refine pieces_take h16 (by congr 1) ?_
  refine pieces_take h15 (by congr 1) ?_
  refine pieces_take h14 (by congr 1) ?_
  refine pieces_take h13 (by congr 1) ?_
  refine pieces_take h12 (by congr 1) ?_
  refine pieces_take h11 (by congr 1) ?_
  refine pieces_take h10 (by congr 1) ?_
  refine pieces_take h9 (by congr 1) ?_
  refine pieces_take h8 (by congr 1) ?_
  refine pieces_take h7 (by congr 1) ?_
  refine pieces_take h6 (by congr 1) ?_
  refine pieces_take h5 (by congr 1) ?_
  refine pieces_take h4 (by congr 1) ?_
  refine pieces_take h3 (by congr 1) ?_
  refine pieces_take h2 (by congr 1) ?_
  refine pieces_take h1 (by congr 1) ?_
  refine pieces_take h0 (by congr 1) ?_
  exact pieces_last

/-- What the point leaves in scratch `a16`. -/
theorem pieces_4 : View.PiecesOf ((mkD x0 x1 x2 x3 x4 x6 x7 (kernelRun0_A.sl.r_3 c a6 k6 x5) (kernelRun0_A.sl.r_4 i)).gSP (k0_pay16 (F := Ideal)) (k0_pay18 (F := Ideal))) (List.take 32 (kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.1) := by
  have h0 := st_sp (bp_0 c i a1 k1 a3 k3 a5 k5 a6 k6 a13 x0 x1 x2 x3 x4 x5 x6 x7) (rows_fill a15.view 0 (kernelRun0_A.sl.HS3_1 (F := Ideal) ) (k0_pay16 (F := Ideal)) inb_S2048x128_S64x128_0_0 inb_S2048x128_S2048x128_0_0 (by rfl) rfl) (rows_fill a16.view 0 (kernelRun0_A.sl.HS4_1 (F := Ideal) ) (k0_pay18 (F := Ideal)) inb_S2048x128_S64x128_0_0 inb_S2048x128_S2048x128_0_0 (by rfl) rfl) (inb := inb_S2048x128_S64x128_0_0)
  have h1 := st_sp (bp_1 c i a1 k1 a3 k3 a5 k5 a6 k6 a13 x0 x1 x2 x3 x4 x5 x6 x7) (rows_fill a15.view 1 (kernelRun0_A.sl.HS3_2 (F := Ideal) c a1 k1 a3 k3 a5 k5 a6 k6 a13 a15 x0 x2 x4 x5) (k0_pay16 (F := Ideal)) inb_S2048x128_S64x128_64_0 inb_S2048x128_S2048x128_0_0 (by rfl) rfl) (rows_fill a16.view 1 (kernelRun0_A.sl.HS4_2 (F := Ideal) c a1 k1 a3 k3 a5 k5 a6 k6 a13 a15 a16 x0 x2 x4 x5) (k0_pay18 (F := Ideal)) inb_S2048x128_S64x128_64_0 inb_S2048x128_S2048x128_0_0 (by rfl) rfl) (inb := inb_S2048x128_S64x128_64_0)
  have h2 := st_sp (bp_2 c i a1 k1 a3 k3 a5 k5 a6 k6 a13 x0 x1 x2 x3 x4 x5 x6 x7) (rows_fill a15.view 2 (kernelRun0_A.sl.HS3_3 (F := Ideal) c a1 k1 a3 k3 a5 k5 a6 k6 a13 a15 x0 x2 x4 x5) (k0_pay16 (F := Ideal)) inb_S2048x128_S64x128_128_0 inb_S2048x128_S2048x128_0_0 (by rfl) rfl) (rows_fill a16.view 2 (kernelRun0_A.sl.HS4_3 (F := Ideal) c a1 k1 a3 k3 a5 k5 a6 k6 a13 a15 a16 x0 x2 x4 x5) (k0_pay18 (F := Ideal)) inb_S2048x128_S64x128_128_0 inb_S2048x128_S2048x128_0_0 (by rfl) rfl) (inb := inb_S2048x128_S64x128_128_0)
  have h3 := st_sp (bp_3 c i a1 k1 a3 k3 a5 k5 a6 k6 a13 x0 x1 x2 x3 x4 x5 x6 x7) (rows_fill a15.view 3 (kernelRun0_A.sl.HS3_4 (F := Ideal) c a1 k1 a3 k3 a5 k5 a6 k6 a13 a15 x0 x2 x4 x5) (k0_pay16 (F := Ideal)) inb_S2048x128_S64x128_192_0 inb_S2048x128_S2048x128_0_0 (by rfl) rfl) (rows_fill a16.view 3 (kernelRun0_A.sl.HS4_4 (F := Ideal) c a1 k1 a3 k3 a5 k5 a6 k6 a13 a15 a16 x0 x2 x4 x5) (k0_pay18 (F := Ideal)) inb_S2048x128_S64x128_192_0 inb_S2048x128_S2048x128_0_0 (by rfl) rfl) (inb := inb_S2048x128_S64x128_192_0)
  have h4 := st_sp (bp_4 c i a1 k1 a3 k3 a5 k5 a6 k6 a13 x0 x1 x2 x3 x4 x5 x6 x7) (rows_fill a15.view 4 (kernelRun0_A.sl.HS3_5 (F := Ideal) c a1 k1 a3 k3 a5 k5 a6 k6 a13 a15 x0 x2 x4 x5) (k0_pay16 (F := Ideal)) inb_S2048x128_S64x128_256_0 inb_S2048x128_S2048x128_0_0 (by rfl) rfl) (rows_fill a16.view 4 (kernelRun0_A.sl.HS4_5 (F := Ideal) c a1 k1 a3 k3 a5 k5 a6 k6 a13 a15 a16 x0 x2 x4 x5) (k0_pay18 (F := Ideal)) inb_S2048x128_S64x128_256_0 inb_S2048x128_S2048x128_0_0 (by rfl) rfl) (inb := inb_S2048x128_S64x128_256_0)
  have h5 := st_sp (bp_5 c i a1 k1 a3 k3 a5 k5 a6 k6 a13 x0 x1 x2 x3 x4 x5 x6 x7) (rows_fill a15.view 5 (kernelRun0_A.sl.HS3_6 (F := Ideal) c a1 k1 a3 k3 a5 k5 a6 k6 a13 a15 x0 x2 x4 x5) (k0_pay16 (F := Ideal)) inb_S2048x128_S64x128_320_0 inb_S2048x128_S2048x128_0_0 (by rfl) rfl) (rows_fill a16.view 5 (kernelRun0_A.sl.HS4_6 (F := Ideal) c a1 k1 a3 k3 a5 k5 a6 k6 a13 a15 a16 x0 x2 x4 x5) (k0_pay18 (F := Ideal)) inb_S2048x128_S64x128_320_0 inb_S2048x128_S2048x128_0_0 (by rfl) rfl) (inb := inb_S2048x128_S64x128_320_0)
  have h6 := st_sp (bp_6 c i a1 k1 a3 k3 a5 k5 a6 k6 a13 x0 x1 x2 x3 x4 x5 x6 x7) (rows_fill a15.view 6 (kernelRun0_A.sl.HS3_7 (F := Ideal) c a1 k1 a3 k3 a5 k5 a6 k6 a13 a15 x0 x2 x4 x5) (k0_pay16 (F := Ideal)) inb_S2048x128_S64x128_384_0 inb_S2048x128_S2048x128_0_0 (by rfl) rfl) (rows_fill a16.view 6 (kernelRun0_A.sl.HS4_7 (F := Ideal) c a1 k1 a3 k3 a5 k5 a6 k6 a13 a15 a16 x0 x2 x4 x5) (k0_pay18 (F := Ideal)) inb_S2048x128_S64x128_384_0 inb_S2048x128_S2048x128_0_0 (by rfl) rfl) (inb := inb_S2048x128_S64x128_384_0)
  have h7 := st_sp (bp_7 c i a1 k1 a3 k3 a5 k5 a6 k6 a13 x0 x1 x2 x3 x4 x5 x6 x7) (rows_fill a15.view 7 (kernelRun0_A.sl.HS3_8 (F := Ideal) c a1 k1 a3 k3 a5 k5 a6 k6 a13 a15 x0 x2 x4 x5) (k0_pay16 (F := Ideal)) inb_S2048x128_S64x128_448_0 inb_S2048x128_S2048x128_0_0 (by rfl) rfl) (rows_fill a16.view 7 (kernelRun0_A.sl.HS4_8 (F := Ideal) c a1 k1 a3 k3 a5 k5 a6 k6 a13 a15 a16 x0 x2 x4 x5) (k0_pay18 (F := Ideal)) inb_S2048x128_S64x128_448_0 inb_S2048x128_S2048x128_0_0 (by rfl) rfl) (inb := inb_S2048x128_S64x128_448_0)
  have h8 := st_sp (bp_8 c i a1 k1 a3 k3 a5 k5 a6 k6 a13 x0 x1 x2 x3 x4 x5 x6 x7) (rows_fill a15.view 8 (kernelRun0_A.sl.HS3_9 (F := Ideal) c a1 k1 a3 k3 a5 k5 a6 k6 a13 a15 x0 x2 x4 x5) (k0_pay16 (F := Ideal)) inb_S2048x128_S64x128_512_0 inb_S2048x128_S2048x128_0_0 (by rfl) rfl) (rows_fill a16.view 8 (kernelRun0_A.sl.HS4_9 (F := Ideal) c a1 k1 a3 k3 a5 k5 a6 k6 a13 a15 a16 x0 x2 x4 x5) (k0_pay18 (F := Ideal)) inb_S2048x128_S64x128_512_0 inb_S2048x128_S2048x128_0_0 (by rfl) rfl) (inb := inb_S2048x128_S64x128_512_0)
  have h9 := st_sp (bp_9 c i a1 k1 a3 k3 a5 k5 a6 k6 a13 x0 x1 x2 x3 x4 x5 x6 x7) (rows_fill a15.view 9 (kernelRun0_A.sl.HS3_10 (F := Ideal) c a1 k1 a3 k3 a5 k5 a6 k6 a13 a15 x0 x2 x4 x5) (k0_pay16 (F := Ideal)) inb_S2048x128_S64x128_576_0 inb_S2048x128_S2048x128_0_0 (by rfl) rfl) (rows_fill a16.view 9 (kernelRun0_A.sl.HS4_10 (F := Ideal) c a1 k1 a3 k3 a5 k5 a6 k6 a13 a15 a16 x0 x2 x4 x5) (k0_pay18 (F := Ideal)) inb_S2048x128_S64x128_576_0 inb_S2048x128_S2048x128_0_0 (by rfl) rfl) (inb := inb_S2048x128_S64x128_576_0)
  have h10 := st_sp (bp_10 c i a1 k1 a3 k3 a5 k5 a6 k6 a13 x0 x1 x2 x3 x4 x5 x6 x7) (rows_fill a15.view 10 (kernelRun0_A.sl.HS3_11 (F := Ideal) c a1 k1 a3 k3 a5 k5 a6 k6 a13 a15 x0 x2 x4 x5) (k0_pay16 (F := Ideal)) inb_S2048x128_S64x128_640_0 inb_S2048x128_S2048x128_0_0 (by rfl) rfl) (rows_fill a16.view 10 (kernelRun0_A.sl.HS4_11 (F := Ideal) c a1 k1 a3 k3 a5 k5 a6 k6 a13 a15 a16 x0 x2 x4 x5) (k0_pay18 (F := Ideal)) inb_S2048x128_S64x128_640_0 inb_S2048x128_S2048x128_0_0 (by rfl) rfl) (inb := inb_S2048x128_S64x128_640_0)
  have h11 := st_sp (bp_11 c i a1 k1 a3 k3 a5 k5 a6 k6 a13 x0 x1 x2 x3 x4 x5 x6 x7) (rows_fill a15.view 11 (kernelRun0_A.sl.HS3_12 (F := Ideal) c a1 k1 a3 k3 a5 k5 a6 k6 a13 a15 x0 x2 x4 x5) (k0_pay16 (F := Ideal)) inb_S2048x128_S64x128_704_0 inb_S2048x128_S2048x128_0_0 (by rfl) rfl) (rows_fill a16.view 11 (kernelRun0_A.sl.HS4_12 (F := Ideal) c a1 k1 a3 k3 a5 k5 a6 k6 a13 a15 a16 x0 x2 x4 x5) (k0_pay18 (F := Ideal)) inb_S2048x128_S64x128_704_0 inb_S2048x128_S2048x128_0_0 (by rfl) rfl) (inb := inb_S2048x128_S64x128_704_0)
  have h12 := st_sp (bp_12 c i a1 k1 a3 k3 a5 k5 a6 k6 a13 x0 x1 x2 x3 x4 x5 x6 x7) (rows_fill a15.view 12 (kernelRun0_A.sl.HS3_13 (F := Ideal) c a1 k1 a3 k3 a5 k5 a6 k6 a13 a15 x0 x2 x4 x5) (k0_pay16 (F := Ideal)) inb_S2048x128_S64x128_768_0 inb_S2048x128_S2048x128_0_0 (by rfl) rfl) (rows_fill a16.view 12 (kernelRun0_A.sl.HS4_13 (F := Ideal) c a1 k1 a3 k3 a5 k5 a6 k6 a13 a15 a16 x0 x2 x4 x5) (k0_pay18 (F := Ideal)) inb_S2048x128_S64x128_768_0 inb_S2048x128_S2048x128_0_0 (by rfl) rfl) (inb := inb_S2048x128_S64x128_768_0)
  have h13 := st_sp (bp_13 c i a1 k1 a3 k3 a5 k5 a6 k6 a13 x0 x1 x2 x3 x4 x5 x6 x7) (rows_fill a15.view 13 (kernelRun0_A.sl.HS3_14 (F := Ideal) c a1 k1 a3 k3 a5 k5 a6 k6 a13 a15 x0 x2 x4 x5) (k0_pay16 (F := Ideal)) inb_S2048x128_S64x128_832_0 inb_S2048x128_S2048x128_0_0 (by rfl) rfl) (rows_fill a16.view 13 (kernelRun0_A.sl.HS4_14 (F := Ideal) c a1 k1 a3 k3 a5 k5 a6 k6 a13 a15 a16 x0 x2 x4 x5) (k0_pay18 (F := Ideal)) inb_S2048x128_S64x128_832_0 inb_S2048x128_S2048x128_0_0 (by rfl) rfl) (inb := inb_S2048x128_S64x128_832_0)
  have h14 := st_sp (bp_14 c i a1 k1 a3 k3 a5 k5 a6 k6 a13 x0 x1 x2 x3 x4 x5 x6 x7) (rows_fill a15.view 14 (kernelRun0_A.sl.HS3_15 (F := Ideal) c a1 k1 a3 k3 a5 k5 a6 k6 a13 a15 x0 x2 x4 x5) (k0_pay16 (F := Ideal)) inb_S2048x128_S64x128_896_0 inb_S2048x128_S2048x128_0_0 (by rfl) rfl) (rows_fill a16.view 14 (kernelRun0_A.sl.HS4_15 (F := Ideal) c a1 k1 a3 k3 a5 k5 a6 k6 a13 a15 a16 x0 x2 x4 x5) (k0_pay18 (F := Ideal)) inb_S2048x128_S64x128_896_0 inb_S2048x128_S2048x128_0_0 (by rfl) rfl) (inb := inb_S2048x128_S64x128_896_0)
  have h15 := st_sp (bp_15 c i a1 k1 a3 k3 a5 k5 a6 k6 a13 x0 x1 x2 x3 x4 x5 x6 x7) (rows_fill a15.view 15 (kernelRun0_A.sl.HS3_16 (F := Ideal) c a1 k1 a3 k3 a5 k5 a6 k6 a13 a15 x0 x2 x4 x5) (k0_pay16 (F := Ideal)) inb_S2048x128_S64x128_960_0 inb_S2048x128_S2048x128_0_0 (by rfl) rfl) (rows_fill a16.view 15 (kernelRun0_A.sl.HS4_16 (F := Ideal) c a1 k1 a3 k3 a5 k5 a6 k6 a13 a15 a16 x0 x2 x4 x5) (k0_pay18 (F := Ideal)) inb_S2048x128_S64x128_960_0 inb_S2048x128_S2048x128_0_0 (by rfl) rfl) (inb := inb_S2048x128_S64x128_960_0)
  have h16 := st_sp (bp_16 c i a1 k1 a3 k3 a5 k5 a6 k6 a13 x0 x1 x2 x3 x4 x5 x6 x7) (rows_fill a15.view 16 (kernelRun0_A.sl.HS3_17 (F := Ideal) c a1 k1 a3 k3 a5 k5 a6 k6 a13 a15 x0 x2 x4 x5) (k0_pay16 (F := Ideal)) inb_S2048x128_S64x128_1024_0 inb_S2048x128_S2048x128_0_0 (by rfl) rfl) (rows_fill a16.view 16 (kernelRun0_A.sl.HS4_17 (F := Ideal) c a1 k1 a3 k3 a5 k5 a6 k6 a13 a15 a16 x0 x2 x4 x5) (k0_pay18 (F := Ideal)) inb_S2048x128_S64x128_1024_0 inb_S2048x128_S2048x128_0_0 (by rfl) rfl) (inb := inb_S2048x128_S64x128_1024_0)
  have h17 := st_sp (bp_17 c i a1 k1 a3 k3 a5 k5 a6 k6 a13 x0 x1 x2 x3 x4 x5 x6 x7) (rows_fill a15.view 17 (kernelRun0_A.sl.HS3_18 (F := Ideal) c a1 k1 a3 k3 a5 k5 a6 k6 a13 a15 x0 x2 x4 x5) (k0_pay16 (F := Ideal)) inb_S2048x128_S64x128_1088_0 inb_S2048x128_S2048x128_0_0 (by rfl) rfl) (rows_fill a16.view 17 (kernelRun0_A.sl.HS4_18 (F := Ideal) c a1 k1 a3 k3 a5 k5 a6 k6 a13 a15 a16 x0 x2 x4 x5) (k0_pay18 (F := Ideal)) inb_S2048x128_S64x128_1088_0 inb_S2048x128_S2048x128_0_0 (by rfl) rfl) (inb := inb_S2048x128_S64x128_1088_0)
  have h18 := st_sp (bp_18 c i a1 k1 a3 k3 a5 k5 a6 k6 a13 x0 x1 x2 x3 x4 x5 x6 x7) (rows_fill a15.view 18 (kernelRun0_A.sl.HS3_19 (F := Ideal) c a1 k1 a3 k3 a5 k5 a6 k6 a13 a15 x0 x2 x4 x5) (k0_pay16 (F := Ideal)) inb_S2048x128_S64x128_1152_0 inb_S2048x128_S2048x128_0_0 (by rfl) rfl) (rows_fill a16.view 18 (kernelRun0_A.sl.HS4_19 (F := Ideal) c a1 k1 a3 k3 a5 k5 a6 k6 a13 a15 a16 x0 x2 x4 x5) (k0_pay18 (F := Ideal)) inb_S2048x128_S64x128_1152_0 inb_S2048x128_S2048x128_0_0 (by rfl) rfl) (inb := inb_S2048x128_S64x128_1152_0)
  have h19 := st_sp (bp_19 c i a1 k1 a3 k3 a5 k5 a6 k6 a13 x0 x1 x2 x3 x4 x5 x6 x7) (rows_fill a15.view 19 (kernelRun0_A.sl.HS3_20 (F := Ideal) c a1 k1 a3 k3 a5 k5 a6 k6 a13 a15 x0 x2 x4 x5) (k0_pay16 (F := Ideal)) inb_S2048x128_S64x128_1216_0 inb_S2048x128_S2048x128_0_0 (by rfl) rfl) (rows_fill a16.view 19 (kernelRun0_A.sl.HS4_20 (F := Ideal) c a1 k1 a3 k3 a5 k5 a6 k6 a13 a15 a16 x0 x2 x4 x5) (k0_pay18 (F := Ideal)) inb_S2048x128_S64x128_1216_0 inb_S2048x128_S2048x128_0_0 (by rfl) rfl) (inb := inb_S2048x128_S64x128_1216_0)
  have h20 := st_sp (bp_20 c i a1 k1 a3 k3 a5 k5 a6 k6 a13 x0 x1 x2 x3 x4 x5 x6 x7) (rows_fill a15.view 20 (kernelRun0_A.sl.HS3_21 (F := Ideal) c a1 k1 a3 k3 a5 k5 a6 k6 a13 a15 x0 x2 x4 x5) (k0_pay16 (F := Ideal)) inb_S2048x128_S64x128_1280_0 inb_S2048x128_S2048x128_0_0 (by rfl) rfl) (rows_fill a16.view 20 (kernelRun0_A.sl.HS4_21 (F := Ideal) c a1 k1 a3 k3 a5 k5 a6 k6 a13 a15 a16 x0 x2 x4 x5) (k0_pay18 (F := Ideal)) inb_S2048x128_S64x128_1280_0 inb_S2048x128_S2048x128_0_0 (by rfl) rfl) (inb := inb_S2048x128_S64x128_1280_0)
  have h21 := st_sp (bp_21 c i a1 k1 a3 k3 a5 k5 a6 k6 a13 x0 x1 x2 x3 x4 x5 x6 x7) (rows_fill a15.view 21 (kernelRun0_A.sl.HS3_22 (F := Ideal) c a1 k1 a3 k3 a5 k5 a6 k6 a13 a15 x0 x2 x4 x5) (k0_pay16 (F := Ideal)) inb_S2048x128_S64x128_1344_0 inb_S2048x128_S2048x128_0_0 (by rfl) rfl) (rows_fill a16.view 21 (kernelRun0_A.sl.HS4_22 (F := Ideal) c a1 k1 a3 k3 a5 k5 a6 k6 a13 a15 a16 x0 x2 x4 x5) (k0_pay18 (F := Ideal)) inb_S2048x128_S64x128_1344_0 inb_S2048x128_S2048x128_0_0 (by rfl) rfl) (inb := inb_S2048x128_S64x128_1344_0)
  have h22 := st_sp (bp_22 c i a1 k1 a3 k3 a5 k5 a6 k6 a13 x0 x1 x2 x3 x4 x5 x6 x7) (rows_fill a15.view 22 (kernelRun0_A.sl.HS3_23 (F := Ideal) c a1 k1 a3 k3 a5 k5 a6 k6 a13 a15 x0 x2 x4 x5) (k0_pay16 (F := Ideal)) inb_S2048x128_S64x128_1408_0 inb_S2048x128_S2048x128_0_0 (by rfl) rfl) (rows_fill a16.view 22 (kernelRun0_A.sl.HS4_23 (F := Ideal) c a1 k1 a3 k3 a5 k5 a6 k6 a13 a15 a16 x0 x2 x4 x5) (k0_pay18 (F := Ideal)) inb_S2048x128_S64x128_1408_0 inb_S2048x128_S2048x128_0_0 (by rfl) rfl) (inb := inb_S2048x128_S64x128_1408_0)
  have h23 := st_sp (bp_23 c i a1 k1 a3 k3 a5 k5 a6 k6 a13 x0 x1 x2 x3 x4 x5 x6 x7) (rows_fill a15.view 23 (kernelRun0_A.sl.HS3_24 (F := Ideal) c a1 k1 a3 k3 a5 k5 a6 k6 a13 a15 x0 x2 x4 x5) (k0_pay16 (F := Ideal)) inb_S2048x128_S64x128_1472_0 inb_S2048x128_S2048x128_0_0 (by rfl) rfl) (rows_fill a16.view 23 (kernelRun0_A.sl.HS4_24 (F := Ideal) c a1 k1 a3 k3 a5 k5 a6 k6 a13 a15 a16 x0 x2 x4 x5) (k0_pay18 (F := Ideal)) inb_S2048x128_S64x128_1472_0 inb_S2048x128_S2048x128_0_0 (by rfl) rfl) (inb := inb_S2048x128_S64x128_1472_0)
  have h24 := st_sp (bp_24 c i a1 k1 a3 k3 a5 k5 a6 k6 a13 x0 x1 x2 x3 x4 x5 x6 x7) (rows_fill a15.view 24 (kernelRun0_A.sl.HS3_25 (F := Ideal) c a1 k1 a3 k3 a5 k5 a6 k6 a13 a15 x0 x2 x4 x5) (k0_pay16 (F := Ideal)) inb_S2048x128_S64x128_1536_0 inb_S2048x128_S2048x128_0_0 (by rfl) rfl) (rows_fill a16.view 24 (kernelRun0_A.sl.HS4_25 (F := Ideal) c a1 k1 a3 k3 a5 k5 a6 k6 a13 a15 a16 x0 x2 x4 x5) (k0_pay18 (F := Ideal)) inb_S2048x128_S64x128_1536_0 inb_S2048x128_S2048x128_0_0 (by rfl) rfl) (inb := inb_S2048x128_S64x128_1536_0)
  have h25 := st_sp (bp_25 c i a1 k1 a3 k3 a5 k5 a6 k6 a13 x0 x1 x2 x3 x4 x5 x6 x7) (rows_fill a15.view 25 (kernelRun0_A.sl.HS3_26 (F := Ideal) c a1 k1 a3 k3 a5 k5 a6 k6 a13 a15 x0 x2 x4 x5) (k0_pay16 (F := Ideal)) inb_S2048x128_S64x128_1600_0 inb_S2048x128_S2048x128_0_0 (by rfl) rfl) (rows_fill a16.view 25 (kernelRun0_A.sl.HS4_26 (F := Ideal) c a1 k1 a3 k3 a5 k5 a6 k6 a13 a15 a16 x0 x2 x4 x5) (k0_pay18 (F := Ideal)) inb_S2048x128_S64x128_1600_0 inb_S2048x128_S2048x128_0_0 (by rfl) rfl) (inb := inb_S2048x128_S64x128_1600_0)
  have h26 := st_sp (bp_26 c i a1 k1 a3 k3 a5 k5 a6 k6 a13 x0 x1 x2 x3 x4 x5 x6 x7) (rows_fill a15.view 26 (kernelRun0_A.sl.HS3_27 (F := Ideal) c a1 k1 a3 k3 a5 k5 a6 k6 a13 a15 x0 x2 x4 x5) (k0_pay16 (F := Ideal)) inb_S2048x128_S64x128_1664_0 inb_S2048x128_S2048x128_0_0 (by rfl) rfl) (rows_fill a16.view 26 (kernelRun0_A.sl.HS4_27 (F := Ideal) c a1 k1 a3 k3 a5 k5 a6 k6 a13 a15 a16 x0 x2 x4 x5) (k0_pay18 (F := Ideal)) inb_S2048x128_S64x128_1664_0 inb_S2048x128_S2048x128_0_0 (by rfl) rfl) (inb := inb_S2048x128_S64x128_1664_0)
  have h27 := st_sp (bp_27 c i a1 k1 a3 k3 a5 k5 a6 k6 a13 x0 x1 x2 x3 x4 x5 x6 x7) (rows_fill a15.view 27 (kernelRun0_A.sl.HS3_28 (F := Ideal) c a1 k1 a3 k3 a5 k5 a6 k6 a13 a15 x0 x2 x4 x5) (k0_pay16 (F := Ideal)) inb_S2048x128_S64x128_1728_0 inb_S2048x128_S2048x128_0_0 (by rfl) rfl) (rows_fill a16.view 27 (kernelRun0_A.sl.HS4_28 (F := Ideal) c a1 k1 a3 k3 a5 k5 a6 k6 a13 a15 a16 x0 x2 x4 x5) (k0_pay18 (F := Ideal)) inb_S2048x128_S64x128_1728_0 inb_S2048x128_S2048x128_0_0 (by rfl) rfl) (inb := inb_S2048x128_S64x128_1728_0)
  have h28 := st_sp (bp_28 c i a1 k1 a3 k3 a5 k5 a6 k6 a13 x0 x1 x2 x3 x4 x5 x6 x7) (rows_fill a15.view 28 (kernelRun0_A.sl.HS3_29 (F := Ideal) c a1 k1 a3 k3 a5 k5 a6 k6 a13 a15 x0 x2 x4 x5) (k0_pay16 (F := Ideal)) inb_S2048x128_S64x128_1792_0 inb_S2048x128_S2048x128_0_0 (by rfl) rfl) (rows_fill a16.view 28 (kernelRun0_A.sl.HS4_29 (F := Ideal) c a1 k1 a3 k3 a5 k5 a6 k6 a13 a15 a16 x0 x2 x4 x5) (k0_pay18 (F := Ideal)) inb_S2048x128_S64x128_1792_0 inb_S2048x128_S2048x128_0_0 (by rfl) rfl) (inb := inb_S2048x128_S64x128_1792_0)
  have h29 := st_sp (bp_29 c i a1 k1 a3 k3 a5 k5 a6 k6 a13 x0 x1 x2 x3 x4 x5 x6 x7) (rows_fill a15.view 29 (kernelRun0_A.sl.HS3_30 (F := Ideal) c a1 k1 a3 k3 a5 k5 a6 k6 a13 a15 x0 x2 x4 x5) (k0_pay16 (F := Ideal)) inb_S2048x128_S64x128_1856_0 inb_S2048x128_S2048x128_0_0 (by rfl) rfl) (rows_fill a16.view 29 (kernelRun0_A.sl.HS4_30 (F := Ideal) c a1 k1 a3 k3 a5 k5 a6 k6 a13 a15 a16 x0 x2 x4 x5) (k0_pay18 (F := Ideal)) inb_S2048x128_S64x128_1856_0 inb_S2048x128_S2048x128_0_0 (by rfl) rfl) (inb := inb_S2048x128_S64x128_1856_0)
  have h30 := st_sp (bp_30 c i a1 k1 a3 k3 a5 k5 a6 k6 a13 x0 x1 x2 x3 x4 x5 x6 x7) (rows_fill a15.view 30 (kernelRun0_A.sl.HS3_31 (F := Ideal) c a1 k1 a3 k3 a5 k5 a6 k6 a13 a15 x0 x2 x4 x5) (k0_pay16 (F := Ideal)) inb_S2048x128_S64x128_1920_0 inb_S2048x128_S2048x128_0_0 (by rfl) rfl) (rows_fill a16.view 30 (kernelRun0_A.sl.HS4_31 (F := Ideal) c a1 k1 a3 k3 a5 k5 a6 k6 a13 a15 a16 x0 x2 x4 x5) (k0_pay18 (F := Ideal)) inb_S2048x128_S64x128_1920_0 inb_S2048x128_S2048x128_0_0 (by rfl) rfl) (inb := inb_S2048x128_S64x128_1920_0)
  have h31 := st_sp (bp_31 c i a1 k1 a3 k3 a5 k5 a6 k6 a13 x0 x1 x2 x3 x4 x5 x6 x7) (rows_fill a15.view 31 (kernelRun0_A.sl.HS3_32 (F := Ideal) c a1 k1 a3 k3 a5 k5 a6 k6 a13 a15 x0 x2 x4 x5) (k0_pay16 (F := Ideal)) inb_S2048x128_S64x128_1984_0 inb_S2048x128_S2048x128_0_0 (by rfl) rfl) (rows_fill a16.view 31 (kernelRun0_A.sl.HS4_32 (F := Ideal) c a1 k1 a3 k3 a5 k5 a6 k6 a13 a15 a16 x0 x2 x4 x5) (k0_pay18 (F := Ideal)) inb_S2048x128_S64x128_1984_0 inb_S2048x128_S2048x128_0_0 (by rfl) rfl) (inb := inb_S2048x128_S64x128_1984_0)
  refine pieces_take h31 (by congr 1) ?_
  refine pieces_take h30 (by congr 1) ?_
  refine pieces_take h29 (by congr 1) ?_
  refine pieces_take h28 (by congr 1) ?_
  refine pieces_take h27 (by congr 1) ?_
  refine pieces_take h26 (by congr 1) ?_
  refine pieces_take h25 (by congr 1) ?_
  refine pieces_take h24 (by congr 1) ?_
  refine pieces_take h23 (by congr 1) ?_
  refine pieces_take h22 (by congr 1) ?_
  refine pieces_take h21 (by congr 1) ?_
  refine pieces_take h20 (by congr 1) ?_
  refine pieces_take h19 (by congr 1) ?_
  refine pieces_take h18 (by congr 1) ?_
  refine pieces_take h17 (by congr 1) ?_
  refine pieces_take h16 (by congr 1) ?_
  refine pieces_take h15 (by congr 1) ?_
  refine pieces_take h14 (by congr 1) ?_
  refine pieces_take h13 (by congr 1) ?_
  refine pieces_take h12 (by congr 1) ?_
  refine pieces_take h11 (by congr 1) ?_
  refine pieces_take h10 (by congr 1) ?_
  refine pieces_take h9 (by congr 1) ?_
  refine pieces_take h8 (by congr 1) ?_
  refine pieces_take h7 (by congr 1) ?_
  refine pieces_take h6 (by congr 1) ?_
  refine pieces_take h5 (by congr 1) ?_
  refine pieces_take h4 (by congr 1) ?_
  refine pieces_take h3 (by congr 1) ?_
  refine pieces_take h2 (by congr 1) ?_
  refine pieces_take h1 (by congr 1) ?_
  refine pieces_take h0 (by congr 1) ?_
  exact pieces_last

/-- Scratch `a15` after the point. -/
theorem out_3 : sout0_A_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 = (mkD x0 x1 x2 x3 x4 x6 x7 (kernelRun0_A.sl.r_3 c a6 k6 x5) (kernelRun0_A.sl.r_4 i)).gMP (k0_pay16 (F := Ideal)) := by
  funext y
  unfold sout0_A_3
  rw [View.read_writes_junk_eq_canon, ← List.take_append_drop 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.1)]
  exact View.canon_append_of_piecesOf _ _ _ (pieces_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7) y (View.cover_of_tiledL (List.take 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.1)) S64x128.size (by sl_kernel_rfl) y)

/-- Scratch `a16` after the point. -/
theorem out_4 : sout0_A_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 = (mkD x0 x1 x2 x3 x4 x6 x7 (kernelRun0_A.sl.r_3 c a6 k6 x5) (kernelRun0_A.sl.r_4 i)).gSP (k0_pay16 (F := Ideal)) (k0_pay18 (F := Ideal)) := by
  funext y
  unfold sout0_A_4
  rw [View.read_writes_junk_eq_canon, ← List.take_append_drop 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.1)]
  exact View.canon_append_of_piecesOf _ _ _ (pieces_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7) y (View.cover_of_tiledL (List.take 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.1)) S64x128.size (by sl_kernel_rfl) y)

end Cert.Blk.CaseA

end
-- ==== Proof.CaseA2.lean ====
/- The stores of the first case of the main call, one carried scratch at a time. -/
module

public import proofs.«01_k».proof.Proof.CaseABlocks

@[expose] public section

set_option maxRecDepth 16384
set_option maxHeartbeats 4000000

noncomputable section

namespace Cert.Blk.CaseA

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : cond0_0 i) (hc1 : ¬cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32)

/-- What the point leaves in scratch `a17`. -/
theorem pieces_5 : View.PiecesOf ((mkD x0 x1 x2 x3 x4 x6 x7 (kernelRun0_A.sl.r_3 c a6 k6 x5) (kernelRun0_A.sl.r_4 i)).gTT (k0_pay16 (F := Ideal)) (k0_pay19 (F := Ideal))) (List.take 32 (kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.1) := by
  have h0 := st_tt (bp_0 c i a1 k1 a3 k3 a5 k5 a6 k6 a13 x0 x1 x2 x3 x4 x5 x6 x7) (bq_0 c i a2 k2 a6 k6 a7 k7 a8 k8 a12 a14 x0 x1 x2 x3 x4 x5 x6 x7) (rows_fill a15.view 0 (kernelRun0_A.sl.HS3_1 (F := Ideal) ) (k0_pay16 (F := Ideal)) inb_S2048x128_S64x128_0_0 inb_S2048x128_S2048x128_0_0 (by rfl) rfl) (rows_fill a17.view 0 (kernelRun0_A.sl.HS5_1 (F := Ideal) ) (k0_pay19 (F := Ideal)) inb_S2048x128_S64x128_0_0 inb_S2048x128_S2048x128_0_0 (by rfl) rfl) (inb := inb_S2048x128_S64x128_0_0)
  have h1 := st_tt (bp_1 c i a1 k1 a3 k3 a5 k5 a6 k6 a13 x0 x1 x2 x3 x4 x5 x6 x7) (bq_1 c i a2 k2 a6 k6 a7 k7 a8 k8 a12 a14 x0 x1 x2 x3 x4 x5 x6 x7) (rows_fill a15.view 1 (kernelRun0_A.sl.HS3_2 (F := Ideal) c a1 k1 a3 k3 a5 k5 a6 k6 a13 a15 x0 x2 x4 x5) (k0_pay16 (F := Ideal)) inb_S2048x128_S64x128_64_0 inb_S2048x128_S2048x128_0_0 (by rfl) rfl) (rows_fill a17.view 1 (kernelRun0_A.sl.HS5_2 (F := Ideal) c a1 k1 a2 k2 a3 k3 a5 k5 a6 k6 a7 k7 a8 k8 a12 a13 a14 a15 a17 x0 x1 x2 x4 x5 x6 x7) (k0_pay19 (F := Ideal)) inb_S2048x128_S64x128_64_0 inb_S2048x128_S2048x128_0_0 (by rfl) rfl) (inb := inb_S2048x128_S64x128_64_0)
  have h2 := st_tt (bp_2 c i a1 k1 a3 k3 a5 k5 a6 k6 a13 x0 x1 x2 x3 x4 x5 x6 x7) (bq_2 c i a2 k2 a6 k6 a7 k7 a8 k8 a12 a14 x0 x1 x2 x3 x4 x5 x6 x7) (rows_fill a15.view 2 (kernelRun0_A.sl.HS3_3 (F := Ideal) c a1 k1 a3 k3 a5 k5 a6 k6 a13 a15 x0 x2 x4 x5) (k0_pay16 (F := Ideal)) inb_S2048x128_S64x128_128_0 inb_S2048x128_S2048x128_0_0 (by rfl) rfl) (rows_fill a17.view 2 (kernelRun0_A.sl.HS5_3 (F := Ideal) c a1 k1 a2 k2 a3 k3 a5 k5 a6 k6 a7 k7 a8 k8 a12 a13 a14 a15 a17 x0 x1 x2 x4 x5 x6 x7) (k0_pay19 (F := Ideal)) inb_S2048x128_S64x128_128_0 inb_S2048x128_S2048x128_0_0 (by rfl) rfl) (inb := inb_S2048x128_S64x128_128_0)
  have h3 := st_tt (bp_3 c i a1 k1 a3 k3 a5 k5 a6 k6 a13 x0 x1 x2 x3 x4 x5 x6 x7) (bq_3 c i a2 k2 a6 k6 a7 k7 a8 k8 a12 a14 x0 x1 x2 x3 x4 x5 x6 x7) (rows_fill a15.view 3 (kernelRun0_A.sl.HS3_4 (F := Ideal) c a1 k1 a3 k3 a5 k5 a6 k6 a13 a15 x0 x2 x4 x5) (k0_pay16 (F := Ideal)) inb_S2048x128_S64x128_192_0 inb_S2048x128_S2048x128_0_0 (by rfl) rfl) (rows_fill a17.view 3 (kernelRun0_A.sl.HS5_4 (F := Ideal) c a1 k1 a2 k2 a3 k3 a5 k5 a6 k6 a7 k7 a8 k8 a12 a13 a14 a15 a17 x0 x1 x2 x4 x5 x6 x7) (k0_pay19 (F := Ideal)) inb_S2048x128_S64x128_192_0 inb_S2048x128_S2048x128_0_0 (by rfl) rfl) (inb := inb_S2048x128_S64x128_192_0)
  have h4 := st_tt (bp_4 c i a1 k1 a3 k3 a5 k5 a6 k6 a13 x0 x1 x2 x3 x4 x5 x6 x7) (bq_4 c i a2 k2 a6 k6 a7 k7 a8 k8 a12 a14 x0 x1 x2 x3 x4 x5 x6 x7) (rows_fill a15.view 4 (kernelRun0_A.sl.HS3_5 (F := Ideal) c a1 k1 a3 k3 a5 k5 a6 k6 a13 a15 x0 x2 x4 x5) (k0_pay16 (F := Ideal)) inb_S2048x128_S64x128_256_0 inb_S2048x128_S2048x128_0_0 (by rfl) rfl) (rows_fill a17.view 4 (kernelRun0_A.sl.HS5_5 (F := Ideal) c a1 k1 a2 k2 a3 k3 a5 k5 a6 k6 a7 k7 a8 k8 a12 a13 a14 a15 a17 x0 x1 x2 x4 x5 x6 x7) (k0_pay19 (F := Ideal)) inb_S2048x128_S64x128_256_0 inb_S2048x128_S2048x128_0_0 (by rfl) rfl) (inb := inb_S2048x128_S64x128_256_0)
  have h5 := st_tt (bp_5 c i a1 k1 a3 k3 a5 k5 a6 k6 a13 x0 x1 x2 x3 x4 x5 x6 x7) (bq_5 c i a2 k2 a6 k6 a7 k7 a8 k8 a12 a14 x0 x1 x2 x3 x4 x5 x6 x7) (rows_fill a15.view 5 (kernelRun0_A.sl.HS3_6 (F := Ideal) c a1 k1 a3 k3 a5 k5 a6 k6 a13 a15 x0 x2 x4 x5) (k0_pay16 (F := Ideal)) inb_S2048x128_S64x128_320_0 inb_S2048x128_S2048x128_0_0 (by rfl) rfl) (rows_fill a17.view 5 (kernelRun0_A.sl.HS5_6 (F := Ideal) c a1 k1 a2 k2 a3 k3 a5 k5 a6 k6 a7 k7 a8 k8 a12 a13 a14 a15 a17 x0 x1 x2 x4 x5 x6 x7) (k0_pay19 (F := Ideal)) inb_S2048x128_S64x128_320_0 inb_S2048x128_S2048x128_0_0 (by rfl) rfl) (inb := inb_S2048x128_S64x128_320_0)
  have h6 := st_tt (bp_6 c i a1 k1 a3 k3 a5 k5 a6 k6 a13 x0 x1 x2 x3 x4 x5 x6 x7) (bq_6 c i a2 k2 a6 k6 a7 k7 a8 k8 a12 a14 x0 x1 x2 x3 x4 x5 x6 x7) (rows_fill a15.view 6 (kernelRun0_A.sl.HS3_7 (F := Ideal) c a1 k1 a3 k3 a5 k5 a6 k6 a13 a15 x0 x2 x4 x5) (k0_pay16 (F := Ideal)) inb_S2048x128_S64x128_384_0 inb_S2048x128_S2048x128_0_0 (by rfl) rfl) (rows_fill a17.view 6 (kernelRun0_A.sl.HS5_7 (F := Ideal) c a1 k1 a2 k2 a3 k3 a5 k5 a6 k6 a7 k7 a8 k8 a12 a13 a14 a15 a17 x0 x1 x2 x4 x5 x6 x7) (k0_pay19 (F := Ideal)) inb_S2048x128_S64x128_384_0 inb_S2048x128_S2048x128_0_0 (by rfl) rfl) (inb := inb_S2048x128_S64x128_384_0)
  have h7 := st_tt (bp_7 c i a1 k1 a3 k3 a5 k5 a6 k6 a13 x0 x1 x2 x3 x4 x5 x6 x7) (bq_7 c i a2 k2 a6 k6 a7 k7 a8 k8 a12 a14 x0 x1 x2 x3 x4 x5 x6 x7) (rows_fill a15.view 7 (kernelRun0_A.sl.HS3_8 (F := Ideal) c a1 k1 a3 k3 a5 k5 a6 k6 a13 a15 x0 x2 x4 x5) (k0_pay16 (F := Ideal)) inb_S2048x128_S64x128_448_0 inb_S2048x128_S2048x128_0_0 (by rfl) rfl) (rows_fill a17.view 7 (kernelRun0_A.sl.HS5_8 (F := Ideal) c a1 k1 a2 k2 a3 k3 a5 k5 a6 k6 a7 k7 a8 k8 a12 a13 a14 a15 a17 x0 x1 x2 x4 x5 x6 x7) (k0_pay19 (F := Ideal)) inb_S2048x128_S64x128_448_0 inb_S2048x128_S2048x128_0_0 (by rfl) rfl) (inb := inb_S2048x128_S64x128_448_0)
  have h8 := st_tt (bp_8 c i a1 k1 a3 k3 a5 k5 a6 k6 a13 x0 x1 x2 x3 x4 x5 x6 x7) (bq_8 c i a2 k2 a6 k6 a7 k7 a8 k8 a12 a14 x0 x1 x2 x3 x4 x5 x6 x7) (rows_fill a15.view 8 (kernelRun0_A.sl.HS3_9 (F := Ideal) c a1 k1 a3 k3 a5 k5 a6 k6 a13 a15 x0 x2 x4 x5) (k0_pay16 (F := Ideal)) inb_S2048x128_S64x128_512_0 inb_S2048x128_S2048x128_0_0 (by rfl) rfl) (rows_fill a17.view 8 (kernelRun0_A.sl.HS5_9 (F := Ideal) c a1 k1 a2 k2 a3 k3 a5 k5 a6 k6 a7 k7 a8 k8 a12 a13 a14 a15 a17 x0 x1 x2 x4 x5 x6 x7) (k0_pay19 (F := Ideal)) inb_S2048x128_S64x128_512_0 inb_S2048x128_S2048x128_0_0 (by rfl) rfl) (inb := inb_S2048x128_S64x128_512_0)
  have h9 := st_tt (bp_9 c i a1 k1 a3 k3 a5 k5 a6 k6 a13 x0 x1 x2 x3 x4 x5 x6 x7) (bq_9 c i a2 k2 a6 k6 a7 k7 a8 k8 a12 a14 x0 x1 x2 x3 x4 x5 x6 x7) (rows_fill a15.view 9 (kernelRun0_A.sl.HS3_10 (F := Ideal) c a1 k1 a3 k3 a5 k5 a6 k6 a13 a15 x0 x2 x4 x5) (k0_pay16 (F := Ideal)) inb_S2048x128_S64x128_576_0 inb_S2048x128_S2048x128_0_0 (by rfl) rfl) (rows_fill a17.view 9 (kernelRun0_A.sl.HS5_10 (F := Ideal) c a1 k1 a2 k2 a3 k3 a5 k5 a6 k6 a7 k7 a8 k8 a12 a13 a14 a15 a17 x0 x1 x2 x4 x5 x6 x7) (k0_pay19 (F := Ideal)) inb_S2048x128_S64x128_576_0 inb_S2048x128_S2048x128_0_0 (by rfl) rfl) (inb := inb_S2048x128_S64x128_576_0)
  have h10 := st_tt (bp_10 c i a1 k1 a3 k3 a5 k5 a6 k6 a13 x0 x1 x2 x3 x4 x5 x6 x7) (bq_10 c i a2 k2 a6 k6 a7 k7 a8 k8 a12 a14 x0 x1 x2 x3 x4 x5 x6 x7) (rows_fill a15.view 10 (kernelRun0_A.sl.HS3_11 (F := Ideal) c a1 k1 a3 k3 a5 k5 a6 k6 a13 a15 x0 x2 x4 x5) (k0_pay16 (F := Ideal)) inb_S2048x128_S64x128_640_0 inb_S2048x128_S2048x128_0_0 (by rfl) rfl) (rows_fill a17.view 10 (kernelRun0_A.sl.HS5_11 (F := Ideal) c a1 k1 a2 k2 a3 k3 a5 k5 a6 k6 a7 k7 a8 k8 a12 a13 a14 a15 a17 x0 x1 x2 x4 x5 x6 x7) (k0_pay19 (F := Ideal)) inb_S2048x128_S64x128_640_0 inb_S2048x128_S2048x128_0_0 (by rfl) rfl) (inb := inb_S2048x128_S64x128_640_0)
  have h11 := st_tt (bp_11 c i a1 k1 a3 k3 a5 k5 a6 k6 a13 x0 x1 x2 x3 x4 x5 x6 x7) (bq_11 c i a2 k2 a6 k6 a7 k7 a8 k8 a12 a14 x0 x1 x2 x3 x4 x5 x6 x7) (rows_fill a15.view 11 (kernelRun0_A.sl.HS3_12 (F := Ideal) c a1 k1 a3 k3 a5 k5 a6 k6 a13 a15 x0 x2 x4 x5) (k0_pay16 (F := Ideal)) inb_S2048x128_S64x128_704_0 inb_S2048x128_S2048x128_0_0 (by rfl) rfl) (rows_fill a17.view 11 (kernelRun0_A.sl.HS5_12 (F := Ideal) c a1 k1 a2 k2 a3 k3 a5 k5 a6 k6 a7 k7 a8 k8 a12 a13 a14 a15 a17 x0 x1 x2 x4 x5 x6 x7) (k0_pay19 (F := Ideal)) inb_S2048x128_S64x128_704_0 inb_S2048x128_S2048x128_0_0 (by rfl) rfl) (inb := inb_S2048x128_S64x128_704_0)
  have h12 := st_tt (bp_12 c i a1 k1 a3 k3 a5 k5 a6 k6 a13 x0 x1 x2 x3 x4 x5 x6 x7) (bq_12 c i a2 k2 a6 k6 a7 k7 a8 k8 a12 a14 x0 x1 x2 x3 x4 x5 x6 x7) (rows_fill a15.view 12 (kernelRun0_A.sl.HS3_13 (F := Ideal) c a1 k1 a3 k3 a5 k5 a6 k6 a13 a15 x0 x2 x4 x5) (k0_pay16 (F := Ideal)) inb_S2048x128_S64x128_768_0 inb_S2048x128_S2048x128_0_0 (by rfl) rfl) (rows_fill a17.view 12 (kernelRun0_A.sl.HS5_13 (F := Ideal) c a1 k1 a2 k2 a3 k3 a5 k5 a6 k6 a7 k7 a8 k8 a12 a13 a14 a15 a17 x0 x1 x2 x4 x5 x6 x7) (k0_pay19 (F := Ideal)) inb_S2048x128_S64x128_768_0 inb_S2048x128_S2048x128_0_0 (by rfl) rfl) (inb := inb_S2048x128_S64x128_768_0)
  have h13 := st_tt (bp_13 c i a1 k1 a3 k3 a5 k5 a6 k6 a13 x0 x1 x2 x3 x4 x5 x6 x7) (bq_13 c i a2 k2 a6 k6 a7 k7 a8 k8 a12 a14 x0 x1 x2 x3 x4 x5 x6 x7) (rows_fill a15.view 13 (kernelRun0_A.sl.HS3_14 (F := Ideal) c a1 k1 a3 k3 a5 k5 a6 k6 a13 a15 x0 x2 x4 x5) (k0_pay16 (F := Ideal)) inb_S2048x128_S64x128_832_0 inb_S2048x128_S2048x128_0_0 (by rfl) rfl) (rows_fill a17.view 13 (kernelRun0_A.sl.HS5_14 (F := Ideal) c a1 k1 a2 k2 a3 k3 a5 k5 a6 k6 a7 k7 a8 k8 a12 a13 a14 a15 a17 x0 x1 x2 x4 x5 x6 x7) (k0_pay19 (F := Ideal)) inb_S2048x128_S64x128_832_0 inb_S2048x128_S2048x128_0_0 (by rfl) rfl) (inb := inb_S2048x128_S64x128_832_0)
  have h14 := st_tt (bp_14 c i a1 k1 a3 k3 a5 k5 a6 k6 a13 x0 x1 x2 x3 x4 x5 x6 x7) (bq_14 c i a2 k2 a6 k6 a7 k7 a8 k8 a12 a14 x0 x1 x2 x3 x4 x5 x6 x7) (rows_fill a15.view 14 (kernelRun0_A.sl.HS3_15 (F := Ideal) c a1 k1 a3 k3 a5 k5 a6 k6 a13 a15 x0 x2 x4 x5) (k0_pay16 (F := Ideal)) inb_S2048x128_S64x128_896_0 inb_S2048x128_S2048x128_0_0 (by rfl) rfl) (rows_fill a17.view 14 (kernelRun0_A.sl.HS5_15 (F := Ideal) c a1 k1 a2 k2 a3 k3 a5 k5 a6 k6 a7 k7 a8 k8 a12 a13 a14 a15 a17 x0 x1 x2 x4 x5 x6 x7) (k0_pay19 (F := Ideal)) inb_S2048x128_S64x128_896_0 inb_S2048x128_S2048x128_0_0 (by rfl) rfl) (inb := inb_S2048x128_S64x128_896_0)
  have h15 := st_tt (bp_15 c i a1 k1 a3 k3 a5 k5 a6 k6 a13 x0 x1 x2 x3 x4 x5 x6 x7) (bq_15 c i a2 k2 a6 k6 a7 k7 a8 k8 a12 a14 x0 x1 x2 x3 x4 x5 x6 x7) (rows_fill a15.view 15 (kernelRun0_A.sl.HS3_16 (F := Ideal) c a1 k1 a3 k3 a5 k5 a6 k6 a13 a15 x0 x2 x4 x5) (k0_pay16 (F := Ideal)) inb_S2048x128_S64x128_960_0 inb_S2048x128_S2048x128_0_0 (by rfl) rfl) (rows_fill a17.view 15 (kernelRun0_A.sl.HS5_16 (F := Ideal) c a1 k1 a2 k2 a3 k3 a5 k5 a6 k6 a7 k7 a8 k8 a12 a13 a14 a15 a17 x0 x1 x2 x4 x5 x6 x7) (k0_pay19 (F := Ideal)) inb_S2048x128_S64x128_960_0 inb_S2048x128_S2048x128_0_0 (by rfl) rfl) (inb := inb_S2048x128_S64x128_960_0)
  have h16 := st_tt (bp_16 c i a1 k1 a3 k3 a5 k5 a6 k6 a13 x0 x1 x2 x3 x4 x5 x6 x7) (bq_16 c i a2 k2 a6 k6 a7 k7 a8 k8 a12 a14 x0 x1 x2 x3 x4 x5 x6 x7) (rows_fill a15.view 16 (kernelRun0_A.sl.HS3_17 (F := Ideal) c a1 k1 a3 k3 a5 k5 a6 k6 a13 a15 x0 x2 x4 x5) (k0_pay16 (F := Ideal)) inb_S2048x128_S64x128_1024_0 inb_S2048x128_S2048x128_0_0 (by rfl) rfl) (rows_fill a17.view 16 (kernelRun0_A.sl.HS5_17 (F := Ideal) c a1 k1 a2 k2 a3 k3 a5 k5 a6 k6 a7 k7 a8 k8 a12 a13 a14 a15 a17 x0 x1 x2 x4 x5 x6 x7) (k0_pay19 (F := Ideal)) inb_S2048x128_S64x128_1024_0 inb_S2048x128_S2048x128_0_0 (by rfl) rfl) (inb := inb_S2048x128_S64x128_1024_0)
  have h17 := st_tt (bp_17 c i a1 k1 a3 k3 a5 k5 a6 k6 a13 x0 x1 x2 x3 x4 x5 x6 x7) (bq_17 c i a2 k2 a6 k6 a7 k7 a8 k8 a12 a14 x0 x1 x2 x3 x4 x5 x6 x7) (rows_fill a15.view 17 (kernelRun0_A.sl.HS3_18 (F := Ideal) c a1 k1 a3 k3 a5 k5 a6 k6 a13 a15 x0 x2 x4 x5) (k0_pay16 (F := Ideal)) inb_S2048x128_S64x128_1088_0 inb_S2048x128_S2048x128_0_0 (by rfl) rfl) (rows_fill a17.view 17 (kernelRun0_A.sl.HS5_18 (F := Ideal) c a1 k1 a2 k2 a3 k3 a5 k5 a6 k6 a7 k7 a8 k8 a12 a13 a14 a15 a17 x0 x1 x2 x4 x5 x6 x7) (k0_pay19 (F := Ideal)) inb_S2048x128_S64x128_1088_0 inb_S2048x128_S2048x128_0_0 (by rfl) rfl) (inb := inb_S2048x128_S64x128_1088_0)
  have h18 := st_tt (bp_18 c i a1 k1 a3 k3 a5 k5 a6 k6 a13 x0 x1 x2 x3 x4 x5 x6 x7) (bq_18 c i a2 k2 a6 k6 a7 k7 a8 k8 a12 a14 x0 x1 x2 x3 x4 x5 x6 x7) (rows_fill a15.view 18 (kernelRun0_A.sl.HS3_19 (F := Ideal) c a1 k1 a3 k3 a5 k5 a6 k6 a13 a15 x0 x2 x4 x5) (k0_pay16 (F := Ideal)) inb_S2048x128_S64x128_1152_0 inb_S2048x128_S2048x128_0_0 (by rfl) rfl) (rows_fill a17.view 18 (kernelRun0_A.sl.HS5_19 (F := Ideal) c a1 k1 a2 k2 a3 k3 a5 k5 a6 k6 a7 k7 a8 k8 a12 a13 a14 a15 a17 x0 x1 x2 x4 x5 x6 x7) (k0_pay19 (F := Ideal)) inb_S2048x128_S64x128_1152_0 inb_S2048x128_S2048x128_0_0 (by rfl) rfl) (inb := inb_S2048x128_S64x128_1152_0)
  have h19 := st_tt (bp_19 c i a1 k1 a3 k3 a5 k5 a6 k6 a13 x0 x1 x2 x3 x4 x5 x6 x7) (bq_19 c i a2 k2 a6 k6 a7 k7 a8 k8 a12 a14 x0 x1 x2 x3 x4 x5 x6 x7) (rows_fill a15.view 19 (kernelRun0_A.sl.HS3_20 (F := Ideal) c a1 k1 a3 k3 a5 k5 a6 k6 a13 a15 x0 x2 x4 x5) (k0_pay16 (F := Ideal)) inb_S2048x128_S64x128_1216_0 inb_S2048x128_S2048x128_0_0 (by rfl) rfl) (rows_fill a17.view 19 (kernelRun0_A.sl.HS5_20 (F := Ideal) c a1 k1 a2 k2 a3 k3 a5 k5 a6 k6 a7 k7 a8 k8 a12 a13 a14 a15 a17 x0 x1 x2 x4 x5 x6 x7) (k0_pay19 (F := Ideal)) inb_S2048x128_S64x128_1216_0 inb_S2048x128_S2048x128_0_0 (by rfl) rfl) (inb := inb_S2048x128_S64x128_1216_0)
  have h20 := st_tt (bp_20 c i a1 k1 a3 k3 a5 k5 a6 k6 a13 x0 x1 x2 x3 x4 x5 x6 x7) (bq_20 c i a2 k2 a6 k6 a7 k7 a8 k8 a12 a14 x0 x1 x2 x3 x4 x5 x6 x7) (rows_fill a15.view 20 (kernelRun0_A.sl.HS3_21 (F := Ideal) c a1 k1 a3 k3 a5 k5 a6 k6 a13 a15 x0 x2 x4 x5) (k0_pay16 (F := Ideal)) inb_S2048x128_S64x128_1280_0 inb_S2048x128_S2048x128_0_0 (by rfl) rfl) (rows_fill a17.view 20 (kernelRun0_A.sl.HS5_21 (F := Ideal) c a1 k1 a2 k2 a3 k3 a5 k5 a6 k6 a7 k7 a8 k8 a12 a13 a14 a15 a17 x0 x1 x2 x4 x5 x6 x7) (k0_pay19 (F := Ideal)) inb_S2048x128_S64x128_1280_0 inb_S2048x128_S2048x128_0_0 (by rfl) rfl) (inb := inb_S2048x128_S64x128_1280_0)
  have h21 := st_tt (bp_21 c i a1 k1 a3 k3 a5 k5 a6 k6 a13 x0 x1 x2 x3 x4 x5 x6 x7) (bq_21 c i a2 k2 a6 k6 a7 k7 a8 k8 a12 a14 x0 x1 x2 x3 x4 x5 x6 x7) (rows_fill a15.view 21 (kernelRun0_A.sl.HS3_22 (F := Ideal) c a1 k1 a3 k3 a5 k5 a6 k6 a13 a15 x0 x2 x4 x5) (k0_pay16 (F := Ideal)) inb_S2048x128_S64x128_1344_0 inb_S2048x128_S2048x128_0_0 (by rfl) rfl) (rows_fill a17.view 21 (kernelRun0_A.sl.HS5_22 (F := Ideal) c a1 k1 a2 k2 a3 k3 a5 k5 a6 k6 a7 k7 a8 k8 a12 a13 a14 a15 a17 x0 x1 x2 x4 x5 x6 x7) (k0_pay19 (F := Ideal)) inb_S2048x128_S64x128_1344_0 inb_S2048x128_S2048x128_0_0 (by rfl) rfl) (inb := inb_S2048x128_S64x128_1344_0)
  have h22 := st_tt (bp_22 c i a1 k1 a3 k3 a5 k5 a6 k6 a13 x0 x1 x2 x3 x4 x5 x6 x7) (bq_22 c i a2 k2 a6 k6 a7 k7 a8 k8 a12 a14 x0 x1 x2 x3 x4 x5 x6 x7) (rows_fill a15.view 22 (kernelRun0_A.sl.HS3_23 (F := Ideal) c a1 k1 a3 k3 a5 k5 a6 k6 a13 a15 x0 x2 x4 x5) (k0_pay16 (F := Ideal)) inb_S2048x128_S64x128_1408_0 inb_S2048x128_S2048x128_0_0 (by rfl) rfl) (rows_fill a17.view 22 (kernelRun0_A.sl.HS5_23 (F := Ideal) c a1 k1 a2 k2 a3 k3 a5 k5 a6 k6 a7 k7 a8 k8 a12 a13 a14 a15 a17 x0 x1 x2 x4 x5 x6 x7) (k0_pay19 (F := Ideal)) inb_S2048x128_S64x128_1408_0 inb_S2048x128_S2048x128_0_0 (by rfl) rfl) (inb := inb_S2048x128_S64x128_1408_0)
  have h23 := st_tt (bp_23 c i a1 k1 a3 k3 a5 k5 a6 k6 a13 x0 x1 x2 x3 x4 x5 x6 x7) (bq_23 c i a2 k2 a6 k6 a7 k7 a8 k8 a12 a14 x0 x1 x2 x3 x4 x5 x6 x7) (rows_fill a15.view 23 (kernelRun0_A.sl.HS3_24 (F := Ideal) c a1 k1 a3 k3 a5 k5 a6 k6 a13 a15 x0 x2 x4 x5) (k0_pay16 (F := Ideal)) inb_S2048x128_S64x128_1472_0 inb_S2048x128_S2048x128_0_0 (by rfl) rfl) (rows_fill a17.view 23 (kernelRun0_A.sl.HS5_24 (F := Ideal) c a1 k1 a2 k2 a3 k3 a5 k5 a6 k6 a7 k7 a8 k8 a12 a13 a14 a15 a17 x0 x1 x2 x4 x5 x6 x7) (k0_pay19 (F := Ideal)) inb_S2048x128_S64x128_1472_0 inb_S2048x128_S2048x128_0_0 (by rfl) rfl) (inb := inb_S2048x128_S64x128_1472_0)
  have h24 := st_tt (bp_24 c i a1 k1 a3 k3 a5 k5 a6 k6 a13 x0 x1 x2 x3 x4 x5 x6 x7) (bq_24 c i a2 k2 a6 k6 a7 k7 a8 k8 a12 a14 x0 x1 x2 x3 x4 x5 x6 x7) (rows_fill a15.view 24 (kernelRun0_A.sl.HS3_25 (F := Ideal) c a1 k1 a3 k3 a5 k5 a6 k6 a13 a15 x0 x2 x4 x5) (k0_pay16 (F := Ideal)) inb_S2048x128_S64x128_1536_0 inb_S2048x128_S2048x128_0_0 (by rfl) rfl) (rows_fill a17.view 24 (kernelRun0_A.sl.HS5_25 (F := Ideal) c a1 k1 a2 k2 a3 k3 a5 k5 a6 k6 a7 k7 a8 k8 a12 a13 a14 a15 a17 x0 x1 x2 x4 x5 x6 x7) (k0_pay19 (F := Ideal)) inb_S2048x128_S64x128_1536_0 inb_S2048x128_S2048x128_0_0 (by rfl) rfl) (inb := inb_S2048x128_S64x128_1536_0)
  have h25 := st_tt (bp_25 c i a1 k1 a3 k3 a5 k5 a6 k6 a13 x0 x1 x2 x3 x4 x5 x6 x7) (bq_25 c i a2 k2 a6 k6 a7 k7 a8 k8 a12 a14 x0 x1 x2 x3 x4 x5 x6 x7) (rows_fill a15.view 25 (kernelRun0_A.sl.HS3_26 (F := Ideal) c a1 k1 a3 k3 a5 k5 a6 k6 a13 a15 x0 x2 x4 x5) (k0_pay16 (F := Ideal)) inb_S2048x128_S64x128_1600_0 inb_S2048x128_S2048x128_0_0 (by rfl) rfl) (rows_fill a17.view 25 (kernelRun0_A.sl.HS5_26 (F := Ideal) c a1 k1 a2 k2 a3 k3 a5 k5 a6 k6 a7 k7 a8 k8 a12 a13 a14 a15 a17 x0 x1 x2 x4 x5 x6 x7) (k0_pay19 (F := Ideal)) inb_S2048x128_S64x128_1600_0 inb_S2048x128_S2048x128_0_0 (by rfl) rfl) (inb := inb_S2048x128_S64x128_1600_0)
  have h26 := st_tt (bp_26 c i a1 k1 a3 k3 a5 k5 a6 k6 a13 x0 x1 x2 x3 x4 x5 x6 x7) (bq_26 c i a2 k2 a6 k6 a7 k7 a8 k8 a12 a14 x0 x1 x2 x3 x4 x5 x6 x7) (rows_fill a15.view 26 (kernelRun0_A.sl.HS3_27 (F := Ideal) c a1 k1 a3 k3 a5 k5 a6 k6 a13 a15 x0 x2 x4 x5) (k0_pay16 (F := Ideal)) inb_S2048x128_S64x128_1664_0 inb_S2048x128_S2048x128_0_0 (by rfl) rfl) (rows_fill a17.view 26 (kernelRun0_A.sl.HS5_27 (F := Ideal) c a1 k1 a2 k2 a3 k3 a5 k5 a6 k6 a7 k7 a8 k8 a12 a13 a14 a15 a17 x0 x1 x2 x4 x5 x6 x7) (k0_pay19 (F := Ideal)) inb_S2048x128_S64x128_1664_0 inb_S2048x128_S2048x128_0_0 (by rfl) rfl) (inb := inb_S2048x128_S64x128_1664_0)
  have h27 := st_tt (bp_27 c i a1 k1 a3 k3 a5 k5 a6 k6 a13 x0 x1 x2 x3 x4 x5 x6 x7) (bq_27 c i a2 k2 a6 k6 a7 k7 a8 k8 a12 a14 x0 x1 x2 x3 x4 x5 x6 x7) (rows_fill a15.view 27 (kernelRun0_A.sl.HS3_28 (F := Ideal) c a1 k1 a3 k3 a5 k5 a6 k6 a13 a15 x0 x2 x4 x5) (k0_pay16 (F := Ideal)) inb_S2048x128_S64x128_1728_0 inb_S2048x128_S2048x128_0_0 (by rfl) rfl) (rows_fill a17.view 27 (kernelRun0_A.sl.HS5_28 (F := Ideal) c a1 k1 a2 k2 a3 k3 a5 k5 a6 k6 a7 k7 a8 k8 a12 a13 a14 a15 a17 x0 x1 x2 x4 x5 x6 x7) (k0_pay19 (F := Ideal)) inb_S2048x128_S64x128_1728_0 inb_S2048x128_S2048x128_0_0 (by rfl) rfl) (inb := inb_S2048x128_S64x128_1728_0)
  have h28 := st_tt (bp_28 c i a1 k1 a3 k3 a5 k5 a6 k6 a13 x0 x1 x2 x3 x4 x5 x6 x7) (bq_28 c i a2 k2 a6 k6 a7 k7 a8 k8 a12 a14 x0 x1 x2 x3 x4 x5 x6 x7) (rows_fill a15.view 28 (kernelRun0_A.sl.HS3_29 (F := Ideal) c a1 k1 a3 k3 a5 k5 a6 k6 a13 a15 x0 x2 x4 x5) (k0_pay16 (F := Ideal)) inb_S2048x128_S64x128_1792_0 inb_S2048x128_S2048x128_0_0 (by rfl) rfl) (rows_fill a17.view 28 (kernelRun0_A.sl.HS5_29 (F := Ideal) c a1 k1 a2 k2 a3 k3 a5 k5 a6 k6 a7 k7 a8 k8 a12 a13 a14 a15 a17 x0 x1 x2 x4 x5 x6 x7) (k0_pay19 (F := Ideal)) inb_S2048x128_S64x128_1792_0 inb_S2048x128_S2048x128_0_0 (by rfl) rfl) (inb := inb_S2048x128_S64x128_1792_0)
  have h29 := st_tt (bp_29 c i a1 k1 a3 k3 a5 k5 a6 k6 a13 x0 x1 x2 x3 x4 x5 x6 x7) (bq_29 c i a2 k2 a6 k6 a7 k7 a8 k8 a12 a14 x0 x1 x2 x3 x4 x5 x6 x7) (rows_fill a15.view 29 (kernelRun0_A.sl.HS3_30 (F := Ideal) c a1 k1 a3 k3 a5 k5 a6 k6 a13 a15 x0 x2 x4 x5) (k0_pay16 (F := Ideal)) inb_S2048x128_S64x128_1856_0 inb_S2048x128_S2048x128_0_0 (by rfl) rfl) (rows_fill a17.view 29 (kernelRun0_A.sl.HS5_30 (F := Ideal) c a1 k1 a2 k2 a3 k3 a5 k5 a6 k6 a7 k7 a8 k8 a12 a13 a14 a15 a17 x0 x1 x2 x4 x5 x6 x7) (k0_pay19 (F := Ideal)) inb_S2048x128_S64x128_1856_0 inb_S2048x128_S2048x128_0_0 (by rfl) rfl) (inb := inb_S2048x128_S64x128_1856_0)
  have h30 := st_tt (bp_30 c i a1 k1 a3 k3 a5 k5 a6 k6 a13 x0 x1 x2 x3 x4 x5 x6 x7) (bq_30 c i a2 k2 a6 k6 a7 k7 a8 k8 a12 a14 x0 x1 x2 x3 x4 x5 x6 x7) (rows_fill a15.view 30 (kernelRun0_A.sl.HS3_31 (F := Ideal) c a1 k1 a3 k3 a5 k5 a6 k6 a13 a15 x0 x2 x4 x5) (k0_pay16 (F := Ideal)) inb_S2048x128_S64x128_1920_0 inb_S2048x128_S2048x128_0_0 (by rfl) rfl) (rows_fill a17.view 30 (kernelRun0_A.sl.HS5_31 (F := Ideal) c a1 k1 a2 k2 a3 k3 a5 k5 a6 k6 a7 k7 a8 k8 a12 a13 a14 a15 a17 x0 x1 x2 x4 x5 x6 x7) (k0_pay19 (F := Ideal)) inb_S2048x128_S64x128_1920_0 inb_S2048x128_S2048x128_0_0 (by rfl) rfl) (inb := inb_S2048x128_S64x128_1920_0)
  have h31 := st_tt (bp_31 c i a1 k1 a3 k3 a5 k5 a6 k6 a13 x0 x1 x2 x3 x4 x5 x6 x7) (bq_31 c i a2 k2 a6 k6 a7 k7 a8 k8 a12 a14 x0 x1 x2 x3 x4 x5 x6 x7) (rows_fill a15.view 31 (kernelRun0_A.sl.HS3_32 (F := Ideal) c a1 k1 a3 k3 a5 k5 a6 k6 a13 a15 x0 x2 x4 x5) (k0_pay16 (F := Ideal)) inb_S2048x128_S64x128_1984_0 inb_S2048x128_S2048x128_0_0 (by rfl) rfl) (rows_fill a17.view 31 (kernelRun0_A.sl.HS5_32 (F := Ideal) c a1 k1 a2 k2 a3 k3 a5 k5 a6 k6 a7 k7 a8 k8 a12 a13 a14 a15 a17 x0 x1 x2 x4 x5 x6 x7) (k0_pay19 (F := Ideal)) inb_S2048x128_S64x128_1984_0 inb_S2048x128_S2048x128_0_0 (by rfl) rfl) (inb := inb_S2048x128_S64x128_1984_0)
  refine pieces_take h31 (by congr 1) ?_
  refine pieces_take h30 (by congr 1) ?_
  refine pieces_take h29 (by congr 1) ?_
  refine pieces_take h28 (by congr 1) ?_
  refine pieces_take h27 (by congr 1) ?_
  refine pieces_take h26 (by congr 1) ?_
  refine pieces_take h25 (by congr 1) ?_
  refine pieces_take h24 (by congr 1) ?_
  refine pieces_take h23 (by congr 1) ?_
  refine pieces_take h22 (by congr 1) ?_
  refine pieces_take h21 (by congr 1) ?_
  refine pieces_take h20 (by congr 1) ?_
  refine pieces_take h19 (by congr 1) ?_
  refine pieces_take h18 (by congr 1) ?_
  refine pieces_take h17 (by congr 1) ?_
  refine pieces_take h16 (by congr 1) ?_
  refine pieces_take h15 (by congr 1) ?_
  refine pieces_take h14 (by congr 1) ?_
  refine pieces_take h13 (by congr 1) ?_
  refine pieces_take h12 (by congr 1) ?_
  refine pieces_take h11 (by congr 1) ?_
  refine pieces_take h10 (by congr 1) ?_
  refine pieces_take h9 (by congr 1) ?_
  refine pieces_take h8 (by congr 1) ?_
  refine pieces_take h7 (by congr 1) ?_
  refine pieces_take h6 (by congr 1) ?_
  refine pieces_take h5 (by congr 1) ?_
  refine pieces_take h4 (by congr 1) ?_
  refine pieces_take h3 (by congr 1) ?_
  refine pieces_take h2 (by congr 1) ?_
  refine pieces_take h1 (by congr 1) ?_
  refine pieces_take h0 (by congr 1) ?_
  exact pieces_last

/-- What the point leaves in scratch `a18`. -/
theorem pieces_6 : View.PiecesOf ((mkD x0 x1 x2 x3 x4 x6 x7 (kernelRun0_A.sl.r_3 c a6 k6 x5) (kernelRun0_A.sl.r_4 i)).gMQ (k0_pay17 (F := Ideal))) (List.take 32 (kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.1) := by
  have h0 := st_mq (bq_0 c i a2 k2 a6 k6 a7 k7 a8 k8 a12 a14 x0 x1 x2 x3 x4 x5 x6 x7) (rows_fill a18.view 0 (kernelRun0_A.sl.HS6_1 (F := Ideal) ) (k0_pay17 (F := Ideal)) inb_S2048x128_S64x128_0_0 inb_S2048x128_S2048x128_0_0 (by rfl) rfl) (inb := inb_S2048x128_S64x128_0_0)
  have h1 := st_mq (bq_1 c i a2 k2 a6 k6 a7 k7 a8 k8 a12 a14 x0 x1 x2 x3 x4 x5 x6 x7) (rows_fill a18.view 1 (kernelRun0_A.sl.HS6_2 (F := Ideal) c a2 k2 a7 k7 a8 k8 a12 a14 a18 x1 x6 x7) (k0_pay17 (F := Ideal)) inb_S2048x128_S64x128_64_0 inb_S2048x128_S2048x128_0_0 (by rfl) rfl) (inb := inb_S2048x128_S64x128_64_0)
  have h2 := st_mq (bq_2 c i a2 k2 a6 k6 a7 k7 a8 k8 a12 a14 x0 x1 x2 x3 x4 x5 x6 x7) (rows_fill a18.view 2 (kernelRun0_A.sl.HS6_3 (F := Ideal) c a2 k2 a7 k7 a8 k8 a12 a14 a18 x1 x6 x7) (k0_pay17 (F := Ideal)) inb_S2048x128_S64x128_128_0 inb_S2048x128_S2048x128_0_0 (by rfl) rfl) (inb := inb_S2048x128_S64x128_128_0)
  have h3 := st_mq (bq_3 c i a2 k2 a6 k6 a7 k7 a8 k8 a12 a14 x0 x1 x2 x3 x4 x5 x6 x7) (rows_fill a18.view 3 (kernelRun0_A.sl.HS6_4 (F := Ideal) c a2 k2 a7 k7 a8 k8 a12 a14 a18 x1 x6 x7) (k0_pay17 (F := Ideal)) inb_S2048x128_S64x128_192_0 inb_S2048x128_S2048x128_0_0 (by rfl) rfl) (inb := inb_S2048x128_S64x128_192_0)
  have h4 := st_mq (bq_4 c i a2 k2 a6 k6 a7 k7 a8 k8 a12 a14 x0 x1 x2 x3 x4 x5 x6 x7) (rows_fill a18.view 4 (kernelRun0_A.sl.HS6_5 (F := Ideal) c a2 k2 a7 k7 a8 k8 a12 a14 a18 x1 x6 x7) (k0_pay17 (F := Ideal)) inb_S2048x128_S64x128_256_0 inb_S2048x128_S2048x128_0_0 (by rfl) rfl) (inb := inb_S2048x128_S64x128_256_0)
  have h5 := st_mq (bq_5 c i a2 k2 a6 k6 a7 k7 a8 k8 a12 a14 x0 x1 x2 x3 x4 x5 x6 x7) (rows_fill a18.view 5 (kernelRun0_A.sl.HS6_6 (F := Ideal) c a2 k2 a7 k7 a8 k8 a12 a14 a18 x1 x6 x7) (k0_pay17 (F := Ideal)) inb_S2048x128_S64x128_320_0 inb_S2048x128_S2048x128_0_0 (by rfl) rfl) (inb := inb_S2048x128_S64x128_320_0)
  have h6 := st_mq (bq_6 c i a2 k2 a6 k6 a7 k7 a8 k8 a12 a14 x0 x1 x2 x3 x4 x5 x6 x7) (rows_fill a18.view 6 (kernelRun0_A.sl.HS6_7 (F := Ideal) c a2 k2 a7 k7 a8 k8 a12 a14 a18 x1 x6 x7) (k0_pay17 (F := Ideal)) inb_S2048x128_S64x128_384_0 inb_S2048x128_S2048x128_0_0 (by rfl) rfl) (inb := inb_S2048x128_S64x128_384_0)
  have h7 := st_mq (bq_7 c i a2 k2 a6 k6 a7 k7 a8 k8 a12 a14 x0 x1 x2 x3 x4 x5 x6 x7) (rows_fill a18.view 7 (kernelRun0_A.sl.HS6_8 (F := Ideal) c a2 k2 a7 k7 a8 k8 a12 a14 a18 x1 x6 x7) (k0_pay17 (F := Ideal)) inb_S2048x128_S64x128_448_0 inb_S2048x128_S2048x128_0_0 (by rfl) rfl) (inb := inb_S2048x128_S64x128_448_0)
  have h8 := st_mq (bq_8 c i a2 k2 a6 k6 a7 k7 a8 k8 a12 a14 x0 x1 x2 x3 x4 x5 x6 x7) (rows_fill a18.view 8 (kernelRun0_A.sl.HS6_9 (F := Ideal) c a2 k2 a7 k7 a8 k8 a12 a14 a18 x1 x6 x7) (k0_pay17 (F := Ideal)) inb_S2048x128_S64x128_512_0 inb_S2048x128_S2048x128_0_0 (by rfl) rfl) (inb := inb_S2048x128_S64x128_512_0)
  have h9 := st_mq (bq_9 c i a2 k2 a6 k6 a7 k7 a8 k8 a12 a14 x0 x1 x2 x3 x4 x5 x6 x7) (rows_fill a18.view 9 (kernelRun0_A.sl.HS6_10 (F := Ideal) c a2 k2 a7 k7 a8 k8 a12 a14 a18 x1 x6 x7) (k0_pay17 (F := Ideal)) inb_S2048x128_S64x128_576_0 inb_S2048x128_S2048x128_0_0 (by rfl) rfl) (inb := inb_S2048x128_S64x128_576_0)
  have h10 := st_mq (bq_10 c i a2 k2 a6 k6 a7 k7 a8 k8 a12 a14 x0 x1 x2 x3 x4 x5 x6 x7) (rows_fill a18.view 10 (kernelRun0_A.sl.HS6_11 (F := Ideal) c a2 k2 a7 k7 a8 k8 a12 a14 a18 x1 x6 x7) (k0_pay17 (F := Ideal)) inb_S2048x128_S64x128_640_0 inb_S2048x128_S2048x128_0_0 (by rfl) rfl) (inb := inb_S2048x128_S64x128_640_0)
  have h11 := st_mq (bq_11 c i a2 k2 a6 k6 a7 k7 a8 k8 a12 a14 x0 x1 x2 x3 x4 x5 x6 x7) (rows_fill a18.view 11 (kernelRun0_A.sl.HS6_12 (F := Ideal) c a2 k2 a7 k7 a8 k8 a12 a14 a18 x1 x6 x7) (k0_pay17 (F := Ideal)) inb_S2048x128_S64x128_704_0 inb_S2048x128_S2048x128_0_0 (by rfl) rfl) (inb := inb_S2048x128_S64x128_704_0)
  have h12 := st_mq (bq_12 c i a2 k2 a6 k6 a7 k7 a8 k8 a12 a14 x0 x1 x2 x3 x4 x5 x6 x7) (rows_fill a18.view 12 (kernelRun0_A.sl.HS6_13 (F := Ideal) c a2 k2 a7 k7 a8 k8 a12 a14 a18 x1 x6 x7) (k0_pay17 (F := Ideal)) inb_S2048x128_S64x128_768_0 inb_S2048x128_S2048x128_0_0 (by rfl) rfl) (inb := inb_S2048x128_S64x128_768_0)
  have h13 := st_mq (bq_13 c i a2 k2 a6 k6 a7 k7 a8 k8 a12 a14 x0 x1 x2 x3 x4 x5 x6 x7) (rows_fill a18.view 13 (kernelRun0_A.sl.HS6_14 (F := Ideal) c a2 k2 a7 k7 a8 k8 a12 a14 a18 x1 x6 x7) (k0_pay17 (F := Ideal)) inb_S2048x128_S64x128_832_0 inb_S2048x128_S2048x128_0_0 (by rfl) rfl) (inb := inb_S2048x128_S64x128_832_0)
  have h14 := st_mq (bq_14 c i a2 k2 a6 k6 a7 k7 a8 k8 a12 a14 x0 x1 x2 x3 x4 x5 x6 x7) (rows_fill a18.view 14 (kernelRun0_A.sl.HS6_15 (F := Ideal) c a2 k2 a7 k7 a8 k8 a12 a14 a18 x1 x6 x7) (k0_pay17 (F := Ideal)) inb_S2048x128_S64x128_896_0 inb_S2048x128_S2048x128_0_0 (by rfl) rfl) (inb := inb_S2048x128_S64x128_896_0)
  have h15 := st_mq (bq_15 c i a2 k2 a6 k6 a7 k7 a8 k8 a12 a14 x0 x1 x2 x3 x4 x5 x6 x7) (rows_fill a18.view 15 (kernelRun0_A.sl.HS6_16 (F := Ideal) c a2 k2 a7 k7 a8 k8 a12 a14 a18 x1 x6 x7) (k0_pay17 (F := Ideal)) inb_S2048x128_S64x128_960_0 inb_S2048x128_S2048x128_0_0 (by rfl) rfl) (inb := inb_S2048x128_S64x128_960_0)
  have h16 := st_mq (bq_16 c i a2 k2 a6 k6 a7 k7 a8 k8 a12 a14 x0 x1 x2 x3 x4 x5 x6 x7) (rows_fill a18.view 16 (kernelRun0_A.sl.HS6_17 (F := Ideal) c a2 k2 a7 k7 a8 k8 a12 a14 a18 x1 x6 x7) (k0_pay17 (F := Ideal)) inb_S2048x128_S64x128_1024_0 inb_S2048x128_S2048x128_0_0 (by rfl) rfl) (inb := inb_S2048x128_S64x128_1024_0)
  have h17 := st_mq (bq_17 c i a2 k2 a6 k6 a7 k7 a8 k8 a12 a14 x0 x1 x2 x3 x4 x5 x6 x7) (rows_fill a18.view 17 (kernelRun0_A.sl.HS6_18 (F := Ideal) c a2 k2 a7 k7 a8 k8 a12 a14 a18 x1 x6 x7) (k0_pay17 (F := Ideal)) inb_S2048x128_S64x128_1088_0 inb_S2048x128_S2048x128_0_0 (by rfl) rfl) (inb := inb_S2048x128_S64x128_1088_0)
  have h18 := st_mq (bq_18 c i a2 k2 a6 k6 a7 k7 a8 k8 a12 a14 x0 x1 x2 x3 x4 x5 x6 x7) (rows_fill a18.view 18 (kernelRun0_A.sl.HS6_19 (F := Ideal) c a2 k2 a7 k7 a8 k8 a12 a14 a18 x1 x6 x7) (k0_pay17 (F := Ideal)) inb_S2048x128_S64x128_1152_0 inb_S2048x128_S2048x128_0_0 (by rfl) rfl) (inb := inb_S2048x128_S64x128_1152_0)
  have h19 := st_mq (bq_19 c i a2 k2 a6 k6 a7 k7 a8 k8 a12 a14 x0 x1 x2 x3 x4 x5 x6 x7) (rows_fill a18.view 19 (kernelRun0_A.sl.HS6_20 (F := Ideal) c a2 k2 a7 k7 a8 k8 a12 a14 a18 x1 x6 x7) (k0_pay17 (F := Ideal)) inb_S2048x128_S64x128_1216_0 inb_S2048x128_S2048x128_0_0 (by rfl) rfl) (inb := inb_S2048x128_S64x128_1216_0)
  have h20 := st_mq (bq_20 c i a2 k2 a6 k6 a7 k7 a8 k8 a12 a14 x0 x1 x2 x3 x4 x5 x6 x7) (rows_fill a18.view 20 (kernelRun0_A.sl.HS6_21 (F := Ideal) c a2 k2 a7 k7 a8 k8 a12 a14 a18 x1 x6 x7) (k0_pay17 (F := Ideal)) inb_S2048x128_S64x128_1280_0 inb_S2048x128_S2048x128_0_0 (by rfl) rfl) (inb := inb_S2048x128_S64x128_1280_0)
  have h21 := st_mq (bq_21 c i a2 k2 a6 k6 a7 k7 a8 k8 a12 a14 x0 x1 x2 x3 x4 x5 x6 x7) (rows_fill a18.view 21 (kernelRun0_A.sl.HS6_22 (F := Ideal) c a2 k2 a7 k7 a8 k8 a12 a14 a18 x1 x6 x7) (k0_pay17 (F := Ideal)) inb_S2048x128_S64x128_1344_0 inb_S2048x128_S2048x128_0_0 (by rfl) rfl) (inb := inb_S2048x128_S64x128_1344_0)
  have h22 := st_mq (bq_22 c i a2 k2 a6 k6 a7 k7 a8 k8 a12 a14 x0 x1 x2 x3 x4 x5 x6 x7) (rows_fill a18.view 22 (kernelRun0_A.sl.HS6_23 (F := Ideal) c a2 k2 a7 k7 a8 k8 a12 a14 a18 x1 x6 x7) (k0_pay17 (F := Ideal)) inb_S2048x128_S64x128_1408_0 inb_S2048x128_S2048x128_0_0 (by rfl) rfl) (inb := inb_S2048x128_S64x128_1408_0)
  have h23 := st_mq (bq_23 c i a2 k2 a6 k6 a7 k7 a8 k8 a12 a14 x0 x1 x2 x3 x4 x5 x6 x7) (rows_fill a18.view 23 (kernelRun0_A.sl.HS6_24 (F := Ideal) c a2 k2 a7 k7 a8 k8 a12 a14 a18 x1 x6 x7) (k0_pay17 (F := Ideal)) inb_S2048x128_S64x128_1472_0 inb_S2048x128_S2048x128_0_0 (by rfl) rfl) (inb := inb_S2048x128_S64x128_1472_0)
  have h24 := st_mq (bq_24 c i a2 k2 a6 k6 a7 k7 a8 k8 a12 a14 x0 x1 x2 x3 x4 x5 x6 x7) (rows_fill a18.view 24 (kernelRun0_A.sl.HS6_25 (F := Ideal) c a2 k2 a7 k7 a8 k8 a12 a14 a18 x1 x6 x7) (k0_pay17 (F := Ideal)) inb_S2048x128_S64x128_1536_0 inb_S2048x128_S2048x128_0_0 (by rfl) rfl) (inb := inb_S2048x128_S64x128_1536_0)
  have h25 := st_mq (bq_25 c i a2 k2 a6 k6 a7 k7 a8 k8 a12 a14 x0 x1 x2 x3 x4 x5 x6 x7) (rows_fill a18.view 25 (kernelRun0_A.sl.HS6_26 (F := Ideal) c a2 k2 a7 k7 a8 k8 a12 a14 a18 x1 x6 x7) (k0_pay17 (F := Ideal)) inb_S2048x128_S64x128_1600_0 inb_S2048x128_S2048x128_0_0 (by rfl) rfl) (inb := inb_S2048x128_S64x128_1600_0)
  have h26 := st_mq (bq_26 c i a2 k2 a6 k6 a7 k7 a8 k8 a12 a14 x0 x1 x2 x3 x4 x5 x6 x7) (rows_fill a18.view 26 (kernelRun0_A.sl.HS6_27 (F := Ideal) c a2 k2 a7 k7 a8 k8 a12 a14 a18 x1 x6 x7) (k0_pay17 (F := Ideal)) inb_S2048x128_S64x128_1664_0 inb_S2048x128_S2048x128_0_0 (by rfl) rfl) (inb := inb_S2048x128_S64x128_1664_0)
  have h27 := st_mq (bq_27 c i a2 k2 a6 k6 a7 k7 a8 k8 a12 a14 x0 x1 x2 x3 x4 x5 x6 x7) (rows_fill a18.view 27 (kernelRun0_A.sl.HS6_28 (F := Ideal) c a2 k2 a7 k7 a8 k8 a12 a14 a18 x1 x6 x7) (k0_pay17 (F := Ideal)) inb_S2048x128_S64x128_1728_0 inb_S2048x128_S2048x128_0_0 (by rfl) rfl) (inb := inb_S2048x128_S64x128_1728_0)
  have h28 := st_mq (bq_28 c i a2 k2 a6 k6 a7 k7 a8 k8 a12 a14 x0 x1 x2 x3 x4 x5 x6 x7) (rows_fill a18.view 28 (kernelRun0_A.sl.HS6_29 (F := Ideal) c a2 k2 a7 k7 a8 k8 a12 a14 a18 x1 x6 x7) (k0_pay17 (F := Ideal)) inb_S2048x128_S64x128_1792_0 inb_S2048x128_S2048x128_0_0 (by rfl) rfl) (inb := inb_S2048x128_S64x128_1792_0)
  have h29 := st_mq (bq_29 c i a2 k2 a6 k6 a7 k7 a8 k8 a12 a14 x0 x1 x2 x3 x4 x5 x6 x7) (rows_fill a18.view 29 (kernelRun0_A.sl.HS6_30 (F := Ideal) c a2 k2 a7 k7 a8 k8 a12 a14 a18 x1 x6 x7) (k0_pay17 (F := Ideal)) inb_S2048x128_S64x128_1856_0 inb_S2048x128_S2048x128_0_0 (by rfl) rfl) (inb := inb_S2048x128_S64x128_1856_0)
  have h30 := st_mq (bq_30 c i a2 k2 a6 k6 a7 k7 a8 k8 a12 a14 x0 x1 x2 x3 x4 x5 x6 x7) (rows_fill a18.view 30 (kernelRun0_A.sl.HS6_31 (F := Ideal) c a2 k2 a7 k7 a8 k8 a12 a14 a18 x1 x6 x7) (k0_pay17 (F := Ideal)) inb_S2048x128_S64x128_1920_0 inb_S2048x128_S2048x128_0_0 (by rfl) rfl) (inb := inb_S2048x128_S64x128_1920_0)
  have h31 := st_mq (bq_31 c i a2 k2 a6 k6 a7 k7 a8 k8 a12 a14 x0 x1 x2 x3 x4 x5 x6 x7) (rows_fill a18.view 31 (kernelRun0_A.sl.HS6_32 (F := Ideal) c a2 k2 a7 k7 a8 k8 a12 a14 a18 x1 x6 x7) (k0_pay17 (F := Ideal)) inb_S2048x128_S64x128_1984_0 inb_S2048x128_S2048x128_0_0 (by rfl) rfl) (inb := inb_S2048x128_S64x128_1984_0)
  refine pieces_take h31 (by congr 1) ?_
  refine pieces_take h30 (by congr 1) ?_
  refine pieces_take h29 (by congr 1) ?_
  refine pieces_take h28 (by congr 1) ?_
  refine pieces_take h27 (by congr 1) ?_
  refine pieces_take h26 (by congr 1) ?_
  refine pieces_take h25 (by congr 1) ?_
  refine pieces_take h24 (by congr 1) ?_
  refine pieces_take h23 (by congr 1) ?_
  refine pieces_take h22 (by congr 1) ?_
  refine pieces_take h21 (by congr 1) ?_
  refine pieces_take h20 (by congr 1) ?_
  refine pieces_take h19 (by congr 1) ?_
  refine pieces_take h18 (by congr 1) ?_
  refine pieces_take h17 (by congr 1) ?_
  refine pieces_take h16 (by congr 1) ?_
  refine pieces_take h15 (by congr 1) ?_
  refine pieces_take h14 (by congr 1) ?_
  refine pieces_take h13 (by congr 1) ?_
  refine pieces_take h12 (by congr 1) ?_
  refine pieces_take h11 (by congr 1) ?_
  refine pieces_take h10 (by congr 1) ?_
  refine pieces_take h9 (by congr 1) ?_
  refine pieces_take h8 (by congr 1) ?_
  refine pieces_take h7 (by congr 1) ?_
  refine pieces_take h6 (by congr 1) ?_
  refine pieces_take h5 (by congr 1) ?_
  refine pieces_take h4 (by congr 1) ?_
  refine pieces_take h3 (by congr 1) ?_
  refine pieces_take h2 (by congr 1) ?_
  refine pieces_take h1 (by congr 1) ?_
  refine pieces_take h0 (by congr 1) ?_
  exact pieces_last

/-- Scratch `a17` after the point. -/
theorem out_5 : sout0_A_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 = (mkD x0 x1 x2 x3 x4 x6 x7 (kernelRun0_A.sl.r_3 c a6 k6 x5) (kernelRun0_A.sl.r_4 i)).gTT (k0_pay16 (F := Ideal)) (k0_pay19 (F := Ideal)) := by
  funext y
  unfold sout0_A_5
  rw [View.read_writes_junk_eq_canon, ← List.take_append_drop 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.1)]
  exact View.canon_append_of_piecesOf _ _ _ (pieces_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7) y (View.cover_of_tiledL (List.take 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.1)) S64x128.size (by sl_kernel_rfl) y)

/-- Scratch `a18` after the point. -/
theorem out_6 : sout0_A_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 = (mkD x0 x1 x2 x3 x4 x6 x7 (kernelRun0_A.sl.r_3 c a6 k6 x5) (kernelRun0_A.sl.r_4 i)).gMQ (k0_pay17 (F := Ideal)) := by
  funext y
  unfold sout0_A_6
  rw [View.read_writes_junk_eq_canon, ← List.take_append_drop 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.1)]
  exact View.canon_append_of_piecesOf _ _ _ (pieces_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7) y (View.cover_of_tiledL (List.take 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.1)) S64x128.size (by sl_kernel_rfl) y)

end Cert.Blk.CaseA

end
-- ==== Proof.CaseA3.lean ====
/- The stores of the first case of the main call, one carried scratch at a time. -/
module

public import proofs.«01_k».proof.Proof.CaseABlocks

@[expose] public section

set_option maxRecDepth 16384
set_option maxHeartbeats 4000000

noncomputable section

namespace Cert.Blk.CaseA

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : cond0_0 i) (hc1 : ¬cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32)

/-- What the point leaves in scratch `a19`. -/
theorem pieces_7 : View.PiecesOf ((mkD x0 x1 x2 x3 x4 x6 x7 (kernelRun0_A.sl.r_3 c a6 k6 x5) (kernelRun0_A.sl.r_4 i)).gSQ (k0_pay17 (F := Ideal)) (k0_pay20 (F := Ideal))) (List.take 32 (kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.1) := by
  have h0 := st_sq (bq_0 c i a2 k2 a6 k6 a7 k7 a8 k8 a12 a14 x0 x1 x2 x3 x4 x5 x6 x7) (rows_fill a18.view 0 (kernelRun0_A.sl.HS6_1 (F := Ideal) ) (k0_pay17 (F := Ideal)) inb_S2048x128_S64x128_0_0 inb_S2048x128_S2048x128_0_0 (by rfl) rfl) (rows_fill a19.view 0 (kernelRun0_A.sl.HS7_1 (F := Ideal) ) (k0_pay20 (F := Ideal)) inb_S2048x128_S64x128_0_0 inb_S2048x128_S2048x128_0_0 (by rfl) rfl) (inb := inb_S2048x128_S64x128_0_0)
  have h1 := st_sq (bq_1 c i a2 k2 a6 k6 a7 k7 a8 k8 a12 a14 x0 x1 x2 x3 x4 x5 x6 x7) (rows_fill a18.view 1 (kernelRun0_A.sl.HS6_2 (F := Ideal) c a2 k2 a7 k7 a8 k8 a12 a14 a18 x1 x6 x7) (k0_pay17 (F := Ideal)) inb_S2048x128_S64x128_64_0 inb_S2048x128_S2048x128_0_0 (by rfl) rfl) (rows_fill a19.view 1 (kernelRun0_A.sl.HS7_2 (F := Ideal) c a2 k2 a7 k7 a8 k8 a12 a14 a18 a19 x1 x6 x7) (k0_pay20 (F := Ideal)) inb_S2048x128_S64x128_64_0 inb_S2048x128_S2048x128_0_0 (by rfl) rfl) (inb := inb_S2048x128_S64x128_64_0)
  have h2 := st_sq (bq_2 c i a2 k2 a6 k6 a7 k7 a8 k8 a12 a14 x0 x1 x2 x3 x4 x5 x6 x7) (rows_fill a18.view 2 (kernelRun0_A.sl.HS6_3 (F := Ideal) c a2 k2 a7 k7 a8 k8 a12 a14 a18 x1 x6 x7) (k0_pay17 (F := Ideal)) inb_S2048x128_S64x128_128_0 inb_S2048x128_S2048x128_0_0 (by rfl) rfl) (rows_fill a19.view 2 (kernelRun0_A.sl.HS7_3 (F := Ideal) c a2 k2 a7 k7 a8 k8 a12 a14 a18 a19 x1 x6 x7) (k0_pay20 (F := Ideal)) inb_S2048x128_S64x128_128_0 inb_S2048x128_S2048x128_0_0 (by rfl) rfl) (inb := inb_S2048x128_S64x128_128_0)
  have h3 := st_sq (bq_3 c i a2 k2 a6 k6 a7 k7 a8 k8 a12 a14 x0 x1 x2 x3 x4 x5 x6 x7) (rows_fill a18.view 3 (kernelRun0_A.sl.HS6_4 (F := Ideal) c a2 k2 a7 k7 a8 k8 a12 a14 a18 x1 x6 x7) (k0_pay17 (F := Ideal)) inb_S2048x128_S64x128_192_0 inb_S2048x128_S2048x128_0_0 (by rfl) rfl) (rows_fill a19.view 3 (kernelRun0_A.sl.HS7_4 (F := Ideal) c a2 k2 a7 k7 a8 k8 a12 a14 a18 a19 x1 x6 x7) (k0_pay20 (F := Ideal)) inb_S2048x128_S64x128_192_0 inb_S2048x128_S2048x128_0_0 (by rfl) rfl) (inb := inb_S2048x128_S64x128_192_0)
  have h4 := st_sq (bq_4 c i a2 k2 a6 k6 a7 k7 a8 k8 a12 a14 x0 x1 x2 x3 x4 x5 x6 x7) (rows_fill a18.view 4 (kernelRun0_A.sl.HS6_5 (F := Ideal) c a2 k2 a7 k7 a8 k8 a12 a14 a18 x1 x6 x7) (k0_pay17 (F := Ideal)) inb_S2048x128_S64x128_256_0 inb_S2048x128_S2048x128_0_0 (by rfl) rfl) (rows_fill a19.view 4 (kernelRun0_A.sl.HS7_5 (F := Ideal) c a2 k2 a7 k7 a8 k8 a12 a14 a18 a19 x1 x6 x7) (k0_pay20 (F := Ideal)) inb_S2048x128_S64x128_256_0 inb_S2048x128_S2048x128_0_0 (by rfl) rfl) (inb := inb_S2048x128_S64x128_256_0)
  have h5 := st_sq (bq_5 c i a2 k2 a6 k6 a7 k7 a8 k8 a12 a14 x0 x1 x2 x3 x4 x5 x6 x7) (rows_fill a18.view 5 (kernelRun0_A.sl.HS6_6 (F := Ideal) c a2 k2 a7 k7 a8 k8 a12 a14 a18 x1 x6 x7) (k0_pay17 (F := Ideal)) inb_S2048x128_S64x128_320_0 inb_S2048x128_S2048x128_0_0 (by rfl) rfl) (rows_fill a19.view 5 (kernelRun0_A.sl.HS7_6 (F := Ideal) c a2 k2 a7 k7 a8 k8 a12 a14 a18 a19 x1 x6 x7) (k0_pay20 (F := Ideal)) inb_S2048x128_S64x128_320_0 inb_S2048x128_S2048x128_0_0 (by rfl) rfl) (inb := inb_S2048x128_S64x128_320_0)
  have h6 := st_sq (bq_6 c i a2 k2 a6 k6 a7 k7 a8 k8 a12 a14 x0 x1 x2 x3 x4 x5 x6 x7) (rows_fill a18.view 6 (kernelRun0_A.sl.HS6_7 (F := Ideal) c a2 k2 a7 k7 a8 k8 a12 a14 a18 x1 x6 x7) (k0_pay17 (F := Ideal)) inb_S2048x128_S64x128_384_0 inb_S2048x128_S2048x128_0_0 (by rfl) rfl) (rows_fill a19.view 6 (kernelRun0_A.sl.HS7_7 (F := Ideal) c a2 k2 a7 k7 a8 k8 a12 a14 a18 a19 x1 x6 x7) (k0_pay20 (F := Ideal)) inb_S2048x128_S64x128_384_0 inb_S2048x128_S2048x128_0_0 (by rfl) rfl) (inb := inb_S2048x128_S64x128_384_0)
  have h7 := st_sq (bq_7 c i a2 k2 a6 k6 a7 k7 a8 k8 a12 a14 x0 x1 x2 x3 x4 x5 x6 x7) (rows_fill a18.view 7 (kernelRun0_A.sl.HS6_8 (F := Ideal) c a2 k2 a7 k7 a8 k8 a12 a14 a18 x1 x6 x7) (k0_pay17 (F := Ideal)) inb_S2048x128_S64x128_448_0 inb_S2048x128_S2048x128_0_0 (by rfl) rfl) (rows_fill a19.view 7 (kernelRun0_A.sl.HS7_8 (F := Ideal) c a2 k2 a7 k7 a8 k8 a12 a14 a18 a19 x1 x6 x7) (k0_pay20 (F := Ideal)) inb_S2048x128_S64x128_448_0 inb_S2048x128_S2048x128_0_0 (by rfl) rfl) (inb := inb_S2048x128_S64x128_448_0)
  have h8 := st_sq (bq_8 c i a2 k2 a6 k6 a7 k7 a8 k8 a12 a14 x0 x1 x2 x3 x4 x5 x6 x7) (rows_fill a18.view 8 (kernelRun0_A.sl.HS6_9 (F := Ideal) c a2 k2 a7 k7 a8 k8 a12 a14 a18 x1 x6 x7) (k0_pay17 (F := Ideal)) inb_S2048x128_S64x128_512_0 inb_S2048x128_S2048x128_0_0 (by rfl) rfl) (rows_fill a19.view 8 (kernelRun0_A.sl.HS7_9 (F := Ideal) c a2 k2 a7 k7 a8 k8 a12 a14 a18 a19 x1 x6 x7) (k0_pay20 (F := Ideal)) inb_S2048x128_S64x128_512_0 inb_S2048x128_S2048x128_0_0 (by rfl) rfl) (inb := inb_S2048x128_S64x128_512_0)
  have h9 := st_sq (bq_9 c i a2 k2 a6 k6 a7 k7 a8 k8 a12 a14 x0 x1 x2 x3 x4 x5 x6 x7) (rows_fill a18.view 9 (kernelRun0_A.sl.HS6_10 (F := Ideal) c a2 k2 a7 k7 a8 k8 a12 a14 a18 x1 x6 x7) (k0_pay17 (F := Ideal)) inb_S2048x128_S64x128_576_0 inb_S2048x128_S2048x128_0_0 (by rfl) rfl) (rows_fill a19.view 9 (kernelRun0_A.sl.HS7_10 (F := Ideal) c a2 k2 a7 k7 a8 k8 a12 a14 a18 a19 x1 x6 x7) (k0_pay20 (F := Ideal)) inb_S2048x128_S64x128_576_0 inb_S2048x128_S2048x128_0_0 (by rfl) rfl) (inb := inb_S2048x128_S64x128_576_0)
  have h10 := st_sq (bq_10 c i a2 k2 a6 k6 a7 k7 a8 k8 a12 a14 x0 x1 x2 x3 x4 x5 x6 x7) (rows_fill a18.view 10 (kernelRun0_A.sl.HS6_11 (F := Ideal) c a2 k2 a7 k7 a8 k8 a12 a14 a18 x1 x6 x7) (k0_pay17 (F := Ideal)) inb_S2048x128_S64x128_640_0 inb_S2048x128_S2048x128_0_0 (by rfl) rfl) (rows_fill a19.view 10 (kernelRun0_A.sl.HS7_11 (F := Ideal) c a2 k2 a7 k7 a8 k8 a12 a14 a18 a19 x1 x6 x7) (k0_pay20 (F := Ideal)) inb_S2048x128_S64x128_640_0 inb_S2048x128_S2048x128_0_0 (by rfl) rfl) (inb := inb_S2048x128_S64x128_640_0)
  have h11 := st_sq (bq_11 c i a2 k2 a6 k6 a7 k7 a8 k8 a12 a14 x0 x1 x2 x3 x4 x5 x6 x7) (rows_fill a18.view 11 (kernelRun0_A.sl.HS6_12 (F := Ideal) c a2 k2 a7 k7 a8 k8 a12 a14 a18 x1 x6 x7) (k0_pay17 (F := Ideal)) inb_S2048x128_S64x128_704_0 inb_S2048x128_S2048x128_0_0 (by rfl) rfl) (rows_fill a19.view 11 (kernelRun0_A.sl.HS7_12 (F := Ideal) c a2 k2 a7 k7 a8 k8 a12 a14 a18 a19 x1 x6 x7) (k0_pay20 (F := Ideal)) inb_S2048x128_S64x128_704_0 inb_S2048x128_S2048x128_0_0 (by rfl) rfl) (inb := inb_S2048x128_S64x128_704_0)
  have h12 := st_sq (bq_12 c i a2 k2 a6 k6 a7 k7 a8 k8 a12 a14 x0 x1 x2 x3 x4 x5 x6 x7) (rows_fill a18.view 12 (kernelRun0_A.sl.HS6_13 (F := Ideal) c a2 k2 a7 k7 a8 k8 a12 a14 a18 x1 x6 x7) (k0_pay17 (F := Ideal)) inb_S2048x128_S64x128_768_0 inb_S2048x128_S2048x128_0_0 (by rfl) rfl) (rows_fill a19.view 12 (kernelRun0_A.sl.HS7_13 (F := Ideal) c a2 k2 a7 k7 a8 k8 a12 a14 a18 a19 x1 x6 x7) (k0_pay20 (F := Ideal)) inb_S2048x128_S64x128_768_0 inb_S2048x128_S2048x128_0_0 (by rfl) rfl) (inb := inb_S2048x128_S64x128_768_0)
  have h13 := st_sq (bq_13 c i a2 k2 a6 k6 a7 k7 a8 k8 a12 a14 x0 x1 x2 x3 x4 x5 x6 x7) (rows_fill a18.view 13 (kernelRun0_A.sl.HS6_14 (F := Ideal) c a2 k2 a7 k7 a8 k8 a12 a14 a18 x1 x6 x7) (k0_pay17 (F := Ideal)) inb_S2048x128_S64x128_832_0 inb_S2048x128_S2048x128_0_0 (by rfl) rfl) (rows_fill a19.view 13 (kernelRun0_A.sl.HS7_14 (F := Ideal) c a2 k2 a7 k7 a8 k8 a12 a14 a18 a19 x1 x6 x7) (k0_pay20 (F := Ideal)) inb_S2048x128_S64x128_832_0 inb_S2048x128_S2048x128_0_0 (by rfl) rfl) (inb := inb_S2048x128_S64x128_832_0)
  have h14 := st_sq (bq_14 c i a2 k2 a6 k6 a7 k7 a8 k8 a12 a14 x0 x1 x2 x3 x4 x5 x6 x7) (rows_fill a18.view 14 (kernelRun0_A.sl.HS6_15 (F := Ideal) c a2 k2 a7 k7 a8 k8 a12 a14 a18 x1 x6 x7) (k0_pay17 (F := Ideal)) inb_S2048x128_S64x128_896_0 inb_S2048x128_S2048x128_0_0 (by rfl) rfl) (rows_fill a19.view 14 (kernelRun0_A.sl.HS7_15 (F := Ideal) c a2 k2 a7 k7 a8 k8 a12 a14 a18 a19 x1 x6 x7) (k0_pay20 (F := Ideal)) inb_S2048x128_S64x128_896_0 inb_S2048x128_S2048x128_0_0 (by rfl) rfl) (inb := inb_S2048x128_S64x128_896_0)
  have h15 := st_sq (bq_15 c i a2 k2 a6 k6 a7 k7 a8 k8 a12 a14 x0 x1 x2 x3 x4 x5 x6 x7) (rows_fill a18.view 15 (kernelRun0_A.sl.HS6_16 (F := Ideal) c a2 k2 a7 k7 a8 k8 a12 a14 a18 x1 x6 x7) (k0_pay17 (F := Ideal)) inb_S2048x128_S64x128_960_0 inb_S2048x128_S2048x128_0_0 (by rfl) rfl) (rows_fill a19.view 15 (kernelRun0_A.sl.HS7_16 (F := Ideal) c a2 k2 a7 k7 a8 k8 a12 a14 a18 a19 x1 x6 x7) (k0_pay20 (F := Ideal)) inb_S2048x128_S64x128_960_0 inb_S2048x128_S2048x128_0_0 (by rfl) rfl) (inb := inb_S2048x128_S64x128_960_0)
  have h16 := st_sq (bq_16 c i a2 k2 a6 k6 a7 k7 a8 k8 a12 a14 x0 x1 x2 x3 x4 x5 x6 x7) (rows_fill a18.view 16 (kernelRun0_A.sl.HS6_17 (F := Ideal) c a2 k2 a7 k7 a8 k8 a12 a14 a18 x1 x6 x7) (k0_pay17 (F := Ideal)) inb_S2048x128_S64x128_1024_0 inb_S2048x128_S2048x128_0_0 (by rfl) rfl) (rows_fill a19.view 16 (kernelRun0_A.sl.HS7_17 (F := Ideal) c a2 k2 a7 k7 a8 k8 a12 a14 a18 a19 x1 x6 x7) (k0_pay20 (F := Ideal)) inb_S2048x128_S64x128_1024_0 inb_S2048x128_S2048x128_0_0 (by rfl) rfl) (inb := inb_S2048x128_S64x128_1024_0)
  have h17 := st_sq (bq_17 c i a2 k2 a6 k6 a7 k7 a8 k8 a12 a14 x0 x1 x2 x3 x4 x5 x6 x7) (rows_fill a18.view 17 (kernelRun0_A.sl.HS6_18 (F := Ideal) c a2 k2 a7 k7 a8 k8 a12 a14 a18 x1 x6 x7) (k0_pay17 (F := Ideal)) inb_S2048x128_S64x128_1088_0 inb_S2048x128_S2048x128_0_0 (by rfl) rfl) (rows_fill a19.view 17 (kernelRun0_A.sl.HS7_18 (F := Ideal) c a2 k2 a7 k7 a8 k8 a12 a14 a18 a19 x1 x6 x7) (k0_pay20 (F := Ideal)) inb_S2048x128_S64x128_1088_0 inb_S2048x128_S2048x128_0_0 (by rfl) rfl) (inb := inb_S2048x128_S64x128_1088_0)
  have h18 := st_sq (bq_18 c i a2 k2 a6 k6 a7 k7 a8 k8 a12 a14 x0 x1 x2 x3 x4 x5 x6 x7) (rows_fill a18.view 18 (kernelRun0_A.sl.HS6_19 (F := Ideal) c a2 k2 a7 k7 a8 k8 a12 a14 a18 x1 x6 x7) (k0_pay17 (F := Ideal)) inb_S2048x128_S64x128_1152_0 inb_S2048x128_S2048x128_0_0 (by rfl) rfl) (rows_fill a19.view 18 (kernelRun0_A.sl.HS7_19 (F := Ideal) c a2 k2 a7 k7 a8 k8 a12 a14 a18 a19 x1 x6 x7) (k0_pay20 (F := Ideal)) inb_S2048x128_S64x128_1152_0 inb_S2048x128_S2048x128_0_0 (by rfl) rfl) (inb := inb_S2048x128_S64x128_1152_0)
  have h19 := st_sq (bq_19 c i a2 k2 a6 k6 a7 k7 a8 k8 a12 a14 x0 x1 x2 x3 x4 x5 x6 x7) (rows_fill a18.view 19 (kernelRun0_A.sl.HS6_20 (F := Ideal) c a2 k2 a7 k7 a8 k8 a12 a14 a18 x1 x6 x7) (k0_pay17 (F := Ideal)) inb_S2048x128_S64x128_1216_0 inb_S2048x128_S2048x128_0_0 (by rfl) rfl) (rows_fill a19.view 19 (kernelRun0_A.sl.HS7_20 (F := Ideal) c a2 k2 a7 k7 a8 k8 a12 a14 a18 a19 x1 x6 x7) (k0_pay20 (F := Ideal)) inb_S2048x128_S64x128_1216_0 inb_S2048x128_S2048x128_0_0 (by rfl) rfl) (inb := inb_S2048x128_S64x128_1216_0)
  have h20 := st_sq (bq_20 c i a2 k2 a6 k6 a7 k7 a8 k8 a12 a14 x0 x1 x2 x3 x4 x5 x6 x7) (rows_fill a18.view 20 (kernelRun0_A.sl.HS6_21 (F := Ideal) c a2 k2 a7 k7 a8 k8 a12 a14 a18 x1 x6 x7) (k0_pay17 (F := Ideal)) inb_S2048x128_S64x128_1280_0 inb_S2048x128_S2048x128_0_0 (by rfl) rfl) (rows_fill a19.view 20 (kernelRun0_A.sl.HS7_21 (F := Ideal) c a2 k2 a7 k7 a8 k8 a12 a14 a18 a19 x1 x6 x7) (k0_pay20 (F := Ideal)) inb_S2048x128_S64x128_1280_0 inb_S2048x128_S2048x128_0_0 (by rfl) rfl) (inb := inb_S2048x128_S64x128_1280_0)
  have h21 := st_sq (bq_21 c i a2 k2 a6 k6 a7 k7 a8 k8 a12 a14 x0 x1 x2 x3 x4 x5 x6 x7) (rows_fill a18.view 21 (kernelRun0_A.sl.HS6_22 (F := Ideal) c a2 k2 a7 k7 a8 k8 a12 a14 a18 x1 x6 x7) (k0_pay17 (F := Ideal)) inb_S2048x128_S64x128_1344_0 inb_S2048x128_S2048x128_0_0 (by rfl) rfl) (rows_fill a19.view 21 (kernelRun0_A.sl.HS7_22 (F := Ideal) c a2 k2 a7 k7 a8 k8 a12 a14 a18 a19 x1 x6 x7) (k0_pay20 (F := Ideal)) inb_S2048x128_S64x128_1344_0 inb_S2048x128_S2048x128_0_0 (by rfl) rfl) (inb := inb_S2048x128_S64x128_1344_0)
  have h22 := st_sq (bq_22 c i a2 k2 a6 k6 a7 k7 a8 k8 a12 a14 x0 x1 x2 x3 x4 x5 x6 x7) (rows_fill a18.view 22 (kernelRun0_A.sl.HS6_23 (F := Ideal) c a2 k2 a7 k7 a8 k8 a12 a14 a18 x1 x6 x7) (k0_pay17 (F := Ideal)) inb_S2048x128_S64x128_1408_0 inb_S2048x128_S2048x128_0_0 (by rfl) rfl) (rows_fill a19.view 22 (kernelRun0_A.sl.HS7_23 (F := Ideal) c a2 k2 a7 k7 a8 k8 a12 a14 a18 a19 x1 x6 x7) (k0_pay20 (F := Ideal)) inb_S2048x128_S64x128_1408_0 inb_S2048x128_S2048x128_0_0 (by rfl) rfl) (inb := inb_S2048x128_S64x128_1408_0)
  have h23 := st_sq (bq_23 c i a2 k2 a6 k6 a7 k7 a8 k8 a12 a14 x0 x1 x2 x3 x4 x5 x6 x7) (rows_fill a18.view 23 (kernelRun0_A.sl.HS6_24 (F := Ideal) c a2 k2 a7 k7 a8 k8 a12 a14 a18 x1 x6 x7) (k0_pay17 (F := Ideal)) inb_S2048x128_S64x128_1472_0 inb_S2048x128_S2048x128_0_0 (by rfl) rfl) (rows_fill a19.view 23 (kernelRun0_A.sl.HS7_24 (F := Ideal) c a2 k2 a7 k7 a8 k8 a12 a14 a18 a19 x1 x6 x7) (k0_pay20 (F := Ideal)) inb_S2048x128_S64x128_1472_0 inb_S2048x128_S2048x128_0_0 (by rfl) rfl) (inb := inb_S2048x128_S64x128_1472_0)
  have h24 := st_sq (bq_24 c i a2 k2 a6 k6 a7 k7 a8 k8 a12 a14 x0 x1 x2 x3 x4 x5 x6 x7) (rows_fill a18.view 24 (kernelRun0_A.sl.HS6_25 (F := Ideal) c a2 k2 a7 k7 a8 k8 a12 a14 a18 x1 x6 x7) (k0_pay17 (F := Ideal)) inb_S2048x128_S64x128_1536_0 inb_S2048x128_S2048x128_0_0 (by rfl) rfl) (rows_fill a19.view 24 (kernelRun0_A.sl.HS7_25 (F := Ideal) c a2 k2 a7 k7 a8 k8 a12 a14 a18 a19 x1 x6 x7) (k0_pay20 (F := Ideal)) inb_S2048x128_S64x128_1536_0 inb_S2048x128_S2048x128_0_0 (by rfl) rfl) (inb := inb_S2048x128_S64x128_1536_0)
  have h25 := st_sq (bq_25 c i a2 k2 a6 k6 a7 k7 a8 k8 a12 a14 x0 x1 x2 x3 x4 x5 x6 x7) (rows_fill a18.view 25 (kernelRun0_A.sl.HS6_26 (F := Ideal) c a2 k2 a7 k7 a8 k8 a12 a14 a18 x1 x6 x7) (k0_pay17 (F := Ideal)) inb_S2048x128_S64x128_1600_0 inb_S2048x128_S2048x128_0_0 (by rfl) rfl) (rows_fill a19.view 25 (kernelRun0_A.sl.HS7_26 (F := Ideal) c a2 k2 a7 k7 a8 k8 a12 a14 a18 a19 x1 x6 x7) (k0_pay20 (F := Ideal)) inb_S2048x128_S64x128_1600_0 inb_S2048x128_S2048x128_0_0 (by rfl) rfl) (inb := inb_S2048x128_S64x128_1600_0)
  have h26 := st_sq (bq_26 c i a2 k2 a6 k6 a7 k7 a8 k8 a12 a14 x0 x1 x2 x3 x4 x5 x6 x7) (rows_fill a18.view 26 (kernelRun0_A.sl.HS6_27 (F := Ideal) c a2 k2 a7 k7 a8 k8 a12 a14 a18 x1 x6 x7) (k0_pay17 (F := Ideal)) inb_S2048x128_S64x128_1664_0 inb_S2048x128_S2048x128_0_0 (by rfl) rfl) (rows_fill a19.view 26 (kernelRun0_A.sl.HS7_27 (F := Ideal) c a2 k2 a7 k7 a8 k8 a12 a14 a18 a19 x1 x6 x7) (k0_pay20 (F := Ideal)) inb_S2048x128_S64x128_1664_0 inb_S2048x128_S2048x128_0_0 (by rfl) rfl) (inb := inb_S2048x128_S64x128_1664_0)
  have h27 := st_sq (bq_27 c i a2 k2 a6 k6 a7 k7 a8 k8 a12 a14 x0 x1 x2 x3 x4 x5 x6 x7) (rows_fill a18.view 27 (kernelRun0_A.sl.HS6_28 (F := Ideal) c a2 k2 a7 k7 a8 k8 a12 a14 a18 x1 x6 x7) (k0_pay17 (F := Ideal)) inb_S2048x128_S64x128_1728_0 inb_S2048x128_S2048x128_0_0 (by rfl) rfl) (rows_fill a19.view 27 (kernelRun0_A.sl.HS7_28 (F := Ideal) c a2 k2 a7 k7 a8 k8 a12 a14 a18 a19 x1 x6 x7) (k0_pay20 (F := Ideal)) inb_S2048x128_S64x128_1728_0 inb_S2048x128_S2048x128_0_0 (by rfl) rfl) (inb := inb_S2048x128_S64x128_1728_0)
  have h28 := st_sq (bq_28 c i a2 k2 a6 k6 a7 k7 a8 k8 a12 a14 x0 x1 x2 x3 x4 x5 x6 x7) (rows_fill a18.view 28 (kernelRun0_A.sl.HS6_29 (F := Ideal) c a2 k2 a7 k7 a8 k8 a12 a14 a18 x1 x6 x7) (k0_pay17 (F := Ideal)) inb_S2048x128_S64x128_1792_0 inb_S2048x128_S2048x128_0_0 (by rfl) rfl) (rows_fill a19.view 28 (kernelRun0_A.sl.HS7_29 (F := Ideal) c a2 k2 a7 k7 a8 k8 a12 a14 a18 a19 x1 x6 x7) (k0_pay20 (F := Ideal)) inb_S2048x128_S64x128_1792_0 inb_S2048x128_S2048x128_0_0 (by rfl) rfl) (inb := inb_S2048x128_S64x128_1792_0)
  have h29 := st_sq (bq_29 c i a2 k2 a6 k6 a7 k7 a8 k8 a12 a14 x0 x1 x2 x3 x4 x5 x6 x7) (rows_fill a18.view 29 (kernelRun0_A.sl.HS6_30 (F := Ideal) c a2 k2 a7 k7 a8 k8 a12 a14 a18 x1 x6 x7) (k0_pay17 (F := Ideal)) inb_S2048x128_S64x128_1856_0 inb_S2048x128_S2048x128_0_0 (by rfl) rfl) (rows_fill a19.view 29 (kernelRun0_A.sl.HS7_30 (F := Ideal) c a2 k2 a7 k7 a8 k8 a12 a14 a18 a19 x1 x6 x7) (k0_pay20 (F := Ideal)) inb_S2048x128_S64x128_1856_0 inb_S2048x128_S2048x128_0_0 (by rfl) rfl) (inb := inb_S2048x128_S64x128_1856_0)
  have h30 := st_sq (bq_30 c i a2 k2 a6 k6 a7 k7 a8 k8 a12 a14 x0 x1 x2 x3 x4 x5 x6 x7) (rows_fill a18.view 30 (kernelRun0_A.sl.HS6_31 (F := Ideal) c a2 k2 a7 k7 a8 k8 a12 a14 a18 x1 x6 x7) (k0_pay17 (F := Ideal)) inb_S2048x128_S64x128_1920_0 inb_S2048x128_S2048x128_0_0 (by rfl) rfl) (rows_fill a19.view 30 (kernelRun0_A.sl.HS7_31 (F := Ideal) c a2 k2 a7 k7 a8 k8 a12 a14 a18 a19 x1 x6 x7) (k0_pay20 (F := Ideal)) inb_S2048x128_S64x128_1920_0 inb_S2048x128_S2048x128_0_0 (by rfl) rfl) (inb := inb_S2048x128_S64x128_1920_0)
  have h31 := st_sq (bq_31 c i a2 k2 a6 k6 a7 k7 a8 k8 a12 a14 x0 x1 x2 x3 x4 x5 x6 x7) (rows_fill a18.view 31 (kernelRun0_A.sl.HS6_32 (F := Ideal) c a2 k2 a7 k7 a8 k8 a12 a14 a18 x1 x6 x7) (k0_pay17 (F := Ideal)) inb_S2048x128_S64x128_1984_0 inb_S2048x128_S2048x128_0_0 (by rfl) rfl) (rows_fill a19.view 31 (kernelRun0_A.sl.HS7_32 (F := Ideal) c a2 k2 a7 k7 a8 k8 a12 a14 a18 a19 x1 x6 x7) (k0_pay20 (F := Ideal)) inb_S2048x128_S64x128_1984_0 inb_S2048x128_S2048x128_0_0 (by rfl) rfl) (inb := inb_S2048x128_S64x128_1984_0)
  refine pieces_take h31 (by congr 1) ?_
  refine pieces_take h30 (by congr 1) ?_
  refine pieces_take h29 (by congr 1) ?_
  refine pieces_take h28 (by congr 1) ?_
  refine pieces_take h27 (by congr 1) ?_
  refine pieces_take h26 (by congr 1) ?_
  refine pieces_take h25 (by congr 1) ?_
  refine pieces_take h24 (by congr 1) ?_
  refine pieces_take h23 (by congr 1) ?_
  refine pieces_take h22 (by congr 1) ?_
  refine pieces_take h21 (by congr 1) ?_
  refine pieces_take h20 (by congr 1) ?_
  refine pieces_take h19 (by congr 1) ?_
  refine pieces_take h18 (by congr 1) ?_
  refine pieces_take h17 (by congr 1) ?_
  refine pieces_take h16 (by congr 1) ?_
  refine pieces_take h15 (by congr 1) ?_
  refine pieces_take h14 (by congr 1) ?_
  refine pieces_take h13 (by congr 1) ?_
  refine pieces_take h12 (by congr 1) ?_
  refine pieces_take h11 (by congr 1) ?_
  refine pieces_take h10 (by congr 1) ?_
  refine pieces_take h9 (by congr 1) ?_
  refine pieces_take h8 (by congr 1) ?_
  refine pieces_take h7 (by congr 1) ?_
  refine pieces_take h6 (by congr 1) ?_
  refine pieces_take h5 (by congr 1) ?_
  refine pieces_take h4 (by congr 1) ?_
  refine pieces_take h3 (by congr 1) ?_
  refine pieces_take h2 (by congr 1) ?_
  refine pieces_take h1 (by congr 1) ?_
  refine pieces_take h0 (by congr 1) ?_
  exact pieces_last

/-- What the point leaves in scratch `a20`. -/
theorem pieces_8 : View.PiecesOf ((mkD x0 x1 x2 x3 x4 x6 x7 (kernelRun0_A.sl.r_3 c a6 k6 x5) (kernelRun0_A.sl.r_4 i)).gTP (k0_pay21 (F := Ideal))) (List.take 32 (kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.2.1) := by
  have h0 := st_tp (bp_0 c i a1 k1 a3 k3 a5 k5 a6 k6 a13 x0 x1 x2 x3 x4 x5 x6 x7) (rows_unread a4 k4 x3 inb_S2048x128_S64x128_0_0) (rows_fill a20.view 0 (kernelRun0_A.sl.HS8_1 (F := Ideal) ) (k0_pay21 (F := Ideal)) inb_S2048x128_S64x128_0_0 inb_S2048x128_S2048x128_0_0 (by rfl) rfl) (inb := inb_S2048x128_S64x128_0_0)
  have h1 := st_tp (bp_1 c i a1 k1 a3 k3 a5 k5 a6 k6 a13 x0 x1 x2 x3 x4 x5 x6 x7) (rows_unread a4 k4 x3 inb_S2048x128_S64x128_64_0) (rows_fill a20.view 1 (kernelRun0_A.sl.HS8_2 (F := Ideal) c i a1 k1 a3 k3 a4 k4 a5 k5 a6 k6 a13 a20 x0 x2 x3 x4 x5) (k0_pay21 (F := Ideal)) inb_S2048x128_S64x128_64_0 inb_S2048x128_S2048x128_0_0 (by rfl) rfl) (inb := inb_S2048x128_S64x128_64_0)
  have h2 := st_tp (bp_2 c i a1 k1 a3 k3 a5 k5 a6 k6 a13 x0 x1 x2 x3 x4 x5 x6 x7) (rows_unread a4 k4 x3 inb_S2048x128_S64x128_128_0) (rows_fill a20.view 2 (kernelRun0_A.sl.HS8_3 (F := Ideal) c i a1 k1 a3 k3 a4 k4 a5 k5 a6 k6 a13 a20 x0 x2 x3 x4 x5) (k0_pay21 (F := Ideal)) inb_S2048x128_S64x128_128_0 inb_S2048x128_S2048x128_0_0 (by rfl) rfl) (inb := inb_S2048x128_S64x128_128_0)
  have h3 := st_tp (bp_3 c i a1 k1 a3 k3 a5 k5 a6 k6 a13 x0 x1 x2 x3 x4 x5 x6 x7) (rows_unread a4 k4 x3 inb_S2048x128_S64x128_192_0) (rows_fill a20.view 3 (kernelRun0_A.sl.HS8_4 (F := Ideal) c i a1 k1 a3 k3 a4 k4 a5 k5 a6 k6 a13 a20 x0 x2 x3 x4 x5) (k0_pay21 (F := Ideal)) inb_S2048x128_S64x128_192_0 inb_S2048x128_S2048x128_0_0 (by rfl) rfl) (inb := inb_S2048x128_S64x128_192_0)
  have h4 := st_tp (bp_4 c i a1 k1 a3 k3 a5 k5 a6 k6 a13 x0 x1 x2 x3 x4 x5 x6 x7) (rows_unread a4 k4 x3 inb_S2048x128_S64x128_256_0) (rows_fill a20.view 4 (kernelRun0_A.sl.HS8_5 (F := Ideal) c i a1 k1 a3 k3 a4 k4 a5 k5 a6 k6 a13 a20 x0 x2 x3 x4 x5) (k0_pay21 (F := Ideal)) inb_S2048x128_S64x128_256_0 inb_S2048x128_S2048x128_0_0 (by rfl) rfl) (inb := inb_S2048x128_S64x128_256_0)
  have h5 := st_tp (bp_5 c i a1 k1 a3 k3 a5 k5 a6 k6 a13 x0 x1 x2 x3 x4 x5 x6 x7) (rows_unread a4 k4 x3 inb_S2048x128_S64x128_320_0) (rows_fill a20.view 5 (kernelRun0_A.sl.HS8_6 (F := Ideal) c i a1 k1 a3 k3 a4 k4 a5 k5 a6 k6 a13 a20 x0 x2 x3 x4 x5) (k0_pay21 (F := Ideal)) inb_S2048x128_S64x128_320_0 inb_S2048x128_S2048x128_0_0 (by rfl) rfl) (inb := inb_S2048x128_S64x128_320_0)
  have h6 := st_tp (bp_6 c i a1 k1 a3 k3 a5 k5 a6 k6 a13 x0 x1 x2 x3 x4 x5 x6 x7) (rows_unread a4 k4 x3 inb_S2048x128_S64x128_384_0) (rows_fill a20.view 6 (kernelRun0_A.sl.HS8_7 (F := Ideal) c i a1 k1 a3 k3 a4 k4 a5 k5 a6 k6 a13 a20 x0 x2 x3 x4 x5) (k0_pay21 (F := Ideal)) inb_S2048x128_S64x128_384_0 inb_S2048x128_S2048x128_0_0 (by rfl) rfl) (inb := inb_S2048x128_S64x128_384_0)
  have h7 := st_tp (bp_7 c i a1 k1 a3 k3 a5 k5 a6 k6 a13 x0 x1 x2 x3 x4 x5 x6 x7) (rows_unread a4 k4 x3 inb_S2048x128_S64x128_448_0) (rows_fill a20.view 7 (kernelRun0_A.sl.HS8_8 (F := Ideal) c i a1 k1 a3 k3 a4 k4 a5 k5 a6 k6 a13 a20 x0 x2 x3 x4 x5) (k0_pay21 (F := Ideal)) inb_S2048x128_S64x128_448_0 inb_S2048x128_S2048x128_0_0 (by rfl) rfl) (inb := inb_S2048x128_S64x128_448_0)
  have h8 := st_tp (bp_8 c i a1 k1 a3 k3 a5 k5 a6 k6 a13 x0 x1 x2 x3 x4 x5 x6 x7) (rows_unread a4 k4 x3 inb_S2048x128_S64x128_512_0) (rows_fill a20.view 8 (kernelRun0_A.sl.HS8_9 (F := Ideal) c i a1 k1 a3 k3 a4 k4 a5 k5 a6 k6 a13 a20 x0 x2 x3 x4 x5) (k0_pay21 (F := Ideal)) inb_S2048x128_S64x128_512_0 inb_S2048x128_S2048x128_0_0 (by rfl) rfl) (inb := inb_S2048x128_S64x128_512_0)
  have h9 := st_tp (bp_9 c i a1 k1 a3 k3 a5 k5 a6 k6 a13 x0 x1 x2 x3 x4 x5 x6 x7) (rows_unread a4 k4 x3 inb_S2048x128_S64x128_576_0) (rows_fill a20.view 9 (kernelRun0_A.sl.HS8_10 (F := Ideal) c i a1 k1 a3 k3 a4 k4 a5 k5 a6 k6 a13 a20 x0 x2 x3 x4 x5) (k0_pay21 (F := Ideal)) inb_S2048x128_S64x128_576_0 inb_S2048x128_S2048x128_0_0 (by rfl) rfl) (inb := inb_S2048x128_S64x128_576_0)
  have h10 := st_tp (bp_10 c i a1 k1 a3 k3 a5 k5 a6 k6 a13 x0 x1 x2 x3 x4 x5 x6 x7) (rows_unread a4 k4 x3 inb_S2048x128_S64x128_640_0) (rows_fill a20.view 10 (kernelRun0_A.sl.HS8_11 (F := Ideal) c i a1 k1 a3 k3 a4 k4 a5 k5 a6 k6 a13 a20 x0 x2 x3 x4 x5) (k0_pay21 (F := Ideal)) inb_S2048x128_S64x128_640_0 inb_S2048x128_S2048x128_0_0 (by rfl) rfl) (inb := inb_S2048x128_S64x128_640_0)
  have h11 := st_tp (bp_11 c i a1 k1 a3 k3 a5 k5 a6 k6 a13 x0 x1 x2 x3 x4 x5 x6 x7) (rows_unread a4 k4 x3 inb_S2048x128_S64x128_704_0) (rows_fill a20.view 11 (kernelRun0_A.sl.HS8_12 (F := Ideal) c i a1 k1 a3 k3 a4 k4 a5 k5 a6 k6 a13 a20 x0 x2 x3 x4 x5) (k0_pay21 (F := Ideal)) inb_S2048x128_S64x128_704_0 inb_S2048x128_S2048x128_0_0 (by rfl) rfl) (inb := inb_S2048x128_S64x128_704_0)
  have h12 := st_tp (bp_12 c i a1 k1 a3 k3 a5 k5 a6 k6 a13 x0 x1 x2 x3 x4 x5 x6 x7) (rows_unread a4 k4 x3 inb_S2048x128_S64x128_768_0) (rows_fill a20.view 12 (kernelRun0_A.sl.HS8_13 (F := Ideal) c i a1 k1 a3 k3 a4 k4 a5 k5 a6 k6 a13 a20 x0 x2 x3 x4 x5) (k0_pay21 (F := Ideal)) inb_S2048x128_S64x128_768_0 inb_S2048x128_S2048x128_0_0 (by rfl) rfl) (inb := inb_S2048x128_S64x128_768_0)
  have h13 := st_tp (bp_13 c i a1 k1 a3 k3 a5 k5 a6 k6 a13 x0 x1 x2 x3 x4 x5 x6 x7) (rows_unread a4 k4 x3 inb_S2048x128_S64x128_832_0) (rows_fill a20.view 13 (kernelRun0_A.sl.HS8_14 (F := Ideal) c i a1 k1 a3 k3 a4 k4 a5 k5 a6 k6 a13 a20 x0 x2 x3 x4 x5) (k0_pay21 (F := Ideal)) inb_S2048x128_S64x128_832_0 inb_S2048x128_S2048x128_0_0 (by rfl) rfl) (inb := inb_S2048x128_S64x128_832_0)
  have h14 := st_tp (bp_14 c i a1 k1 a3 k3 a5 k5 a6 k6 a13 x0 x1 x2 x3 x4 x5 x6 x7) (rows_unread a4 k4 x3 inb_S2048x128_S64x128_896_0) (rows_fill a20.view 14 (kernelRun0_A.sl.HS8_15 (F := Ideal) c i a1 k1 a3 k3 a4 k4 a5 k5 a6 k6 a13 a20 x0 x2 x3 x4 x5) (k0_pay21 (F := Ideal)) inb_S2048x128_S64x128_896_0 inb_S2048x128_S2048x128_0_0 (by rfl) rfl) (inb := inb_S2048x128_S64x128_896_0)
  have h15 := st_tp (bp_15 c i a1 k1 a3 k3 a5 k5 a6 k6 a13 x0 x1 x2 x3 x4 x5 x6 x7) (rows_unread a4 k4 x3 inb_S2048x128_S64x128_960_0) (rows_fill a20.view 15 (kernelRun0_A.sl.HS8_16 (F := Ideal) c i a1 k1 a3 k3 a4 k4 a5 k5 a6 k6 a13 a20 x0 x2 x3 x4 x5) (k0_pay21 (F := Ideal)) inb_S2048x128_S64x128_960_0 inb_S2048x128_S2048x128_0_0 (by rfl) rfl) (inb := inb_S2048x128_S64x128_960_0)
  have h16 := st_tp (bp_16 c i a1 k1 a3 k3 a5 k5 a6 k6 a13 x0 x1 x2 x3 x4 x5 x6 x7) (rows_unread a4 k4 x3 inb_S2048x128_S64x128_1024_0) (rows_fill a20.view 16 (kernelRun0_A.sl.HS8_17 (F := Ideal) c i a1 k1 a3 k3 a4 k4 a5 k5 a6 k6 a13 a20 x0 x2 x3 x4 x5) (k0_pay21 (F := Ideal)) inb_S2048x128_S64x128_1024_0 inb_S2048x128_S2048x128_0_0 (by rfl) rfl) (inb := inb_S2048x128_S64x128_1024_0)
  have h17 := st_tp (bp_17 c i a1 k1 a3 k3 a5 k5 a6 k6 a13 x0 x1 x2 x3 x4 x5 x6 x7) (rows_unread a4 k4 x3 inb_S2048x128_S64x128_1088_0) (rows_fill a20.view 17 (kernelRun0_A.sl.HS8_18 (F := Ideal) c i a1 k1 a3 k3 a4 k4 a5 k5 a6 k6 a13 a20 x0 x2 x3 x4 x5) (k0_pay21 (F := Ideal)) inb_S2048x128_S64x128_1088_0 inb_S2048x128_S2048x128_0_0 (by rfl) rfl) (inb := inb_S2048x128_S64x128_1088_0)
  have h18 := st_tp (bp_18 c i a1 k1 a3 k3 a5 k5 a6 k6 a13 x0 x1 x2 x3 x4 x5 x6 x7) (rows_unread a4 k4 x3 inb_S2048x128_S64x128_1152_0) (rows_fill a20.view 18 (kernelRun0_A.sl.HS8_19 (F := Ideal) c i a1 k1 a3 k3 a4 k4 a5 k5 a6 k6 a13 a20 x0 x2 x3 x4 x5) (k0_pay21 (F := Ideal)) inb_S2048x128_S64x128_1152_0 inb_S2048x128_S2048x128_0_0 (by rfl) rfl) (inb := inb_S2048x128_S64x128_1152_0)
  have h19 := st_tp (bp_19 c i a1 k1 a3 k3 a5 k5 a6 k6 a13 x0 x1 x2 x3 x4 x5 x6 x7) (rows_unread a4 k4 x3 inb_S2048x128_S64x128_1216_0) (rows_fill a20.view 19 (kernelRun0_A.sl.HS8_20 (F := Ideal) c i a1 k1 a3 k3 a4 k4 a5 k5 a6 k6 a13 a20 x0 x2 x3 x4 x5) (k0_pay21 (F := Ideal)) inb_S2048x128_S64x128_1216_0 inb_S2048x128_S2048x128_0_0 (by rfl) rfl) (inb := inb_S2048x128_S64x128_1216_0)
  have h20 := st_tp (bp_20 c i a1 k1 a3 k3 a5 k5 a6 k6 a13 x0 x1 x2 x3 x4 x5 x6 x7) (rows_unread a4 k4 x3 inb_S2048x128_S64x128_1280_0) (rows_fill a20.view 20 (kernelRun0_A.sl.HS8_21 (F := Ideal) c i a1 k1 a3 k3 a4 k4 a5 k5 a6 k6 a13 a20 x0 x2 x3 x4 x5) (k0_pay21 (F := Ideal)) inb_S2048x128_S64x128_1280_0 inb_S2048x128_S2048x128_0_0 (by rfl) rfl) (inb := inb_S2048x128_S64x128_1280_0)
  have h21 := st_tp (bp_21 c i a1 k1 a3 k3 a5 k5 a6 k6 a13 x0 x1 x2 x3 x4 x5 x6 x7) (rows_unread a4 k4 x3 inb_S2048x128_S64x128_1344_0) (rows_fill a20.view 21 (kernelRun0_A.sl.HS8_22 (F := Ideal) c i a1 k1 a3 k3 a4 k4 a5 k5 a6 k6 a13 a20 x0 x2 x3 x4 x5) (k0_pay21 (F := Ideal)) inb_S2048x128_S64x128_1344_0 inb_S2048x128_S2048x128_0_0 (by rfl) rfl) (inb := inb_S2048x128_S64x128_1344_0)
  have h22 := st_tp (bp_22 c i a1 k1 a3 k3 a5 k5 a6 k6 a13 x0 x1 x2 x3 x4 x5 x6 x7) (rows_unread a4 k4 x3 inb_S2048x128_S64x128_1408_0) (rows_fill a20.view 22 (kernelRun0_A.sl.HS8_23 (F := Ideal) c i a1 k1 a3 k3 a4 k4 a5 k5 a6 k6 a13 a20 x0 x2 x3 x4 x5) (k0_pay21 (F := Ideal)) inb_S2048x128_S64x128_1408_0 inb_S2048x128_S2048x128_0_0 (by rfl) rfl) (inb := inb_S2048x128_S64x128_1408_0)
  have h23 := st_tp (bp_23 c i a1 k1 a3 k3 a5 k5 a6 k6 a13 x0 x1 x2 x3 x4 x5 x6 x7) (rows_unread a4 k4 x3 inb_S2048x128_S64x128_1472_0) (rows_fill a20.view 23 (kernelRun0_A.sl.HS8_24 (F := Ideal) c i a1 k1 a3 k3 a4 k4 a5 k5 a6 k6 a13 a20 x0 x2 x3 x4 x5) (k0_pay21 (F := Ideal)) inb_S2048x128_S64x128_1472_0 inb_S2048x128_S2048x128_0_0 (by rfl) rfl) (inb := inb_S2048x128_S64x128_1472_0)
  have h24 := st_tp (bp_24 c i a1 k1 a3 k3 a5 k5 a6 k6 a13 x0 x1 x2 x3 x4 x5 x6 x7) (rows_unread a4 k4 x3 inb_S2048x128_S64x128_1536_0) (rows_fill a20.view 24 (kernelRun0_A.sl.HS8_25 (F := Ideal) c i a1 k1 a3 k3 a4 k4 a5 k5 a6 k6 a13 a20 x0 x2 x3 x4 x5) (k0_pay21 (F := Ideal)) inb_S2048x128_S64x128_1536_0 inb_S2048x128_S2048x128_0_0 (by rfl) rfl) (inb := inb_S2048x128_S64x128_1536_0)
  have h25 := st_tp (bp_25 c i a1 k1 a3 k3 a5 k5 a6 k6 a13 x0 x1 x2 x3 x4 x5 x6 x7) (rows_unread a4 k4 x3 inb_S2048x128_S64x128_1600_0) (rows_fill a20.view 25 (kernelRun0_A.sl.HS8_26 (F := Ideal) c i a1 k1 a3 k3 a4 k4 a5 k5 a6 k6 a13 a20 x0 x2 x3 x4 x5) (k0_pay21 (F := Ideal)) inb_S2048x128_S64x128_1600_0 inb_S2048x128_S2048x128_0_0 (by rfl) rfl) (inb := inb_S2048x128_S64x128_1600_0)
  have h26 := st_tp (bp_26 c i a1 k1 a3 k3 a5 k5 a6 k6 a13 x0 x1 x2 x3 x4 x5 x6 x7) (rows_unread a4 k4 x3 inb_S2048x128_S64x128_1664_0) (rows_fill a20.view 26 (kernelRun0_A.sl.HS8_27 (F := Ideal) c i a1 k1 a3 k3 a4 k4 a5 k5 a6 k6 a13 a20 x0 x2 x3 x4 x5) (k0_pay21 (F := Ideal)) inb_S2048x128_S64x128_1664_0 inb_S2048x128_S2048x128_0_0 (by rfl) rfl) (inb := inb_S2048x128_S64x128_1664_0)
  have h27 := st_tp (bp_27 c i a1 k1 a3 k3 a5 k5 a6 k6 a13 x0 x1 x2 x3 x4 x5 x6 x7) (rows_unread a4 k4 x3 inb_S2048x128_S64x128_1728_0) (rows_fill a20.view 27 (kernelRun0_A.sl.HS8_28 (F := Ideal) c i a1 k1 a3 k3 a4 k4 a5 k5 a6 k6 a13 a20 x0 x2 x3 x4 x5) (k0_pay21 (F := Ideal)) inb_S2048x128_S64x128_1728_0 inb_S2048x128_S2048x128_0_0 (by rfl) rfl) (inb := inb_S2048x128_S64x128_1728_0)
  have h28 := st_tp (bp_28 c i a1 k1 a3 k3 a5 k5 a6 k6 a13 x0 x1 x2 x3 x4 x5 x6 x7) (rows_unread a4 k4 x3 inb_S2048x128_S64x128_1792_0) (rows_fill a20.view 28 (kernelRun0_A.sl.HS8_29 (F := Ideal) c i a1 k1 a3 k3 a4 k4 a5 k5 a6 k6 a13 a20 x0 x2 x3 x4 x5) (k0_pay21 (F := Ideal)) inb_S2048x128_S64x128_1792_0 inb_S2048x128_S2048x128_0_0 (by rfl) rfl) (inb := inb_S2048x128_S64x128_1792_0)
  have h29 := st_tp (bp_29 c i a1 k1 a3 k3 a5 k5 a6 k6 a13 x0 x1 x2 x3 x4 x5 x6 x7) (rows_unread a4 k4 x3 inb_S2048x128_S64x128_1856_0) (rows_fill a20.view 29 (kernelRun0_A.sl.HS8_30 (F := Ideal) c i a1 k1 a3 k3 a4 k4 a5 k5 a6 k6 a13 a20 x0 x2 x3 x4 x5) (k0_pay21 (F := Ideal)) inb_S2048x128_S64x128_1856_0 inb_S2048x128_S2048x128_0_0 (by rfl) rfl) (inb := inb_S2048x128_S64x128_1856_0)
  have h30 := st_tp (bp_30 c i a1 k1 a3 k3 a5 k5 a6 k6 a13 x0 x1 x2 x3 x4 x5 x6 x7) (rows_unread a4 k4 x3 inb_S2048x128_S64x128_1920_0) (rows_fill a20.view 30 (kernelRun0_A.sl.HS8_31 (F := Ideal) c i a1 k1 a3 k3 a4 k4 a5 k5 a6 k6 a13 a20 x0 x2 x3 x4 x5) (k0_pay21 (F := Ideal)) inb_S2048x128_S64x128_1920_0 inb_S2048x128_S2048x128_0_0 (by rfl) rfl) (inb := inb_S2048x128_S64x128_1920_0)
  have h31 := st_tp (bp_31 c i a1 k1 a3 k3 a5 k5 a6 k6 a13 x0 x1 x2 x3 x4 x5 x6 x7) (rows_unread a4 k4 x3 inb_S2048x128_S64x128_1984_0) (rows_fill a20.view 31 (kernelRun0_A.sl.HS8_32 (F := Ideal) c i a1 k1 a3 k3 a4 k4 a5 k5 a6 k6 a13 a20 x0 x2 x3 x4 x5) (k0_pay21 (F := Ideal)) inb_S2048x128_S64x128_1984_0 inb_S2048x128_S2048x128_0_0 (by rfl) rfl) (inb := inb_S2048x128_S64x128_1984_0)
  refine pieces_take h31 (by congr 1) ?_
  refine pieces_take h30 (by congr 1) ?_
  refine pieces_take h29 (by congr 1) ?_
  refine pieces_take h28 (by congr 1) ?_
  refine pieces_take h27 (by congr 1) ?_
  refine pieces_take h26 (by congr 1) ?_
  refine pieces_take h25 (by congr 1) ?_
  refine pieces_take h24 (by congr 1) ?_
  refine pieces_take h23 (by congr 1) ?_
  refine pieces_take h22 (by congr 1) ?_
  refine pieces_take h21 (by congr 1) ?_
  refine pieces_take h20 (by congr 1) ?_
  refine pieces_take h19 (by congr 1) ?_
  refine pieces_take h18 (by congr 1) ?_
  refine pieces_take h17 (by congr 1) ?_
  refine pieces_take h16 (by congr 1) ?_
  refine pieces_take h15 (by congr 1) ?_
  refine pieces_take h14 (by congr 1) ?_
  refine pieces_take h13 (by congr 1) ?_
  refine pieces_take h12 (by congr 1) ?_
  refine pieces_take h11 (by congr 1) ?_
  refine pieces_take h10 (by congr 1) ?_
  refine pieces_take h9 (by congr 1) ?_
  refine pieces_take h8 (by congr 1) ?_
  refine pieces_take h7 (by congr 1) ?_
  refine pieces_take h6 (by congr 1) ?_
  refine pieces_take h5 (by congr 1) ?_
  refine pieces_take h4 (by congr 1) ?_
  refine pieces_take h3 (by congr 1) ?_
  refine pieces_take h2 (by congr 1) ?_
  refine pieces_take h1 (by congr 1) ?_
  refine pieces_take h0 (by congr 1) ?_
  exact pieces_last

/-- What the point leaves in scratch `a21`. -/
theorem pieces_9 : View.PiecesOf ((mkD x0 x1 x2 x3 x4 x6 x7 (kernelRun0_A.sl.r_3 c a6 k6 x5) (kernelRun0_A.sl.r_4 i)).gTQ (k0_pay22 (F := Ideal))) (List.take 32 (kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.2.2.1) := by
  have h0 := st_tq (bq_0 c i a2 k2 a6 k6 a7 k7 a8 k8 a12 a14 x0 x1 x2 x3 x4 x5 x6 x7) (rows_unread a4 k4 x3 inb_S2048x128_S64x128_0_0) (rows_fill a21.view 0 (kernelRun0_A.sl.HS9_1 (F := Ideal) ) (k0_pay22 (F := Ideal)) inb_S2048x128_S64x128_0_0 inb_S2048x128_S2048x128_0_0 (by rfl) rfl) (inb := inb_S2048x128_S64x128_0_0)
  have h1 := st_tq (bq_1 c i a2 k2 a6 k6 a7 k7 a8 k8 a12 a14 x0 x1 x2 x3 x4 x5 x6 x7) (rows_unread a4 k4 x3 inb_S2048x128_S64x128_64_0) (rows_fill a21.view 1 (kernelRun0_A.sl.HS9_2 (F := Ideal) c i a2 k2 a4 k4 a7 k7 a8 k8 a12 a14 a21 x1 x3 x6 x7) (k0_pay22 (F := Ideal)) inb_S2048x128_S64x128_64_0 inb_S2048x128_S2048x128_0_0 (by rfl) rfl) (inb := inb_S2048x128_S64x128_64_0)
  have h2 := st_tq (bq_2 c i a2 k2 a6 k6 a7 k7 a8 k8 a12 a14 x0 x1 x2 x3 x4 x5 x6 x7) (rows_unread a4 k4 x3 inb_S2048x128_S64x128_128_0) (rows_fill a21.view 2 (kernelRun0_A.sl.HS9_3 (F := Ideal) c i a2 k2 a4 k4 a7 k7 a8 k8 a12 a14 a21 x1 x3 x6 x7) (k0_pay22 (F := Ideal)) inb_S2048x128_S64x128_128_0 inb_S2048x128_S2048x128_0_0 (by rfl) rfl) (inb := inb_S2048x128_S64x128_128_0)
  have h3 := st_tq (bq_3 c i a2 k2 a6 k6 a7 k7 a8 k8 a12 a14 x0 x1 x2 x3 x4 x5 x6 x7) (rows_unread a4 k4 x3 inb_S2048x128_S64x128_192_0) (rows_fill a21.view 3 (kernelRun0_A.sl.HS9_4 (F := Ideal) c i a2 k2 a4 k4 a7 k7 a8 k8 a12 a14 a21 x1 x3 x6 x7) (k0_pay22 (F := Ideal)) inb_S2048x128_S64x128_192_0 inb_S2048x128_S2048x128_0_0 (by rfl) rfl) (inb := inb_S2048x128_S64x128_192_0)
  have h4 := st_tq (bq_4 c i a2 k2 a6 k6 a7 k7 a8 k8 a12 a14 x0 x1 x2 x3 x4 x5 x6 x7) (rows_unread a4 k4 x3 inb_S2048x128_S64x128_256_0) (rows_fill a21.view 4 (kernelRun0_A.sl.HS9_5 (F := Ideal) c i a2 k2 a4 k4 a7 k7 a8 k8 a12 a14 a21 x1 x3 x6 x7) (k0_pay22 (F := Ideal)) inb_S2048x128_S64x128_256_0 inb_S2048x128_S2048x128_0_0 (by rfl) rfl) (inb := inb_S2048x128_S64x128_256_0)
  have h5 := st_tq (bq_5 c i a2 k2 a6 k6 a7 k7 a8 k8 a12 a14 x0 x1 x2 x3 x4 x5 x6 x7) (rows_unread a4 k4 x3 inb_S2048x128_S64x128_320_0) (rows_fill a21.view 5 (kernelRun0_A.sl.HS9_6 (F := Ideal) c i a2 k2 a4 k4 a7 k7 a8 k8 a12 a14 a21 x1 x3 x6 x7) (k0_pay22 (F := Ideal)) inb_S2048x128_S64x128_320_0 inb_S2048x128_S2048x128_0_0 (by rfl) rfl) (inb := inb_S2048x128_S64x128_320_0)
  have h6 := st_tq (bq_6 c i a2 k2 a6 k6 a7 k7 a8 k8 a12 a14 x0 x1 x2 x3 x4 x5 x6 x7) (rows_unread a4 k4 x3 inb_S2048x128_S64x128_384_0) (rows_fill a21.view 6 (kernelRun0_A.sl.HS9_7 (F := Ideal) c i a2 k2 a4 k4 a7 k7 a8 k8 a12 a14 a21 x1 x3 x6 x7) (k0_pay22 (F := Ideal)) inb_S2048x128_S64x128_384_0 inb_S2048x128_S2048x128_0_0 (by rfl) rfl) (inb := inb_S2048x128_S64x128_384_0)
  have h7 := st_tq (bq_7 c i a2 k2 a6 k6 a7 k7 a8 k8 a12 a14 x0 x1 x2 x3 x4 x5 x6 x7) (rows_unread a4 k4 x3 inb_S2048x128_S64x128_448_0) (rows_fill a21.view 7 (kernelRun0_A.sl.HS9_8 (F := Ideal) c i a2 k2 a4 k4 a7 k7 a8 k8 a12 a14 a21 x1 x3 x6 x7) (k0_pay22 (F := Ideal)) inb_S2048x128_S64x128_448_0 inb_S2048x128_S2048x128_0_0 (by rfl) rfl) (inb := inb_S2048x128_S64x128_448_0)
  have h8 := st_tq (bq_8 c i a2 k2 a6 k6 a7 k7 a8 k8 a12 a14 x0 x1 x2 x3 x4 x5 x6 x7) (rows_unread a4 k4 x3 inb_S2048x128_S64x128_512_0) (rows_fill a21.view 8 (kernelRun0_A.sl.HS9_9 (F := Ideal) c i a2 k2 a4 k4 a7 k7 a8 k8 a12 a14 a21 x1 x3 x6 x7) (k0_pay22 (F := Ideal)) inb_S2048x128_S64x128_512_0 inb_S2048x128_S2048x128_0_0 (by rfl) rfl) (inb := inb_S2048x128_S64x128_512_0)
  have h9 := st_tq (bq_9 c i a2 k2 a6 k6 a7 k7 a8 k8 a12 a14 x0 x1 x2 x3 x4 x5 x6 x7) (rows_unread a4 k4 x3 inb_S2048x128_S64x128_576_0) (rows_fill a21.view 9 (kernelRun0_A.sl.HS9_10 (F := Ideal) c i a2 k2 a4 k4 a7 k7 a8 k8 a12 a14 a21 x1 x3 x6 x7) (k0_pay22 (F := Ideal)) inb_S2048x128_S64x128_576_0 inb_S2048x128_S2048x128_0_0 (by rfl) rfl) (inb := inb_S2048x128_S64x128_576_0)
  have h10 := st_tq (bq_10 c i a2 k2 a6 k6 a7 k7 a8 k8 a12 a14 x0 x1 x2 x3 x4 x5 x6 x7) (rows_unread a4 k4 x3 inb_S2048x128_S64x128_640_0) (rows_fill a21.view 10 (kernelRun0_A.sl.HS9_11 (F := Ideal) c i a2 k2 a4 k4 a7 k7 a8 k8 a12 a14 a21 x1 x3 x6 x7) (k0_pay22 (F := Ideal)) inb_S2048x128_S64x128_640_0 inb_S2048x128_S2048x128_0_0 (by rfl) rfl) (inb := inb_S2048x128_S64x128_640_0)
  have h11 := st_tq (bq_11 c i a2 k2 a6 k6 a7 k7 a8 k8 a12 a14 x0 x1 x2 x3 x4 x5 x6 x7) (rows_unread a4 k4 x3 inb_S2048x128_S64x128_704_0) (rows_fill a21.view 11 (kernelRun0_A.sl.HS9_12 (F := Ideal) c i a2 k2 a4 k4 a7 k7 a8 k8 a12 a14 a21 x1 x3 x6 x7) (k0_pay22 (F := Ideal)) inb_S2048x128_S64x128_704_0 inb_S2048x128_S2048x128_0_0 (by rfl) rfl) (inb := inb_S2048x128_S64x128_704_0)
  have h12 := st_tq (bq_12 c i a2 k2 a6 k6 a7 k7 a8 k8 a12 a14 x0 x1 x2 x3 x4 x5 x6 x7) (rows_unread a4 k4 x3 inb_S2048x128_S64x128_768_0) (rows_fill a21.view 12 (kernelRun0_A.sl.HS9_13 (F := Ideal) c i a2 k2 a4 k4 a7 k7 a8 k8 a12 a14 a21 x1 x3 x6 x7) (k0_pay22 (F := Ideal)) inb_S2048x128_S64x128_768_0 inb_S2048x128_S2048x128_0_0 (by rfl) rfl) (inb := inb_S2048x128_S64x128_768_0)
  have h13 := st_tq (bq_13 c i a2 k2 a6 k6 a7 k7 a8 k8 a12 a14 x0 x1 x2 x3 x4 x5 x6 x7) (rows_unread a4 k4 x3 inb_S2048x128_S64x128_832_0) (rows_fill a21.view 13 (kernelRun0_A.sl.HS9_14 (F := Ideal) c i a2 k2 a4 k4 a7 k7 a8 k8 a12 a14 a21 x1 x3 x6 x7) (k0_pay22 (F := Ideal)) inb_S2048x128_S64x128_832_0 inb_S2048x128_S2048x128_0_0 (by rfl) rfl) (inb := inb_S2048x128_S64x128_832_0)
  have h14 := st_tq (bq_14 c i a2 k2 a6 k6 a7 k7 a8 k8 a12 a14 x0 x1 x2 x3 x4 x5 x6 x7) (rows_unread a4 k4 x3 inb_S2048x128_S64x128_896_0) (rows_fill a21.view 14 (kernelRun0_A.sl.HS9_15 (F := Ideal) c i a2 k2 a4 k4 a7 k7 a8 k8 a12 a14 a21 x1 x3 x6 x7) (k0_pay22 (F := Ideal)) inb_S2048x128_S64x128_896_0 inb_S2048x128_S2048x128_0_0 (by rfl) rfl) (inb := inb_S2048x128_S64x128_896_0)
  have h15 := st_tq (bq_15 c i a2 k2 a6 k6 a7 k7 a8 k8 a12 a14 x0 x1 x2 x3 x4 x5 x6 x7) (rows_unread a4 k4 x3 inb_S2048x128_S64x128_960_0) (rows_fill a21.view 15 (kernelRun0_A.sl.HS9_16 (F := Ideal) c i a2 k2 a4 k4 a7 k7 a8 k8 a12 a14 a21 x1 x3 x6 x7) (k0_pay22 (F := Ideal)) inb_S2048x128_S64x128_960_0 inb_S2048x128_S2048x128_0_0 (by rfl) rfl) (inb := inb_S2048x128_S64x128_960_0)
  have h16 := st_tq (bq_16 c i a2 k2 a6 k6 a7 k7 a8 k8 a12 a14 x0 x1 x2 x3 x4 x5 x6 x7) (rows_unread a4 k4 x3 inb_S2048x128_S64x128_1024_0) (rows_fill a21.view 16 (kernelRun0_A.sl.HS9_17 (F := Ideal) c i a2 k2 a4 k4 a7 k7 a8 k8 a12 a14 a21 x1 x3 x6 x7) (k0_pay22 (F := Ideal)) inb_S2048x128_S64x128_1024_0 inb_S2048x128_S2048x128_0_0 (by rfl) rfl) (inb := inb_S2048x128_S64x128_1024_0)
  have h17 := st_tq (bq_17 c i a2 k2 a6 k6 a7 k7 a8 k8 a12 a14 x0 x1 x2 x3 x4 x5 x6 x7) (rows_unread a4 k4 x3 inb_S2048x128_S64x128_1088_0) (rows_fill a21.view 17 (kernelRun0_A.sl.HS9_18 (F := Ideal) c i a2 k2 a4 k4 a7 k7 a8 k8 a12 a14 a21 x1 x3 x6 x7) (k0_pay22 (F := Ideal)) inb_S2048x128_S64x128_1088_0 inb_S2048x128_S2048x128_0_0 (by rfl) rfl) (inb := inb_S2048x128_S64x128_1088_0)
  have h18 := st_tq (bq_18 c i a2 k2 a6 k6 a7 k7 a8 k8 a12 a14 x0 x1 x2 x3 x4 x5 x6 x7) (rows_unread a4 k4 x3 inb_S2048x128_S64x128_1152_0) (rows_fill a21.view 18 (kernelRun0_A.sl.HS9_19 (F := Ideal) c i a2 k2 a4 k4 a7 k7 a8 k8 a12 a14 a21 x1 x3 x6 x7) (k0_pay22 (F := Ideal)) inb_S2048x128_S64x128_1152_0 inb_S2048x128_S2048x128_0_0 (by rfl) rfl) (inb := inb_S2048x128_S64x128_1152_0)
  have h19 := st_tq (bq_19 c i a2 k2 a6 k6 a7 k7 a8 k8 a12 a14 x0 x1 x2 x3 x4 x5 x6 x7) (rows_unread a4 k4 x3 inb_S2048x128_S64x128_1216_0) (rows_fill a21.view 19 (kernelRun0_A.sl.HS9_20 (F := Ideal) c i a2 k2 a4 k4 a7 k7 a8 k8 a12 a14 a21 x1 x3 x6 x7) (k0_pay22 (F := Ideal)) inb_S2048x128_S64x128_1216_0 inb_S2048x128_S2048x128_0_0 (by rfl) rfl) (inb := inb_S2048x128_S64x128_1216_0)
  have h20 := st_tq (bq_20 c i a2 k2 a6 k6 a7 k7 a8 k8 a12 a14 x0 x1 x2 x3 x4 x5 x6 x7) (rows_unread a4 k4 x3 inb_S2048x128_S64x128_1280_0) (rows_fill a21.view 20 (kernelRun0_A.sl.HS9_21 (F := Ideal) c i a2 k2 a4 k4 a7 k7 a8 k8 a12 a14 a21 x1 x3 x6 x7) (k0_pay22 (F := Ideal)) inb_S2048x128_S64x128_1280_0 inb_S2048x128_S2048x128_0_0 (by rfl) rfl) (inb := inb_S2048x128_S64x128_1280_0)
  have h21 := st_tq (bq_21 c i a2 k2 a6 k6 a7 k7 a8 k8 a12 a14 x0 x1 x2 x3 x4 x5 x6 x7) (rows_unread a4 k4 x3 inb_S2048x128_S64x128_1344_0) (rows_fill a21.view 21 (kernelRun0_A.sl.HS9_22 (F := Ideal) c i a2 k2 a4 k4 a7 k7 a8 k8 a12 a14 a21 x1 x3 x6 x7) (k0_pay22 (F := Ideal)) inb_S2048x128_S64x128_1344_0 inb_S2048x128_S2048x128_0_0 (by rfl) rfl) (inb := inb_S2048x128_S64x128_1344_0)
  have h22 := st_tq (bq_22 c i a2 k2 a6 k6 a7 k7 a8 k8 a12 a14 x0 x1 x2 x3 x4 x5 x6 x7) (rows_unread a4 k4 x3 inb_S2048x128_S64x128_1408_0) (rows_fill a21.view 22 (kernelRun0_A.sl.HS9_23 (F := Ideal) c i a2 k2 a4 k4 a7 k7 a8 k8 a12 a14 a21 x1 x3 x6 x7) (k0_pay22 (F := Ideal)) inb_S2048x128_S64x128_1408_0 inb_S2048x128_S2048x128_0_0 (by rfl) rfl) (inb := inb_S2048x128_S64x128_1408_0)
  have h23 := st_tq (bq_23 c i a2 k2 a6 k6 a7 k7 a8 k8 a12 a14 x0 x1 x2 x3 x4 x5 x6 x7) (rows_unread a4 k4 x3 inb_S2048x128_S64x128_1472_0) (rows_fill a21.view 23 (kernelRun0_A.sl.HS9_24 (F := Ideal) c i a2 k2 a4 k4 a7 k7 a8 k8 a12 a14 a21 x1 x3 x6 x7) (k0_pay22 (F := Ideal)) inb_S2048x128_S64x128_1472_0 inb_S2048x128_S2048x128_0_0 (by rfl) rfl) (inb := inb_S2048x128_S64x128_1472_0)
  have h24 := st_tq (bq_24 c i a2 k2 a6 k6 a7 k7 a8 k8 a12 a14 x0 x1 x2 x3 x4 x5 x6 x7) (rows_unread a4 k4 x3 inb_S2048x128_S64x128_1536_0) (rows_fill a21.view 24 (kernelRun0_A.sl.HS9_25 (F := Ideal) c i a2 k2 a4 k4 a7 k7 a8 k8 a12 a14 a21 x1 x3 x6 x7) (k0_pay22 (F := Ideal)) inb_S2048x128_S64x128_1536_0 inb_S2048x128_S2048x128_0_0 (by rfl) rfl) (inb := inb_S2048x128_S64x128_1536_0)
  have h25 := st_tq (bq_25 c i a2 k2 a6 k6 a7 k7 a8 k8 a12 a14 x0 x1 x2 x3 x4 x5 x6 x7) (rows_unread a4 k4 x3 inb_S2048x128_S64x128_1600_0) (rows_fill a21.view 25 (kernelRun0_A.sl.HS9_26 (F := Ideal) c i a2 k2 a4 k4 a7 k7 a8 k8 a12 a14 a21 x1 x3 x6 x7) (k0_pay22 (F := Ideal)) inb_S2048x128_S64x128_1600_0 inb_S2048x128_S2048x128_0_0 (by rfl) rfl) (inb := inb_S2048x128_S64x128_1600_0)
  have h26 := st_tq (bq_26 c i a2 k2 a6 k6 a7 k7 a8 k8 a12 a14 x0 x1 x2 x3 x4 x5 x6 x7) (rows_unread a4 k4 x3 inb_S2048x128_S64x128_1664_0) (rows_fill a21.view 26 (kernelRun0_A.sl.HS9_27 (F := Ideal) c i a2 k2 a4 k4 a7 k7 a8 k8 a12 a14 a21 x1 x3 x6 x7) (k0_pay22 (F := Ideal)) inb_S2048x128_S64x128_1664_0 inb_S2048x128_S2048x128_0_0 (by rfl) rfl) (inb := inb_S2048x128_S64x128_1664_0)
  have h27 := st_tq (bq_27 c i a2 k2 a6 k6 a7 k7 a8 k8 a12 a14 x0 x1 x2 x3 x4 x5 x6 x7) (rows_unread a4 k4 x3 inb_S2048x128_S64x128_1728_0) (rows_fill a21.view 27 (kernelRun0_A.sl.HS9_28 (F := Ideal) c i a2 k2 a4 k4 a7 k7 a8 k8 a12 a14 a21 x1 x3 x6 x7) (k0_pay22 (F := Ideal)) inb_S2048x128_S64x128_1728_0 inb_S2048x128_S2048x128_0_0 (by rfl) rfl) (inb := inb_S2048x128_S64x128_1728_0)
  have h28 := st_tq (bq_28 c i a2 k2 a6 k6 a7 k7 a8 k8 a12 a14 x0 x1 x2 x3 x4 x5 x6 x7) (rows_unread a4 k4 x3 inb_S2048x128_S64x128_1792_0) (rows_fill a21.view 28 (kernelRun0_A.sl.HS9_29 (F := Ideal) c i a2 k2 a4 k4 a7 k7 a8 k8 a12 a14 a21 x1 x3 x6 x7) (k0_pay22 (F := Ideal)) inb_S2048x128_S64x128_1792_0 inb_S2048x128_S2048x128_0_0 (by rfl) rfl) (inb := inb_S2048x128_S64x128_1792_0)
  have h29 := st_tq (bq_29 c i a2 k2 a6 k6 a7 k7 a8 k8 a12 a14 x0 x1 x2 x3 x4 x5 x6 x7) (rows_unread a4 k4 x3 inb_S2048x128_S64x128_1856_0) (rows_fill a21.view 29 (kernelRun0_A.sl.HS9_30 (F := Ideal) c i a2 k2 a4 k4 a7 k7 a8 k8 a12 a14 a21 x1 x3 x6 x7) (k0_pay22 (F := Ideal)) inb_S2048x128_S64x128_1856_0 inb_S2048x128_S2048x128_0_0 (by rfl) rfl) (inb := inb_S2048x128_S64x128_1856_0)
  have h30 := st_tq (bq_30 c i a2 k2 a6 k6 a7 k7 a8 k8 a12 a14 x0 x1 x2 x3 x4 x5 x6 x7) (rows_unread a4 k4 x3 inb_S2048x128_S64x128_1920_0) (rows_fill a21.view 30 (kernelRun0_A.sl.HS9_31 (F := Ideal) c i a2 k2 a4 k4 a7 k7 a8 k8 a12 a14 a21 x1 x3 x6 x7) (k0_pay22 (F := Ideal)) inb_S2048x128_S64x128_1920_0 inb_S2048x128_S2048x128_0_0 (by rfl) rfl) (inb := inb_S2048x128_S64x128_1920_0)
  have h31 := st_tq (bq_31 c i a2 k2 a6 k6 a7 k7 a8 k8 a12 a14 x0 x1 x2 x3 x4 x5 x6 x7) (rows_unread a4 k4 x3 inb_S2048x128_S64x128_1984_0) (rows_fill a21.view 31 (kernelRun0_A.sl.HS9_32 (F := Ideal) c i a2 k2 a4 k4 a7 k7 a8 k8 a12 a14 a21 x1 x3 x6 x7) (k0_pay22 (F := Ideal)) inb_S2048x128_S64x128_1984_0 inb_S2048x128_S2048x128_0_0 (by rfl) rfl) (inb := inb_S2048x128_S64x128_1984_0)
  refine pieces_take h31 (by congr 1) ?_
  refine pieces_take h30 (by congr 1) ?_
  refine pieces_take h29 (by congr 1) ?_
  refine pieces_take h28 (by congr 1) ?_
  refine pieces_take h27 (by congr 1) ?_
  refine pieces_take h26 (by congr 1) ?_
  refine pieces_take h25 (by congr 1) ?_
  refine pieces_take h24 (by congr 1) ?_
  refine pieces_take h23 (by congr 1) ?_
  refine pieces_take h22 (by congr 1) ?_
  refine pieces_take h21 (by congr 1) ?_
  refine pieces_take h20 (by congr 1) ?_
  refine pieces_take h19 (by congr 1) ?_
  refine pieces_take h18 (by congr 1) ?_
  refine pieces_take h17 (by congr 1) ?_
  refine pieces_take h16 (by congr 1) ?_
  refine pieces_take h15 (by congr 1) ?_
  refine pieces_take h14 (by congr 1) ?_
  refine pieces_take h13 (by congr 1) ?_
  refine pieces_take h12 (by congr 1) ?_
  refine pieces_take h11 (by congr 1) ?_
  refine pieces_take h10 (by congr 1) ?_
  refine pieces_take h9 (by congr 1) ?_
  refine pieces_take h8 (by congr 1) ?_
  refine pieces_take h7 (by congr 1) ?_
  refine pieces_take h6 (by congr 1) ?_
  refine pieces_take h5 (by congr 1) ?_
  refine pieces_take h4 (by congr 1) ?_
  refine pieces_take h3 (by congr 1) ?_
  refine pieces_take h2 (by congr 1) ?_
  refine pieces_take h1 (by congr 1) ?_
  refine pieces_take h0 (by congr 1) ?_
  exact pieces_last

/-- Scratch `a19` after the point. -/
theorem out_7 : sout0_A_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 = (mkD x0 x1 x2 x3 x4 x6 x7 (kernelRun0_A.sl.r_3 c a6 k6 x5) (kernelRun0_A.sl.r_4 i)).gSQ (k0_pay17 (F := Ideal)) (k0_pay20 (F := Ideal)) := by
  funext y
  unfold sout0_A_7
  rw [View.read_writes_junk_eq_canon, ← List.take_append_drop 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.1)]
  exact View.canon_append_of_piecesOf _ _ _ (pieces_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7) y (View.cover_of_tiledL (List.take 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.1)) S64x128.size (by sl_kernel_rfl) y)

/-- Scratch `a20` after the point. -/
theorem out_8 : sout0_A_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 = (mkD x0 x1 x2 x3 x4 x6 x7 (kernelRun0_A.sl.r_3 c a6 k6 x5) (kernelRun0_A.sl.r_4 i)).gTP (k0_pay21 (F := Ideal)) := by
  funext y
  unfold sout0_A_8
  rw [View.read_writes_junk_eq_canon, ← List.take_append_drop 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.2.1)]
  exact View.canon_append_of_piecesOf _ _ _ (pieces_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7) y (View.cover_of_tiledL (List.take 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.2.1)) S64x128.size (by sl_kernel_rfl) y)

/-- Scratch `a21` after the point. -/
theorem out_9 : sout0_A_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 = (mkD x0 x1 x2 x3 x4 x6 x7 (kernelRun0_A.sl.r_3 c a6 k6 x5) (kernelRun0_A.sl.r_4 i)).gTQ (k0_pay22 (F := Ideal)) := by
  funext y
  unfold sout0_A_9
  rw [View.read_writes_junk_eq_canon, ← List.take_append_drop 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.2.2.1)]
  exact View.canon_append_of_piecesOf _ _ _ (pieces_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7) y (View.cover_of_tiledL (List.take 32 ((kernelRun0_A c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7).2.2.2.2.2.2.2.2.2.1)) S64x128.size (by sl_kernel_rfl) y)

end Cert.Blk.CaseA

end
-- ==== Proof.CaseBBlocks.lean ====
/- The stores of the middle case of the main call, block by block. -/
module

public import proofs.«01_k».proof.Proof.Tile

@[expose] public section

set_option maxRecDepth 16384

noncomputable section

namespace Cert.Blk.CaseB

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : ¬cond0_0 i) (hc1 : ¬cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32) (xs3 : Vec Ideal S2048x128 .f32) (xs4 : Vec Ideal S2048x128 .f32) (xs5 : Vec Ideal S2048x128 .f32) (xs6 : Vec Ideal S2048x128 .f32) (xs7 : Vec Ideal S2048x128 .f32) (xs8 : Vec Ideal S2048x128 .f32) (xs9 : Vec Ideal S2048x128 .f32)

/-- The dequantised weights, stored group by group. -/
theorem wd_pieces : View.PiecesOf (WD x6 x7) (kernelRun0_B.sl.HS0_20 c a7 k7 a8 k8 x6 x7) :=
  pieces_cons (piece_wd (o := 2432) 19 slices_S512x20_o0_19_S512x1 a7 k7 a8 k8 x6 x7 rfl inb_S256x2560_S256x128_0_2432 inb_S512x20_S512x20_0_0 (inb := inb_S512x2560_S512x128_0_2432))
    (pieces_cons (piece_wd (o := 2304) 18 slices_S512x20_o0_18_S512x1 a7 k7 a8 k8 x6 x7 rfl inb_S256x2560_S256x128_0_2304 inb_S512x20_S512x20_0_0 (inb := inb_S512x2560_S512x128_0_2304))
    (pieces_cons (piece_wd (o := 2176) 17 slices_S512x20_o0_17_S512x1 a7 k7 a8 k8 x6 x7 rfl inb_S256x2560_S256x128_0_2176 inb_S512x20_S512x20_0_0 (inb := inb_S512x2560_S512x128_0_2176))
    (pieces_cons (piece_wd (o := 2048) 16 slices_S512x20_o0_16_S512x1 a7 k7 a8 k8 x6 x7 rfl inb_S256x2560_S256x128_0_2048 inb_S512x20_S512x20_0_0 (inb := inb_S512x2560_S512x128_0_2048))
    (pieces_cons (piece_wd (o := 1920) 15 slices_S512x20_o0_15_S512x1 a7 k7 a8 k8 x6 x7 rfl inb_S256x2560_S256x128_0_1920 inb_S512x20_S512x20_0_0 (inb := inb_S512x2560_S512x128_0_1920))
    (pieces_cons (piece_wd (o := 1792) 14 slices_S512x20_o0_14_S512x1 a7 k7 a8 k8 x6 x7 rfl inb_S256x2560_S256x128_0_1792 inb_S512x20_S512x20_0_0 (inb := inb_S512x2560_S512x128_0_1792))
    (pieces_cons (piece_wd (o := 1664) 13 slices_S512x20_o0_13_S512x1 a7 k7 a8 k8 x6 x7 rfl inb_S256x2560_S256x128_0_1664 inb_S512x20_S512x20_0_0 (inb := inb_S512x2560_S512x128_0_1664))
    (pieces_cons (piece_wd (o := 1536) 12 slices_S512x20_o0_12_S512x1 a7 k7 a8 k8 x6 x7 rfl inb_S256x2560_S256x128_0_1536 inb_S512x20_S512x20_0_0 (inb := inb_S512x2560_S512x128_0_1536))
    (pieces_cons (piece_wd (o := 1408) 11 slices_S512x20_o0_11_S512x1 a7 k7 a8 k8 x6 x7 rfl inb_S256x2560_S256x128_0_1408 inb_S512x20_S512x20_0_0 (inb := inb_S512x2560_S512x128_0_1408))
    (pieces_cons (piece_wd (o := 1280) 10 slices_S512x20_o0_10_S512x1 a7 k7 a8 k8 x6 x7 rfl inb_S256x2560_S256x128_0_1280 inb_S512x20_S512x20_0_0 (inb := inb_S512x2560_S512x128_0_1280))
    (pieces_cons (piece_wd (o := 1152) 9 slices_S512x20_o0_9_S512x1 a7 k7 a8 k8 x6 x7 rfl inb_S256x2560_S256x128_0_1152 inb_S512x20_S512x20_0_0 (inb := inb_S512x2560_S512x128_0_1152))
    (pieces_cons (piece_wd (o := 1024) 8 slices_S512x20_o0_8_S512x1 a7 k7 a8 k8 x6 x7 rfl inb_S256x2560_S256x128_0_1024 inb_S512x20_S512x20_0_0 (inb := inb_S512x2560_S512x128_0_1024))
    (pieces_cons (piece_wd (o := 896) 7 slices_S512x20_o0_7_S512x1 a7 k7 a8 k8 x6 x7 rfl inb_S256x2560_S256x128_0_896 inb_S512x20_S512x20_0_0 (inb := inb_S512x2560_S512x128_0_896))
    (pieces_cons (piece_wd (o := 768) 6 slices_S512x20_o0_6_S512x1 a7 k7 a8 k8 x6 x7 rfl inb_S256x2560_S256x128_0_768 inb_S512x20_S512x20_0_0 (inb := inb_S512x2560_S512x128_0_768))
    (pieces_cons (piece_wd (o := 640) 5 slices_S512x20_o0_5_S512x1 a7 k7 a8 k8 x6 x7 rfl inb_S256x2560_S256x128_0_640 inb_S512x20_S512x20_0_0 (inb := inb_S512x2560_S512x128_0_640))
    (pieces_cons (piece_wd (o := 512) 4 slices_S512x20_o0_4_S512x1 a7 k7 a8 k8 x6 x7 rfl inb_S256x2560_S256x128_0_512 inb_S512x20_S512x20_0_0 (inb := inb_S512x2560_S512x128_0_512))
    (pieces_cons (piece_wd (o := 384) 3 slices_S512x20_o0_3_S512x1 a7 k7 a8 k8 x6 x7 rfl inb_S256x2560_S256x128_0_384 inb_S512x20_S512x20_0_0 (inb := inb_S512x2560_S512x128_0_384))
    (pieces_cons (piece_wd (o := 256) 2 slices_S512x20_o0_2_S512x1 a7 k7 a8 k8 x6 x7 rfl inb_S256x2560_S256x128_0_256 inb_S512x20_S512x20_0_0 (inb := inb_S512x2560_S512x128_0_256))
    (pieces_cons (piece_wd (o := 128) 1 slices_S512x20_o0_1_S512x1 a7 k7 a8 k8 x6 x7 rfl inb_S256x2560_S256x128_0_128 inb_S512x20_S512x20_0_0 (inb := inb_S512x2560_S512x128_0_128))
    (pieces_cons (piece_wd (o := 0) 0 slices_S512x20_o0_0_S512x1 a7 k7 a8 k8 x6 x7 rfl inb_S256x2560_S256x128_0_0 inb_S512x20_S512x20_0_0 (inb := inb_S512x2560_S512x128_0_0))
    (trivial))))))))))))))))))))

/-- The dequantised weights as the products load them. -/
theorem wd : a12.view.readCov (kernelRun0_B.sl.HS0_20 c a7 k7 a8 k8 x6 x7) (Rect.unit (s := S512x2560) ![0, 0] S512x2560.size inb_S512x2560_S512x2560_0_0).toLoadRect = WD x6 x7 :=
  wd_whole a12.view _ _ (wd_pieces c a7 k7 a8 k8 x6 x7) (fun y => View.cover_of_tiledL (kernelRun0_B.sl.HS0_20 c a7 k7 a8 k8 x6 x7) S512x128.size (by sl_kernel_rfl) y) _

/-! The two inputs of each block of 64 rows, as the kernel loads them. -/

theorem bp_0 : BlkP (mkD x0 x1 x2 x3 x4 x6 x7 (kernelRun0_B.sl.r_3 c a6 k6 x5) (kernelRun0_B.sl.r_4 i)) 0 (ra a3 k3 x2 inb_S2048x128_S64x128_0_0) (rd a13.view (kernelRun0_B.sl.HS1_1 c a1 k1 a5 k5 x0 x4) inb_S512x512_S64x128_0_0) (rd a13.view (kernelRun0_B.sl.HS1_1 c a1 k1 a5 k5 x0 x4) inb_S512x512_S64x128_0_128) (rd a13.view (kernelRun0_B.sl.HS1_1 c a1 k1 a5 k5 x0 x4) inb_S512x512_S64x128_0_256) (rd a13.view (kernelRun0_B.sl.HS1_1 c a1 k1 a5 k5 x0 x4) inb_S512x512_S64x128_0_384) :=
  blkP_of _ a3 k3 _ a13.view (t := 0) (oi := 0) (z_tile a1 k1 x0 a5 k5 x4 inb_S2048x2560_S512x2560_0_0 inb_S512x2560_S512x2560_0_0) rfl rfl _ _ _ _

theorem bq_0 : BlkQ (mkD x0 x1 x2 x3 x4 x6 x7 (kernelRun0_B.sl.r_3 c a6 k6 x5) (kernelRun0_B.sl.r_4 i)) 0 (rd a14.view (kernelRun0_B.sl.HS2_1 c a2 k2 a7 k7 a8 k8 a12 x1 x6 x7) inb_S512x512_S64x128_0_0) (rd a14.view (kernelRun0_B.sl.HS2_1 c a2 k2 a7 k7 a8 k8 a12 x1 x6 x7) inb_S512x512_S64x128_0_128) (rd a14.view (kernelRun0_B.sl.HS2_1 c a2 k2 a7 k7 a8 k8 a12 x1 x6 x7) inb_S512x512_S64x128_0_256) (rd a14.view (kernelRun0_B.sl.HS2_1 c a2 k2 a7 k7 a8 k8 a12 x1 x6 x7) inb_S512x512_S64x128_0_384) :=
  blkQ_of _ a14.view (t := 0) (oi := 0) (y_tile a2 k2 x1 (wd c a7 k7 a8 k8 a12 x6 x7) inb_S2048x2560_S512x2560_0_0) rfl rfl _ _ _ _

theorem bp_1 : BlkP (mkD x0 x1 x2 x3 x4 x6 x7 (kernelRun0_B.sl.r_3 c a6 k6 x5) (kernelRun0_B.sl.r_4 i)) 64 (ra a3 k3 x2 inb_S2048x128_S64x128_64_0) (rd a13.view (kernelRun0_B.sl.HS1_1 c a1 k1 a5 k5 x0 x4) inb_S512x512_S64x128_64_0) (rd a13.view (kernelRun0_B.sl.HS1_1 c a1 k1 a5 k5 x0 x4) inb_S512x512_S64x128_64_128) (rd a13.view (kernelRun0_B.sl.HS1_1 c a1 k1 a5 k5 x0 x4) inb_S512x512_S64x128_64_256) (rd a13.view (kernelRun0_B.sl.HS1_1 c a1 k1 a5 k5 x0 x4) inb_S512x512_S64x128_64_384) :=
  blkP_of _ a3 k3 _ a13.view (t := 0) (oi := 64) (z_tile a1 k1 x0 a5 k5 x4 inb_S2048x2560_S512x2560_0_0 inb_S512x2560_S512x2560_0_0) rfl rfl _ _ _ _

theorem bq_1 : BlkQ (mkD x0 x1 x2 x3 x4 x6 x7 (kernelRun0_B.sl.r_3 c a6 k6 x5) (kernelRun0_B.sl.r_4 i)) 64 (rd a14.view (kernelRun0_B.sl.HS2_1 c a2 k2 a7 k7 a8 k8 a12 x1 x6 x7) inb_S512x512_S64x128_64_0) (rd a14.view (kernelRun0_B.sl.HS2_1 c a2 k2 a7 k7 a8 k8 a12 x1 x6 x7) inb_S512x512_S64x128_64_128) (rd a14.view (kernelRun0_B.sl.HS2_1 c a2 k2 a7 k7 a8 k8 a12 x1 x6 x7) inb_S512x512_S64x128_64_256) (rd a14.view (kernelRun0_B.sl.HS2_1 c a2 k2 a7 k7 a8 k8 a12 x1 x6 x7) inb_S512x512_S64x128_64_384) :=
  blkQ_of _ a14.view (t := 0) (oi := 64) (y_tile a2 k2 x1 (wd c a7 k7 a8 k8 a12 x6 x7) inb_S2048x2560_S512x2560_0_0) rfl rfl _ _ _ _

theorem bp_2 : BlkP (mkD x0 x1 x2 x3 x4 x6 x7 (kernelRun0_B.sl.r_3 c a6 k6 x5) (kernelRun0_B.sl.r_4 i)) 128 (ra a3 k3 x2 inb_S2048x128_S64x128_128_0) (rd a13.view (kernelRun0_B.sl.HS1_1 c a1 k1 a5 k5 x0 x4) inb_S512x512_S64x128_128_0) (rd a13.view (kernelRun0_B.sl.HS1_1 c a1 k1 a5 k5 x0 x4) inb_S512x512_S64x128_128_128) (rd a13.view (kernelRun0_B.sl.HS1_1 c a1 k1 a5 k5 x0 x4) inb_S512x512_S64x128_128_256) (rd a13.view (kernelRun0_B.sl.HS1_1 c a1 k1 a5 k5 x0 x4) inb_S512x512_S64x128_128_384) :=
  blkP_of _ a3 k3 _ a13.view (t := 0) (oi := 128) (z_tile a1 k1 x0 a5 k5 x4 inb_S2048x2560_S512x2560_0_0 inb_S512x2560_S512x2560_0_0) rfl rfl _ _ _ _

theorem bq_2 : BlkQ (mkD x0 x1 x2 x3 x4 x6 x7 (kernelRun0_B.sl.r_3 c a6 k6 x5) (kernelRun0_B.sl.r_4 i)) 128 (rd a14.view (kernelRun0_B.sl.HS2_1 c a2 k2 a7 k7 a8 k8 a12 x1 x6 x7) inb_S512x512_S64x128_128_0) (rd a14.view (kernelRun0_B.sl.HS2_1 c a2 k2 a7 k7 a8 k8 a12 x1 x6 x7) inb_S512x512_S64x128_128_128) (rd a14.view (kernelRun0_B.sl.HS2_1 c a2 k2 a7 k7 a8 k8 a12 x1 x6 x7) inb_S512x512_S64x128_128_256) (rd a14.view (kernelRun0_B.sl.HS2_1 c a2 k2 a7 k7 a8 k8 a12 x1 x6 x7) inb_S512x512_S64x128_128_384) :=
  blkQ_of _ a14.view (t := 0) (oi := 128) (y_tile a2 k2 x1 (wd c a7 k7 a8 k8 a12 x6 x7) inb_S2048x2560_S512x2560_0_0) rfl rfl _ _ _ _

theorem bp_3 : BlkP (mkD x0 x1 x2 x3 x4 x6 x7 (kernelRun0_B.sl.r_3 c a6 k6 x5) (kernelRun0_B.sl.r_4 i)) 192 (ra a3 k3 x2 inb_S2048x128_S64x128_192_0) (rd a13.view (kernelRun0_B.sl.HS1_1 c a1 k1 a5 k5 x0 x4) inb_S512x512_S64x128_192_0) (rd a13.view (kernelRun0_B.sl.HS1_1 c a1 k1 a5 k5 x0 x4) inb_S512x512_S64x128_192_128) (rd a13.view (kernelRun0_B.sl.HS1_1 c a1 k1 a5 k5 x0 x4) inb_S512x512_S64x128_192_256) (rd a13.view (kernelRun0_B.sl.HS1_1 c a1 k1 a5 k5 x0 x4) inb_S512x512_S64x128_192_384) :=
  blkP_of _ a3 k3 _ a13.view (t := 0) (oi := 192) (z_tile a1 k1 x0 a5 k5 x4 inb_S2048x2560_S512x2560_0_0 inb_S512x2560_S512x2560_0_0) rfl rfl _ _ _ _

theorem bq_3 : BlkQ (mkD x0 x1 x2 x3 x4 x6 x7 (kernelRun0_B.sl.r_3 c a6 k6 x5) (kernelRun0_B.sl.r_4 i)) 192 (rd a14.view (kernelRun0_B.sl.HS2_1 c a2 k2 a7 k7 a8 k8 a12 x1 x6 x7) inb_S512x512_S64x128_192_0) (rd a14.view (kernelRun0_B.sl.HS2_1 c a2 k2 a7 k7 a8 k8 a12 x1 x6 x7) inb_S512x512_S64x128_192_128) (rd a14.view (kernelRun0_B.sl.HS2_1 c a2 k2 a7 k7 a8 k8 a12 x1 x6 x7) inb_S512x512_S64x128_192_256) (rd a14.view (kernelRun0_B.sl.HS2_1 c a2 k2 a7 k7 a8 k8 a12 x1 x6 x7) inb_S512x512_S64x128_192_384) :=
  blkQ_of _ a14.view (t := 0) (oi := 192) (y_tile a2 k2 x1 (wd c a7 k7 a8 k8 a12 x6 x7) inb_S2048x2560_S512x2560_0_0) rfl rfl _ _ _ _

theorem bp_4 : BlkP (mkD x0 x1 x2 x3 x4 x6 x7 (kernelRun0_B.sl.r_3 c a6 k6 x5) (kernelRun0_B.sl.r_4 i)) 256 (ra a3 k3 x2 inb_S2048x128_S64x128_256_0) (rd a13.view (kernelRun0_B.sl.HS1_1 c a1 k1 a5 k5 x0 x4) inb_S512x512_S64x128_256_0) (rd a13.view (kernelRun0_B.sl.HS1_1 c a1 k1 a5 k5 x0 x4) inb_S512x512_S64x128_256_128) (rd a13.view (kernelRun0_B.sl.HS1_1 c a1 k1 a5 k5 x0 x4) inb_S512x512_S64x128_256_256) (rd a13.view (kernelRun0_B.sl.HS1_1 c a1 k1 a5 k5 x0 x4) inb_S512x512_S64x128_256_384) :=
  blkP_of _ a3 k3 _ a13.view (t := 0) (oi := 256) (z_tile a1 k1 x0 a5 k5 x4 inb_S2048x2560_S512x2560_0_0 inb_S512x2560_S512x2560_0_0) rfl rfl _ _ _ _

theorem bq_4 : BlkQ (mkD x0 x1 x2 x3 x4 x6 x7 (kernelRun0_B.sl.r_3 c a6 k6 x5) (kernelRun0_B.sl.r_4 i)) 256 (rd a14.view (kernelRun0_B.sl.HS2_1 c a2 k2 a7 k7 a8 k8 a12 x1 x6 x7) inb_S512x512_S64x128_256_0) (rd a14.view (kernelRun0_B.sl.HS2_1 c a2 k2 a7 k7 a8 k8 a12 x1 x6 x7) inb_S512x512_S64x128_256_128) (rd a14.view (kernelRun0_B.sl.HS2_1 c a2 k2 a7 k7 a8 k8 a12 x1 x6 x7) inb_S512x512_S64x128_256_256) (rd a14.view (kernelRun0_B.sl.HS2_1 c a2 k2 a7 k7 a8 k8 a12 x1 x6 x7) inb_S512x512_S64x128_256_384) :=
  blkQ_of _ a14.view (t := 0) (oi := 256) (y_tile a2 k2 x1 (wd c a7 k7 a8 k8 a12 x6 x7) inb_S2048x2560_S512x2560_0_0) rfl rfl _ _ _ _

theorem bp_5 : BlkP (mkD x0 x1 x2 x3 x4 x6 x7 (kernelRun0_B.sl.r_3 c a6 k6 x5) (kernelRun0_B.sl.r_4 i)) 320 (ra a3 k3 x2 inb_S2048x128_S64x128_320_0) (rd a13.view (kernelRun0_B.sl.HS1_1 c a1 k1 a5 k5 x0 x4) inb_S512x512_S64x128_320_0) (rd a13.view (kernelRun0_B.sl.HS1_1 c a1 k1 a5 k5 x0 x4) inb_S512x512_S64x128_320_128) (rd a13.view (kernelRun0_B.sl.HS1_1 c a1 k1 a5 k5 x0 x4) inb_S512x512_S64x128_320_256) (rd a13.view (kernelRun0_B.sl.HS1_1 c a1 k1 a5 k5 x0 x4) inb_S512x512_S64x128_320_384) :=
  blkP_of _ a3 k3 _ a13.view (t := 0) (oi := 320) (z_tile a1 k1 x0 a5 k5 x4 inb_S2048x2560_S512x2560_0_0 inb_S512x2560_S512x2560_0_0) rfl rfl _ _ _ _

theorem bq_5 : BlkQ (mkD x0 x1 x2 x3 x4 x6 x7 (kernelRun0_B.sl.r_3 c a6 k6 x5) (kernelRun0_B.sl.r_4 i)) 320 (rd a14.view (kernelRun0_B.sl.HS2_1 c a2 k2 a7 k7 a8 k8 a12 x1 x6 x7) inb_S512x512_S64x128_320_0) (rd a14.view (kernelRun0_B.sl.HS2_1 c a2 k2 a7 k7 a8 k8 a12 x1 x6 x7) inb_S512x512_S64x128_320_128) (rd a14.view (kernelRun0_B.sl.HS2_1 c a2 k2 a7 k7 a8 k8 a12 x1 x6 x7) inb_S512x512_S64x128_320_256) (rd a14.view (kernelRun0_B.sl.HS2_1 c a2 k2 a7 k7 a8 k8 a12 x1 x6 x7) inb_S512x512_S64x128_320_384) :=
  blkQ_of _ a14.view (t := 0) (oi := 320) (y_tile a2 k2 x1 (wd c a7 k7 a8 k8 a12 x6 x7) inb_S2048x2560_S512x2560_0_0) rfl rfl _ _ _ _

theorem bp_6 : BlkP (mkD x0 x1 x2 x3 x4 x6 x7 (kernelRun0_B.sl.r_3 c a6 k6 x5) (kernelRun0_B.sl.r_4 i)) 384 (ra a3 k3 x2 inb_S2048x128_S64x128_384_0) (rd a13.view (kernelRun0_B.sl.HS1_1 c a1 k1 a5 k5 x0 x4) inb_S512x512_S64x128_384_0) (rd a13.view (kernelRun0_B.sl.HS1_1 c a1 k1 a5 k5 x0 x4) inb_S512x512_S64x128_384_128) (rd a13.view (kernelRun0_B.sl.HS1_1 c a1 k1 a5 k5 x0 x4) inb_S512x512_S64x128_384_256) (rd a13.view (kernelRun0_B.sl.HS1_1 c a1 k1 a5 k5 x0 x4) inb_S512x512_S64x128_384_384) :=
  blkP_of _ a3 k3 _ a13.view (t := 0) (oi := 384) (z_tile a1 k1 x0 a5 k5 x4 inb_S2048x2560_S512x2560_0_0 inb_S512x2560_S512x2560_0_0) rfl rfl _ _ _ _

theorem bq_6 : BlkQ (mkD x0 x1 x2 x3 x4 x6 x7 (kernelRun0_B.sl.r_3 c a6 k6 x5) (kernelRun0_B.sl.r_4 i)) 384 (rd a14.view (kernelRun0_B.sl.HS2_1 c a2 k2 a7 k7 a8 k8 a12 x1 x6 x7) inb_S512x512_S64x128_384_0) (rd a14.view (kernelRun0_B.sl.HS2_1 c a2 k2 a7 k7 a8 k8 a12 x1 x6 x7) inb_S512x512_S64x128_384_128) (rd a14.view (kernelRun0_B.sl.HS2_1 c a2 k2 a7 k7 a8 k8 a12 x1 x6 x7) inb_S512x512_S64x128_384_256) (rd a14.view (kernelRun0_B.sl.HS2_1 c a2 k2 a7 k7 a8 k8 a12 x1 x6 x7) inb_S512x512_S64x128_384_384) :=
  blkQ_of _ a14.view (t := 0) (oi := 384) (y_tile a2 k2 x1 (wd c a7 k7 a8 k8 a12 x6 x7) inb_S2048x2560_S512x2560_0_0) rfl rfl _ _ _ _

theorem bp_7 : BlkP (mkD x0 x1 x2 x3 x4 x6 x7 (kernelRun0_B.sl.r_3 c a6 k6 x5) (kernelRun0_B.sl.r_4 i)) 448 (ra a3 k3 x2 inb_S2048x128_S64x128_448_0) (rd a13.view (kernelRun0_B.sl.HS1_1 c a1 k1 a5 k5 x0 x4) inb_S512x512_S64x128_448_0) (rd a13.view (kernelRun0_B.sl.HS1_1 c a1 k1 a5 k5 x0 x4) inb_S512x512_S64x128_448_128) (rd a13.view (kernelRun0_B.sl.HS1_1 c a1 k1 a5 k5 x0 x4) inb_S512x512_S64x128_448_256) (rd a13.view (kernelRun0_B.sl.HS1_1 c a1 k1 a5 k5 x0 x4) inb_S512x512_S64x128_448_384) :=
  blkP_of _ a3 k3 _ a13.view (t := 0) (oi := 448) (z_tile a1 k1 x0 a5 k5 x4 inb_S2048x2560_S512x2560_0_0 inb_S512x2560_S512x2560_0_0) rfl rfl _ _ _ _

theorem bq_7 : BlkQ (mkD x0 x1 x2 x3 x4 x6 x7 (kernelRun0_B.sl.r_3 c a6 k6 x5) (kernelRun0_B.sl.r_4 i)) 448 (rd a14.view (kernelRun0_B.sl.HS2_1 c a2 k2 a7 k7 a8 k8 a12 x1 x6 x7) inb_S512x512_S64x128_448_0) (rd a14.view (kernelRun0_B.sl.HS2_1 c a2 k2 a7 k7 a8 k8 a12 x1 x6 x7) inb_S512x512_S64x128_448_128) (rd a14.view (kernelRun0_B.sl.HS2_1 c a2 k2 a7 k7 a8 k8 a12 x1 x6 x7) inb_S512x512_S64x128_448_256) (rd a14.view (kernelRun0_B.sl.HS2_1 c a2 k2 a7 k7 a8 k8 a12 x1 x6 x7) inb_S512x512_S64x128_448_384) :=
  blkQ_of _ a14.view (t := 0) (oi := 448) (y_tile a2 k2 x1 (wd c a7 k7 a8 k8 a12 x6 x7) inb_S2048x2560_S512x2560_0_0) rfl rfl _ _ _ _

theorem bp_8 : BlkP (mkD x0 x1 x2 x3 x4 x6 x7 (kernelRun0_B.sl.r_3 c a6 k6 x5) (kernelRun0_B.sl.r_4 i)) 512 (ra a3 k3 x2 inb_S2048x128_S64x128_512_0) (rd a13.view (kernelRun0_B.sl.HS1_2 c a1 k1 a5 k5 x0 x4) inb_S512x512_S64x128_0_0) (rd a13.view (kernelRun0_B.sl.HS1_2 c a1 k1 a5 k5 x0 x4) inb_S512x512_S64x128_0_128) (rd a13.view (kernelRun0_B.sl.HS1_2 c a1 k1 a5 k5 x0 x4) inb_S512x512_S64x128_0_256) (rd a13.view (kernelRun0_B.sl.HS1_2 c a1 k1 a5 k5 x0 x4) inb_S512x512_S64x128_0_384) :=
  blkP_of _ a3 k3 _ a13.view (t := 512) (oi := 0) (z_tile a1 k1 x0 a5 k5 x4 inb_S2048x2560_S512x2560_512_0 inb_S512x2560_S512x2560_0_0) rfl rfl _ _ _ _

theorem bq_8 : BlkQ (mkD x0 x1 x2 x3 x4 x6 x7 (kernelRun0_B.sl.r_3 c a6 k6 x5) (kernelRun0_B.sl.r_4 i)) 512 (rd a14.view (kernelRun0_B.sl.HS2_2 c a2 k2 a7 k7 a8 k8 a12 x1 x6 x7) inb_S512x512_S64x128_0_0) (rd a14.view (kernelRun0_B.sl.HS2_2 c a2 k2 a7 k7 a8 k8 a12 x1 x6 x7) inb_S512x512_S64x128_0_128) (rd a14.view (kernelRun0_B.sl.HS2_2 c a2 k2 a7 k7 a8 k8 a12 x1 x6 x7) inb_S512x512_S64x128_0_256) (rd a14.view (kernelRun0_B.sl.HS2_2 c a2 k2 a7 k7 a8 k8 a12 x1 x6 x7) inb_S512x512_S64x128_0_384) :=
  blkQ_of _ a14.view (t := 512) (oi := 0) (y_tile a2 k2 x1 (wd c a7 k7 a8 k8 a12 x6 x7) inb_S2048x2560_S512x2560_512_0) rfl rfl _ _ _ _

theorem bp_9 : BlkP (mkD x0 x1 x2 x3 x4 x6 x7 (kernelRun0_B.sl.r_3 c a6 k6 x5) (kernelRun0_B.sl.r_4 i)) 576 (ra a3 k3 x2 inb_S2048x128_S64x128_576_0) (rd a13.view (kernelRun0_B.sl.HS1_2 c a1 k1 a5 k5 x0 x4) inb_S512x512_S64x128_64_0) (rd a13.view (kernelRun0_B.sl.HS1_2 c a1 k1 a5 k5 x0 x4) inb_S512x512_S64x128_64_128) (rd a13.view (kernelRun0_B.sl.HS1_2 c a1 k1 a5 k5 x0 x4) inb_S512x512_S64x128_64_256) (rd a13.view (kernelRun0_B.sl.HS1_2 c a1 k1 a5 k5 x0 x4) inb_S512x512_S64x128_64_384) :=
  blkP_of _ a3 k3 _ a13.view (t := 512) (oi := 64) (z_tile a1 k1 x0 a5 k5 x4 inb_S2048x2560_S512x2560_512_0 inb_S512x2560_S512x2560_0_0) rfl rfl _ _ _ _

theorem bq_9 : BlkQ (mkD x0 x1 x2 x3 x4 x6 x7 (kernelRun0_B.sl.r_3 c a6 k6 x5) (kernelRun0_B.sl.r_4 i)) 576 (rd a14.view (kernelRun0_B.sl.HS2_2 c a2 k2 a7 k7 a8 k8 a12 x1 x6 x7) inb_S512x512_S64x128_64_0) (rd a14.view (kernelRun0_B.sl.HS2_2 c a2 k2 a7 k7 a8 k8 a12 x1 x6 x7) inb_S512x512_S64x128_64_128) (rd a14.view (kernelRun0_B.sl.HS2_2 c a2 k2 a7 k7 a8 k8 a12 x1 x6 x7) inb_S512x512_S64x128_64_256) (rd a14.view (kernelRun0_B.sl.HS2_2 c a2 k2 a7 k7 a8 k8 a12 x1 x6 x7) inb_S512x512_S64x128_64_384) :=
  blkQ_of _ a14.view (t := 512) (oi := 64) (y_tile a2 k2 x1 (wd c a7 k7 a8 k8 a12 x6 x7) inb_S2048x2560_S512x2560_512_0) rfl rfl _ _ _ _

theorem bp_10 : BlkP (mkD x0 x1 x2 x3 x4 x6 x7 (kernelRun0_B.sl.r_3 c a6 k6 x5) (kernelRun0_B.sl.r_4 i)) 640 (ra a3 k3 x2 inb_S2048x128_S64x128_640_0) (rd a13.view (kernelRun0_B.sl.HS1_2 c a1 k1 a5 k5 x0 x4) inb_S512x512_S64x128_128_0) (rd a13.view (kernelRun0_B.sl.HS1_2 c a1 k1 a5 k5 x0 x4) inb_S512x512_S64x128_128_128) (rd a13.view (kernelRun0_B.sl.HS1_2 c a1 k1 a5 k5 x0 x4) inb_S512x512_S64x128_128_256) (rd a13.view (kernelRun0_B.sl.HS1_2 c a1 k1 a5 k5 x0 x4) inb_S512x512_S64x128_128_384) :=
  blkP_of _ a3 k3 _ a13.view (t := 512) (oi := 128) (z_tile a1 k1 x0 a5 k5 x4 inb_S2048x2560_S512x2560_512_0 inb_S512x2560_S512x2560_0_0) rfl rfl _ _ _ _

theorem bq_10 : BlkQ (mkD x0 x1 x2 x3 x4 x6 x7 (kernelRun0_B.sl.r_3 c a6 k6 x5) (kernelRun0_B.sl.r_4 i)) 640 (rd a14.view (kernelRun0_B.sl.HS2_2 c a2 k2 a7 k7 a8 k8 a12 x1 x6 x7) inb_S512x512_S64x128_128_0) (rd a14.view (kernelRun0_B.sl.HS2_2 c a2 k2 a7 k7 a8 k8 a12 x1 x6 x7) inb_S512x512_S64x128_128_128) (rd a14.view (kernelRun0_B.sl.HS2_2 c a2 k2 a7 k7 a8 k8 a12 x1 x6 x7) inb_S512x512_S64x128_128_256) (rd a14.view (kernelRun0_B.sl.HS2_2 c a2 k2 a7 k7 a8 k8 a12 x1 x6 x7) inb_S512x512_S64x128_128_384) :=
  blkQ_of _ a14.view (t := 512) (oi := 128) (y_tile a2 k2 x1 (wd c a7 k7 a8 k8 a12 x6 x7) inb_S2048x2560_S512x2560_512_0) rfl rfl _ _ _ _

theorem bp_11 : BlkP (mkD x0 x1 x2 x3 x4 x6 x7 (kernelRun0_B.sl.r_3 c a6 k6 x5) (kernelRun0_B.sl.r_4 i)) 704 (ra a3 k3 x2 inb_S2048x128_S64x128_704_0) (rd a13.view (kernelRun0_B.sl.HS1_2 c a1 k1 a5 k5 x0 x4) inb_S512x512_S64x128_192_0) (rd a13.view (kernelRun0_B.sl.HS1_2 c a1 k1 a5 k5 x0 x4) inb_S512x512_S64x128_192_128) (rd a13.view (kernelRun0_B.sl.HS1_2 c a1 k1 a5 k5 x0 x4) inb_S512x512_S64x128_192_256) (rd a13.view (kernelRun0_B.sl.HS1_2 c a1 k1 a5 k5 x0 x4) inb_S512x512_S64x128_192_384) :=
  blkP_of _ a3 k3 _ a13.view (t := 512) (oi := 192) (z_tile a1 k1 x0 a5 k5 x4 inb_S2048x2560_S512x2560_512_0 inb_S512x2560_S512x2560_0_0) rfl rfl _ _ _ _

theorem bq_11 : BlkQ (mkD x0 x1 x2 x3 x4 x6 x7 (kernelRun0_B.sl.r_3 c a6 k6 x5) (kernelRun0_B.sl.r_4 i)) 704 (rd a14.view (kernelRun0_B.sl.HS2_2 c a2 k2 a7 k7 a8 k8 a12 x1 x6 x7) inb_S512x512_S64x128_192_0) (rd a14.view (kernelRun0_B.sl.HS2_2 c a2 k2 a7 k7 a8 k8 a12 x1 x6 x7) inb_S512x512_S64x128_192_128) (rd a14.view (kernelRun0_B.sl.HS2_2 c a2 k2 a7 k7 a8 k8 a12 x1 x6 x7) inb_S512x512_S64x128_192_256) (rd a14.view (kernelRun0_B.sl.HS2_2 c a2 k2 a7 k7 a8 k8 a12 x1 x6 x7) inb_S512x512_S64x128_192_384) :=
  blkQ_of _ a14.view (t := 512) (oi := 192) (y_tile a2 k2 x1 (wd c a7 k7 a8 k8 a12 x6 x7) inb_S2048x2560_S512x2560_512_0) rfl rfl _ _ _ _

theorem bp_12 : BlkP (mkD x0 x1 x2 x3 x4 x6 x7 (kernelRun0_B.sl.r_3 c a6 k6 x5) (kernelRun0_B.sl.r_4 i)) 768 (ra a3 k3 x2 inb_S2048x128_S64x128_768_0) (rd a13.view (kernelRun0_B.sl.HS1_2 c a1 k1 a5 k5 x0 x4) inb_S512x512_S64x128_256_0) (rd a13.view (kernelRun0_B.sl.HS1_2 c a1 k1 a5 k5 x0 x4) inb_S512x512_S64x128_256_128) (rd a13.view (kernelRun0_B.sl.HS1_2 c a1 k1 a5 k5 x0 x4) inb_S512x512_S64x128_256_256) (rd a13.view (kernelRun0_B.sl.HS1_2 c a1 k1 a5 k5 x0 x4) inb_S512x512_S64x128_256_384) :=
  blkP_of _ a3 k3 _ a13.view (t := 512) (oi := 256) (z_tile a1 k1 x0 a5 k5 x4 inb_S2048x2560_S512x2560_512_0 inb_S512x2560_S512x2560_0_0) rfl rfl _ _ _ _

theorem bq_12 : BlkQ (mkD x0 x1 x2 x3 x4 x6 x7 (kernelRun0_B.sl.r_3 c a6 k6 x5) (kernelRun0_B.sl.r_4 i)) 768 (rd a14.view (kernelRun0_B.sl.HS2_2 c a2 k2 a7 k7 a8 k8 a12 x1 x6 x7) inb_S512x512_S64x128_256_0) (rd a14.view (kernelRun0_B.sl.HS2_2 c a2 k2 a7 k7 a8 k8 a12 x1 x6 x7) inb_S512x512_S64x128_256_128) (rd a14.view (kernelRun0_B.sl.HS2_2 c a2 k2 a7 k7 a8 k8 a12 x1 x6 x7) inb_S512x512_S64x128_256_256) (rd a14.view (kernelRun0_B.sl.HS2_2 c a2 k2 a7 k7 a8 k8 a12 x1 x6 x7) inb_S512x512_S64x128_256_384) :=
  blkQ_of _ a14.view (t := 512) (oi := 256) (y_tile a2 k2 x1 (wd c a7 k7 a8 k8 a12 x6 x7) inb_S2048x2560_S512x2560_512_0) rfl rfl _ _ _ _

theorem bp_13 : BlkP (mkD x0 x1 x2 x3 x4 x6 x7 (kernelRun0_B.sl.r_3 c a6 k6 x5) (kernelRun0_B.sl.r_4 i)) 832 (ra a3 k3 x2 inb_S2048x128_S64x128_832_0) (rd a13.view (kernelRun0_B.sl.HS1_2 c a1 k1 a5 k5 x0 x4) inb_S512x512_S64x128_320_0) (rd a13.view (kernelRun0_B.sl.HS1_2 c a1 k1 a5 k5 x0 x4) inb_S512x512_S64x128_320_128) (rd a13.view (kernelRun0_B.sl.HS1_2 c a1 k1 a5 k5 x0 x4) inb_S512x512_S64x128_320_256) (rd a13.view (kernelRun0_B.sl.HS1_2 c a1 k1 a5 k5 x0 x4) inb_S512x512_S64x128_320_384) :=
  blkP_of _ a3 k3 _ a13.view (t := 512) (oi := 320) (z_tile a1 k1 x0 a5 k5 x4 inb_S2048x2560_S512x2560_512_0 inb_S512x2560_S512x2560_0_0) rfl rfl _ _ _ _

theorem bq_13 : BlkQ (mkD x0 x1 x2 x3 x4 x6 x7 (kernelRun0_B.sl.r_3 c a6 k6 x5) (kernelRun0_B.sl.r_4 i)) 832 (rd a14.view (kernelRun0_B.sl.HS2_2 c a2 k2 a7 k7 a8 k8 a12 x1 x6 x7) inb_S512x512_S64x128_320_0) (rd a14.view (kernelRun0_B.sl.HS2_2 c a2 k2 a7 k7 a8 k8 a12 x1 x6 x7) inb_S512x512_S64x128_320_128) (rd a14.view (kernelRun0_B.sl.HS2_2 c a2 k2 a7 k7 a8 k8 a12 x1 x6 x7) inb_S512x512_S64x128_320_256) (rd a14.view (kernelRun0_B.sl.HS2_2 c a2 k2 a7 k7 a8 k8 a12 x1 x6 x7) inb_S512x512_S64x128_320_384) :=
  blkQ_of _ a14.view (t := 512) (oi := 320) (y_tile a2 k2 x1 (wd c a7 k7 a8 k8 a12 x6 x7) inb_S2048x2560_S512x2560_512_0) rfl rfl _ _ _ _

theorem bp_14 : BlkP (mkD x0 x1 x2 x3 x4 x6 x7 (kernelRun0_B.sl.r_3 c a6 k6 x5) (kernelRun0_B.sl.r_4 i)) 896 (ra a3 k3 x2 inb_S2048x128_S64x128_896_0) (rd a13.view (kernelRun0_B.sl.HS1_2 c a1 k1 a5 k5 x0 x4) inb_S512x512_S64x128_384_0) (rd a13.view (kernelRun0_B.sl.HS1_2 c a1 k1 a5 k5 x0 x4) inb_S512x512_S64x128_384_128) (rd a13.view (kernelRun0_B.sl.HS1_2 c a1 k1 a5 k5 x0 x4) inb_S512x512_S64x128_384_256) (rd a13.view (kernelRun0_B.sl.HS1_2 c a1 k1 a5 k5 x0 x4) inb_S512x512_S64x128_384_384) :=
  blkP_of _ a3 k3 _ a13.view (t := 512) (oi := 384) (z_tile a1 k1 x0 a5 k5 x4 inb_S2048x2560_S512x2560_512_0 inb_S512x2560_S512x2560_0_0) rfl rfl _ _ _ _

theorem bq_14 : BlkQ (mkD x0 x1 x2 x3 x4 x6 x7 (kernelRun0_B.sl.r_3 c a6 k6 x5) (kernelRun0_B.sl.r_4 i)) 896 (rd a14.view (kernelRun0_B.sl.HS2_2 c a2 k2 a7 k7 a8 k8 a12 x1 x6 x7) inb_S512x512_S64x128_384_0) (rd a14.view (kernelRun0_B.sl.HS2_2 c a2 k2 a7 k7 a8 k8 a12 x1 x6 x7) inb_S512x512_S64x128_384_128) (rd a14.view (kernelRun0_B.sl.HS2_2 c a2 k2 a7 k7 a8 k8 a12 x1 x6 x7) inb_S512x512_S64x128_384_256) (rd a14.view (kernelRun0_B.sl.HS2_2 c a2 k2 a7 k7 a8 k8 a12 x1 x6 x7) inb_S512x512_S64x128_384_384) :=
  blkQ_of _ a14.view (t := 512) (oi := 384) (y_tile a2 k2 x1 (wd c a7 k7 a8 k8 a12 x6 x7) inb_S2048x2560_S512x2560_512_0) rfl rfl _ _ _ _

theorem bp_15 : BlkP (mkD x0 x1 x2 x3 x4 x6 x7 (kernelRun0_B.sl.r_3 c a6 k6 x5) (kernelRun0_B.sl.r_4 i)) 960 (ra a3 k3 x2 inb_S2048x128_S64x128_960_0) (rd a13.view (kernelRun0_B.sl.HS1_2 c a1 k1 a5 k5 x0 x4) inb_S512x512_S64x128_448_0) (rd a13.view (kernelRun0_B.sl.HS1_2 c a1 k1 a5 k5 x0 x4) inb_S512x512_S64x128_448_128) (rd a13.view (kernelRun0_B.sl.HS1_2 c a1 k1 a5 k5 x0 x4) inb_S512x512_S64x128_448_256) (rd a13.view (kernelRun0_B.sl.HS1_2 c a1 k1 a5 k5 x0 x4) inb_S512x512_S64x128_448_384) :=
  blkP_of _ a3 k3 _ a13.view (t := 512) (oi := 448) (z_tile a1 k1 x0 a5 k5 x4 inb_S2048x2560_S512x2560_512_0 inb_S512x2560_S512x2560_0_0) rfl rfl _ _ _ _

theorem bq_15 : BlkQ (mkD x0 x1 x2 x3 x4 x6 x7 (kernelRun0_B.sl.r_3 c a6 k6 x5) (kernelRun0_B.sl.r_4 i)) 960 (rd a14.view (kernelRun0_B.sl.HS2_2 c a2 k2 a7 k7 a8 k8 a12 x1 x6 x7) inb_S512x512_S64x128_448_0) (rd a14.view (kernelRun0_B.sl.HS2_2 c a2 k2 a7 k7 a8 k8 a12 x1 x6 x7) inb_S512x512_S64x128_448_128) (rd a14.view (kernelRun0_B.sl.HS2_2 c a2 k2 a7 k7 a8 k8 a12 x1 x6 x7) inb_S512x512_S64x128_448_256) (rd a14.view (kernelRun0_B.sl.HS2_2 c a2 k2 a7 k7 a8 k8 a12 x1 x6 x7) inb_S512x512_S64x128_448_384) :=
  blkQ_of _ a14.view (t := 512) (oi := 448) (y_tile a2 k2 x1 (wd c a7 k7 a8 k8 a12 x6 x7) inb_S2048x2560_S512x2560_512_0) rfl rfl _ _ _ _

theorem bp_16 : BlkP (mkD x0 x1 x2 x3 x4 x6 x7 (kernelRun0_B.sl.r_3 c a6 k6 x5) (kernelRun0_B.sl.r_4 i)) 1024 (ra a3 k3 x2 inb_S2048x128_S64x128_1024_0) (rd a13.view (kernelRun0_B.sl.HS1_3 c a1 k1 a5 k5 x0 x4) inb_S512x512_S64x128_0_0) (rd a13.view (kernelRun0_B.sl.HS1_3 c a1 k1 a5 k5 x0 x4) inb_S512x512_S64x128_0_128) (rd a13.view (kernelRun0_B.sl.HS1_3 c a1 k1 a5 k5 x0 x4) inb_S512x512_S64x128_0_256) (rd a13.view (kernelRun0_B.sl.HS1_3 c a1 k1 a5 k5 x0 x4) inb_S512x512_S64x128_0_384) :=
  blkP_of _ a3 k3 _ a13.view (t := 1024) (oi := 0) (z_tile a1 k1 x0 a5 k5 x4 inb_S2048x2560_S512x2560_1024_0 inb_S512x2560_S512x2560_0_0) rfl rfl _ _ _ _

theorem bq_16 : BlkQ (mkD x0 x1 x2 x3 x4 x6 x7 (kernelRun0_B.sl.r_3 c a6 k6 x5) (kernelRun0_B.sl.r_4 i)) 1024 (rd a14.view (kernelRun0_B.sl.HS2_3 c a2 k2 a7 k7 a8 k8 a12 x1 x6 x7) inb_S512x512_S64x128_0_0) (rd a14.view (kernelRun0_B.sl.HS2_3 c a2 k2 a7 k7 a8 k8 a12 x1 x6 x7) inb_S512x512_S64x128_0_128) (rd a14.view (kernelRun0_B.sl.HS2_3 c a2 k2 a7 k7 a8 k8 a12 x1 x6 x7) inb_S512x512_S64x128_0_256) (rd a14.view (kernelRun0_B.sl.HS2_3 c a2 k2 a7 k7 a8 k8 a12 x1 x6 x7) inb_S512x512_S64x128_0_384) :=
  blkQ_of _ a14.view (t := 1024) (oi := 0) (y_tile a2 k2 x1 (wd c a7 k7 a8 k8 a12 x6 x7) inb_S2048x2560_S512x2560_1024_0) rfl rfl _ _ _ _

theorem bp_17 : BlkP (mkD x0 x1 x2 x3 x4 x6 x7 (kernelRun0_B.sl.r_3 c a6 k6 x5) (kernelRun0_B.sl.r_4 i)) 1088 (ra a3 k3 x2 inb_S2048x128_S64x128_1088_0) (rd a13.view (kernelRun0_B.sl.HS1_3 c a1 k1 a5 k5 x0 x4) inb_S512x512_S64x128_64_0) (rd a13.view (kernelRun0_B.sl.HS1_3 c a1 k1 a5 k5 x0 x4) inb_S512x512_S64x128_64_128) (rd a13.view (kernelRun0_B.sl.HS1_3 c a1 k1 a5 k5 x0 x4) inb_S512x512_S64x128_64_256) (rd a13.view (kernelRun0_B.sl.HS1_3 c a1 k1 a5 k5 x0 x4) inb_S512x512_S64x128_64_384) :=
  blkP_of _ a3 k3 _ a13.view (t := 1024) (oi := 64) (z_tile a1 k1 x0 a5 k5 x4 inb_S2048x2560_S512x2560_1024_0 inb_S512x2560_S512x2560_0_0) rfl rfl _ _ _ _

theorem bq_17 : BlkQ (mkD x0 x1 x2 x3 x4 x6 x7 (kernelRun0_B.sl.r_3 c a6 k6 x5) (kernelRun0_B.sl.r_4 i)) 1088 (rd a14.view (kernelRun0_B.sl.HS2_3 c a2 k2 a7 k7 a8 k8 a12 x1 x6 x7) inb_S512x512_S64x128_64_0) (rd a14.view (kernelRun0_B.sl.HS2_3 c a2 k2 a7 k7 a8 k8 a12 x1 x6 x7) inb_S512x512_S64x128_64_128) (rd a14.view (kernelRun0_B.sl.HS2_3 c a2 k2 a7 k7 a8 k8 a12 x1 x6 x7) inb_S512x512_S64x128_64_256) (rd a14.view (kernelRun0_B.sl.HS2_3 c a2 k2 a7 k7 a8 k8 a12 x1 x6 x7) inb_S512x512_S64x128_64_384) :=
  blkQ_of _ a14.view (t := 1024) (oi := 64) (y_tile a2 k2 x1 (wd c a7 k7 a8 k8 a12 x6 x7) inb_S2048x2560_S512x2560_1024_0) rfl rfl _ _ _ _

theorem bp_18 : BlkP (mkD x0 x1 x2 x3 x4 x6 x7 (kernelRun0_B.sl.r_3 c a6 k6 x5) (kernelRun0_B.sl.r_4 i)) 1152 (ra a3 k3 x2 inb_S2048x128_S64x128_1152_0) (rd a13.view (kernelRun0_B.sl.HS1_3 c a1 k1 a5 k5 x0 x4) inb_S512x512_S64x128_128_0) (rd a13.view (kernelRun0_B.sl.HS1_3 c a1 k1 a5 k5 x0 x4) inb_S512x512_S64x128_128_128) (rd a13.view (kernelRun0_B.sl.HS1_3 c a1 k1 a5 k5 x0 x4) inb_S512x512_S64x128_128_256) (rd a13.view (kernelRun0_B.sl.HS1_3 c a1 k1 a5 k5 x0 x4) inb_S512x512_S64x128_128_384) :=
  blkP_of _ a3 k3 _ a13.view (t := 1024) (oi := 128) (z_tile a1 k1 x0 a5 k5 x4 inb_S2048x2560_S512x2560_1024_0 inb_S512x2560_S512x2560_0_0) rfl rfl _ _ _ _

theorem bq_18 : BlkQ (mkD x0 x1 x2 x3 x4 x6 x7 (kernelRun0_B.sl.r_3 c a6 k6 x5) (kernelRun0_B.sl.r_4 i)) 1152 (rd a14.view (kernelRun0_B.sl.HS2_3 c a2 k2 a7 k7 a8 k8 a12 x1 x6 x7) inb_S512x512_S64x128_128_0) (rd a14.view (kernelRun0_B.sl.HS2_3 c a2 k2 a7 k7 a8 k8 a12 x1 x6 x7) inb_S512x512_S64x128_128_128) (rd a14.view (kernelRun0_B.sl.HS2_3 c a2 k2 a7 k7 a8 k8 a12 x1 x6 x7) inb_S512x512_S64x128_128_256) (rd a14.view (kernelRun0_B.sl.HS2_3 c a2 k2 a7 k7 a8 k8 a12 x1 x6 x7) inb_S512x512_S64x128_128_384) :=
  blkQ_of _ a14.view (t := 1024) (oi := 128) (y_tile a2 k2 x1 (wd c a7 k7 a8 k8 a12 x6 x7) inb_S2048x2560_S512x2560_1024_0) rfl rfl _ _ _ _

theorem bp_19 : BlkP (mkD x0 x1 x2 x3 x4 x6 x7 (kernelRun0_B.sl.r_3 c a6 k6 x5) (kernelRun0_B.sl.r_4 i)) 1216 (ra a3 k3 x2 inb_S2048x128_S64x128_1216_0) (rd a13.view (kernelRun0_B.sl.HS1_3 c a1 k1 a5 k5 x0 x4) inb_S512x512_S64x128_192_0) (rd a13.view (kernelRun0_B.sl.HS1_3 c a1 k1 a5 k5 x0 x4) inb_S512x512_S64x128_192_128) (rd a13.view (kernelRun0_B.sl.HS1_3 c a1 k1 a5 k5 x0 x4) inb_S512x512_S64x128_192_256) (rd a13.view (kernelRun0_B.sl.HS1_3 c a1 k1 a5 k5 x0 x4) inb_S512x512_S64x128_192_384) :=
  blkP_of _ a3 k3 _ a13.view (t := 1024) (oi := 192) (z_tile a1 k1 x0 a5 k5 x4 inb_S2048x2560_S512x2560_1024_0 inb_S512x2560_S512x2560_0_0) rfl rfl _ _ _ _

theorem bq_19 : BlkQ (mkD x0 x1 x2 x3 x4 x6 x7 (kernelRun0_B.sl.r_3 c a6 k6 x5) (kernelRun0_B.sl.r_4 i)) 1216 (rd a14.view (kernelRun0_B.sl.HS2_3 c a2 k2 a7 k7 a8 k8 a12 x1 x6 x7) inb_S512x512_S64x128_192_0) (rd a14.view (kernelRun0_B.sl.HS2_3 c a2 k2 a7 k7 a8 k8 a12 x1 x6 x7) inb_S512x512_S64x128_192_128) (rd a14.view (kernelRun0_B.sl.HS2_3 c a2 k2 a7 k7 a8 k8 a12 x1 x6 x7) inb_S512x512_S64x128_192_256) (rd a14.view (kernelRun0_B.sl.HS2_3 c a2 k2 a7 k7 a8 k8 a12 x1 x6 x7) inb_S512x512_S64x128_192_384) :=
  blkQ_of _ a14.view (t := 1024) (oi := 192) (y_tile a2 k2 x1 (wd c a7 k7 a8 k8 a12 x6 x7) inb_S2048x2560_S512x2560_1024_0) rfl rfl _ _ _ _

theorem bp_20 : BlkP (mkD x0 x1 x2 x3 x4 x6 x7 (kernelRun0_B.sl.r_3 c a6 k6 x5) (kernelRun0_B.sl.r_4 i)) 1280 (ra a3 k3 x2 inb_S2048x128_S64x128_1280_0) (rd a13.view (kernelRun0_B.sl.HS1_3 c a1 k1 a5 k5 x0 x4) inb_S512x512_S64x128_256_0) (rd a13.view (kernelRun0_B.sl.HS1_3 c a1 k1 a5 k5 x0 x4) inb_S512x512_S64x128_256_128) (rd a13.view (kernelRun0_B.sl.HS1_3 c a1 k1 a5 k5 x0 x4) inb_S512x512_S64x128_256_256) (rd a13.view (kernelRun0_B.sl.HS1_3 c a1 k1 a5 k5 x0 x4) inb_S512x512_S64x128_256_384) :=
  blkP_of _ a3 k3 _ a13.view (t := 1024) (oi := 256) (z_tile a1 k1 x0 a5 k5 x4 inb_S2048x2560_S512x2560_1024_0 inb_S512x2560_S512x2560_0_0) rfl rfl _ _ _ _

theorem bq_20 : BlkQ (mkD x0 x1 x2 x3 x4 x6 x7 (kernelRun0_B.sl.r_3 c a6 k6 x5) (kernelRun0_B.sl.r_4 i)) 1280 (rd a14.view (kernelRun0_B.sl.HS2_3 c a2 k2 a7 k7 a8 k8 a12 x1 x6 x7) inb_S512x512_S64x128_256_0) (rd a14.view (kernelRun0_B.sl.HS2_3 c a2 k2 a7 k7 a8 k8 a12 x1 x6 x7) inb_S512x512_S64x128_256_128) (rd a14.view (kernelRun0_B.sl.HS2_3 c a2 k2 a7 k7 a8 k8 a12 x1 x6 x7) inb_S512x512_S64x128_256_256) (rd a14.view (kernelRun0_B.sl.HS2_3 c a2 k2 a7 k7 a8 k8 a12 x1 x6 x7) inb_S512x512_S64x128_256_384) :=
  blkQ_of _ a14.view (t := 1024) (oi := 256) (y_tile a2 k2 x1 (wd c a7 k7 a8 k8 a12 x6 x7) inb_S2048x2560_S512x2560_1024_0) rfl rfl _ _ _ _

theorem bp_21 : BlkP (mkD x0 x1 x2 x3 x4 x6 x7 (kernelRun0_B.sl.r_3 c a6 k6 x5) (kernelRun0_B.sl.r_4 i)) 1344 (ra a3 k3 x2 inb_S2048x128_S64x128_1344_0) (rd a13.view (kernelRun0_B.sl.HS1_3 c a1 k1 a5 k5 x0 x4) inb_S512x512_S64x128_320_0) (rd a13.view (kernelRun0_B.sl.HS1_3 c a1 k1 a5 k5 x0 x4) inb_S512x512_S64x128_320_128) (rd a13.view (kernelRun0_B.sl.HS1_3 c a1 k1 a5 k5 x0 x4) inb_S512x512_S64x128_320_256) (rd a13.view (kernelRun0_B.sl.HS1_3 c a1 k1 a5 k5 x0 x4) inb_S512x512_S64x128_320_384) :=
  blkP_of _ a3 k3 _ a13.view (t := 1024) (oi := 320) (z_tile a1 k1 x0 a5 k5 x4 inb_S2048x2560_S512x2560_1024_0 inb_S512x2560_S512x2560_0_0) rfl rfl _ _ _ _

theorem bq_21 : BlkQ (mkD x0 x1 x2 x3 x4 x6 x7 (kernelRun0_B.sl.r_3 c a6 k6 x5) (kernelRun0_B.sl.r_4 i)) 1344 (rd a14.view (kernelRun0_B.sl.HS2_3 c a2 k2 a7 k7 a8 k8 a12 x1 x6 x7) inb_S512x512_S64x128_320_0) (rd a14.view (kernelRun0_B.sl.HS2_3 c a2 k2 a7 k7 a8 k8 a12 x1 x6 x7) inb_S512x512_S64x128_320_128) (rd a14.view (kernelRun0_B.sl.HS2_3 c a2 k2 a7 k7 a8 k8 a12 x1 x6 x7) inb_S512x512_S64x128_320_256) (rd a14.view (kernelRun0_B.sl.HS2_3 c a2 k2 a7 k7 a8 k8 a12 x1 x6 x7) inb_S512x512_S64x128_320_384) :=
  blkQ_of _ a14.view (t := 1024) (oi := 320) (y_tile a2 k2 x1 (wd c a7 k7 a8 k8 a12 x6 x7) inb_S2048x2560_S512x2560_1024_0) rfl rfl _ _ _ _

theorem bp_22 : BlkP (mkD x0 x1 x2 x3 x4 x6 x7 (kernelRun0_B.sl.r_3 c a6 k6 x5) (kernelRun0_B.sl.r_4 i)) 1408 (ra a3 k3 x2 inb_S2048x128_S64x128_1408_0) (rd a13.view (kernelRun0_B.sl.HS1_3 c a1 k1 a5 k5 x0 x4) inb_S512x512_S64x128_384_0) (rd a13.view (kernelRun0_B.sl.HS1_3 c a1 k1 a5 k5 x0 x4) inb_S512x512_S64x128_384_128) (rd a13.view (kernelRun0_B.sl.HS1_3 c a1 k1 a5 k5 x0 x4) inb_S512x512_S64x128_384_256) (rd a13.view (kernelRun0_B.sl.HS1_3 c a1 k1 a5 k5 x0 x4) inb_S512x512_S64x128_384_384) :=
  blkP_of _ a3 k3 _ a13.view (t := 1024) (oi := 384) (z_tile a1 k1 x0 a5 k5 x4 inb_S2048x2560_S512x2560_1024_0 inb_S512x2560_S512x2560_0_0) rfl rfl _ _ _ _

theorem bq_22 : BlkQ (mkD x0 x1 x2 x3 x4 x6 x7 (kernelRun0_B.sl.r_3 c a6 k6 x5) (kernelRun0_B.sl.r_4 i)) 1408 (rd a14.view (kernelRun0_B.sl.HS2_3 c a2 k2 a7 k7 a8 k8 a12 x1 x6 x7) inb_S512x512_S64x128_384_0) (rd a14.view (kernelRun0_B.sl.HS2_3 c a2 k2 a7 k7 a8 k8 a12 x1 x6 x7) inb_S512x512_S64x128_384_128) (rd a14.view (kernelRun0_B.sl.HS2_3 c a2 k2 a7 k7 a8 k8 a12 x1 x6 x7) inb_S512x512_S64x128_384_256) (rd a14.view (kernelRun0_B.sl.HS2_3 c a2 k2 a7 k7 a8 k8 a12 x1 x6 x7) inb_S512x512_S64x128_384_384) :=
  blkQ_of _ a14.view (t := 1024) (oi := 384) (y_tile a2 k2 x1 (wd c a7 k7 a8 k8 a12 x6 x7) inb_S2048x2560_S512x2560_1024_0) rfl rfl _ _ _ _

theorem bp_23 : BlkP (mkD x0 x1 x2 x3 x4 x6 x7 (kernelRun0_B.sl.r_3 c a6 k6 x5) (kernelRun0_B.sl.r_4 i)) 1472 (ra a3 k3 x2 inb_S2048x128_S64x128_1472_0) (rd a13.view (kernelRun0_B.sl.HS1_3 c a1 k1 a5 k5 x0 x4) inb_S512x512_S64x128_448_0) (rd a13.view (kernelRun0_B.sl.HS1_3 c a1 k1 a5 k5 x0 x4) inb_S512x512_S64x128_448_128) (rd a13.view (kernelRun0_B.sl.HS1_3 c a1 k1 a5 k5 x0 x4) inb_S512x512_S64x128_448_256) (rd a13.view (kernelRun0_B.sl.HS1_3 c a1 k1 a5 k5 x0 x4) inb_S512x512_S64x128_448_384) :=
  blkP_of _ a3 k3 _ a13.view (t := 1024) (oi := 448) (z_tile a1 k1 x0 a5 k5 x4 inb_S2048x2560_S512x2560_1024_0 inb_S512x2560_S512x2560_0_0) rfl rfl _ _ _ _

theorem bq_23 : BlkQ (mkD x0 x1 x2 x3 x4 x6 x7 (kernelRun0_B.sl.r_3 c a6 k6 x5) (kernelRun0_B.sl.r_4 i)) 1472 (rd a14.view (kernelRun0_B.sl.HS2_3 c a2 k2 a7 k7 a8 k8 a12 x1 x6 x7) inb_S512x512_S64x128_448_0) (rd a14.view (kernelRun0_B.sl.HS2_3 c a2 k2 a7 k7 a8 k8 a12 x1 x6 x7) inb_S512x512_S64x128_448_128) (rd a14.view (kernelRun0_B.sl.HS2_3 c a2 k2 a7 k7 a8 k8 a12 x1 x6 x7) inb_S512x512_S64x128_448_256) (rd a14.view (kernelRun0_B.sl.HS2_3 c a2 k2 a7 k7 a8 k8 a12 x1 x6 x7) inb_S512x512_S64x128_448_384) :=
  blkQ_of _ a14.view (t := 1024) (oi := 448) (y_tile a2 k2 x1 (wd c a7 k7 a8 k8 a12 x6 x7) inb_S2048x2560_S512x2560_1024_0) rfl rfl _ _ _ _

theorem bp_24 : BlkP (mkD x0 x1 x2 x3 x4 x6 x7 (kernelRun0_B.sl.r_3 c a6 k6 x5) (kernelRun0_B.sl.r_4 i)) 1536 (ra a3 k3 x2 inb_S2048x128_S64x128_1536_0) (rd a13.view (kernelRun0_B.sl.HS1_4 c a1 k1 a5 k5 x0 x4) inb_S512x512_S64x128_0_0) (rd a13.view (kernelRun0_B.sl.HS1_4 c a1 k1 a5 k5 x0 x4) inb_S512x512_S64x128_0_128) (rd a13.view (kernelRun0_B.sl.HS1_4 c a1 k1 a5 k5 x0 x4) inb_S512x512_S64x128_0_256) (rd a13.view (kernelRun0_B.sl.HS1_4 c a1 k1 a5 k5 x0 x4) inb_S512x512_S64x128_0_384) :=
  blkP_of _ a3 k3 _ a13.view (t := 1536) (oi := 0) (z_tile a1 k1 x0 a5 k5 x4 inb_S2048x2560_S512x2560_1536_0 inb_S512x2560_S512x2560_0_0) rfl rfl _ _ _ _

theorem bq_24 : BlkQ (mkD x0 x1 x2 x3 x4 x6 x7 (kernelRun0_B.sl.r_3 c a6 k6 x5) (kernelRun0_B.sl.r_4 i)) 1536 (rd a14.view (kernelRun0_B.sl.HS2_4 c a2 k2 a7 k7 a8 k8 a12 x1 x6 x7) inb_S512x512_S64x128_0_0) (rd a14.view (kernelRun0_B.sl.HS2_4 c a2 k2 a7 k7 a8 k8 a12 x1 x6 x7) inb_S512x512_S64x128_0_128) (rd a14.view (kernelRun0_B.sl.HS2_4 c a2 k2 a7 k7 a8 k8 a12 x1 x6 x7) inb_S512x512_S64x128_0_256) (rd a14.view (kernelRun0_B.sl.HS2_4 c a2 k2 a7 k7 a8 k8 a12 x1 x6 x7) inb_S512x512_S64x128_0_384) :=
  blkQ_of _ a14.view (t := 1536) (oi := 0) (y_tile a2 k2 x1 (wd c a7 k7 a8 k8 a12 x6 x7) inb_S2048x2560_S512x2560_1536_0) rfl rfl _ _ _ _

theorem bp_25 : BlkP (mkD x0 x1 x2 x3 x4 x6 x7 (kernelRun0_B.sl.r_3 c a6 k6 x5) (kernelRun0_B.sl.r_4 i)) 1600 (ra a3 k3 x2 inb_S2048x128_S64x128_1600_0) (rd a13.view (kernelRun0_B.sl.HS1_4 c a1 k1 a5 k5 x0 x4) inb_S512x512_S64x128_64_0) (rd a13.view (kernelRun0_B.sl.HS1_4 c a1 k1 a5 k5 x0 x4) inb_S512x512_S64x128_64_128) (rd a13.view (kernelRun0_B.sl.HS1_4 c a1 k1 a5 k5 x0 x4) inb_S512x512_S64x128_64_256) (rd a13.view (kernelRun0_B.sl.HS1_4 c a1 k1 a5 k5 x0 x4) inb_S512x512_S64x128_64_384) :=
  blkP_of _ a3 k3 _ a13.view (t := 1536) (oi := 64) (z_tile a1 k1 x0 a5 k5 x4 inb_S2048x2560_S512x2560_1536_0 inb_S512x2560_S512x2560_0_0) rfl rfl _ _ _ _

theorem bq_25 : BlkQ (mkD x0 x1 x2 x3 x4 x6 x7 (kernelRun0_B.sl.r_3 c a6 k6 x5) (kernelRun0_B.sl.r_4 i)) 1600 (rd a14.view (kernelRun0_B.sl.HS2_4 c a2 k2 a7 k7 a8 k8 a12 x1 x6 x7) inb_S512x512_S64x128_64_0) (rd a14.view (kernelRun0_B.sl.HS2_4 c a2 k2 a7 k7 a8 k8 a12 x1 x6 x7) inb_S512x512_S64x128_64_128) (rd a14.view (kernelRun0_B.sl.HS2_4 c a2 k2 a7 k7 a8 k8 a12 x1 x6 x7) inb_S512x512_S64x128_64_256) (rd a14.view (kernelRun0_B.sl.HS2_4 c a2 k2 a7 k7 a8 k8 a12 x1 x6 x7) inb_S512x512_S64x128_64_384) :=
  blkQ_of _ a14.view (t := 1536) (oi := 64) (y_tile a2 k2 x1 (wd c a7 k7 a8 k8 a12 x6 x7) inb_S2048x2560_S512x2560_1536_0) rfl rfl _ _ _ _

theorem bp_26 : BlkP (mkD x0 x1 x2 x3 x4 x6 x7 (kernelRun0_B.sl.r_3 c a6 k6 x5) (kernelRun0_B.sl.r_4 i)) 1664 (ra a3 k3 x2 inb_S2048x128_S64x128_1664_0) (rd a13.view (kernelRun0_B.sl.HS1_4 c a1 k1 a5 k5 x0 x4) inb_S512x512_S64x128_128_0) (rd a13.view (kernelRun0_B.sl.HS1_4 c a1 k1 a5 k5 x0 x4) inb_S512x512_S64x128_128_128) (rd a13.view (kernelRun0_B.sl.HS1_4 c a1 k1 a5 k5 x0 x4) inb_S512x512_S64x128_128_256) (rd a13.view (kernelRun0_B.sl.HS1_4 c a1 k1 a5 k5 x0 x4) inb_S512x512_S64x128_128_384) :=
  blkP_of _ a3 k3 _ a13.view (t := 1536) (oi := 128) (z_tile a1 k1 x0 a5 k5 x4 inb_S2048x2560_S512x2560_1536_0 inb_S512x2560_S512x2560_0_0) rfl rfl _ _ _ _

theorem bq_26 : BlkQ (mkD x0 x1 x2 x3 x4 x6 x7 (kernelRun0_B.sl.r_3 c a6 k6 x5) (kernelRun0_B.sl.r_4 i)) 1664 (rd a14.view (kernelRun0_B.sl.HS2_4 c a2 k2 a7 k7 a8 k8 a12 x1 x6 x7) inb_S512x512_S64x128_128_0) (rd a14.view (kernelRun0_B.sl.HS2_4 c a2 k2 a7 k7 a8 k8 a12 x1 x6 x7) inb_S512x512_S64x128_128_128) (rd a14.view (kernelRun0_B.sl.HS2_4 c a2 k2 a7 k7 a8 k8 a12 x1 x6 x7) inb_S512x512_S64x128_128_256) (rd a14.view (kernelRun0_B.sl.HS2_4 c a2 k2 a7 k7 a8 k8 a12 x1 x6 x7) inb_S512x512_S64x128_128_384) :=
  blkQ_of _ a14.view (t := 1536) (oi := 128) (y_tile a2 k2 x1 (wd c a7 k7 a8 k8 a12 x6 x7) inb_S2048x2560_S512x2560_1536_0) rfl rfl _ _ _ _

theorem bp_27 : BlkP (mkD x0 x1 x2 x3 x4 x6 x7 (kernelRun0_B.sl.r_3 c a6 k6 x5) (kernelRun0_B.sl.r_4 i)) 1728 (ra a3 k3 x2 inb_S2048x128_S64x128_1728_0) (rd a13.view (kernelRun0_B.sl.HS1_4 c a1 k1 a5 k5 x0 x4) inb_S512x512_S64x128_192_0) (rd a13.view (kernelRun0_B.sl.HS1_4 c a1 k1 a5 k5 x0 x4) inb_S512x512_S64x128_192_128) (rd a13.view (kernelRun0_B.sl.HS1_4 c a1 k1 a5 k5 x0 x4) inb_S512x512_S64x128_192_256) (rd a13.view (kernelRun0_B.sl.HS1_4 c a1 k1 a5 k5 x0 x4) inb_S512x512_S64x128_192_384) :=
  blkP_of _ a3 k3 _ a13.view (t := 1536) (oi := 192) (z_tile a1 k1 x0 a5 k5 x4 inb_S2048x2560_S512x2560_1536_0 inb_S512x2560_S512x2560_0_0) rfl rfl _ _ _ _

theorem bq_27 : BlkQ (mkD x0 x1 x2 x3 x4 x6 x7 (kernelRun0_B.sl.r_3 c a6 k6 x5) (kernelRun0_B.sl.r_4 i)) 1728 (rd a14.view (kernelRun0_B.sl.HS2_4 c a2 k2 a7 k7 a8 k8 a12 x1 x6 x7) inb_S512x512_S64x128_192_0) (rd a14.view (kernelRun0_B.sl.HS2_4 c a2 k2 a7 k7 a8 k8 a12 x1 x6 x7) inb_S512x512_S64x128_192_128) (rd a14.view (kernelRun0_B.sl.HS2_4 c a2 k2 a7 k7 a8 k8 a12 x1 x6 x7) inb_S512x512_S64x128_192_256) (rd a14.view (kernelRun0_B.sl.HS2_4 c a2 k2 a7 k7 a8 k8 a12 x1 x6 x7) inb_S512x512_S64x128_192_384) :=
  blkQ_of _ a14.view (t := 1536) (oi := 192) (y_tile a2 k2 x1 (wd c a7 k7 a8 k8 a12 x6 x7) inb_S2048x2560_S512x2560_1536_0) rfl rfl _ _ _ _

theorem bp_28 : BlkP (mkD x0 x1 x2 x3 x4 x6 x7 (kernelRun0_B.sl.r_3 c a6 k6 x5) (kernelRun0_B.sl.r_4 i)) 1792 (ra a3 k3 x2 inb_S2048x128_S64x128_1792_0) (rd a13.view (kernelRun0_B.sl.HS1_4 c a1 k1 a5 k5 x0 x4) inb_S512x512_S64x128_256_0) (rd a13.view (kernelRun0_B.sl.HS1_4 c a1 k1 a5 k5 x0 x4) inb_S512x512_S64x128_256_128) (rd a13.view (kernelRun0_B.sl.HS1_4 c a1 k1 a5 k5 x0 x4) inb_S512x512_S64x128_256_256) (rd a13.view (kernelRun0_B.sl.HS1_4 c a1 k1 a5 k5 x0 x4) inb_S512x512_S64x128_256_384) :=
  blkP_of _ a3 k3 _ a13.view (t := 1536) (oi := 256) (z_tile a1 k1 x0 a5 k5 x4 inb_S2048x2560_S512x2560_1536_0 inb_S512x2560_S512x2560_0_0) rfl rfl _ _ _ _

theorem bq_28 : BlkQ (mkD x0 x1 x2 x3 x4 x6 x7 (kernelRun0_B.sl.r_3 c a6 k6 x5) (kernelRun0_B.sl.r_4 i)) 1792 (rd a14.view (kernelRun0_B.sl.HS2_4 c a2 k2 a7 k7 a8 k8 a12 x1 x6 x7) inb_S512x512_S64x128_256_0) (rd a14.view (kernelRun0_B.sl.HS2_4 c a2 k2 a7 k7 a8 k8 a12 x1 x6 x7) inb_S512x512_S64x128_256_128) (rd a14.view (kernelRun0_B.sl.HS2_4 c a2 k2 a7 k7 a8 k8 a12 x1 x6 x7) inb_S512x512_S64x128_256_256) (rd a14.view (kernelRun0_B.sl.HS2_4 c a2 k2 a7 k7 a8 k8 a12 x1 x6 x7) inb_S512x512_S64x128_256_384) :=
  blkQ_of _ a14.view (t := 1536) (oi := 256) (y_tile a2 k2 x1 (wd c a7 k7 a8 k8 a12 x6 x7) inb_S2048x2560_S512x2560_1536_0) rfl rfl _ _ _ _

theorem bp_29 : BlkP (mkD x0 x1 x2 x3 x4 x6 x7 (kernelRun0_B.sl.r_3 c a6 k6 x5) (kernelRun0_B.sl.r_4 i)) 1856 (ra a3 k3 x2 inb_S2048x128_S64x128_1856_0) (rd a13.view (kernelRun0_B.sl.HS1_4 c a1 k1 a5 k5 x0 x4) inb_S512x512_S64x128_320_0) (rd a13.view (kernelRun0_B.sl.HS1_4 c a1 k1 a5 k5 x0 x4) inb_S512x512_S64x128_320_128) (rd a13.view (kernelRun0_B.sl.HS1_4 c a1 k1 a5 k5 x0 x4) inb_S512x512_S64x128_320_256) (rd a13.view (kernelRun0_B.sl.HS1_4 c a1 k1 a5 k5 x0 x4) inb_S512x512_S64x128_320_384) :=
  blkP_of _ a3 k3 _ a13.view (t := 1536) (oi := 320) (z_tile a1 k1 x0 a5 k5 x4 inb_S2048x2560_S512x2560_1536_0 inb_S512x2560_S512x2560_0_0) rfl rfl _ _ _ _

theorem bq_29 : BlkQ (mkD x0 x1 x2 x3 x4 x6 x7 (kernelRun0_B.sl.r_3 c a6 k6 x5) (kernelRun0_B.sl.r_4 i)) 1856 (rd a14.view (kernelRun0_B.sl.HS2_4 c a2 k2 a7 k7 a8 k8 a12 x1 x6 x7) inb_S512x512_S64x128_320_0) (rd a14.view (kernelRun0_B.sl.HS2_4 c a2 k2 a7 k7 a8 k8 a12 x1 x6 x7) inb_S512x512_S64x128_320_128) (rd a14.view (kernelRun0_B.sl.HS2_4 c a2 k2 a7 k7 a8 k8 a12 x1 x6 x7) inb_S512x512_S64x128_320_256) (rd a14.view (kernelRun0_B.sl.HS2_4 c a2 k2 a7 k7 a8 k8 a12 x1 x6 x7) inb_S512x512_S64x128_320_384) :=
  blkQ_of _ a14.view (t := 1536) (oi := 320) (y_tile a2 k2 x1 (wd c a7 k7 a8 k8 a12 x6 x7) inb_S2048x2560_S512x2560_1536_0) rfl rfl _ _ _ _

theorem bp_30 : BlkP (mkD x0 x1 x2 x3 x4 x6 x7 (kernelRun0_B.sl.r_3 c a6 k6 x5) (kernelRun0_B.sl.r_4 i)) 1920 (ra a3 k3 x2 inb_S2048x128_S64x128_1920_0) (rd a13.view (kernelRun0_B.sl.HS1_4 c a1 k1 a5 k5 x0 x4) inb_S512x512_S64x128_384_0) (rd a13.view (kernelRun0_B.sl.HS1_4 c a1 k1 a5 k5 x0 x4) inb_S512x512_S64x128_384_128) (rd a13.view (kernelRun0_B.sl.HS1_4 c a1 k1 a5 k5 x0 x4) inb_S512x512_S64x128_384_256) (rd a13.view (kernelRun0_B.sl.HS1_4 c a1 k1 a5 k5 x0 x4) inb_S512x512_S64x128_384_384) :=
  blkP_of _ a3 k3 _ a13.view (t := 1536) (oi := 384) (z_tile a1 k1 x0 a5 k5 x4 inb_S2048x2560_S512x2560_1536_0 inb_S512x2560_S512x2560_0_0) rfl rfl _ _ _ _

theorem bq_30 : BlkQ (mkD x0 x1 x2 x3 x4 x6 x7 (kernelRun0_B.sl.r_3 c a6 k6 x5) (kernelRun0_B.sl.r_4 i)) 1920 (rd a14.view (kernelRun0_B.sl.HS2_4 c a2 k2 a7 k7 a8 k8 a12 x1 x6 x7) inb_S512x512_S64x128_384_0) (rd a14.view (kernelRun0_B.sl.HS2_4 c a2 k2 a7 k7 a8 k8 a12 x1 x6 x7) inb_S512x512_S64x128_384_128) (rd a14.view (kernelRun0_B.sl.HS2_4 c a2 k2 a7 k7 a8 k8 a12 x1 x6 x7) inb_S512x512_S64x128_384_256) (rd a14.view (kernelRun0_B.sl.HS2_4 c a2 k2 a7 k7 a8 k8 a12 x1 x6 x7) inb_S512x512_S64x128_384_384) :=
  blkQ_of _ a14.view (t := 1536) (oi := 384) (y_tile a2 k2 x1 (wd c a7 k7 a8 k8 a12 x6 x7) inb_S2048x2560_S512x2560_1536_0) rfl rfl _ _ _ _

theorem bp_31 : BlkP (mkD x0 x1 x2 x3 x4 x6 x7 (kernelRun0_B.sl.r_3 c a6 k6 x5) (kernelRun0_B.sl.r_4 i)) 1984 (ra a3 k3 x2 inb_S2048x128_S64x128_1984_0) (rd a13.view (kernelRun0_B.sl.HS1_4 c a1 k1 a5 k5 x0 x4) inb_S512x512_S64x128_448_0) (rd a13.view (kernelRun0_B.sl.HS1_4 c a1 k1 a5 k5 x0 x4) inb_S512x512_S64x128_448_128) (rd a13.view (kernelRun0_B.sl.HS1_4 c a1 k1 a5 k5 x0 x4) inb_S512x512_S64x128_448_256) (rd a13.view (kernelRun0_B.sl.HS1_4 c a1 k1 a5 k5 x0 x4) inb_S512x512_S64x128_448_384) :=
  blkP_of _ a3 k3 _ a13.view (t := 1536) (oi := 448) (z_tile a1 k1 x0 a5 k5 x4 inb_S2048x2560_S512x2560_1536_0 inb_S512x2560_S512x2560_0_0) rfl rfl _ _ _ _

theorem bq_31 : BlkQ (mkD x0 x1 x2 x3 x4 x6 x7 (kernelRun0_B.sl.r_3 c a6 k6 x5) (kernelRun0_B.sl.r_4 i)) 1984 (rd a14.view (kernelRun0_B.sl.HS2_4 c a2 k2 a7 k7 a8 k8 a12 x1 x6 x7) inb_S512x512_S64x128_448_0) (rd a14.view (kernelRun0_B.sl.HS2_4 c a2 k2 a7 k7 a8 k8 a12 x1 x6 x7) inb_S512x512_S64x128_448_128) (rd a14.view (kernelRun0_B.sl.HS2_4 c a2 k2 a7 k7 a8 k8 a12 x1 x6 x7) inb_S512x512_S64x128_448_256) (rd a14.view (kernelRun0_B.sl.HS2_4 c a2 k2 a7 k7 a8 k8 a12 x1 x6 x7) inb_S512x512_S64x128_448_384) :=
  blkQ_of _ a14.view (t := 1536) (oi := 448) (y_tile a2 k2 x1 (wd c a7 k7 a8 k8 a12 x6 x7) inb_S2048x2560_S512x2560_1536_0) rfl rfl _ _ _ _

end Cert.Blk.CaseB

end
-- ==== Proof.CaseB.lean ====
/- The stores of the middle case of the main call, one carried scratch at a time. -/
module

public import proofs.«01_k».proof.Proof.CaseBBlocks

@[expose] public section

set_option maxRecDepth 16384
set_option maxHeartbeats 4000000

noncomputable section

namespace Cert.Blk.CaseB

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : ¬cond0_0 i) (hc1 : ¬cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32) (xs3 : Vec Ideal S2048x128 .f32) (xs4 : Vec Ideal S2048x128 .f32) (xs5 : Vec Ideal S2048x128 .f32) (xs6 : Vec Ideal S2048x128 .f32) (xs7 : Vec Ideal S2048x128 .f32) (xs8 : Vec Ideal S2048x128 .f32) (xs9 : Vec Ideal S2048x128 .f32)

/-- What the point leaves in scratch `a15`. -/
theorem pieces_3 : View.PiecesOf ((mkD x0 x1 x2 x3 x4 x6 x7 (kernelRun0_B.sl.r_3 c a6 k6 x5) (kernelRun0_B.sl.r_4 i)).gMP xs3) ((kernelRun0_B c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.1) := by
  have h0 := st_mp (bp_0 c i a1 k1 a3 k3 a5 k5 a6 k6 a13 x0 x1 x2 x3 x4 x5 x6 x7) (rows_unread a15 k15 xs3 inb_S2048x128_S64x128_0_0) (inb := inb_S2048x128_S64x128_0_0)
  have h1 := st_mp (bp_1 c i a1 k1 a3 k3 a5 k5 a6 k6 a13 x0 x1 x2 x3 x4 x5 x6 x7) (rows_unread a15 k15 xs3 inb_S2048x128_S64x128_64_0) (inb := inb_S2048x128_S64x128_64_0)
  have h2 := st_mp (bp_2 c i a1 k1 a3 k3 a5 k5 a6 k6 a13 x0 x1 x2 x3 x4 x5 x6 x7) (rows_unread a15 k15 xs3 inb_S2048x128_S64x128_128_0) (inb := inb_S2048x128_S64x128_128_0)
  have h3 := st_mp (bp_3 c i a1 k1 a3 k3 a5 k5 a6 k6 a13 x0 x1 x2 x3 x4 x5 x6 x7) (rows_unread a15 k15 xs3 inb_S2048x128_S64x128_192_0) (inb := inb_S2048x128_S64x128_192_0)
  have h4 := st_mp (bp_4 c i a1 k1 a3 k3 a5 k5 a6 k6 a13 x0 x1 x2 x3 x4 x5 x6 x7) (rows_unread a15 k15 xs3 inb_S2048x128_S64x128_256_0) (inb := inb_S2048x128_S64x128_256_0)
  have h5 := st_mp (bp_5 c i a1 k1 a3 k3 a5 k5 a6 k6 a13 x0 x1 x2 x3 x4 x5 x6 x7) (rows_unread a15 k15 xs3 inb_S2048x128_S64x128_320_0) (inb := inb_S2048x128_S64x128_320_0)
  have h6 := st_mp (bp_6 c i a1 k1 a3 k3 a5 k5 a6 k6 a13 x0 x1 x2 x3 x4 x5 x6 x7) (rows_unread a15 k15 xs3 inb_S2048x128_S64x128_384_0) (inb := inb_S2048x128_S64x128_384_0)
  have h7 := st_mp (bp_7 c i a1 k1 a3 k3 a5 k5 a6 k6 a13 x0 x1 x2 x3 x4 x5 x6 x7) (rows_unread a15 k15 xs3 inb_S2048x128_S64x128_448_0) (inb := inb_S2048x128_S64x128_448_0)
  have h8 := st_mp (bp_8 c i a1 k1 a3 k3 a5 k5 a6 k6 a13 x0 x1 x2 x3 x4 x5 x6 x7) (rows_unread a15 k15 xs3 inb_S2048x128_S64x128_512_0) (inb := inb_S2048x128_S64x128_512_0)
  have h9 := st_mp (bp_9 c i a1 k1 a3 k3 a5 k5 a6 k6 a13 x0 x1 x2 x3 x4 x5 x6 x7) (rows_unread a15 k15 xs3 inb_S2048x128_S64x128_576_0) (inb := inb_S2048x128_S64x128_576_0)
  have h10 := st_mp (bp_10 c i a1 k1 a3 k3 a5 k5 a6 k6 a13 x0 x1 x2 x3 x4 x5 x6 x7) (rows_unread a15 k15 xs3 inb_S2048x128_S64x128_640_0) (inb := inb_S2048x128_S64x128_640_0)
  have h11 := st_mp (bp_11 c i a1 k1 a3 k3 a5 k5 a6 k6 a13 x0 x1 x2 x3 x4 x5 x6 x7) (rows_unread a15 k15 xs3 inb_S2048x128_S64x128_704_0) (inb := inb_S2048x128_S64x128_704_0)
  have h12 := st_mp (bp_12 c i a1 k1 a3 k3 a5 k5 a6 k6 a13 x0 x1 x2 x3 x4 x5 x6 x7) (rows_unread a15 k15 xs3 inb_S2048x128_S64x128_768_0) (inb := inb_S2048x128_S64x128_768_0)
  have h13 := st_mp (bp_13 c i a1 k1 a3 k3 a5 k5 a6 k6 a13 x0 x1 x2 x3 x4 x5 x6 x7) (rows_unread a15 k15 xs3 inb_S2048x128_S64x128_832_0) (inb := inb_S2048x128_S64x128_832_0)
  have h14 := st_mp (bp_14 c i a1 k1 a3 k3 a5 k5 a6 k6 a13 x0 x1 x2 x3 x4 x5 x6 x7) (rows_unread a15 k15 xs3 inb_S2048x128_S64x128_896_0) (inb := inb_S2048x128_S64x128_896_0)
  have h15 := st_mp (bp_15 c i a1 k1 a3 k3 a5 k5 a6 k6 a13 x0 x1 x2 x3 x4 x5 x6 x7) (rows_unread a15 k15 xs3 inb_S2048x128_S64x128_960_0) (inb := inb_S2048x128_S64x128_960_0)
  have h16 := st_mp (bp_16 c i a1 k1 a3 k3 a5 k5 a6 k6 a13 x0 x1 x2 x3 x4 x5 x6 x7) (rows_unread a15 k15 xs3 inb_S2048x128_S64x128_1024_0) (inb := inb_S2048x128_S64x128_1024_0)
  have h17 := st_mp (bp_17 c i a1 k1 a3 k3 a5 k5 a6 k6 a13 x0 x1 x2 x3 x4 x5 x6 x7) (rows_unread a15 k15 xs3 inb_S2048x128_S64x128_1088_0) (inb := inb_S2048x128_S64x128_1088_0)
  have h18 := st_mp (bp_18 c i a1 k1 a3 k3 a5 k5 a6 k6 a13 x0 x1 x2 x3 x4 x5 x6 x7) (rows_unread a15 k15 xs3 inb_S2048x128_S64x128_1152_0) (inb := inb_S2048x128_S64x128_1152_0)
  have h19 := st_mp (bp_19 c i a1 k1 a3 k3 a5 k5 a6 k6 a13 x0 x1 x2 x3 x4 x5 x6 x7) (rows_unread a15 k15 xs3 inb_S2048x128_S64x128_1216_0) (inb := inb_S2048x128_S64x128_1216_0)
  have h20 := st_mp (bp_20 c i a1 k1 a3 k3 a5 k5 a6 k6 a13 x0 x1 x2 x3 x4 x5 x6 x7) (rows_unread a15 k15 xs3 inb_S2048x128_S64x128_1280_0) (inb := inb_S2048x128_S64x128_1280_0)
  have h21 := st_mp (bp_21 c i a1 k1 a3 k3 a5 k5 a6 k6 a13 x0 x1 x2 x3 x4 x5 x6 x7) (rows_unread a15 k15 xs3 inb_S2048x128_S64x128_1344_0) (inb := inb_S2048x128_S64x128_1344_0)
  have h22 := st_mp (bp_22 c i a1 k1 a3 k3 a5 k5 a6 k6 a13 x0 x1 x2 x3 x4 x5 x6 x7) (rows_unread a15 k15 xs3 inb_S2048x128_S64x128_1408_0) (inb := inb_S2048x128_S64x128_1408_0)
  have h23 := st_mp (bp_23 c i a1 k1 a3 k3 a5 k5 a6 k6 a13 x0 x1 x2 x3 x4 x5 x6 x7) (rows_unread a15 k15 xs3 inb_S2048x128_S64x128_1472_0) (inb := inb_S2048x128_S64x128_1472_0)
  have h24 := st_mp (bp_24 c i a1 k1 a3 k3 a5 k5 a6 k6 a13 x0 x1 x2 x3 x4 x5 x6 x7) (rows_unread a15 k15 xs3 inb_S2048x128_S64x128_1536_0) (inb := inb_S2048x128_S64x128_1536_0)
  have h25 := st_mp (bp_25 c i a1 k1 a3 k3 a5 k5 a6 k6 a13 x0 x1 x2 x3 x4 x5 x6 x7) (rows_unread a15 k15 xs3 inb_S2048x128_S64x128_1600_0) (inb := inb_S2048x128_S64x128_1600_0)
  have h26 := st_mp (bp_26 c i a1 k1 a3 k3 a5 k5 a6 k6 a13 x0 x1 x2 x3 x4 x5 x6 x7) (rows_unread a15 k15 xs3 inb_S2048x128_S64x128_1664_0) (inb := inb_S2048x128_S64x128_1664_0)
  have h27 := st_mp (bp_27 c i a1 k1 a3 k3 a5 k5 a6 k6 a13 x0 x1 x2 x3 x4 x5 x6 x7) (rows_unread a15 k15 xs3 inb_S2048x128_S64x128_1728_0) (inb := inb_S2048x128_S64x128_1728_0)
  have h28 := st_mp (bp_28 c i a1 k1 a3 k3 a5 k5 a6 k6 a13 x0 x1 x2 x3 x4 x5 x6 x7) (rows_unread a15 k15 xs3 inb_S2048x128_S64x128_1792_0) (inb := inb_S2048x128_S64x128_1792_0)
  have h29 := st_mp (bp_29 c i a1 k1 a3 k3 a5 k5 a6 k6 a13 x0 x1 x2 x3 x4 x5 x6 x7) (rows_unread a15 k15 xs3 inb_S2048x128_S64x128_1856_0) (inb := inb_S2048x128_S64x128_1856_0)
  have h30 := st_mp (bp_30 c i a1 k1 a3 k3 a5 k5 a6 k6 a13 x0 x1 x2 x3 x4 x5 x6 x7) (rows_unread a15 k15 xs3 inb_S2048x128_S64x128_1920_0) (inb := inb_S2048x128_S64x128_1920_0)
  have h31 := st_mp (bp_31 c i a1 k1 a3 k3 a5 k5 a6 k6 a13 x0 x1 x2 x3 x4 x5 x6 x7) (rows_unread a15 k15 xs3 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a16`. -/
theorem pieces_4 : View.PiecesOf ((mkD x0 x1 x2 x3 x4 x6 x7 (kernelRun0_B.sl.r_3 c a6 k6 x5) (kernelRun0_B.sl.r_4 i)).gSP xs3 xs4) ((kernelRun0_B c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.1) := by
  have h0 := st_sp (bp_0 c i a1 k1 a3 k3 a5 k5 a6 k6 a13 x0 x1 x2 x3 x4 x5 x6 x7) (rows_unread a15 k15 xs3 inb_S2048x128_S64x128_0_0) (rows_unread a16 k16 xs4 inb_S2048x128_S64x128_0_0) (inb := inb_S2048x128_S64x128_0_0)
  have h1 := st_sp (bp_1 c i a1 k1 a3 k3 a5 k5 a6 k6 a13 x0 x1 x2 x3 x4 x5 x6 x7) (rows_unread a15 k15 xs3 inb_S2048x128_S64x128_64_0) (rows_unread a16 k16 xs4 inb_S2048x128_S64x128_64_0) (inb := inb_S2048x128_S64x128_64_0)
  have h2 := st_sp (bp_2 c i a1 k1 a3 k3 a5 k5 a6 k6 a13 x0 x1 x2 x3 x4 x5 x6 x7) (rows_unread a15 k15 xs3 inb_S2048x128_S64x128_128_0) (rows_unread a16 k16 xs4 inb_S2048x128_S64x128_128_0) (inb := inb_S2048x128_S64x128_128_0)
  have h3 := st_sp (bp_3 c i a1 k1 a3 k3 a5 k5 a6 k6 a13 x0 x1 x2 x3 x4 x5 x6 x7) (rows_unread a15 k15 xs3 inb_S2048x128_S64x128_192_0) (rows_unread a16 k16 xs4 inb_S2048x128_S64x128_192_0) (inb := inb_S2048x128_S64x128_192_0)
  have h4 := st_sp (bp_4 c i a1 k1 a3 k3 a5 k5 a6 k6 a13 x0 x1 x2 x3 x4 x5 x6 x7) (rows_unread a15 k15 xs3 inb_S2048x128_S64x128_256_0) (rows_unread a16 k16 xs4 inb_S2048x128_S64x128_256_0) (inb := inb_S2048x128_S64x128_256_0)
  have h5 := st_sp (bp_5 c i a1 k1 a3 k3 a5 k5 a6 k6 a13 x0 x1 x2 x3 x4 x5 x6 x7) (rows_unread a15 k15 xs3 inb_S2048x128_S64x128_320_0) (rows_unread a16 k16 xs4 inb_S2048x128_S64x128_320_0) (inb := inb_S2048x128_S64x128_320_0)
  have h6 := st_sp (bp_6 c i a1 k1 a3 k3 a5 k5 a6 k6 a13 x0 x1 x2 x3 x4 x5 x6 x7) (rows_unread a15 k15 xs3 inb_S2048x128_S64x128_384_0) (rows_unread a16 k16 xs4 inb_S2048x128_S64x128_384_0) (inb := inb_S2048x128_S64x128_384_0)
  have h7 := st_sp (bp_7 c i a1 k1 a3 k3 a5 k5 a6 k6 a13 x0 x1 x2 x3 x4 x5 x6 x7) (rows_unread a15 k15 xs3 inb_S2048x128_S64x128_448_0) (rows_unread a16 k16 xs4 inb_S2048x128_S64x128_448_0) (inb := inb_S2048x128_S64x128_448_0)
  have h8 := st_sp (bp_8 c i a1 k1 a3 k3 a5 k5 a6 k6 a13 x0 x1 x2 x3 x4 x5 x6 x7) (rows_unread a15 k15 xs3 inb_S2048x128_S64x128_512_0) (rows_unread a16 k16 xs4 inb_S2048x128_S64x128_512_0) (inb := inb_S2048x128_S64x128_512_0)
  have h9 := st_sp (bp_9 c i a1 k1 a3 k3 a5 k5 a6 k6 a13 x0 x1 x2 x3 x4 x5 x6 x7) (rows_unread a15 k15 xs3 inb_S2048x128_S64x128_576_0) (rows_unread a16 k16 xs4 inb_S2048x128_S64x128_576_0) (inb := inb_S2048x128_S64x128_576_0)
  have h10 := st_sp (bp_10 c i a1 k1 a3 k3 a5 k5 a6 k6 a13 x0 x1 x2 x3 x4 x5 x6 x7) (rows_unread a15 k15 xs3 inb_S2048x128_S64x128_640_0) (rows_unread a16 k16 xs4 inb_S2048x128_S64x128_640_0) (inb := inb_S2048x128_S64x128_640_0)
  have h11 := st_sp (bp_11 c i a1 k1 a3 k3 a5 k5 a6 k6 a13 x0 x1 x2 x3 x4 x5 x6 x7) (rows_unread a15 k15 xs3 inb_S2048x128_S64x128_704_0) (rows_unread a16 k16 xs4 inb_S2048x128_S64x128_704_0) (inb := inb_S2048x128_S64x128_704_0)
  have h12 := st_sp (bp_12 c i a1 k1 a3 k3 a5 k5 a6 k6 a13 x0 x1 x2 x3 x4 x5 x6 x7) (rows_unread a15 k15 xs3 inb_S2048x128_S64x128_768_0) (rows_unread a16 k16 xs4 inb_S2048x128_S64x128_768_0) (inb := inb_S2048x128_S64x128_768_0)
  have h13 := st_sp (bp_13 c i a1 k1 a3 k3 a5 k5 a6 k6 a13 x0 x1 x2 x3 x4 x5 x6 x7) (rows_unread a15 k15 xs3 inb_S2048x128_S64x128_832_0) (rows_unread a16 k16 xs4 inb_S2048x128_S64x128_832_0) (inb := inb_S2048x128_S64x128_832_0)
  have h14 := st_sp (bp_14 c i a1 k1 a3 k3 a5 k5 a6 k6 a13 x0 x1 x2 x3 x4 x5 x6 x7) (rows_unread a15 k15 xs3 inb_S2048x128_S64x128_896_0) (rows_unread a16 k16 xs4 inb_S2048x128_S64x128_896_0) (inb := inb_S2048x128_S64x128_896_0)
  have h15 := st_sp (bp_15 c i a1 k1 a3 k3 a5 k5 a6 k6 a13 x0 x1 x2 x3 x4 x5 x6 x7) (rows_unread a15 k15 xs3 inb_S2048x128_S64x128_960_0) (rows_unread a16 k16 xs4 inb_S2048x128_S64x128_960_0) (inb := inb_S2048x128_S64x128_960_0)
  have h16 := st_sp (bp_16 c i a1 k1 a3 k3 a5 k5 a6 k6 a13 x0 x1 x2 x3 x4 x5 x6 x7) (rows_unread a15 k15 xs3 inb_S2048x128_S64x128_1024_0) (rows_unread a16 k16 xs4 inb_S2048x128_S64x128_1024_0) (inb := inb_S2048x128_S64x128_1024_0)
  have h17 := st_sp (bp_17 c i a1 k1 a3 k3 a5 k5 a6 k6 a13 x0 x1 x2 x3 x4 x5 x6 x7) (rows_unread a15 k15 xs3 inb_S2048x128_S64x128_1088_0) (rows_unread a16 k16 xs4 inb_S2048x128_S64x128_1088_0) (inb := inb_S2048x128_S64x128_1088_0)
  have h18 := st_sp (bp_18 c i a1 k1 a3 k3 a5 k5 a6 k6 a13 x0 x1 x2 x3 x4 x5 x6 x7) (rows_unread a15 k15 xs3 inb_S2048x128_S64x128_1152_0) (rows_unread a16 k16 xs4 inb_S2048x128_S64x128_1152_0) (inb := inb_S2048x128_S64x128_1152_0)
  have h19 := st_sp (bp_19 c i a1 k1 a3 k3 a5 k5 a6 k6 a13 x0 x1 x2 x3 x4 x5 x6 x7) (rows_unread a15 k15 xs3 inb_S2048x128_S64x128_1216_0) (rows_unread a16 k16 xs4 inb_S2048x128_S64x128_1216_0) (inb := inb_S2048x128_S64x128_1216_0)
  have h20 := st_sp (bp_20 c i a1 k1 a3 k3 a5 k5 a6 k6 a13 x0 x1 x2 x3 x4 x5 x6 x7) (rows_unread a15 k15 xs3 inb_S2048x128_S64x128_1280_0) (rows_unread a16 k16 xs4 inb_S2048x128_S64x128_1280_0) (inb := inb_S2048x128_S64x128_1280_0)
  have h21 := st_sp (bp_21 c i a1 k1 a3 k3 a5 k5 a6 k6 a13 x0 x1 x2 x3 x4 x5 x6 x7) (rows_unread a15 k15 xs3 inb_S2048x128_S64x128_1344_0) (rows_unread a16 k16 xs4 inb_S2048x128_S64x128_1344_0) (inb := inb_S2048x128_S64x128_1344_0)
  have h22 := st_sp (bp_22 c i a1 k1 a3 k3 a5 k5 a6 k6 a13 x0 x1 x2 x3 x4 x5 x6 x7) (rows_unread a15 k15 xs3 inb_S2048x128_S64x128_1408_0) (rows_unread a16 k16 xs4 inb_S2048x128_S64x128_1408_0) (inb := inb_S2048x128_S64x128_1408_0)
  have h23 := st_sp (bp_23 c i a1 k1 a3 k3 a5 k5 a6 k6 a13 x0 x1 x2 x3 x4 x5 x6 x7) (rows_unread a15 k15 xs3 inb_S2048x128_S64x128_1472_0) (rows_unread a16 k16 xs4 inb_S2048x128_S64x128_1472_0) (inb := inb_S2048x128_S64x128_1472_0)
  have h24 := st_sp (bp_24 c i a1 k1 a3 k3 a5 k5 a6 k6 a13 x0 x1 x2 x3 x4 x5 x6 x7) (rows_unread a15 k15 xs3 inb_S2048x128_S64x128_1536_0) (rows_unread a16 k16 xs4 inb_S2048x128_S64x128_1536_0) (inb := inb_S2048x128_S64x128_1536_0)
  have h25 := st_sp (bp_25 c i a1 k1 a3 k3 a5 k5 a6 k6 a13 x0 x1 x2 x3 x4 x5 x6 x7) (rows_unread a15 k15 xs3 inb_S2048x128_S64x128_1600_0) (rows_unread a16 k16 xs4 inb_S2048x128_S64x128_1600_0) (inb := inb_S2048x128_S64x128_1600_0)
  have h26 := st_sp (bp_26 c i a1 k1 a3 k3 a5 k5 a6 k6 a13 x0 x1 x2 x3 x4 x5 x6 x7) (rows_unread a15 k15 xs3 inb_S2048x128_S64x128_1664_0) (rows_unread a16 k16 xs4 inb_S2048x128_S64x128_1664_0) (inb := inb_S2048x128_S64x128_1664_0)
  have h27 := st_sp (bp_27 c i a1 k1 a3 k3 a5 k5 a6 k6 a13 x0 x1 x2 x3 x4 x5 x6 x7) (rows_unread a15 k15 xs3 inb_S2048x128_S64x128_1728_0) (rows_unread a16 k16 xs4 inb_S2048x128_S64x128_1728_0) (inb := inb_S2048x128_S64x128_1728_0)
  have h28 := st_sp (bp_28 c i a1 k1 a3 k3 a5 k5 a6 k6 a13 x0 x1 x2 x3 x4 x5 x6 x7) (rows_unread a15 k15 xs3 inb_S2048x128_S64x128_1792_0) (rows_unread a16 k16 xs4 inb_S2048x128_S64x128_1792_0) (inb := inb_S2048x128_S64x128_1792_0)
  have h29 := st_sp (bp_29 c i a1 k1 a3 k3 a5 k5 a6 k6 a13 x0 x1 x2 x3 x4 x5 x6 x7) (rows_unread a15 k15 xs3 inb_S2048x128_S64x128_1856_0) (rows_unread a16 k16 xs4 inb_S2048x128_S64x128_1856_0) (inb := inb_S2048x128_S64x128_1856_0)
  have h30 := st_sp (bp_30 c i a1 k1 a3 k3 a5 k5 a6 k6 a13 x0 x1 x2 x3 x4 x5 x6 x7) (rows_unread a15 k15 xs3 inb_S2048x128_S64x128_1920_0) (rows_unread a16 k16 xs4 inb_S2048x128_S64x128_1920_0) (inb := inb_S2048x128_S64x128_1920_0)
  have h31 := st_sp (bp_31 c i a1 k1 a3 k3 a5 k5 a6 k6 a13 x0 x1 x2 x3 x4 x5 x6 x7) (rows_unread a15 k15 xs3 inb_S2048x128_S64x128_1984_0) (rows_unread a16 k16 xs4 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a17`. -/
theorem pieces_5 : View.PiecesOf ((mkD x0 x1 x2 x3 x4 x6 x7 (kernelRun0_B.sl.r_3 c a6 k6 x5) (kernelRun0_B.sl.r_4 i)).gTT xs3 xs5) ((kernelRun0_B c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.1) := by
  have h0 := st_tt (bp_0 c i a1 k1 a3 k3 a5 k5 a6 k6 a13 x0 x1 x2 x3 x4 x5 x6 x7) (bq_0 c i a2 k2 a6 k6 a7 k7 a8 k8 a12 a14 x0 x1 x2 x3 x4 x5 x6 x7) (rows_unread a15 k15 xs3 inb_S2048x128_S64x128_0_0) (rows_unread a17 k17 xs5 inb_S2048x128_S64x128_0_0) (inb := inb_S2048x128_S64x128_0_0)
  have h1 := st_tt (bp_1 c i a1 k1 a3 k3 a5 k5 a6 k6 a13 x0 x1 x2 x3 x4 x5 x6 x7) (bq_1 c i a2 k2 a6 k6 a7 k7 a8 k8 a12 a14 x0 x1 x2 x3 x4 x5 x6 x7) (rows_unread a15 k15 xs3 inb_S2048x128_S64x128_64_0) (rows_unread a17 k17 xs5 inb_S2048x128_S64x128_64_0) (inb := inb_S2048x128_S64x128_64_0)
  have h2 := st_tt (bp_2 c i a1 k1 a3 k3 a5 k5 a6 k6 a13 x0 x1 x2 x3 x4 x5 x6 x7) (bq_2 c i a2 k2 a6 k6 a7 k7 a8 k8 a12 a14 x0 x1 x2 x3 x4 x5 x6 x7) (rows_unread a15 k15 xs3 inb_S2048x128_S64x128_128_0) (rows_unread a17 k17 xs5 inb_S2048x128_S64x128_128_0) (inb := inb_S2048x128_S64x128_128_0)
  have h3 := st_tt (bp_3 c i a1 k1 a3 k3 a5 k5 a6 k6 a13 x0 x1 x2 x3 x4 x5 x6 x7) (bq_3 c i a2 k2 a6 k6 a7 k7 a8 k8 a12 a14 x0 x1 x2 x3 x4 x5 x6 x7) (rows_unread a15 k15 xs3 inb_S2048x128_S64x128_192_0) (rows_unread a17 k17 xs5 inb_S2048x128_S64x128_192_0) (inb := inb_S2048x128_S64x128_192_0)
  have h4 := st_tt (bp_4 c i a1 k1 a3 k3 a5 k5 a6 k6 a13 x0 x1 x2 x3 x4 x5 x6 x7) (bq_4 c i a2 k2 a6 k6 a7 k7 a8 k8 a12 a14 x0 x1 x2 x3 x4 x5 x6 x7) (rows_unread a15 k15 xs3 inb_S2048x128_S64x128_256_0) (rows_unread a17 k17 xs5 inb_S2048x128_S64x128_256_0) (inb := inb_S2048x128_S64x128_256_0)
  have h5 := st_tt (bp_5 c i a1 k1 a3 k3 a5 k5 a6 k6 a13 x0 x1 x2 x3 x4 x5 x6 x7) (bq_5 c i a2 k2 a6 k6 a7 k7 a8 k8 a12 a14 x0 x1 x2 x3 x4 x5 x6 x7) (rows_unread a15 k15 xs3 inb_S2048x128_S64x128_320_0) (rows_unread a17 k17 xs5 inb_S2048x128_S64x128_320_0) (inb := inb_S2048x128_S64x128_320_0)
  have h6 := st_tt (bp_6 c i a1 k1 a3 k3 a5 k5 a6 k6 a13 x0 x1 x2 x3 x4 x5 x6 x7) (bq_6 c i a2 k2 a6 k6 a7 k7 a8 k8 a12 a14 x0 x1 x2 x3 x4 x5 x6 x7) (rows_unread a15 k15 xs3 inb_S2048x128_S64x128_384_0) (rows_unread a17 k17 xs5 inb_S2048x128_S64x128_384_0) (inb := inb_S2048x128_S64x128_384_0)
  have h7 := st_tt (bp_7 c i a1 k1 a3 k3 a5 k5 a6 k6 a13 x0 x1 x2 x3 x4 x5 x6 x7) (bq_7 c i a2 k2 a6 k6 a7 k7 a8 k8 a12 a14 x0 x1 x2 x3 x4 x5 x6 x7) (rows_unread a15 k15 xs3 inb_S2048x128_S64x128_448_0) (rows_unread a17 k17 xs5 inb_S2048x128_S64x128_448_0) (inb := inb_S2048x128_S64x128_448_0)
  have h8 := st_tt (bp_8 c i a1 k1 a3 k3 a5 k5 a6 k6 a13 x0 x1 x2 x3 x4 x5 x6 x7) (bq_8 c i a2 k2 a6 k6 a7 k7 a8 k8 a12 a14 x0 x1 x2 x3 x4 x5 x6 x7) (rows_unread a15 k15 xs3 inb_S2048x128_S64x128_512_0) (rows_unread a17 k17 xs5 inb_S2048x128_S64x128_512_0) (inb := inb_S2048x128_S64x128_512_0)
  have h9 := st_tt (bp_9 c i a1 k1 a3 k3 a5 k5 a6 k6 a13 x0 x1 x2 x3 x4 x5 x6 x7) (bq_9 c i a2 k2 a6 k6 a7 k7 a8 k8 a12 a14 x0 x1 x2 x3 x4 x5 x6 x7) (rows_unread a15 k15 xs3 inb_S2048x128_S64x128_576_0) (rows_unread a17 k17 xs5 inb_S2048x128_S64x128_576_0) (inb := inb_S2048x128_S64x128_576_0)
  have h10 := st_tt (bp_10 c i a1 k1 a3 k3 a5 k5 a6 k6 a13 x0 x1 x2 x3 x4 x5 x6 x7) (bq_10 c i a2 k2 a6 k6 a7 k7 a8 k8 a12 a14 x0 x1 x2 x3 x4 x5 x6 x7) (rows_unread a15 k15 xs3 inb_S2048x128_S64x128_640_0) (rows_unread a17 k17 xs5 inb_S2048x128_S64x128_640_0) (inb := inb_S2048x128_S64x128_640_0)
  have h11 := st_tt (bp_11 c i a1 k1 a3 k3 a5 k5 a6 k6 a13 x0 x1 x2 x3 x4 x5 x6 x7) (bq_11 c i a2 k2 a6 k6 a7 k7 a8 k8 a12 a14 x0 x1 x2 x3 x4 x5 x6 x7) (rows_unread a15 k15 xs3 inb_S2048x128_S64x128_704_0) (rows_unread a17 k17 xs5 inb_S2048x128_S64x128_704_0) (inb := inb_S2048x128_S64x128_704_0)
  have h12 := st_tt (bp_12 c i a1 k1 a3 k3 a5 k5 a6 k6 a13 x0 x1 x2 x3 x4 x5 x6 x7) (bq_12 c i a2 k2 a6 k6 a7 k7 a8 k8 a12 a14 x0 x1 x2 x3 x4 x5 x6 x7) (rows_unread a15 k15 xs3 inb_S2048x128_S64x128_768_0) (rows_unread a17 k17 xs5 inb_S2048x128_S64x128_768_0) (inb := inb_S2048x128_S64x128_768_0)
  have h13 := st_tt (bp_13 c i a1 k1 a3 k3 a5 k5 a6 k6 a13 x0 x1 x2 x3 x4 x5 x6 x7) (bq_13 c i a2 k2 a6 k6 a7 k7 a8 k8 a12 a14 x0 x1 x2 x3 x4 x5 x6 x7) (rows_unread a15 k15 xs3 inb_S2048x128_S64x128_832_0) (rows_unread a17 k17 xs5 inb_S2048x128_S64x128_832_0) (inb := inb_S2048x128_S64x128_832_0)
  have h14 := st_tt (bp_14 c i a1 k1 a3 k3 a5 k5 a6 k6 a13 x0 x1 x2 x3 x4 x5 x6 x7) (bq_14 c i a2 k2 a6 k6 a7 k7 a8 k8 a12 a14 x0 x1 x2 x3 x4 x5 x6 x7) (rows_unread a15 k15 xs3 inb_S2048x128_S64x128_896_0) (rows_unread a17 k17 xs5 inb_S2048x128_S64x128_896_0) (inb := inb_S2048x128_S64x128_896_0)
  have h15 := st_tt (bp_15 c i a1 k1 a3 k3 a5 k5 a6 k6 a13 x0 x1 x2 x3 x4 x5 x6 x7) (bq_15 c i a2 k2 a6 k6 a7 k7 a8 k8 a12 a14 x0 x1 x2 x3 x4 x5 x6 x7) (rows_unread a15 k15 xs3 inb_S2048x128_S64x128_960_0) (rows_unread a17 k17 xs5 inb_S2048x128_S64x128_960_0) (inb := inb_S2048x128_S64x128_960_0)
  have h16 := st_tt (bp_16 c i a1 k1 a3 k3 a5 k5 a6 k6 a13 x0 x1 x2 x3 x4 x5 x6 x7) (bq_16 c i a2 k2 a6 k6 a7 k7 a8 k8 a12 a14 x0 x1 x2 x3 x4 x5 x6 x7) (rows_unread a15 k15 xs3 inb_S2048x128_S64x128_1024_0) (rows_unread a17 k17 xs5 inb_S2048x128_S64x128_1024_0) (inb := inb_S2048x128_S64x128_1024_0)
  have h17 := st_tt (bp_17 c i a1 k1 a3 k3 a5 k5 a6 k6 a13 x0 x1 x2 x3 x4 x5 x6 x7) (bq_17 c i a2 k2 a6 k6 a7 k7 a8 k8 a12 a14 x0 x1 x2 x3 x4 x5 x6 x7) (rows_unread a15 k15 xs3 inb_S2048x128_S64x128_1088_0) (rows_unread a17 k17 xs5 inb_S2048x128_S64x128_1088_0) (inb := inb_S2048x128_S64x128_1088_0)
  have h18 := st_tt (bp_18 c i a1 k1 a3 k3 a5 k5 a6 k6 a13 x0 x1 x2 x3 x4 x5 x6 x7) (bq_18 c i a2 k2 a6 k6 a7 k7 a8 k8 a12 a14 x0 x1 x2 x3 x4 x5 x6 x7) (rows_unread a15 k15 xs3 inb_S2048x128_S64x128_1152_0) (rows_unread a17 k17 xs5 inb_S2048x128_S64x128_1152_0) (inb := inb_S2048x128_S64x128_1152_0)
  have h19 := st_tt (bp_19 c i a1 k1 a3 k3 a5 k5 a6 k6 a13 x0 x1 x2 x3 x4 x5 x6 x7) (bq_19 c i a2 k2 a6 k6 a7 k7 a8 k8 a12 a14 x0 x1 x2 x3 x4 x5 x6 x7) (rows_unread a15 k15 xs3 inb_S2048x128_S64x128_1216_0) (rows_unread a17 k17 xs5 inb_S2048x128_S64x128_1216_0) (inb := inb_S2048x128_S64x128_1216_0)
  have h20 := st_tt (bp_20 c i a1 k1 a3 k3 a5 k5 a6 k6 a13 x0 x1 x2 x3 x4 x5 x6 x7) (bq_20 c i a2 k2 a6 k6 a7 k7 a8 k8 a12 a14 x0 x1 x2 x3 x4 x5 x6 x7) (rows_unread a15 k15 xs3 inb_S2048x128_S64x128_1280_0) (rows_unread a17 k17 xs5 inb_S2048x128_S64x128_1280_0) (inb := inb_S2048x128_S64x128_1280_0)
  have h21 := st_tt (bp_21 c i a1 k1 a3 k3 a5 k5 a6 k6 a13 x0 x1 x2 x3 x4 x5 x6 x7) (bq_21 c i a2 k2 a6 k6 a7 k7 a8 k8 a12 a14 x0 x1 x2 x3 x4 x5 x6 x7) (rows_unread a15 k15 xs3 inb_S2048x128_S64x128_1344_0) (rows_unread a17 k17 xs5 inb_S2048x128_S64x128_1344_0) (inb := inb_S2048x128_S64x128_1344_0)
  have h22 := st_tt (bp_22 c i a1 k1 a3 k3 a5 k5 a6 k6 a13 x0 x1 x2 x3 x4 x5 x6 x7) (bq_22 c i a2 k2 a6 k6 a7 k7 a8 k8 a12 a14 x0 x1 x2 x3 x4 x5 x6 x7) (rows_unread a15 k15 xs3 inb_S2048x128_S64x128_1408_0) (rows_unread a17 k17 xs5 inb_S2048x128_S64x128_1408_0) (inb := inb_S2048x128_S64x128_1408_0)
  have h23 := st_tt (bp_23 c i a1 k1 a3 k3 a5 k5 a6 k6 a13 x0 x1 x2 x3 x4 x5 x6 x7) (bq_23 c i a2 k2 a6 k6 a7 k7 a8 k8 a12 a14 x0 x1 x2 x3 x4 x5 x6 x7) (rows_unread a15 k15 xs3 inb_S2048x128_S64x128_1472_0) (rows_unread a17 k17 xs5 inb_S2048x128_S64x128_1472_0) (inb := inb_S2048x128_S64x128_1472_0)
  have h24 := st_tt (bp_24 c i a1 k1 a3 k3 a5 k5 a6 k6 a13 x0 x1 x2 x3 x4 x5 x6 x7) (bq_24 c i a2 k2 a6 k6 a7 k7 a8 k8 a12 a14 x0 x1 x2 x3 x4 x5 x6 x7) (rows_unread a15 k15 xs3 inb_S2048x128_S64x128_1536_0) (rows_unread a17 k17 xs5 inb_S2048x128_S64x128_1536_0) (inb := inb_S2048x128_S64x128_1536_0)
  have h25 := st_tt (bp_25 c i a1 k1 a3 k3 a5 k5 a6 k6 a13 x0 x1 x2 x3 x4 x5 x6 x7) (bq_25 c i a2 k2 a6 k6 a7 k7 a8 k8 a12 a14 x0 x1 x2 x3 x4 x5 x6 x7) (rows_unread a15 k15 xs3 inb_S2048x128_S64x128_1600_0) (rows_unread a17 k17 xs5 inb_S2048x128_S64x128_1600_0) (inb := inb_S2048x128_S64x128_1600_0)
  have h26 := st_tt (bp_26 c i a1 k1 a3 k3 a5 k5 a6 k6 a13 x0 x1 x2 x3 x4 x5 x6 x7) (bq_26 c i a2 k2 a6 k6 a7 k7 a8 k8 a12 a14 x0 x1 x2 x3 x4 x5 x6 x7) (rows_unread a15 k15 xs3 inb_S2048x128_S64x128_1664_0) (rows_unread a17 k17 xs5 inb_S2048x128_S64x128_1664_0) (inb := inb_S2048x128_S64x128_1664_0)
  have h27 := st_tt (bp_27 c i a1 k1 a3 k3 a5 k5 a6 k6 a13 x0 x1 x2 x3 x4 x5 x6 x7) (bq_27 c i a2 k2 a6 k6 a7 k7 a8 k8 a12 a14 x0 x1 x2 x3 x4 x5 x6 x7) (rows_unread a15 k15 xs3 inb_S2048x128_S64x128_1728_0) (rows_unread a17 k17 xs5 inb_S2048x128_S64x128_1728_0) (inb := inb_S2048x128_S64x128_1728_0)
  have h28 := st_tt (bp_28 c i a1 k1 a3 k3 a5 k5 a6 k6 a13 x0 x1 x2 x3 x4 x5 x6 x7) (bq_28 c i a2 k2 a6 k6 a7 k7 a8 k8 a12 a14 x0 x1 x2 x3 x4 x5 x6 x7) (rows_unread a15 k15 xs3 inb_S2048x128_S64x128_1792_0) (rows_unread a17 k17 xs5 inb_S2048x128_S64x128_1792_0) (inb := inb_S2048x128_S64x128_1792_0)
  have h29 := st_tt (bp_29 c i a1 k1 a3 k3 a5 k5 a6 k6 a13 x0 x1 x2 x3 x4 x5 x6 x7) (bq_29 c i a2 k2 a6 k6 a7 k7 a8 k8 a12 a14 x0 x1 x2 x3 x4 x5 x6 x7) (rows_unread a15 k15 xs3 inb_S2048x128_S64x128_1856_0) (rows_unread a17 k17 xs5 inb_S2048x128_S64x128_1856_0) (inb := inb_S2048x128_S64x128_1856_0)
  have h30 := st_tt (bp_30 c i a1 k1 a3 k3 a5 k5 a6 k6 a13 x0 x1 x2 x3 x4 x5 x6 x7) (bq_30 c i a2 k2 a6 k6 a7 k7 a8 k8 a12 a14 x0 x1 x2 x3 x4 x5 x6 x7) (rows_unread a15 k15 xs3 inb_S2048x128_S64x128_1920_0) (rows_unread a17 k17 xs5 inb_S2048x128_S64x128_1920_0) (inb := inb_S2048x128_S64x128_1920_0)
  have h31 := st_tt (bp_31 c i a1 k1 a3 k3 a5 k5 a6 k6 a13 x0 x1 x2 x3 x4 x5 x6 x7) (bq_31 c i a2 k2 a6 k6 a7 k7 a8 k8 a12 a14 x0 x1 x2 x3 x4 x5 x6 x7) (rows_unread a15 k15 xs3 inb_S2048x128_S64x128_1984_0) (rows_unread a17 k17 xs5 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a18`. -/
theorem pieces_6 : View.PiecesOf ((mkD x0 x1 x2 x3 x4 x6 x7 (kernelRun0_B.sl.r_3 c a6 k6 x5) (kernelRun0_B.sl.r_4 i)).gMQ xs6) ((kernelRun0_B c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.1) := by
  have h0 := st_mq (bq_0 c i a2 k2 a6 k6 a7 k7 a8 k8 a12 a14 x0 x1 x2 x3 x4 x5 x6 x7) (rows_unread a18 k18 xs6 inb_S2048x128_S64x128_0_0) (inb := inb_S2048x128_S64x128_0_0)
  have h1 := st_mq (bq_1 c i a2 k2 a6 k6 a7 k7 a8 k8 a12 a14 x0 x1 x2 x3 x4 x5 x6 x7) (rows_unread a18 k18 xs6 inb_S2048x128_S64x128_64_0) (inb := inb_S2048x128_S64x128_64_0)
  have h2 := st_mq (bq_2 c i a2 k2 a6 k6 a7 k7 a8 k8 a12 a14 x0 x1 x2 x3 x4 x5 x6 x7) (rows_unread a18 k18 xs6 inb_S2048x128_S64x128_128_0) (inb := inb_S2048x128_S64x128_128_0)
  have h3 := st_mq (bq_3 c i a2 k2 a6 k6 a7 k7 a8 k8 a12 a14 x0 x1 x2 x3 x4 x5 x6 x7) (rows_unread a18 k18 xs6 inb_S2048x128_S64x128_192_0) (inb := inb_S2048x128_S64x128_192_0)
  have h4 := st_mq (bq_4 c i a2 k2 a6 k6 a7 k7 a8 k8 a12 a14 x0 x1 x2 x3 x4 x5 x6 x7) (rows_unread a18 k18 xs6 inb_S2048x128_S64x128_256_0) (inb := inb_S2048x128_S64x128_256_0)
  have h5 := st_mq (bq_5 c i a2 k2 a6 k6 a7 k7 a8 k8 a12 a14 x0 x1 x2 x3 x4 x5 x6 x7) (rows_unread a18 k18 xs6 inb_S2048x128_S64x128_320_0) (inb := inb_S2048x128_S64x128_320_0)
  have h6 := st_mq (bq_6 c i a2 k2 a6 k6 a7 k7 a8 k8 a12 a14 x0 x1 x2 x3 x4 x5 x6 x7) (rows_unread a18 k18 xs6 inb_S2048x128_S64x128_384_0) (inb := inb_S2048x128_S64x128_384_0)
  have h7 := st_mq (bq_7 c i a2 k2 a6 k6 a7 k7 a8 k8 a12 a14 x0 x1 x2 x3 x4 x5 x6 x7) (rows_unread a18 k18 xs6 inb_S2048x128_S64x128_448_0) (inb := inb_S2048x128_S64x128_448_0)
  have h8 := st_mq (bq_8 c i a2 k2 a6 k6 a7 k7 a8 k8 a12 a14 x0 x1 x2 x3 x4 x5 x6 x7) (rows_unread a18 k18 xs6 inb_S2048x128_S64x128_512_0) (inb := inb_S2048x128_S64x128_512_0)
  have h9 := st_mq (bq_9 c i a2 k2 a6 k6 a7 k7 a8 k8 a12 a14 x0 x1 x2 x3 x4 x5 x6 x7) (rows_unread a18 k18 xs6 inb_S2048x128_S64x128_576_0) (inb := inb_S2048x128_S64x128_576_0)
  have h10 := st_mq (bq_10 c i a2 k2 a6 k6 a7 k7 a8 k8 a12 a14 x0 x1 x2 x3 x4 x5 x6 x7) (rows_unread a18 k18 xs6 inb_S2048x128_S64x128_640_0) (inb := inb_S2048x128_S64x128_640_0)
  have h11 := st_mq (bq_11 c i a2 k2 a6 k6 a7 k7 a8 k8 a12 a14 x0 x1 x2 x3 x4 x5 x6 x7) (rows_unread a18 k18 xs6 inb_S2048x128_S64x128_704_0) (inb := inb_S2048x128_S64x128_704_0)
  have h12 := st_mq (bq_12 c i a2 k2 a6 k6 a7 k7 a8 k8 a12 a14 x0 x1 x2 x3 x4 x5 x6 x7) (rows_unread a18 k18 xs6 inb_S2048x128_S64x128_768_0) (inb := inb_S2048x128_S64x128_768_0)
  have h13 := st_mq (bq_13 c i a2 k2 a6 k6 a7 k7 a8 k8 a12 a14 x0 x1 x2 x3 x4 x5 x6 x7) (rows_unread a18 k18 xs6 inb_S2048x128_S64x128_832_0) (inb := inb_S2048x128_S64x128_832_0)
  have h14 := st_mq (bq_14 c i a2 k2 a6 k6 a7 k7 a8 k8 a12 a14 x0 x1 x2 x3 x4 x5 x6 x7) (rows_unread a18 k18 xs6 inb_S2048x128_S64x128_896_0) (inb := inb_S2048x128_S64x128_896_0)
  have h15 := st_mq (bq_15 c i a2 k2 a6 k6 a7 k7 a8 k8 a12 a14 x0 x1 x2 x3 x4 x5 x6 x7) (rows_unread a18 k18 xs6 inb_S2048x128_S64x128_960_0) (inb := inb_S2048x128_S64x128_960_0)
  have h16 := st_mq (bq_16 c i a2 k2 a6 k6 a7 k7 a8 k8 a12 a14 x0 x1 x2 x3 x4 x5 x6 x7) (rows_unread a18 k18 xs6 inb_S2048x128_S64x128_1024_0) (inb := inb_S2048x128_S64x128_1024_0)
  have h17 := st_mq (bq_17 c i a2 k2 a6 k6 a7 k7 a8 k8 a12 a14 x0 x1 x2 x3 x4 x5 x6 x7) (rows_unread a18 k18 xs6 inb_S2048x128_S64x128_1088_0) (inb := inb_S2048x128_S64x128_1088_0)
  have h18 := st_mq (bq_18 c i a2 k2 a6 k6 a7 k7 a8 k8 a12 a14 x0 x1 x2 x3 x4 x5 x6 x7) (rows_unread a18 k18 xs6 inb_S2048x128_S64x128_1152_0) (inb := inb_S2048x128_S64x128_1152_0)
  have h19 := st_mq (bq_19 c i a2 k2 a6 k6 a7 k7 a8 k8 a12 a14 x0 x1 x2 x3 x4 x5 x6 x7) (rows_unread a18 k18 xs6 inb_S2048x128_S64x128_1216_0) (inb := inb_S2048x128_S64x128_1216_0)
  have h20 := st_mq (bq_20 c i a2 k2 a6 k6 a7 k7 a8 k8 a12 a14 x0 x1 x2 x3 x4 x5 x6 x7) (rows_unread a18 k18 xs6 inb_S2048x128_S64x128_1280_0) (inb := inb_S2048x128_S64x128_1280_0)
  have h21 := st_mq (bq_21 c i a2 k2 a6 k6 a7 k7 a8 k8 a12 a14 x0 x1 x2 x3 x4 x5 x6 x7) (rows_unread a18 k18 xs6 inb_S2048x128_S64x128_1344_0) (inb := inb_S2048x128_S64x128_1344_0)
  have h22 := st_mq (bq_22 c i a2 k2 a6 k6 a7 k7 a8 k8 a12 a14 x0 x1 x2 x3 x4 x5 x6 x7) (rows_unread a18 k18 xs6 inb_S2048x128_S64x128_1408_0) (inb := inb_S2048x128_S64x128_1408_0)
  have h23 := st_mq (bq_23 c i a2 k2 a6 k6 a7 k7 a8 k8 a12 a14 x0 x1 x2 x3 x4 x5 x6 x7) (rows_unread a18 k18 xs6 inb_S2048x128_S64x128_1472_0) (inb := inb_S2048x128_S64x128_1472_0)
  have h24 := st_mq (bq_24 c i a2 k2 a6 k6 a7 k7 a8 k8 a12 a14 x0 x1 x2 x3 x4 x5 x6 x7) (rows_unread a18 k18 xs6 inb_S2048x128_S64x128_1536_0) (inb := inb_S2048x128_S64x128_1536_0)
  have h25 := st_mq (bq_25 c i a2 k2 a6 k6 a7 k7 a8 k8 a12 a14 x0 x1 x2 x3 x4 x5 x6 x7) (rows_unread a18 k18 xs6 inb_S2048x128_S64x128_1600_0) (inb := inb_S2048x128_S64x128_1600_0)
  have h26 := st_mq (bq_26 c i a2 k2 a6 k6 a7 k7 a8 k8 a12 a14 x0 x1 x2 x3 x4 x5 x6 x7) (rows_unread a18 k18 xs6 inb_S2048x128_S64x128_1664_0) (inb := inb_S2048x128_S64x128_1664_0)
  have h27 := st_mq (bq_27 c i a2 k2 a6 k6 a7 k7 a8 k8 a12 a14 x0 x1 x2 x3 x4 x5 x6 x7) (rows_unread a18 k18 xs6 inb_S2048x128_S64x128_1728_0) (inb := inb_S2048x128_S64x128_1728_0)
  have h28 := st_mq (bq_28 c i a2 k2 a6 k6 a7 k7 a8 k8 a12 a14 x0 x1 x2 x3 x4 x5 x6 x7) (rows_unread a18 k18 xs6 inb_S2048x128_S64x128_1792_0) (inb := inb_S2048x128_S64x128_1792_0)
  have h29 := st_mq (bq_29 c i a2 k2 a6 k6 a7 k7 a8 k8 a12 a14 x0 x1 x2 x3 x4 x5 x6 x7) (rows_unread a18 k18 xs6 inb_S2048x128_S64x128_1856_0) (inb := inb_S2048x128_S64x128_1856_0)
  have h30 := st_mq (bq_30 c i a2 k2 a6 k6 a7 k7 a8 k8 a12 a14 x0 x1 x2 x3 x4 x5 x6 x7) (rows_unread a18 k18 xs6 inb_S2048x128_S64x128_1920_0) (inb := inb_S2048x128_S64x128_1920_0)
  have h31 := st_mq (bq_31 c i a2 k2 a6 k6 a7 k7 a8 k8 a12 a14 x0 x1 x2 x3 x4 x5 x6 x7) (rows_unread a18 k18 xs6 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a19`. -/
theorem pieces_7 : View.PiecesOf ((mkD x0 x1 x2 x3 x4 x6 x7 (kernelRun0_B.sl.r_3 c a6 k6 x5) (kernelRun0_B.sl.r_4 i)).gSQ xs6 xs7) ((kernelRun0_B c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.1) := by
  have h0 := st_sq (bq_0 c i a2 k2 a6 k6 a7 k7 a8 k8 a12 a14 x0 x1 x2 x3 x4 x5 x6 x7) (rows_unread a18 k18 xs6 inb_S2048x128_S64x128_0_0) (rows_unread a19 k19 xs7 inb_S2048x128_S64x128_0_0) (inb := inb_S2048x128_S64x128_0_0)
  have h1 := st_sq (bq_1 c i a2 k2 a6 k6 a7 k7 a8 k8 a12 a14 x0 x1 x2 x3 x4 x5 x6 x7) (rows_unread a18 k18 xs6 inb_S2048x128_S64x128_64_0) (rows_unread a19 k19 xs7 inb_S2048x128_S64x128_64_0) (inb := inb_S2048x128_S64x128_64_0)
  have h2 := st_sq (bq_2 c i a2 k2 a6 k6 a7 k7 a8 k8 a12 a14 x0 x1 x2 x3 x4 x5 x6 x7) (rows_unread a18 k18 xs6 inb_S2048x128_S64x128_128_0) (rows_unread a19 k19 xs7 inb_S2048x128_S64x128_128_0) (inb := inb_S2048x128_S64x128_128_0)
  have h3 := st_sq (bq_3 c i a2 k2 a6 k6 a7 k7 a8 k8 a12 a14 x0 x1 x2 x3 x4 x5 x6 x7) (rows_unread a18 k18 xs6 inb_S2048x128_S64x128_192_0) (rows_unread a19 k19 xs7 inb_S2048x128_S64x128_192_0) (inb := inb_S2048x128_S64x128_192_0)
  have h4 := st_sq (bq_4 c i a2 k2 a6 k6 a7 k7 a8 k8 a12 a14 x0 x1 x2 x3 x4 x5 x6 x7) (rows_unread a18 k18 xs6 inb_S2048x128_S64x128_256_0) (rows_unread a19 k19 xs7 inb_S2048x128_S64x128_256_0) (inb := inb_S2048x128_S64x128_256_0)
  have h5 := st_sq (bq_5 c i a2 k2 a6 k6 a7 k7 a8 k8 a12 a14 x0 x1 x2 x3 x4 x5 x6 x7) (rows_unread a18 k18 xs6 inb_S2048x128_S64x128_320_0) (rows_unread a19 k19 xs7 inb_S2048x128_S64x128_320_0) (inb := inb_S2048x128_S64x128_320_0)
  have h6 := st_sq (bq_6 c i a2 k2 a6 k6 a7 k7 a8 k8 a12 a14 x0 x1 x2 x3 x4 x5 x6 x7) (rows_unread a18 k18 xs6 inb_S2048x128_S64x128_384_0) (rows_unread a19 k19 xs7 inb_S2048x128_S64x128_384_0) (inb := inb_S2048x128_S64x128_384_0)
  have h7 := st_sq (bq_7 c i a2 k2 a6 k6 a7 k7 a8 k8 a12 a14 x0 x1 x2 x3 x4 x5 x6 x7) (rows_unread a18 k18 xs6 inb_S2048x128_S64x128_448_0) (rows_unread a19 k19 xs7 inb_S2048x128_S64x128_448_0) (inb := inb_S2048x128_S64x128_448_0)
  have h8 := st_sq (bq_8 c i a2 k2 a6 k6 a7 k7 a8 k8 a12 a14 x0 x1 x2 x3 x4 x5 x6 x7) (rows_unread a18 k18 xs6 inb_S2048x128_S64x128_512_0) (rows_unread a19 k19 xs7 inb_S2048x128_S64x128_512_0) (inb := inb_S2048x128_S64x128_512_0)
  have h9 := st_sq (bq_9 c i a2 k2 a6 k6 a7 k7 a8 k8 a12 a14 x0 x1 x2 x3 x4 x5 x6 x7) (rows_unread a18 k18 xs6 inb_S2048x128_S64x128_576_0) (rows_unread a19 k19 xs7 inb_S2048x128_S64x128_576_0) (inb := inb_S2048x128_S64x128_576_0)
  have h10 := st_sq (bq_10 c i a2 k2 a6 k6 a7 k7 a8 k8 a12 a14 x0 x1 x2 x3 x4 x5 x6 x7) (rows_unread a18 k18 xs6 inb_S2048x128_S64x128_640_0) (rows_unread a19 k19 xs7 inb_S2048x128_S64x128_640_0) (inb := inb_S2048x128_S64x128_640_0)
  have h11 := st_sq (bq_11 c i a2 k2 a6 k6 a7 k7 a8 k8 a12 a14 x0 x1 x2 x3 x4 x5 x6 x7) (rows_unread a18 k18 xs6 inb_S2048x128_S64x128_704_0) (rows_unread a19 k19 xs7 inb_S2048x128_S64x128_704_0) (inb := inb_S2048x128_S64x128_704_0)
  have h12 := st_sq (bq_12 c i a2 k2 a6 k6 a7 k7 a8 k8 a12 a14 x0 x1 x2 x3 x4 x5 x6 x7) (rows_unread a18 k18 xs6 inb_S2048x128_S64x128_768_0) (rows_unread a19 k19 xs7 inb_S2048x128_S64x128_768_0) (inb := inb_S2048x128_S64x128_768_0)
  have h13 := st_sq (bq_13 c i a2 k2 a6 k6 a7 k7 a8 k8 a12 a14 x0 x1 x2 x3 x4 x5 x6 x7) (rows_unread a18 k18 xs6 inb_S2048x128_S64x128_832_0) (rows_unread a19 k19 xs7 inb_S2048x128_S64x128_832_0) (inb := inb_S2048x128_S64x128_832_0)
  have h14 := st_sq (bq_14 c i a2 k2 a6 k6 a7 k7 a8 k8 a12 a14 x0 x1 x2 x3 x4 x5 x6 x7) (rows_unread a18 k18 xs6 inb_S2048x128_S64x128_896_0) (rows_unread a19 k19 xs7 inb_S2048x128_S64x128_896_0) (inb := inb_S2048x128_S64x128_896_0)
  have h15 := st_sq (bq_15 c i a2 k2 a6 k6 a7 k7 a8 k8 a12 a14 x0 x1 x2 x3 x4 x5 x6 x7) (rows_unread a18 k18 xs6 inb_S2048x128_S64x128_960_0) (rows_unread a19 k19 xs7 inb_S2048x128_S64x128_960_0) (inb := inb_S2048x128_S64x128_960_0)
  have h16 := st_sq (bq_16 c i a2 k2 a6 k6 a7 k7 a8 k8 a12 a14 x0 x1 x2 x3 x4 x5 x6 x7) (rows_unread a18 k18 xs6 inb_S2048x128_S64x128_1024_0) (rows_unread a19 k19 xs7 inb_S2048x128_S64x128_1024_0) (inb := inb_S2048x128_S64x128_1024_0)
  have h17 := st_sq (bq_17 c i a2 k2 a6 k6 a7 k7 a8 k8 a12 a14 x0 x1 x2 x3 x4 x5 x6 x7) (rows_unread a18 k18 xs6 inb_S2048x128_S64x128_1088_0) (rows_unread a19 k19 xs7 inb_S2048x128_S64x128_1088_0) (inb := inb_S2048x128_S64x128_1088_0)
  have h18 := st_sq (bq_18 c i a2 k2 a6 k6 a7 k7 a8 k8 a12 a14 x0 x1 x2 x3 x4 x5 x6 x7) (rows_unread a18 k18 xs6 inb_S2048x128_S64x128_1152_0) (rows_unread a19 k19 xs7 inb_S2048x128_S64x128_1152_0) (inb := inb_S2048x128_S64x128_1152_0)
  have h19 := st_sq (bq_19 c i a2 k2 a6 k6 a7 k7 a8 k8 a12 a14 x0 x1 x2 x3 x4 x5 x6 x7) (rows_unread a18 k18 xs6 inb_S2048x128_S64x128_1216_0) (rows_unread a19 k19 xs7 inb_S2048x128_S64x128_1216_0) (inb := inb_S2048x128_S64x128_1216_0)
  have h20 := st_sq (bq_20 c i a2 k2 a6 k6 a7 k7 a8 k8 a12 a14 x0 x1 x2 x3 x4 x5 x6 x7) (rows_unread a18 k18 xs6 inb_S2048x128_S64x128_1280_0) (rows_unread a19 k19 xs7 inb_S2048x128_S64x128_1280_0) (inb := inb_S2048x128_S64x128_1280_0)
  have h21 := st_sq (bq_21 c i a2 k2 a6 k6 a7 k7 a8 k8 a12 a14 x0 x1 x2 x3 x4 x5 x6 x7) (rows_unread a18 k18 xs6 inb_S2048x128_S64x128_1344_0) (rows_unread a19 k19 xs7 inb_S2048x128_S64x128_1344_0) (inb := inb_S2048x128_S64x128_1344_0)
  have h22 := st_sq (bq_22 c i a2 k2 a6 k6 a7 k7 a8 k8 a12 a14 x0 x1 x2 x3 x4 x5 x6 x7) (rows_unread a18 k18 xs6 inb_S2048x128_S64x128_1408_0) (rows_unread a19 k19 xs7 inb_S2048x128_S64x128_1408_0) (inb := inb_S2048x128_S64x128_1408_0)
  have h23 := st_sq (bq_23 c i a2 k2 a6 k6 a7 k7 a8 k8 a12 a14 x0 x1 x2 x3 x4 x5 x6 x7) (rows_unread a18 k18 xs6 inb_S2048x128_S64x128_1472_0) (rows_unread a19 k19 xs7 inb_S2048x128_S64x128_1472_0) (inb := inb_S2048x128_S64x128_1472_0)
  have h24 := st_sq (bq_24 c i a2 k2 a6 k6 a7 k7 a8 k8 a12 a14 x0 x1 x2 x3 x4 x5 x6 x7) (rows_unread a18 k18 xs6 inb_S2048x128_S64x128_1536_0) (rows_unread a19 k19 xs7 inb_S2048x128_S64x128_1536_0) (inb := inb_S2048x128_S64x128_1536_0)
  have h25 := st_sq (bq_25 c i a2 k2 a6 k6 a7 k7 a8 k8 a12 a14 x0 x1 x2 x3 x4 x5 x6 x7) (rows_unread a18 k18 xs6 inb_S2048x128_S64x128_1600_0) (rows_unread a19 k19 xs7 inb_S2048x128_S64x128_1600_0) (inb := inb_S2048x128_S64x128_1600_0)
  have h26 := st_sq (bq_26 c i a2 k2 a6 k6 a7 k7 a8 k8 a12 a14 x0 x1 x2 x3 x4 x5 x6 x7) (rows_unread a18 k18 xs6 inb_S2048x128_S64x128_1664_0) (rows_unread a19 k19 xs7 inb_S2048x128_S64x128_1664_0) (inb := inb_S2048x128_S64x128_1664_0)
  have h27 := st_sq (bq_27 c i a2 k2 a6 k6 a7 k7 a8 k8 a12 a14 x0 x1 x2 x3 x4 x5 x6 x7) (rows_unread a18 k18 xs6 inb_S2048x128_S64x128_1728_0) (rows_unread a19 k19 xs7 inb_S2048x128_S64x128_1728_0) (inb := inb_S2048x128_S64x128_1728_0)
  have h28 := st_sq (bq_28 c i a2 k2 a6 k6 a7 k7 a8 k8 a12 a14 x0 x1 x2 x3 x4 x5 x6 x7) (rows_unread a18 k18 xs6 inb_S2048x128_S64x128_1792_0) (rows_unread a19 k19 xs7 inb_S2048x128_S64x128_1792_0) (inb := inb_S2048x128_S64x128_1792_0)
  have h29 := st_sq (bq_29 c i a2 k2 a6 k6 a7 k7 a8 k8 a12 a14 x0 x1 x2 x3 x4 x5 x6 x7) (rows_unread a18 k18 xs6 inb_S2048x128_S64x128_1856_0) (rows_unread a19 k19 xs7 inb_S2048x128_S64x128_1856_0) (inb := inb_S2048x128_S64x128_1856_0)
  have h30 := st_sq (bq_30 c i a2 k2 a6 k6 a7 k7 a8 k8 a12 a14 x0 x1 x2 x3 x4 x5 x6 x7) (rows_unread a18 k18 xs6 inb_S2048x128_S64x128_1920_0) (rows_unread a19 k19 xs7 inb_S2048x128_S64x128_1920_0) (inb := inb_S2048x128_S64x128_1920_0)
  have h31 := st_sq (bq_31 c i a2 k2 a6 k6 a7 k7 a8 k8 a12 a14 x0 x1 x2 x3 x4 x5 x6 x7) (rows_unread a18 k18 xs6 inb_S2048x128_S64x128_1984_0) (rows_unread a19 k19 xs7 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a20`. -/
theorem pieces_8 : View.PiecesOf ((mkD x0 x1 x2 x3 x4 x6 x7 (kernelRun0_B.sl.r_3 c a6 k6 x5) (kernelRun0_B.sl.r_4 i)).gTP xs8) ((kernelRun0_B c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.2.1) := by
  have h0 := st_tp (bp_0 c i a1 k1 a3 k3 a5 k5 a6 k6 a13 x0 x1 x2 x3 x4 x5 x6 x7) (rows_unread a4 k4 x3 inb_S2048x128_S64x128_0_0) (rows_unread a20 k20 xs8 inb_S2048x128_S64x128_0_0) (inb := inb_S2048x128_S64x128_0_0)
  have h1 := st_tp (bp_1 c i a1 k1 a3 k3 a5 k5 a6 k6 a13 x0 x1 x2 x3 x4 x5 x6 x7) (rows_unread a4 k4 x3 inb_S2048x128_S64x128_64_0) (rows_unread a20 k20 xs8 inb_S2048x128_S64x128_64_0) (inb := inb_S2048x128_S64x128_64_0)
  have h2 := st_tp (bp_2 c i a1 k1 a3 k3 a5 k5 a6 k6 a13 x0 x1 x2 x3 x4 x5 x6 x7) (rows_unread a4 k4 x3 inb_S2048x128_S64x128_128_0) (rows_unread a20 k20 xs8 inb_S2048x128_S64x128_128_0) (inb := inb_S2048x128_S64x128_128_0)
  have h3 := st_tp (bp_3 c i a1 k1 a3 k3 a5 k5 a6 k6 a13 x0 x1 x2 x3 x4 x5 x6 x7) (rows_unread a4 k4 x3 inb_S2048x128_S64x128_192_0) (rows_unread a20 k20 xs8 inb_S2048x128_S64x128_192_0) (inb := inb_S2048x128_S64x128_192_0)
  have h4 := st_tp (bp_4 c i a1 k1 a3 k3 a5 k5 a6 k6 a13 x0 x1 x2 x3 x4 x5 x6 x7) (rows_unread a4 k4 x3 inb_S2048x128_S64x128_256_0) (rows_unread a20 k20 xs8 inb_S2048x128_S64x128_256_0) (inb := inb_S2048x128_S64x128_256_0)
  have h5 := st_tp (bp_5 c i a1 k1 a3 k3 a5 k5 a6 k6 a13 x0 x1 x2 x3 x4 x5 x6 x7) (rows_unread a4 k4 x3 inb_S2048x128_S64x128_320_0) (rows_unread a20 k20 xs8 inb_S2048x128_S64x128_320_0) (inb := inb_S2048x128_S64x128_320_0)
  have h6 := st_tp (bp_6 c i a1 k1 a3 k3 a5 k5 a6 k6 a13 x0 x1 x2 x3 x4 x5 x6 x7) (rows_unread a4 k4 x3 inb_S2048x128_S64x128_384_0) (rows_unread a20 k20 xs8 inb_S2048x128_S64x128_384_0) (inb := inb_S2048x128_S64x128_384_0)
  have h7 := st_tp (bp_7 c i a1 k1 a3 k3 a5 k5 a6 k6 a13 x0 x1 x2 x3 x4 x5 x6 x7) (rows_unread a4 k4 x3 inb_S2048x128_S64x128_448_0) (rows_unread a20 k20 xs8 inb_S2048x128_S64x128_448_0) (inb := inb_S2048x128_S64x128_448_0)
  have h8 := st_tp (bp_8 c i a1 k1 a3 k3 a5 k5 a6 k6 a13 x0 x1 x2 x3 x4 x5 x6 x7) (rows_unread a4 k4 x3 inb_S2048x128_S64x128_512_0) (rows_unread a20 k20 xs8 inb_S2048x128_S64x128_512_0) (inb := inb_S2048x128_S64x128_512_0)
  have h9 := st_tp (bp_9 c i a1 k1 a3 k3 a5 k5 a6 k6 a13 x0 x1 x2 x3 x4 x5 x6 x7) (rows_unread a4 k4 x3 inb_S2048x128_S64x128_576_0) (rows_unread a20 k20 xs8 inb_S2048x128_S64x128_576_0) (inb := inb_S2048x128_S64x128_576_0)
  have h10 := st_tp (bp_10 c i a1 k1 a3 k3 a5 k5 a6 k6 a13 x0 x1 x2 x3 x4 x5 x6 x7) (rows_unread a4 k4 x3 inb_S2048x128_S64x128_640_0) (rows_unread a20 k20 xs8 inb_S2048x128_S64x128_640_0) (inb := inb_S2048x128_S64x128_640_0)
  have h11 := st_tp (bp_11 c i a1 k1 a3 k3 a5 k5 a6 k6 a13 x0 x1 x2 x3 x4 x5 x6 x7) (rows_unread a4 k4 x3 inb_S2048x128_S64x128_704_0) (rows_unread a20 k20 xs8 inb_S2048x128_S64x128_704_0) (inb := inb_S2048x128_S64x128_704_0)
  have h12 := st_tp (bp_12 c i a1 k1 a3 k3 a5 k5 a6 k6 a13 x0 x1 x2 x3 x4 x5 x6 x7) (rows_unread a4 k4 x3 inb_S2048x128_S64x128_768_0) (rows_unread a20 k20 xs8 inb_S2048x128_S64x128_768_0) (inb := inb_S2048x128_S64x128_768_0)
  have h13 := st_tp (bp_13 c i a1 k1 a3 k3 a5 k5 a6 k6 a13 x0 x1 x2 x3 x4 x5 x6 x7) (rows_unread a4 k4 x3 inb_S2048x128_S64x128_832_0) (rows_unread a20 k20 xs8 inb_S2048x128_S64x128_832_0) (inb := inb_S2048x128_S64x128_832_0)
  have h14 := st_tp (bp_14 c i a1 k1 a3 k3 a5 k5 a6 k6 a13 x0 x1 x2 x3 x4 x5 x6 x7) (rows_unread a4 k4 x3 inb_S2048x128_S64x128_896_0) (rows_unread a20 k20 xs8 inb_S2048x128_S64x128_896_0) (inb := inb_S2048x128_S64x128_896_0)
  have h15 := st_tp (bp_15 c i a1 k1 a3 k3 a5 k5 a6 k6 a13 x0 x1 x2 x3 x4 x5 x6 x7) (rows_unread a4 k4 x3 inb_S2048x128_S64x128_960_0) (rows_unread a20 k20 xs8 inb_S2048x128_S64x128_960_0) (inb := inb_S2048x128_S64x128_960_0)
  have h16 := st_tp (bp_16 c i a1 k1 a3 k3 a5 k5 a6 k6 a13 x0 x1 x2 x3 x4 x5 x6 x7) (rows_unread a4 k4 x3 inb_S2048x128_S64x128_1024_0) (rows_unread a20 k20 xs8 inb_S2048x128_S64x128_1024_0) (inb := inb_S2048x128_S64x128_1024_0)
  have h17 := st_tp (bp_17 c i a1 k1 a3 k3 a5 k5 a6 k6 a13 x0 x1 x2 x3 x4 x5 x6 x7) (rows_unread a4 k4 x3 inb_S2048x128_S64x128_1088_0) (rows_unread a20 k20 xs8 inb_S2048x128_S64x128_1088_0) (inb := inb_S2048x128_S64x128_1088_0)
  have h18 := st_tp (bp_18 c i a1 k1 a3 k3 a5 k5 a6 k6 a13 x0 x1 x2 x3 x4 x5 x6 x7) (rows_unread a4 k4 x3 inb_S2048x128_S64x128_1152_0) (rows_unread a20 k20 xs8 inb_S2048x128_S64x128_1152_0) (inb := inb_S2048x128_S64x128_1152_0)
  have h19 := st_tp (bp_19 c i a1 k1 a3 k3 a5 k5 a6 k6 a13 x0 x1 x2 x3 x4 x5 x6 x7) (rows_unread a4 k4 x3 inb_S2048x128_S64x128_1216_0) (rows_unread a20 k20 xs8 inb_S2048x128_S64x128_1216_0) (inb := inb_S2048x128_S64x128_1216_0)
  have h20 := st_tp (bp_20 c i a1 k1 a3 k3 a5 k5 a6 k6 a13 x0 x1 x2 x3 x4 x5 x6 x7) (rows_unread a4 k4 x3 inb_S2048x128_S64x128_1280_0) (rows_unread a20 k20 xs8 inb_S2048x128_S64x128_1280_0) (inb := inb_S2048x128_S64x128_1280_0)
  have h21 := st_tp (bp_21 c i a1 k1 a3 k3 a5 k5 a6 k6 a13 x0 x1 x2 x3 x4 x5 x6 x7) (rows_unread a4 k4 x3 inb_S2048x128_S64x128_1344_0) (rows_unread a20 k20 xs8 inb_S2048x128_S64x128_1344_0) (inb := inb_S2048x128_S64x128_1344_0)
  have h22 := st_tp (bp_22 c i a1 k1 a3 k3 a5 k5 a6 k6 a13 x0 x1 x2 x3 x4 x5 x6 x7) (rows_unread a4 k4 x3 inb_S2048x128_S64x128_1408_0) (rows_unread a20 k20 xs8 inb_S2048x128_S64x128_1408_0) (inb := inb_S2048x128_S64x128_1408_0)
  have h23 := st_tp (bp_23 c i a1 k1 a3 k3 a5 k5 a6 k6 a13 x0 x1 x2 x3 x4 x5 x6 x7) (rows_unread a4 k4 x3 inb_S2048x128_S64x128_1472_0) (rows_unread a20 k20 xs8 inb_S2048x128_S64x128_1472_0) (inb := inb_S2048x128_S64x128_1472_0)
  have h24 := st_tp (bp_24 c i a1 k1 a3 k3 a5 k5 a6 k6 a13 x0 x1 x2 x3 x4 x5 x6 x7) (rows_unread a4 k4 x3 inb_S2048x128_S64x128_1536_0) (rows_unread a20 k20 xs8 inb_S2048x128_S64x128_1536_0) (inb := inb_S2048x128_S64x128_1536_0)
  have h25 := st_tp (bp_25 c i a1 k1 a3 k3 a5 k5 a6 k6 a13 x0 x1 x2 x3 x4 x5 x6 x7) (rows_unread a4 k4 x3 inb_S2048x128_S64x128_1600_0) (rows_unread a20 k20 xs8 inb_S2048x128_S64x128_1600_0) (inb := inb_S2048x128_S64x128_1600_0)
  have h26 := st_tp (bp_26 c i a1 k1 a3 k3 a5 k5 a6 k6 a13 x0 x1 x2 x3 x4 x5 x6 x7) (rows_unread a4 k4 x3 inb_S2048x128_S64x128_1664_0) (rows_unread a20 k20 xs8 inb_S2048x128_S64x128_1664_0) (inb := inb_S2048x128_S64x128_1664_0)
  have h27 := st_tp (bp_27 c i a1 k1 a3 k3 a5 k5 a6 k6 a13 x0 x1 x2 x3 x4 x5 x6 x7) (rows_unread a4 k4 x3 inb_S2048x128_S64x128_1728_0) (rows_unread a20 k20 xs8 inb_S2048x128_S64x128_1728_0) (inb := inb_S2048x128_S64x128_1728_0)
  have h28 := st_tp (bp_28 c i a1 k1 a3 k3 a5 k5 a6 k6 a13 x0 x1 x2 x3 x4 x5 x6 x7) (rows_unread a4 k4 x3 inb_S2048x128_S64x128_1792_0) (rows_unread a20 k20 xs8 inb_S2048x128_S64x128_1792_0) (inb := inb_S2048x128_S64x128_1792_0)
  have h29 := st_tp (bp_29 c i a1 k1 a3 k3 a5 k5 a6 k6 a13 x0 x1 x2 x3 x4 x5 x6 x7) (rows_unread a4 k4 x3 inb_S2048x128_S64x128_1856_0) (rows_unread a20 k20 xs8 inb_S2048x128_S64x128_1856_0) (inb := inb_S2048x128_S64x128_1856_0)
  have h30 := st_tp (bp_30 c i a1 k1 a3 k3 a5 k5 a6 k6 a13 x0 x1 x2 x3 x4 x5 x6 x7) (rows_unread a4 k4 x3 inb_S2048x128_S64x128_1920_0) (rows_unread a20 k20 xs8 inb_S2048x128_S64x128_1920_0) (inb := inb_S2048x128_S64x128_1920_0)
  have h31 := st_tp (bp_31 c i a1 k1 a3 k3 a5 k5 a6 k6 a13 x0 x1 x2 x3 x4 x5 x6 x7) (rows_unread a4 k4 x3 inb_S2048x128_S64x128_1984_0) (rows_unread a20 k20 xs8 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a21`. -/
theorem pieces_9 : View.PiecesOf ((mkD x0 x1 x2 x3 x4 x6 x7 (kernelRun0_B.sl.r_3 c a6 k6 x5) (kernelRun0_B.sl.r_4 i)).gTQ xs9) ((kernelRun0_B c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.2.2.1) := by
  have h0 := st_tq (bq_0 c i a2 k2 a6 k6 a7 k7 a8 k8 a12 a14 x0 x1 x2 x3 x4 x5 x6 x7) (rows_unread a4 k4 x3 inb_S2048x128_S64x128_0_0) (rows_unread a21 k21 xs9 inb_S2048x128_S64x128_0_0) (inb := inb_S2048x128_S64x128_0_0)
  have h1 := st_tq (bq_1 c i a2 k2 a6 k6 a7 k7 a8 k8 a12 a14 x0 x1 x2 x3 x4 x5 x6 x7) (rows_unread a4 k4 x3 inb_S2048x128_S64x128_64_0) (rows_unread a21 k21 xs9 inb_S2048x128_S64x128_64_0) (inb := inb_S2048x128_S64x128_64_0)
  have h2 := st_tq (bq_2 c i a2 k2 a6 k6 a7 k7 a8 k8 a12 a14 x0 x1 x2 x3 x4 x5 x6 x7) (rows_unread a4 k4 x3 inb_S2048x128_S64x128_128_0) (rows_unread a21 k21 xs9 inb_S2048x128_S64x128_128_0) (inb := inb_S2048x128_S64x128_128_0)
  have h3 := st_tq (bq_3 c i a2 k2 a6 k6 a7 k7 a8 k8 a12 a14 x0 x1 x2 x3 x4 x5 x6 x7) (rows_unread a4 k4 x3 inb_S2048x128_S64x128_192_0) (rows_unread a21 k21 xs9 inb_S2048x128_S64x128_192_0) (inb := inb_S2048x128_S64x128_192_0)
  have h4 := st_tq (bq_4 c i a2 k2 a6 k6 a7 k7 a8 k8 a12 a14 x0 x1 x2 x3 x4 x5 x6 x7) (rows_unread a4 k4 x3 inb_S2048x128_S64x128_256_0) (rows_unread a21 k21 xs9 inb_S2048x128_S64x128_256_0) (inb := inb_S2048x128_S64x128_256_0)
  have h5 := st_tq (bq_5 c i a2 k2 a6 k6 a7 k7 a8 k8 a12 a14 x0 x1 x2 x3 x4 x5 x6 x7) (rows_unread a4 k4 x3 inb_S2048x128_S64x128_320_0) (rows_unread a21 k21 xs9 inb_S2048x128_S64x128_320_0) (inb := inb_S2048x128_S64x128_320_0)
  have h6 := st_tq (bq_6 c i a2 k2 a6 k6 a7 k7 a8 k8 a12 a14 x0 x1 x2 x3 x4 x5 x6 x7) (rows_unread a4 k4 x3 inb_S2048x128_S64x128_384_0) (rows_unread a21 k21 xs9 inb_S2048x128_S64x128_384_0) (inb := inb_S2048x128_S64x128_384_0)
  have h7 := st_tq (bq_7 c i a2 k2 a6 k6 a7 k7 a8 k8 a12 a14 x0 x1 x2 x3 x4 x5 x6 x7) (rows_unread a4 k4 x3 inb_S2048x128_S64x128_448_0) (rows_unread a21 k21 xs9 inb_S2048x128_S64x128_448_0) (inb := inb_S2048x128_S64x128_448_0)
  have h8 := st_tq (bq_8 c i a2 k2 a6 k6 a7 k7 a8 k8 a12 a14 x0 x1 x2 x3 x4 x5 x6 x7) (rows_unread a4 k4 x3 inb_S2048x128_S64x128_512_0) (rows_unread a21 k21 xs9 inb_S2048x128_S64x128_512_0) (inb := inb_S2048x128_S64x128_512_0)
  have h9 := st_tq (bq_9 c i a2 k2 a6 k6 a7 k7 a8 k8 a12 a14 x0 x1 x2 x3 x4 x5 x6 x7) (rows_unread a4 k4 x3 inb_S2048x128_S64x128_576_0) (rows_unread a21 k21 xs9 inb_S2048x128_S64x128_576_0) (inb := inb_S2048x128_S64x128_576_0)
  have h10 := st_tq (bq_10 c i a2 k2 a6 k6 a7 k7 a8 k8 a12 a14 x0 x1 x2 x3 x4 x5 x6 x7) (rows_unread a4 k4 x3 inb_S2048x128_S64x128_640_0) (rows_unread a21 k21 xs9 inb_S2048x128_S64x128_640_0) (inb := inb_S2048x128_S64x128_640_0)
  have h11 := st_tq (bq_11 c i a2 k2 a6 k6 a7 k7 a8 k8 a12 a14 x0 x1 x2 x3 x4 x5 x6 x7) (rows_unread a4 k4 x3 inb_S2048x128_S64x128_704_0) (rows_unread a21 k21 xs9 inb_S2048x128_S64x128_704_0) (inb := inb_S2048x128_S64x128_704_0)
  have h12 := st_tq (bq_12 c i a2 k2 a6 k6 a7 k7 a8 k8 a12 a14 x0 x1 x2 x3 x4 x5 x6 x7) (rows_unread a4 k4 x3 inb_S2048x128_S64x128_768_0) (rows_unread a21 k21 xs9 inb_S2048x128_S64x128_768_0) (inb := inb_S2048x128_S64x128_768_0)
  have h13 := st_tq (bq_13 c i a2 k2 a6 k6 a7 k7 a8 k8 a12 a14 x0 x1 x2 x3 x4 x5 x6 x7) (rows_unread a4 k4 x3 inb_S2048x128_S64x128_832_0) (rows_unread a21 k21 xs9 inb_S2048x128_S64x128_832_0) (inb := inb_S2048x128_S64x128_832_0)
  have h14 := st_tq (bq_14 c i a2 k2 a6 k6 a7 k7 a8 k8 a12 a14 x0 x1 x2 x3 x4 x5 x6 x7) (rows_unread a4 k4 x3 inb_S2048x128_S64x128_896_0) (rows_unread a21 k21 xs9 inb_S2048x128_S64x128_896_0) (inb := inb_S2048x128_S64x128_896_0)
  have h15 := st_tq (bq_15 c i a2 k2 a6 k6 a7 k7 a8 k8 a12 a14 x0 x1 x2 x3 x4 x5 x6 x7) (rows_unread a4 k4 x3 inb_S2048x128_S64x128_960_0) (rows_unread a21 k21 xs9 inb_S2048x128_S64x128_960_0) (inb := inb_S2048x128_S64x128_960_0)
  have h16 := st_tq (bq_16 c i a2 k2 a6 k6 a7 k7 a8 k8 a12 a14 x0 x1 x2 x3 x4 x5 x6 x7) (rows_unread a4 k4 x3 inb_S2048x128_S64x128_1024_0) (rows_unread a21 k21 xs9 inb_S2048x128_S64x128_1024_0) (inb := inb_S2048x128_S64x128_1024_0)
  have h17 := st_tq (bq_17 c i a2 k2 a6 k6 a7 k7 a8 k8 a12 a14 x0 x1 x2 x3 x4 x5 x6 x7) (rows_unread a4 k4 x3 inb_S2048x128_S64x128_1088_0) (rows_unread a21 k21 xs9 inb_S2048x128_S64x128_1088_0) (inb := inb_S2048x128_S64x128_1088_0)
  have h18 := st_tq (bq_18 c i a2 k2 a6 k6 a7 k7 a8 k8 a12 a14 x0 x1 x2 x3 x4 x5 x6 x7) (rows_unread a4 k4 x3 inb_S2048x128_S64x128_1152_0) (rows_unread a21 k21 xs9 inb_S2048x128_S64x128_1152_0) (inb := inb_S2048x128_S64x128_1152_0)
  have h19 := st_tq (bq_19 c i a2 k2 a6 k6 a7 k7 a8 k8 a12 a14 x0 x1 x2 x3 x4 x5 x6 x7) (rows_unread a4 k4 x3 inb_S2048x128_S64x128_1216_0) (rows_unread a21 k21 xs9 inb_S2048x128_S64x128_1216_0) (inb := inb_S2048x128_S64x128_1216_0)
  have h20 := st_tq (bq_20 c i a2 k2 a6 k6 a7 k7 a8 k8 a12 a14 x0 x1 x2 x3 x4 x5 x6 x7) (rows_unread a4 k4 x3 inb_S2048x128_S64x128_1280_0) (rows_unread a21 k21 xs9 inb_S2048x128_S64x128_1280_0) (inb := inb_S2048x128_S64x128_1280_0)
  have h21 := st_tq (bq_21 c i a2 k2 a6 k6 a7 k7 a8 k8 a12 a14 x0 x1 x2 x3 x4 x5 x6 x7) (rows_unread a4 k4 x3 inb_S2048x128_S64x128_1344_0) (rows_unread a21 k21 xs9 inb_S2048x128_S64x128_1344_0) (inb := inb_S2048x128_S64x128_1344_0)
  have h22 := st_tq (bq_22 c i a2 k2 a6 k6 a7 k7 a8 k8 a12 a14 x0 x1 x2 x3 x4 x5 x6 x7) (rows_unread a4 k4 x3 inb_S2048x128_S64x128_1408_0) (rows_unread a21 k21 xs9 inb_S2048x128_S64x128_1408_0) (inb := inb_S2048x128_S64x128_1408_0)
  have h23 := st_tq (bq_23 c i a2 k2 a6 k6 a7 k7 a8 k8 a12 a14 x0 x1 x2 x3 x4 x5 x6 x7) (rows_unread a4 k4 x3 inb_S2048x128_S64x128_1472_0) (rows_unread a21 k21 xs9 inb_S2048x128_S64x128_1472_0) (inb := inb_S2048x128_S64x128_1472_0)
  have h24 := st_tq (bq_24 c i a2 k2 a6 k6 a7 k7 a8 k8 a12 a14 x0 x1 x2 x3 x4 x5 x6 x7) (rows_unread a4 k4 x3 inb_S2048x128_S64x128_1536_0) (rows_unread a21 k21 xs9 inb_S2048x128_S64x128_1536_0) (inb := inb_S2048x128_S64x128_1536_0)
  have h25 := st_tq (bq_25 c i a2 k2 a6 k6 a7 k7 a8 k8 a12 a14 x0 x1 x2 x3 x4 x5 x6 x7) (rows_unread a4 k4 x3 inb_S2048x128_S64x128_1600_0) (rows_unread a21 k21 xs9 inb_S2048x128_S64x128_1600_0) (inb := inb_S2048x128_S64x128_1600_0)
  have h26 := st_tq (bq_26 c i a2 k2 a6 k6 a7 k7 a8 k8 a12 a14 x0 x1 x2 x3 x4 x5 x6 x7) (rows_unread a4 k4 x3 inb_S2048x128_S64x128_1664_0) (rows_unread a21 k21 xs9 inb_S2048x128_S64x128_1664_0) (inb := inb_S2048x128_S64x128_1664_0)
  have h27 := st_tq (bq_27 c i a2 k2 a6 k6 a7 k7 a8 k8 a12 a14 x0 x1 x2 x3 x4 x5 x6 x7) (rows_unread a4 k4 x3 inb_S2048x128_S64x128_1728_0) (rows_unread a21 k21 xs9 inb_S2048x128_S64x128_1728_0) (inb := inb_S2048x128_S64x128_1728_0)
  have h28 := st_tq (bq_28 c i a2 k2 a6 k6 a7 k7 a8 k8 a12 a14 x0 x1 x2 x3 x4 x5 x6 x7) (rows_unread a4 k4 x3 inb_S2048x128_S64x128_1792_0) (rows_unread a21 k21 xs9 inb_S2048x128_S64x128_1792_0) (inb := inb_S2048x128_S64x128_1792_0)
  have h29 := st_tq (bq_29 c i a2 k2 a6 k6 a7 k7 a8 k8 a12 a14 x0 x1 x2 x3 x4 x5 x6 x7) (rows_unread a4 k4 x3 inb_S2048x128_S64x128_1856_0) (rows_unread a21 k21 xs9 inb_S2048x128_S64x128_1856_0) (inb := inb_S2048x128_S64x128_1856_0)
  have h30 := st_tq (bq_30 c i a2 k2 a6 k6 a7 k7 a8 k8 a12 a14 x0 x1 x2 x3 x4 x5 x6 x7) (rows_unread a4 k4 x3 inb_S2048x128_S64x128_1920_0) (rows_unread a21 k21 xs9 inb_S2048x128_S64x128_1920_0) (inb := inb_S2048x128_S64x128_1920_0)
  have h31 := st_tq (bq_31 c i a2 k2 a6 k6 a7 k7 a8 k8 a12 a14 x0 x1 x2 x3 x4 x5 x6 x7) (rows_unread a4 k4 x3 inb_S2048x128_S64x128_1984_0) (rows_unread a21 k21 xs9 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- Scratch `a15` after the point. -/
theorem out_3 : sout0_B_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_B.sl.r_3 c a6 k6 x5) (kernelRun0_B.sl.r_4 i)).gMP xs3 := by
  funext y
  unfold sout0_B_3
  rw [View.read_writes_junk_eq_canon]
  exact View.canon_apply_of_pieces _ _ (pieces_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_B_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a16` after the point. -/
theorem out_4 : sout0_B_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_B.sl.r_3 c a6 k6 x5) (kernelRun0_B.sl.r_4 i)).gSP xs3 xs4 := by
  funext y
  unfold sout0_B_4
  rw [View.read_writes_junk_eq_canon]
  exact View.canon_apply_of_pieces _ _ (pieces_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_B_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a17` after the point. -/
theorem out_5 : sout0_B_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_B.sl.r_3 c a6 k6 x5) (kernelRun0_B.sl.r_4 i)).gTT xs3 xs5 := by
  funext y
  unfold sout0_B_5
  rw [View.read_writes_junk_eq_canon]
  exact View.canon_apply_of_pieces _ _ (pieces_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_B_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a18` after the point. -/
theorem out_6 : sout0_B_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_B.sl.r_3 c a6 k6 x5) (kernelRun0_B.sl.r_4 i)).gMQ xs6 := by
  funext y
  unfold sout0_B_6
  rw [View.read_writes_junk_eq_canon]
  exact View.canon_apply_of_pieces _ _ (pieces_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_B_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a19` after the point. -/
theorem out_7 : sout0_B_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_B.sl.r_3 c a6 k6 x5) (kernelRun0_B.sl.r_4 i)).gSQ xs6 xs7 := by
  funext y
  unfold sout0_B_7
  rw [View.read_writes_junk_eq_canon]
  exact View.canon_apply_of_pieces _ _ (pieces_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_B_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a20` after the point. -/
theorem out_8 : sout0_B_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_B.sl.r_3 c a6 k6 x5) (kernelRun0_B.sl.r_4 i)).gTP xs8 := by
  funext y
  unfold sout0_B_8
  rw [View.read_writes_junk_eq_canon]
  exact View.canon_apply_of_pieces _ _ (pieces_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_B_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a21` after the point. -/
theorem out_9 : sout0_B_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_B.sl.r_3 c a6 k6 x5) (kernelRun0_B.sl.r_4 i)).gTQ xs9 := by
  funext y
  unfold sout0_B_9
  rw [View.read_writes_junk_eq_canon]
  exact View.canon_apply_of_pieces _ _ (pieces_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_B_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

end Cert.Blk.CaseB

end
-- ==== Proof.CaseCBlocks.lean ====
/- The stores of the last case of the main call, block by block. -/
module

public import proofs.«01_k».proof.Proof.Tile

@[expose] public section

set_option maxRecDepth 16384

noncomputable section

namespace Cert.Blk.CaseC

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : ¬cond0_0 i) (hc1 : cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32) (xs3 : Vec Ideal S2048x128 .f32) (xs4 : Vec Ideal S2048x128 .f32) (xs5 : Vec Ideal S2048x128 .f32) (xs6 : Vec Ideal S2048x128 .f32) (xs7 : Vec Ideal S2048x128 .f32) (xs8 : Vec Ideal S2048x128 .f32) (xs9 : Vec Ideal S2048x128 .f32)

/-- The dequantised weights, stored group by group. -/
theorem wd_pieces : View.PiecesOf (WD x6 x7) (kernelRun0_C.sl.HS0_20 c a7 k7 a8 k8 x6 x7) :=
  pieces_cons (piece_wd (o := 2432) 19 slices_S512x20_o0_19_S512x1 a7 k7 a8 k8 x6 x7 rfl inb_S256x2560_S256x128_0_2432 inb_S512x20_S512x20_0_0 (inb := inb_S512x2560_S512x128_0_2432))
    (pieces_cons (piece_wd (o := 2304) 18 slices_S512x20_o0_18_S512x1 a7 k7 a8 k8 x6 x7 rfl inb_S256x2560_S256x128_0_2304 inb_S512x20_S512x20_0_0 (inb := inb_S512x2560_S512x128_0_2304))
    (pieces_cons (piece_wd (o := 2176) 17 slices_S512x20_o0_17_S512x1 a7 k7 a8 k8 x6 x7 rfl inb_S256x2560_S256x128_0_2176 inb_S512x20_S512x20_0_0 (inb := inb_S512x2560_S512x128_0_2176))
    (pieces_cons (piece_wd (o := 2048) 16 slices_S512x20_o0_16_S512x1 a7 k7 a8 k8 x6 x7 rfl inb_S256x2560_S256x128_0_2048 inb_S512x20_S512x20_0_0 (inb := inb_S512x2560_S512x128_0_2048))
    (pieces_cons (piece_wd (o := 1920) 15 slices_S512x20_o0_15_S512x1 a7 k7 a8 k8 x6 x7 rfl inb_S256x2560_S256x128_0_1920 inb_S512x20_S512x20_0_0 (inb := inb_S512x2560_S512x128_0_1920))
    (pieces_cons (piece_wd (o := 1792) 14 slices_S512x20_o0_14_S512x1 a7 k7 a8 k8 x6 x7 rfl inb_S256x2560_S256x128_0_1792 inb_S512x20_S512x20_0_0 (inb := inb_S512x2560_S512x128_0_1792))
    (pieces_cons (piece_wd (o := 1664) 13 slices_S512x20_o0_13_S512x1 a7 k7 a8 k8 x6 x7 rfl inb_S256x2560_S256x128_0_1664 inb_S512x20_S512x20_0_0 (inb := inb_S512x2560_S512x128_0_1664))
    (pieces_cons (piece_wd (o := 1536) 12 slices_S512x20_o0_12_S512x1 a7 k7 a8 k8 x6 x7 rfl inb_S256x2560_S256x128_0_1536 inb_S512x20_S512x20_0_0 (inb := inb_S512x2560_S512x128_0_1536))
    (pieces_cons (piece_wd (o := 1408) 11 slices_S512x20_o0_11_S512x1 a7 k7 a8 k8 x6 x7 rfl inb_S256x2560_S256x128_0_1408 inb_S512x20_S512x20_0_0 (inb := inb_S512x2560_S512x128_0_1408))
    (pieces_cons (piece_wd (o := 1280) 10 slices_S512x20_o0_10_S512x1 a7 k7 a8 k8 x6 x7 rfl inb_S256x2560_S256x128_0_1280 inb_S512x20_S512x20_0_0 (inb := inb_S512x2560_S512x128_0_1280))
    (pieces_cons (piece_wd (o := 1152) 9 slices_S512x20_o0_9_S512x1 a7 k7 a8 k8 x6 x7 rfl inb_S256x2560_S256x128_0_1152 inb_S512x20_S512x20_0_0 (inb := inb_S512x2560_S512x128_0_1152))
    (pieces_cons (piece_wd (o := 1024) 8 slices_S512x20_o0_8_S512x1 a7 k7 a8 k8 x6 x7 rfl inb_S256x2560_S256x128_0_1024 inb_S512x20_S512x20_0_0 (inb := inb_S512x2560_S512x128_0_1024))
    (pieces_cons (piece_wd (o := 896) 7 slices_S512x20_o0_7_S512x1 a7 k7 a8 k8 x6 x7 rfl inb_S256x2560_S256x128_0_896 inb_S512x20_S512x20_0_0 (inb := inb_S512x2560_S512x128_0_896))
    (pieces_cons (piece_wd (o := 768) 6 slices_S512x20_o0_6_S512x1 a7 k7 a8 k8 x6 x7 rfl inb_S256x2560_S256x128_0_768 inb_S512x20_S512x20_0_0 (inb := inb_S512x2560_S512x128_0_768))
    (pieces_cons (piece_wd (o := 640) 5 slices_S512x20_o0_5_S512x1 a7 k7 a8 k8 x6 x7 rfl inb_S256x2560_S256x128_0_640 inb_S512x20_S512x20_0_0 (inb := inb_S512x2560_S512x128_0_640))
    (pieces_cons (piece_wd (o := 512) 4 slices_S512x20_o0_4_S512x1 a7 k7 a8 k8 x6 x7 rfl inb_S256x2560_S256x128_0_512 inb_S512x20_S512x20_0_0 (inb := inb_S512x2560_S512x128_0_512))
    (pieces_cons (piece_wd (o := 384) 3 slices_S512x20_o0_3_S512x1 a7 k7 a8 k8 x6 x7 rfl inb_S256x2560_S256x128_0_384 inb_S512x20_S512x20_0_0 (inb := inb_S512x2560_S512x128_0_384))
    (pieces_cons (piece_wd (o := 256) 2 slices_S512x20_o0_2_S512x1 a7 k7 a8 k8 x6 x7 rfl inb_S256x2560_S256x128_0_256 inb_S512x20_S512x20_0_0 (inb := inb_S512x2560_S512x128_0_256))
    (pieces_cons (piece_wd (o := 128) 1 slices_S512x20_o0_1_S512x1 a7 k7 a8 k8 x6 x7 rfl inb_S256x2560_S256x128_0_128 inb_S512x20_S512x20_0_0 (inb := inb_S512x2560_S512x128_0_128))
    (pieces_cons (piece_wd (o := 0) 0 slices_S512x20_o0_0_S512x1 a7 k7 a8 k8 x6 x7 rfl inb_S256x2560_S256x128_0_0 inb_S512x20_S512x20_0_0 (inb := inb_S512x2560_S512x128_0_0))
    (trivial))))))))))))))))))))

/-- The dequantised weights as the products load them. -/
theorem wd : a12.view.readCov (kernelRun0_C.sl.HS0_20 c a7 k7 a8 k8 x6 x7) (Rect.unit (s := S512x2560) ![0, 0] S512x2560.size inb_S512x2560_S512x2560_0_0).toLoadRect = WD x6 x7 :=
  wd_whole a12.view _ _ (wd_pieces c a7 k7 a8 k8 x6 x7) (fun y => View.cover_of_tiledL (kernelRun0_C.sl.HS0_20 c a7 k7 a8 k8 x6 x7) S512x128.size (by sl_kernel_rfl) y) _

/-! The two inputs of each block of 64 rows, as the kernel loads them. -/

theorem bp_0 : BlkP (mkD x0 x1 x2 x3 x4 x6 x7 (kernelRun0_C.sl.r_3 c a6 k6 x5) (kernelRun0_C.sl.r_4 i)) 0 (ra a3 k3 x2 inb_S2048x128_S64x128_0_0) (rd a13.view (kernelRun0_C.sl.HS1_1 c a1 k1 a5 k5 x0 x4) inb_S512x512_S64x128_0_0) (rd a13.view (kernelRun0_C.sl.HS1_1 c a1 k1 a5 k5 x0 x4) inb_S512x512_S64x128_0_128) (rd a13.view (kernelRun0_C.sl.HS1_1 c a1 k1 a5 k5 x0 x4) inb_S512x512_S64x128_0_256) (rd a13.view (kernelRun0_C.sl.HS1_1 c a1 k1 a5 k5 x0 x4) inb_S512x512_S64x128_0_384) :=
  blkP_of _ a3 k3 _ a13.view (t := 0) (oi := 0) (z_tile a1 k1 x0 a5 k5 x4 inb_S2048x2560_S512x2560_0_0 inb_S512x2560_S512x2560_0_0) rfl rfl _ _ _ _

theorem bq_0 : BlkQ (mkD x0 x1 x2 x3 x4 x6 x7 (kernelRun0_C.sl.r_3 c a6 k6 x5) (kernelRun0_C.sl.r_4 i)) 0 (rd a14.view (kernelRun0_C.sl.HS2_1 c a2 k2 a7 k7 a8 k8 a12 x1 x6 x7) inb_S512x512_S64x128_0_0) (rd a14.view (kernelRun0_C.sl.HS2_1 c a2 k2 a7 k7 a8 k8 a12 x1 x6 x7) inb_S512x512_S64x128_0_128) (rd a14.view (kernelRun0_C.sl.HS2_1 c a2 k2 a7 k7 a8 k8 a12 x1 x6 x7) inb_S512x512_S64x128_0_256) (rd a14.view (kernelRun0_C.sl.HS2_1 c a2 k2 a7 k7 a8 k8 a12 x1 x6 x7) inb_S512x512_S64x128_0_384) :=
  blkQ_of _ a14.view (t := 0) (oi := 0) (y_tile a2 k2 x1 (wd c a7 k7 a8 k8 a12 x6 x7) inb_S2048x2560_S512x2560_0_0) rfl rfl _ _ _ _

theorem bp_1 : BlkP (mkD x0 x1 x2 x3 x4 x6 x7 (kernelRun0_C.sl.r_3 c a6 k6 x5) (kernelRun0_C.sl.r_4 i)) 64 (ra a3 k3 x2 inb_S2048x128_S64x128_64_0) (rd a13.view (kernelRun0_C.sl.HS1_1 c a1 k1 a5 k5 x0 x4) inb_S512x512_S64x128_64_0) (rd a13.view (kernelRun0_C.sl.HS1_1 c a1 k1 a5 k5 x0 x4) inb_S512x512_S64x128_64_128) (rd a13.view (kernelRun0_C.sl.HS1_1 c a1 k1 a5 k5 x0 x4) inb_S512x512_S64x128_64_256) (rd a13.view (kernelRun0_C.sl.HS1_1 c a1 k1 a5 k5 x0 x4) inb_S512x512_S64x128_64_384) :=
  blkP_of _ a3 k3 _ a13.view (t := 0) (oi := 64) (z_tile a1 k1 x0 a5 k5 x4 inb_S2048x2560_S512x2560_0_0 inb_S512x2560_S512x2560_0_0) rfl rfl _ _ _ _

theorem bq_1 : BlkQ (mkD x0 x1 x2 x3 x4 x6 x7 (kernelRun0_C.sl.r_3 c a6 k6 x5) (kernelRun0_C.sl.r_4 i)) 64 (rd a14.view (kernelRun0_C.sl.HS2_1 c a2 k2 a7 k7 a8 k8 a12 x1 x6 x7) inb_S512x512_S64x128_64_0) (rd a14.view (kernelRun0_C.sl.HS2_1 c a2 k2 a7 k7 a8 k8 a12 x1 x6 x7) inb_S512x512_S64x128_64_128) (rd a14.view (kernelRun0_C.sl.HS2_1 c a2 k2 a7 k7 a8 k8 a12 x1 x6 x7) inb_S512x512_S64x128_64_256) (rd a14.view (kernelRun0_C.sl.HS2_1 c a2 k2 a7 k7 a8 k8 a12 x1 x6 x7) inb_S512x512_S64x128_64_384) :=
  blkQ_of _ a14.view (t := 0) (oi := 64) (y_tile a2 k2 x1 (wd c a7 k7 a8 k8 a12 x6 x7) inb_S2048x2560_S512x2560_0_0) rfl rfl _ _ _ _

theorem bp_2 : BlkP (mkD x0 x1 x2 x3 x4 x6 x7 (kernelRun0_C.sl.r_3 c a6 k6 x5) (kernelRun0_C.sl.r_4 i)) 128 (ra a3 k3 x2 inb_S2048x128_S64x128_128_0) (rd a13.view (kernelRun0_C.sl.HS1_1 c a1 k1 a5 k5 x0 x4) inb_S512x512_S64x128_128_0) (rd a13.view (kernelRun0_C.sl.HS1_1 c a1 k1 a5 k5 x0 x4) inb_S512x512_S64x128_128_128) (rd a13.view (kernelRun0_C.sl.HS1_1 c a1 k1 a5 k5 x0 x4) inb_S512x512_S64x128_128_256) (rd a13.view (kernelRun0_C.sl.HS1_1 c a1 k1 a5 k5 x0 x4) inb_S512x512_S64x128_128_384) :=
  blkP_of _ a3 k3 _ a13.view (t := 0) (oi := 128) (z_tile a1 k1 x0 a5 k5 x4 inb_S2048x2560_S512x2560_0_0 inb_S512x2560_S512x2560_0_0) rfl rfl _ _ _ _

theorem bq_2 : BlkQ (mkD x0 x1 x2 x3 x4 x6 x7 (kernelRun0_C.sl.r_3 c a6 k6 x5) (kernelRun0_C.sl.r_4 i)) 128 (rd a14.view (kernelRun0_C.sl.HS2_1 c a2 k2 a7 k7 a8 k8 a12 x1 x6 x7) inb_S512x512_S64x128_128_0) (rd a14.view (kernelRun0_C.sl.HS2_1 c a2 k2 a7 k7 a8 k8 a12 x1 x6 x7) inb_S512x512_S64x128_128_128) (rd a14.view (kernelRun0_C.sl.HS2_1 c a2 k2 a7 k7 a8 k8 a12 x1 x6 x7) inb_S512x512_S64x128_128_256) (rd a14.view (kernelRun0_C.sl.HS2_1 c a2 k2 a7 k7 a8 k8 a12 x1 x6 x7) inb_S512x512_S64x128_128_384) :=
  blkQ_of _ a14.view (t := 0) (oi := 128) (y_tile a2 k2 x1 (wd c a7 k7 a8 k8 a12 x6 x7) inb_S2048x2560_S512x2560_0_0) rfl rfl _ _ _ _

theorem bp_3 : BlkP (mkD x0 x1 x2 x3 x4 x6 x7 (kernelRun0_C.sl.r_3 c a6 k6 x5) (kernelRun0_C.sl.r_4 i)) 192 (ra a3 k3 x2 inb_S2048x128_S64x128_192_0) (rd a13.view (kernelRun0_C.sl.HS1_1 c a1 k1 a5 k5 x0 x4) inb_S512x512_S64x128_192_0) (rd a13.view (kernelRun0_C.sl.HS1_1 c a1 k1 a5 k5 x0 x4) inb_S512x512_S64x128_192_128) (rd a13.view (kernelRun0_C.sl.HS1_1 c a1 k1 a5 k5 x0 x4) inb_S512x512_S64x128_192_256) (rd a13.view (kernelRun0_C.sl.HS1_1 c a1 k1 a5 k5 x0 x4) inb_S512x512_S64x128_192_384) :=
  blkP_of _ a3 k3 _ a13.view (t := 0) (oi := 192) (z_tile a1 k1 x0 a5 k5 x4 inb_S2048x2560_S512x2560_0_0 inb_S512x2560_S512x2560_0_0) rfl rfl _ _ _ _

theorem bq_3 : BlkQ (mkD x0 x1 x2 x3 x4 x6 x7 (kernelRun0_C.sl.r_3 c a6 k6 x5) (kernelRun0_C.sl.r_4 i)) 192 (rd a14.view (kernelRun0_C.sl.HS2_1 c a2 k2 a7 k7 a8 k8 a12 x1 x6 x7) inb_S512x512_S64x128_192_0) (rd a14.view (kernelRun0_C.sl.HS2_1 c a2 k2 a7 k7 a8 k8 a12 x1 x6 x7) inb_S512x512_S64x128_192_128) (rd a14.view (kernelRun0_C.sl.HS2_1 c a2 k2 a7 k7 a8 k8 a12 x1 x6 x7) inb_S512x512_S64x128_192_256) (rd a14.view (kernelRun0_C.sl.HS2_1 c a2 k2 a7 k7 a8 k8 a12 x1 x6 x7) inb_S512x512_S64x128_192_384) :=
  blkQ_of _ a14.view (t := 0) (oi := 192) (y_tile a2 k2 x1 (wd c a7 k7 a8 k8 a12 x6 x7) inb_S2048x2560_S512x2560_0_0) rfl rfl _ _ _ _

theorem bp_4 : BlkP (mkD x0 x1 x2 x3 x4 x6 x7 (kernelRun0_C.sl.r_3 c a6 k6 x5) (kernelRun0_C.sl.r_4 i)) 256 (ra a3 k3 x2 inb_S2048x128_S64x128_256_0) (rd a13.view (kernelRun0_C.sl.HS1_1 c a1 k1 a5 k5 x0 x4) inb_S512x512_S64x128_256_0) (rd a13.view (kernelRun0_C.sl.HS1_1 c a1 k1 a5 k5 x0 x4) inb_S512x512_S64x128_256_128) (rd a13.view (kernelRun0_C.sl.HS1_1 c a1 k1 a5 k5 x0 x4) inb_S512x512_S64x128_256_256) (rd a13.view (kernelRun0_C.sl.HS1_1 c a1 k1 a5 k5 x0 x4) inb_S512x512_S64x128_256_384) :=
  blkP_of _ a3 k3 _ a13.view (t := 0) (oi := 256) (z_tile a1 k1 x0 a5 k5 x4 inb_S2048x2560_S512x2560_0_0 inb_S512x2560_S512x2560_0_0) rfl rfl _ _ _ _

theorem bq_4 : BlkQ (mkD x0 x1 x2 x3 x4 x6 x7 (kernelRun0_C.sl.r_3 c a6 k6 x5) (kernelRun0_C.sl.r_4 i)) 256 (rd a14.view (kernelRun0_C.sl.HS2_1 c a2 k2 a7 k7 a8 k8 a12 x1 x6 x7) inb_S512x512_S64x128_256_0) (rd a14.view (kernelRun0_C.sl.HS2_1 c a2 k2 a7 k7 a8 k8 a12 x1 x6 x7) inb_S512x512_S64x128_256_128) (rd a14.view (kernelRun0_C.sl.HS2_1 c a2 k2 a7 k7 a8 k8 a12 x1 x6 x7) inb_S512x512_S64x128_256_256) (rd a14.view (kernelRun0_C.sl.HS2_1 c a2 k2 a7 k7 a8 k8 a12 x1 x6 x7) inb_S512x512_S64x128_256_384) :=
  blkQ_of _ a14.view (t := 0) (oi := 256) (y_tile a2 k2 x1 (wd c a7 k7 a8 k8 a12 x6 x7) inb_S2048x2560_S512x2560_0_0) rfl rfl _ _ _ _

theorem bp_5 : BlkP (mkD x0 x1 x2 x3 x4 x6 x7 (kernelRun0_C.sl.r_3 c a6 k6 x5) (kernelRun0_C.sl.r_4 i)) 320 (ra a3 k3 x2 inb_S2048x128_S64x128_320_0) (rd a13.view (kernelRun0_C.sl.HS1_1 c a1 k1 a5 k5 x0 x4) inb_S512x512_S64x128_320_0) (rd a13.view (kernelRun0_C.sl.HS1_1 c a1 k1 a5 k5 x0 x4) inb_S512x512_S64x128_320_128) (rd a13.view (kernelRun0_C.sl.HS1_1 c a1 k1 a5 k5 x0 x4) inb_S512x512_S64x128_320_256) (rd a13.view (kernelRun0_C.sl.HS1_1 c a1 k1 a5 k5 x0 x4) inb_S512x512_S64x128_320_384) :=
  blkP_of _ a3 k3 _ a13.view (t := 0) (oi := 320) (z_tile a1 k1 x0 a5 k5 x4 inb_S2048x2560_S512x2560_0_0 inb_S512x2560_S512x2560_0_0) rfl rfl _ _ _ _

theorem bq_5 : BlkQ (mkD x0 x1 x2 x3 x4 x6 x7 (kernelRun0_C.sl.r_3 c a6 k6 x5) (kernelRun0_C.sl.r_4 i)) 320 (rd a14.view (kernelRun0_C.sl.HS2_1 c a2 k2 a7 k7 a8 k8 a12 x1 x6 x7) inb_S512x512_S64x128_320_0) (rd a14.view (kernelRun0_C.sl.HS2_1 c a2 k2 a7 k7 a8 k8 a12 x1 x6 x7) inb_S512x512_S64x128_320_128) (rd a14.view (kernelRun0_C.sl.HS2_1 c a2 k2 a7 k7 a8 k8 a12 x1 x6 x7) inb_S512x512_S64x128_320_256) (rd a14.view (kernelRun0_C.sl.HS2_1 c a2 k2 a7 k7 a8 k8 a12 x1 x6 x7) inb_S512x512_S64x128_320_384) :=
  blkQ_of _ a14.view (t := 0) (oi := 320) (y_tile a2 k2 x1 (wd c a7 k7 a8 k8 a12 x6 x7) inb_S2048x2560_S512x2560_0_0) rfl rfl _ _ _ _

theorem bp_6 : BlkP (mkD x0 x1 x2 x3 x4 x6 x7 (kernelRun0_C.sl.r_3 c a6 k6 x5) (kernelRun0_C.sl.r_4 i)) 384 (ra a3 k3 x2 inb_S2048x128_S64x128_384_0) (rd a13.view (kernelRun0_C.sl.HS1_1 c a1 k1 a5 k5 x0 x4) inb_S512x512_S64x128_384_0) (rd a13.view (kernelRun0_C.sl.HS1_1 c a1 k1 a5 k5 x0 x4) inb_S512x512_S64x128_384_128) (rd a13.view (kernelRun0_C.sl.HS1_1 c a1 k1 a5 k5 x0 x4) inb_S512x512_S64x128_384_256) (rd a13.view (kernelRun0_C.sl.HS1_1 c a1 k1 a5 k5 x0 x4) inb_S512x512_S64x128_384_384) :=
  blkP_of _ a3 k3 _ a13.view (t := 0) (oi := 384) (z_tile a1 k1 x0 a5 k5 x4 inb_S2048x2560_S512x2560_0_0 inb_S512x2560_S512x2560_0_0) rfl rfl _ _ _ _

theorem bq_6 : BlkQ (mkD x0 x1 x2 x3 x4 x6 x7 (kernelRun0_C.sl.r_3 c a6 k6 x5) (kernelRun0_C.sl.r_4 i)) 384 (rd a14.view (kernelRun0_C.sl.HS2_1 c a2 k2 a7 k7 a8 k8 a12 x1 x6 x7) inb_S512x512_S64x128_384_0) (rd a14.view (kernelRun0_C.sl.HS2_1 c a2 k2 a7 k7 a8 k8 a12 x1 x6 x7) inb_S512x512_S64x128_384_128) (rd a14.view (kernelRun0_C.sl.HS2_1 c a2 k2 a7 k7 a8 k8 a12 x1 x6 x7) inb_S512x512_S64x128_384_256) (rd a14.view (kernelRun0_C.sl.HS2_1 c a2 k2 a7 k7 a8 k8 a12 x1 x6 x7) inb_S512x512_S64x128_384_384) :=
  blkQ_of _ a14.view (t := 0) (oi := 384) (y_tile a2 k2 x1 (wd c a7 k7 a8 k8 a12 x6 x7) inb_S2048x2560_S512x2560_0_0) rfl rfl _ _ _ _

theorem bp_7 : BlkP (mkD x0 x1 x2 x3 x4 x6 x7 (kernelRun0_C.sl.r_3 c a6 k6 x5) (kernelRun0_C.sl.r_4 i)) 448 (ra a3 k3 x2 inb_S2048x128_S64x128_448_0) (rd a13.view (kernelRun0_C.sl.HS1_1 c a1 k1 a5 k5 x0 x4) inb_S512x512_S64x128_448_0) (rd a13.view (kernelRun0_C.sl.HS1_1 c a1 k1 a5 k5 x0 x4) inb_S512x512_S64x128_448_128) (rd a13.view (kernelRun0_C.sl.HS1_1 c a1 k1 a5 k5 x0 x4) inb_S512x512_S64x128_448_256) (rd a13.view (kernelRun0_C.sl.HS1_1 c a1 k1 a5 k5 x0 x4) inb_S512x512_S64x128_448_384) :=
  blkP_of _ a3 k3 _ a13.view (t := 0) (oi := 448) (z_tile a1 k1 x0 a5 k5 x4 inb_S2048x2560_S512x2560_0_0 inb_S512x2560_S512x2560_0_0) rfl rfl _ _ _ _

theorem bq_7 : BlkQ (mkD x0 x1 x2 x3 x4 x6 x7 (kernelRun0_C.sl.r_3 c a6 k6 x5) (kernelRun0_C.sl.r_4 i)) 448 (rd a14.view (kernelRun0_C.sl.HS2_1 c a2 k2 a7 k7 a8 k8 a12 x1 x6 x7) inb_S512x512_S64x128_448_0) (rd a14.view (kernelRun0_C.sl.HS2_1 c a2 k2 a7 k7 a8 k8 a12 x1 x6 x7) inb_S512x512_S64x128_448_128) (rd a14.view (kernelRun0_C.sl.HS2_1 c a2 k2 a7 k7 a8 k8 a12 x1 x6 x7) inb_S512x512_S64x128_448_256) (rd a14.view (kernelRun0_C.sl.HS2_1 c a2 k2 a7 k7 a8 k8 a12 x1 x6 x7) inb_S512x512_S64x128_448_384) :=
  blkQ_of _ a14.view (t := 0) (oi := 448) (y_tile a2 k2 x1 (wd c a7 k7 a8 k8 a12 x6 x7) inb_S2048x2560_S512x2560_0_0) rfl rfl _ _ _ _

theorem bp_8 : BlkP (mkD x0 x1 x2 x3 x4 x6 x7 (kernelRun0_C.sl.r_3 c a6 k6 x5) (kernelRun0_C.sl.r_4 i)) 512 (ra a3 k3 x2 inb_S2048x128_S64x128_512_0) (rd a13.view (kernelRun0_C.sl.HS1_2 c a1 k1 a5 k5 x0 x4) inb_S512x512_S64x128_0_0) (rd a13.view (kernelRun0_C.sl.HS1_2 c a1 k1 a5 k5 x0 x4) inb_S512x512_S64x128_0_128) (rd a13.view (kernelRun0_C.sl.HS1_2 c a1 k1 a5 k5 x0 x4) inb_S512x512_S64x128_0_256) (rd a13.view (kernelRun0_C.sl.HS1_2 c a1 k1 a5 k5 x0 x4) inb_S512x512_S64x128_0_384) :=
  blkP_of _ a3 k3 _ a13.view (t := 512) (oi := 0) (z_tile a1 k1 x0 a5 k5 x4 inb_S2048x2560_S512x2560_512_0 inb_S512x2560_S512x2560_0_0) rfl rfl _ _ _ _

theorem bq_8 : BlkQ (mkD x0 x1 x2 x3 x4 x6 x7 (kernelRun0_C.sl.r_3 c a6 k6 x5) (kernelRun0_C.sl.r_4 i)) 512 (rd a14.view (kernelRun0_C.sl.HS2_2 c a2 k2 a7 k7 a8 k8 a12 x1 x6 x7) inb_S512x512_S64x128_0_0) (rd a14.view (kernelRun0_C.sl.HS2_2 c a2 k2 a7 k7 a8 k8 a12 x1 x6 x7) inb_S512x512_S64x128_0_128) (rd a14.view (kernelRun0_C.sl.HS2_2 c a2 k2 a7 k7 a8 k8 a12 x1 x6 x7) inb_S512x512_S64x128_0_256) (rd a14.view (kernelRun0_C.sl.HS2_2 c a2 k2 a7 k7 a8 k8 a12 x1 x6 x7) inb_S512x512_S64x128_0_384) :=
  blkQ_of _ a14.view (t := 512) (oi := 0) (y_tile a2 k2 x1 (wd c a7 k7 a8 k8 a12 x6 x7) inb_S2048x2560_S512x2560_512_0) rfl rfl _ _ _ _

theorem bp_9 : BlkP (mkD x0 x1 x2 x3 x4 x6 x7 (kernelRun0_C.sl.r_3 c a6 k6 x5) (kernelRun0_C.sl.r_4 i)) 576 (ra a3 k3 x2 inb_S2048x128_S64x128_576_0) (rd a13.view (kernelRun0_C.sl.HS1_2 c a1 k1 a5 k5 x0 x4) inb_S512x512_S64x128_64_0) (rd a13.view (kernelRun0_C.sl.HS1_2 c a1 k1 a5 k5 x0 x4) inb_S512x512_S64x128_64_128) (rd a13.view (kernelRun0_C.sl.HS1_2 c a1 k1 a5 k5 x0 x4) inb_S512x512_S64x128_64_256) (rd a13.view (kernelRun0_C.sl.HS1_2 c a1 k1 a5 k5 x0 x4) inb_S512x512_S64x128_64_384) :=
  blkP_of _ a3 k3 _ a13.view (t := 512) (oi := 64) (z_tile a1 k1 x0 a5 k5 x4 inb_S2048x2560_S512x2560_512_0 inb_S512x2560_S512x2560_0_0) rfl rfl _ _ _ _

theorem bq_9 : BlkQ (mkD x0 x1 x2 x3 x4 x6 x7 (kernelRun0_C.sl.r_3 c a6 k6 x5) (kernelRun0_C.sl.r_4 i)) 576 (rd a14.view (kernelRun0_C.sl.HS2_2 c a2 k2 a7 k7 a8 k8 a12 x1 x6 x7) inb_S512x512_S64x128_64_0) (rd a14.view (kernelRun0_C.sl.HS2_2 c a2 k2 a7 k7 a8 k8 a12 x1 x6 x7) inb_S512x512_S64x128_64_128) (rd a14.view (kernelRun0_C.sl.HS2_2 c a2 k2 a7 k7 a8 k8 a12 x1 x6 x7) inb_S512x512_S64x128_64_256) (rd a14.view (kernelRun0_C.sl.HS2_2 c a2 k2 a7 k7 a8 k8 a12 x1 x6 x7) inb_S512x512_S64x128_64_384) :=
  blkQ_of _ a14.view (t := 512) (oi := 64) (y_tile a2 k2 x1 (wd c a7 k7 a8 k8 a12 x6 x7) inb_S2048x2560_S512x2560_512_0) rfl rfl _ _ _ _

theorem bp_10 : BlkP (mkD x0 x1 x2 x3 x4 x6 x7 (kernelRun0_C.sl.r_3 c a6 k6 x5) (kernelRun0_C.sl.r_4 i)) 640 (ra a3 k3 x2 inb_S2048x128_S64x128_640_0) (rd a13.view (kernelRun0_C.sl.HS1_2 c a1 k1 a5 k5 x0 x4) inb_S512x512_S64x128_128_0) (rd a13.view (kernelRun0_C.sl.HS1_2 c a1 k1 a5 k5 x0 x4) inb_S512x512_S64x128_128_128) (rd a13.view (kernelRun0_C.sl.HS1_2 c a1 k1 a5 k5 x0 x4) inb_S512x512_S64x128_128_256) (rd a13.view (kernelRun0_C.sl.HS1_2 c a1 k1 a5 k5 x0 x4) inb_S512x512_S64x128_128_384) :=
  blkP_of _ a3 k3 _ a13.view (t := 512) (oi := 128) (z_tile a1 k1 x0 a5 k5 x4 inb_S2048x2560_S512x2560_512_0 inb_S512x2560_S512x2560_0_0) rfl rfl _ _ _ _

theorem bq_10 : BlkQ (mkD x0 x1 x2 x3 x4 x6 x7 (kernelRun0_C.sl.r_3 c a6 k6 x5) (kernelRun0_C.sl.r_4 i)) 640 (rd a14.view (kernelRun0_C.sl.HS2_2 c a2 k2 a7 k7 a8 k8 a12 x1 x6 x7) inb_S512x512_S64x128_128_0) (rd a14.view (kernelRun0_C.sl.HS2_2 c a2 k2 a7 k7 a8 k8 a12 x1 x6 x7) inb_S512x512_S64x128_128_128) (rd a14.view (kernelRun0_C.sl.HS2_2 c a2 k2 a7 k7 a8 k8 a12 x1 x6 x7) inb_S512x512_S64x128_128_256) (rd a14.view (kernelRun0_C.sl.HS2_2 c a2 k2 a7 k7 a8 k8 a12 x1 x6 x7) inb_S512x512_S64x128_128_384) :=
  blkQ_of _ a14.view (t := 512) (oi := 128) (y_tile a2 k2 x1 (wd c a7 k7 a8 k8 a12 x6 x7) inb_S2048x2560_S512x2560_512_0) rfl rfl _ _ _ _

theorem bp_11 : BlkP (mkD x0 x1 x2 x3 x4 x6 x7 (kernelRun0_C.sl.r_3 c a6 k6 x5) (kernelRun0_C.sl.r_4 i)) 704 (ra a3 k3 x2 inb_S2048x128_S64x128_704_0) (rd a13.view (kernelRun0_C.sl.HS1_2 c a1 k1 a5 k5 x0 x4) inb_S512x512_S64x128_192_0) (rd a13.view (kernelRun0_C.sl.HS1_2 c a1 k1 a5 k5 x0 x4) inb_S512x512_S64x128_192_128) (rd a13.view (kernelRun0_C.sl.HS1_2 c a1 k1 a5 k5 x0 x4) inb_S512x512_S64x128_192_256) (rd a13.view (kernelRun0_C.sl.HS1_2 c a1 k1 a5 k5 x0 x4) inb_S512x512_S64x128_192_384) :=
  blkP_of _ a3 k3 _ a13.view (t := 512) (oi := 192) (z_tile a1 k1 x0 a5 k5 x4 inb_S2048x2560_S512x2560_512_0 inb_S512x2560_S512x2560_0_0) rfl rfl _ _ _ _

theorem bq_11 : BlkQ (mkD x0 x1 x2 x3 x4 x6 x7 (kernelRun0_C.sl.r_3 c a6 k6 x5) (kernelRun0_C.sl.r_4 i)) 704 (rd a14.view (kernelRun0_C.sl.HS2_2 c a2 k2 a7 k7 a8 k8 a12 x1 x6 x7) inb_S512x512_S64x128_192_0) (rd a14.view (kernelRun0_C.sl.HS2_2 c a2 k2 a7 k7 a8 k8 a12 x1 x6 x7) inb_S512x512_S64x128_192_128) (rd a14.view (kernelRun0_C.sl.HS2_2 c a2 k2 a7 k7 a8 k8 a12 x1 x6 x7) inb_S512x512_S64x128_192_256) (rd a14.view (kernelRun0_C.sl.HS2_2 c a2 k2 a7 k7 a8 k8 a12 x1 x6 x7) inb_S512x512_S64x128_192_384) :=
  blkQ_of _ a14.view (t := 512) (oi := 192) (y_tile a2 k2 x1 (wd c a7 k7 a8 k8 a12 x6 x7) inb_S2048x2560_S512x2560_512_0) rfl rfl _ _ _ _

theorem bp_12 : BlkP (mkD x0 x1 x2 x3 x4 x6 x7 (kernelRun0_C.sl.r_3 c a6 k6 x5) (kernelRun0_C.sl.r_4 i)) 768 (ra a3 k3 x2 inb_S2048x128_S64x128_768_0) (rd a13.view (kernelRun0_C.sl.HS1_2 c a1 k1 a5 k5 x0 x4) inb_S512x512_S64x128_256_0) (rd a13.view (kernelRun0_C.sl.HS1_2 c a1 k1 a5 k5 x0 x4) inb_S512x512_S64x128_256_128) (rd a13.view (kernelRun0_C.sl.HS1_2 c a1 k1 a5 k5 x0 x4) inb_S512x512_S64x128_256_256) (rd a13.view (kernelRun0_C.sl.HS1_2 c a1 k1 a5 k5 x0 x4) inb_S512x512_S64x128_256_384) :=
  blkP_of _ a3 k3 _ a13.view (t := 512) (oi := 256) (z_tile a1 k1 x0 a5 k5 x4 inb_S2048x2560_S512x2560_512_0 inb_S512x2560_S512x2560_0_0) rfl rfl _ _ _ _

theorem bq_12 : BlkQ (mkD x0 x1 x2 x3 x4 x6 x7 (kernelRun0_C.sl.r_3 c a6 k6 x5) (kernelRun0_C.sl.r_4 i)) 768 (rd a14.view (kernelRun0_C.sl.HS2_2 c a2 k2 a7 k7 a8 k8 a12 x1 x6 x7) inb_S512x512_S64x128_256_0) (rd a14.view (kernelRun0_C.sl.HS2_2 c a2 k2 a7 k7 a8 k8 a12 x1 x6 x7) inb_S512x512_S64x128_256_128) (rd a14.view (kernelRun0_C.sl.HS2_2 c a2 k2 a7 k7 a8 k8 a12 x1 x6 x7) inb_S512x512_S64x128_256_256) (rd a14.view (kernelRun0_C.sl.HS2_2 c a2 k2 a7 k7 a8 k8 a12 x1 x6 x7) inb_S512x512_S64x128_256_384) :=
  blkQ_of _ a14.view (t := 512) (oi := 256) (y_tile a2 k2 x1 (wd c a7 k7 a8 k8 a12 x6 x7) inb_S2048x2560_S512x2560_512_0) rfl rfl _ _ _ _

theorem bp_13 : BlkP (mkD x0 x1 x2 x3 x4 x6 x7 (kernelRun0_C.sl.r_3 c a6 k6 x5) (kernelRun0_C.sl.r_4 i)) 832 (ra a3 k3 x2 inb_S2048x128_S64x128_832_0) (rd a13.view (kernelRun0_C.sl.HS1_2 c a1 k1 a5 k5 x0 x4) inb_S512x512_S64x128_320_0) (rd a13.view (kernelRun0_C.sl.HS1_2 c a1 k1 a5 k5 x0 x4) inb_S512x512_S64x128_320_128) (rd a13.view (kernelRun0_C.sl.HS1_2 c a1 k1 a5 k5 x0 x4) inb_S512x512_S64x128_320_256) (rd a13.view (kernelRun0_C.sl.HS1_2 c a1 k1 a5 k5 x0 x4) inb_S512x512_S64x128_320_384) :=
  blkP_of _ a3 k3 _ a13.view (t := 512) (oi := 320) (z_tile a1 k1 x0 a5 k5 x4 inb_S2048x2560_S512x2560_512_0 inb_S512x2560_S512x2560_0_0) rfl rfl _ _ _ _

theorem bq_13 : BlkQ (mkD x0 x1 x2 x3 x4 x6 x7 (kernelRun0_C.sl.r_3 c a6 k6 x5) (kernelRun0_C.sl.r_4 i)) 832 (rd a14.view (kernelRun0_C.sl.HS2_2 c a2 k2 a7 k7 a8 k8 a12 x1 x6 x7) inb_S512x512_S64x128_320_0) (rd a14.view (kernelRun0_C.sl.HS2_2 c a2 k2 a7 k7 a8 k8 a12 x1 x6 x7) inb_S512x512_S64x128_320_128) (rd a14.view (kernelRun0_C.sl.HS2_2 c a2 k2 a7 k7 a8 k8 a12 x1 x6 x7) inb_S512x512_S64x128_320_256) (rd a14.view (kernelRun0_C.sl.HS2_2 c a2 k2 a7 k7 a8 k8 a12 x1 x6 x7) inb_S512x512_S64x128_320_384) :=
  blkQ_of _ a14.view (t := 512) (oi := 320) (y_tile a2 k2 x1 (wd c a7 k7 a8 k8 a12 x6 x7) inb_S2048x2560_S512x2560_512_0) rfl rfl _ _ _ _

theorem bp_14 : BlkP (mkD x0 x1 x2 x3 x4 x6 x7 (kernelRun0_C.sl.r_3 c a6 k6 x5) (kernelRun0_C.sl.r_4 i)) 896 (ra a3 k3 x2 inb_S2048x128_S64x128_896_0) (rd a13.view (kernelRun0_C.sl.HS1_2 c a1 k1 a5 k5 x0 x4) inb_S512x512_S64x128_384_0) (rd a13.view (kernelRun0_C.sl.HS1_2 c a1 k1 a5 k5 x0 x4) inb_S512x512_S64x128_384_128) (rd a13.view (kernelRun0_C.sl.HS1_2 c a1 k1 a5 k5 x0 x4) inb_S512x512_S64x128_384_256) (rd a13.view (kernelRun0_C.sl.HS1_2 c a1 k1 a5 k5 x0 x4) inb_S512x512_S64x128_384_384) :=
  blkP_of _ a3 k3 _ a13.view (t := 512) (oi := 384) (z_tile a1 k1 x0 a5 k5 x4 inb_S2048x2560_S512x2560_512_0 inb_S512x2560_S512x2560_0_0) rfl rfl _ _ _ _

theorem bq_14 : BlkQ (mkD x0 x1 x2 x3 x4 x6 x7 (kernelRun0_C.sl.r_3 c a6 k6 x5) (kernelRun0_C.sl.r_4 i)) 896 (rd a14.view (kernelRun0_C.sl.HS2_2 c a2 k2 a7 k7 a8 k8 a12 x1 x6 x7) inb_S512x512_S64x128_384_0) (rd a14.view (kernelRun0_C.sl.HS2_2 c a2 k2 a7 k7 a8 k8 a12 x1 x6 x7) inb_S512x512_S64x128_384_128) (rd a14.view (kernelRun0_C.sl.HS2_2 c a2 k2 a7 k7 a8 k8 a12 x1 x6 x7) inb_S512x512_S64x128_384_256) (rd a14.view (kernelRun0_C.sl.HS2_2 c a2 k2 a7 k7 a8 k8 a12 x1 x6 x7) inb_S512x512_S64x128_384_384) :=
  blkQ_of _ a14.view (t := 512) (oi := 384) (y_tile a2 k2 x1 (wd c a7 k7 a8 k8 a12 x6 x7) inb_S2048x2560_S512x2560_512_0) rfl rfl _ _ _ _

theorem bp_15 : BlkP (mkD x0 x1 x2 x3 x4 x6 x7 (kernelRun0_C.sl.r_3 c a6 k6 x5) (kernelRun0_C.sl.r_4 i)) 960 (ra a3 k3 x2 inb_S2048x128_S64x128_960_0) (rd a13.view (kernelRun0_C.sl.HS1_2 c a1 k1 a5 k5 x0 x4) inb_S512x512_S64x128_448_0) (rd a13.view (kernelRun0_C.sl.HS1_2 c a1 k1 a5 k5 x0 x4) inb_S512x512_S64x128_448_128) (rd a13.view (kernelRun0_C.sl.HS1_2 c a1 k1 a5 k5 x0 x4) inb_S512x512_S64x128_448_256) (rd a13.view (kernelRun0_C.sl.HS1_2 c a1 k1 a5 k5 x0 x4) inb_S512x512_S64x128_448_384) :=
  blkP_of _ a3 k3 _ a13.view (t := 512) (oi := 448) (z_tile a1 k1 x0 a5 k5 x4 inb_S2048x2560_S512x2560_512_0 inb_S512x2560_S512x2560_0_0) rfl rfl _ _ _ _

theorem bq_15 : BlkQ (mkD x0 x1 x2 x3 x4 x6 x7 (kernelRun0_C.sl.r_3 c a6 k6 x5) (kernelRun0_C.sl.r_4 i)) 960 (rd a14.view (kernelRun0_C.sl.HS2_2 c a2 k2 a7 k7 a8 k8 a12 x1 x6 x7) inb_S512x512_S64x128_448_0) (rd a14.view (kernelRun0_C.sl.HS2_2 c a2 k2 a7 k7 a8 k8 a12 x1 x6 x7) inb_S512x512_S64x128_448_128) (rd a14.view (kernelRun0_C.sl.HS2_2 c a2 k2 a7 k7 a8 k8 a12 x1 x6 x7) inb_S512x512_S64x128_448_256) (rd a14.view (kernelRun0_C.sl.HS2_2 c a2 k2 a7 k7 a8 k8 a12 x1 x6 x7) inb_S512x512_S64x128_448_384) :=
  blkQ_of _ a14.view (t := 512) (oi := 448) (y_tile a2 k2 x1 (wd c a7 k7 a8 k8 a12 x6 x7) inb_S2048x2560_S512x2560_512_0) rfl rfl _ _ _ _

theorem bp_16 : BlkP (mkD x0 x1 x2 x3 x4 x6 x7 (kernelRun0_C.sl.r_3 c a6 k6 x5) (kernelRun0_C.sl.r_4 i)) 1024 (ra a3 k3 x2 inb_S2048x128_S64x128_1024_0) (rd a13.view (kernelRun0_C.sl.HS1_3 c a1 k1 a5 k5 x0 x4) inb_S512x512_S64x128_0_0) (rd a13.view (kernelRun0_C.sl.HS1_3 c a1 k1 a5 k5 x0 x4) inb_S512x512_S64x128_0_128) (rd a13.view (kernelRun0_C.sl.HS1_3 c a1 k1 a5 k5 x0 x4) inb_S512x512_S64x128_0_256) (rd a13.view (kernelRun0_C.sl.HS1_3 c a1 k1 a5 k5 x0 x4) inb_S512x512_S64x128_0_384) :=
  blkP_of _ a3 k3 _ a13.view (t := 1024) (oi := 0) (z_tile a1 k1 x0 a5 k5 x4 inb_S2048x2560_S512x2560_1024_0 inb_S512x2560_S512x2560_0_0) rfl rfl _ _ _ _

theorem bq_16 : BlkQ (mkD x0 x1 x2 x3 x4 x6 x7 (kernelRun0_C.sl.r_3 c a6 k6 x5) (kernelRun0_C.sl.r_4 i)) 1024 (rd a14.view (kernelRun0_C.sl.HS2_3 c a2 k2 a7 k7 a8 k8 a12 x1 x6 x7) inb_S512x512_S64x128_0_0) (rd a14.view (kernelRun0_C.sl.HS2_3 c a2 k2 a7 k7 a8 k8 a12 x1 x6 x7) inb_S512x512_S64x128_0_128) (rd a14.view (kernelRun0_C.sl.HS2_3 c a2 k2 a7 k7 a8 k8 a12 x1 x6 x7) inb_S512x512_S64x128_0_256) (rd a14.view (kernelRun0_C.sl.HS2_3 c a2 k2 a7 k7 a8 k8 a12 x1 x6 x7) inb_S512x512_S64x128_0_384) :=
  blkQ_of _ a14.view (t := 1024) (oi := 0) (y_tile a2 k2 x1 (wd c a7 k7 a8 k8 a12 x6 x7) inb_S2048x2560_S512x2560_1024_0) rfl rfl _ _ _ _

theorem bp_17 : BlkP (mkD x0 x1 x2 x3 x4 x6 x7 (kernelRun0_C.sl.r_3 c a6 k6 x5) (kernelRun0_C.sl.r_4 i)) 1088 (ra a3 k3 x2 inb_S2048x128_S64x128_1088_0) (rd a13.view (kernelRun0_C.sl.HS1_3 c a1 k1 a5 k5 x0 x4) inb_S512x512_S64x128_64_0) (rd a13.view (kernelRun0_C.sl.HS1_3 c a1 k1 a5 k5 x0 x4) inb_S512x512_S64x128_64_128) (rd a13.view (kernelRun0_C.sl.HS1_3 c a1 k1 a5 k5 x0 x4) inb_S512x512_S64x128_64_256) (rd a13.view (kernelRun0_C.sl.HS1_3 c a1 k1 a5 k5 x0 x4) inb_S512x512_S64x128_64_384) :=
  blkP_of _ a3 k3 _ a13.view (t := 1024) (oi := 64) (z_tile a1 k1 x0 a5 k5 x4 inb_S2048x2560_S512x2560_1024_0 inb_S512x2560_S512x2560_0_0) rfl rfl _ _ _ _

theorem bq_17 : BlkQ (mkD x0 x1 x2 x3 x4 x6 x7 (kernelRun0_C.sl.r_3 c a6 k6 x5) (kernelRun0_C.sl.r_4 i)) 1088 (rd a14.view (kernelRun0_C.sl.HS2_3 c a2 k2 a7 k7 a8 k8 a12 x1 x6 x7) inb_S512x512_S64x128_64_0) (rd a14.view (kernelRun0_C.sl.HS2_3 c a2 k2 a7 k7 a8 k8 a12 x1 x6 x7) inb_S512x512_S64x128_64_128) (rd a14.view (kernelRun0_C.sl.HS2_3 c a2 k2 a7 k7 a8 k8 a12 x1 x6 x7) inb_S512x512_S64x128_64_256) (rd a14.view (kernelRun0_C.sl.HS2_3 c a2 k2 a7 k7 a8 k8 a12 x1 x6 x7) inb_S512x512_S64x128_64_384) :=
  blkQ_of _ a14.view (t := 1024) (oi := 64) (y_tile a2 k2 x1 (wd c a7 k7 a8 k8 a12 x6 x7) inb_S2048x2560_S512x2560_1024_0) rfl rfl _ _ _ _

theorem bp_18 : BlkP (mkD x0 x1 x2 x3 x4 x6 x7 (kernelRun0_C.sl.r_3 c a6 k6 x5) (kernelRun0_C.sl.r_4 i)) 1152 (ra a3 k3 x2 inb_S2048x128_S64x128_1152_0) (rd a13.view (kernelRun0_C.sl.HS1_3 c a1 k1 a5 k5 x0 x4) inb_S512x512_S64x128_128_0) (rd a13.view (kernelRun0_C.sl.HS1_3 c a1 k1 a5 k5 x0 x4) inb_S512x512_S64x128_128_128) (rd a13.view (kernelRun0_C.sl.HS1_3 c a1 k1 a5 k5 x0 x4) inb_S512x512_S64x128_128_256) (rd a13.view (kernelRun0_C.sl.HS1_3 c a1 k1 a5 k5 x0 x4) inb_S512x512_S64x128_128_384) :=
  blkP_of _ a3 k3 _ a13.view (t := 1024) (oi := 128) (z_tile a1 k1 x0 a5 k5 x4 inb_S2048x2560_S512x2560_1024_0 inb_S512x2560_S512x2560_0_0) rfl rfl _ _ _ _

theorem bq_18 : BlkQ (mkD x0 x1 x2 x3 x4 x6 x7 (kernelRun0_C.sl.r_3 c a6 k6 x5) (kernelRun0_C.sl.r_4 i)) 1152 (rd a14.view (kernelRun0_C.sl.HS2_3 c a2 k2 a7 k7 a8 k8 a12 x1 x6 x7) inb_S512x512_S64x128_128_0) (rd a14.view (kernelRun0_C.sl.HS2_3 c a2 k2 a7 k7 a8 k8 a12 x1 x6 x7) inb_S512x512_S64x128_128_128) (rd a14.view (kernelRun0_C.sl.HS2_3 c a2 k2 a7 k7 a8 k8 a12 x1 x6 x7) inb_S512x512_S64x128_128_256) (rd a14.view (kernelRun0_C.sl.HS2_3 c a2 k2 a7 k7 a8 k8 a12 x1 x6 x7) inb_S512x512_S64x128_128_384) :=
  blkQ_of _ a14.view (t := 1024) (oi := 128) (y_tile a2 k2 x1 (wd c a7 k7 a8 k8 a12 x6 x7) inb_S2048x2560_S512x2560_1024_0) rfl rfl _ _ _ _

theorem bp_19 : BlkP (mkD x0 x1 x2 x3 x4 x6 x7 (kernelRun0_C.sl.r_3 c a6 k6 x5) (kernelRun0_C.sl.r_4 i)) 1216 (ra a3 k3 x2 inb_S2048x128_S64x128_1216_0) (rd a13.view (kernelRun0_C.sl.HS1_3 c a1 k1 a5 k5 x0 x4) inb_S512x512_S64x128_192_0) (rd a13.view (kernelRun0_C.sl.HS1_3 c a1 k1 a5 k5 x0 x4) inb_S512x512_S64x128_192_128) (rd a13.view (kernelRun0_C.sl.HS1_3 c a1 k1 a5 k5 x0 x4) inb_S512x512_S64x128_192_256) (rd a13.view (kernelRun0_C.sl.HS1_3 c a1 k1 a5 k5 x0 x4) inb_S512x512_S64x128_192_384) :=
  blkP_of _ a3 k3 _ a13.view (t := 1024) (oi := 192) (z_tile a1 k1 x0 a5 k5 x4 inb_S2048x2560_S512x2560_1024_0 inb_S512x2560_S512x2560_0_0) rfl rfl _ _ _ _

theorem bq_19 : BlkQ (mkD x0 x1 x2 x3 x4 x6 x7 (kernelRun0_C.sl.r_3 c a6 k6 x5) (kernelRun0_C.sl.r_4 i)) 1216 (rd a14.view (kernelRun0_C.sl.HS2_3 c a2 k2 a7 k7 a8 k8 a12 x1 x6 x7) inb_S512x512_S64x128_192_0) (rd a14.view (kernelRun0_C.sl.HS2_3 c a2 k2 a7 k7 a8 k8 a12 x1 x6 x7) inb_S512x512_S64x128_192_128) (rd a14.view (kernelRun0_C.sl.HS2_3 c a2 k2 a7 k7 a8 k8 a12 x1 x6 x7) inb_S512x512_S64x128_192_256) (rd a14.view (kernelRun0_C.sl.HS2_3 c a2 k2 a7 k7 a8 k8 a12 x1 x6 x7) inb_S512x512_S64x128_192_384) :=
  blkQ_of _ a14.view (t := 1024) (oi := 192) (y_tile a2 k2 x1 (wd c a7 k7 a8 k8 a12 x6 x7) inb_S2048x2560_S512x2560_1024_0) rfl rfl _ _ _ _

theorem bp_20 : BlkP (mkD x0 x1 x2 x3 x4 x6 x7 (kernelRun0_C.sl.r_3 c a6 k6 x5) (kernelRun0_C.sl.r_4 i)) 1280 (ra a3 k3 x2 inb_S2048x128_S64x128_1280_0) (rd a13.view (kernelRun0_C.sl.HS1_3 c a1 k1 a5 k5 x0 x4) inb_S512x512_S64x128_256_0) (rd a13.view (kernelRun0_C.sl.HS1_3 c a1 k1 a5 k5 x0 x4) inb_S512x512_S64x128_256_128) (rd a13.view (kernelRun0_C.sl.HS1_3 c a1 k1 a5 k5 x0 x4) inb_S512x512_S64x128_256_256) (rd a13.view (kernelRun0_C.sl.HS1_3 c a1 k1 a5 k5 x0 x4) inb_S512x512_S64x128_256_384) :=
  blkP_of _ a3 k3 _ a13.view (t := 1024) (oi := 256) (z_tile a1 k1 x0 a5 k5 x4 inb_S2048x2560_S512x2560_1024_0 inb_S512x2560_S512x2560_0_0) rfl rfl _ _ _ _

theorem bq_20 : BlkQ (mkD x0 x1 x2 x3 x4 x6 x7 (kernelRun0_C.sl.r_3 c a6 k6 x5) (kernelRun0_C.sl.r_4 i)) 1280 (rd a14.view (kernelRun0_C.sl.HS2_3 c a2 k2 a7 k7 a8 k8 a12 x1 x6 x7) inb_S512x512_S64x128_256_0) (rd a14.view (kernelRun0_C.sl.HS2_3 c a2 k2 a7 k7 a8 k8 a12 x1 x6 x7) inb_S512x512_S64x128_256_128) (rd a14.view (kernelRun0_C.sl.HS2_3 c a2 k2 a7 k7 a8 k8 a12 x1 x6 x7) inb_S512x512_S64x128_256_256) (rd a14.view (kernelRun0_C.sl.HS2_3 c a2 k2 a7 k7 a8 k8 a12 x1 x6 x7) inb_S512x512_S64x128_256_384) :=
  blkQ_of _ a14.view (t := 1024) (oi := 256) (y_tile a2 k2 x1 (wd c a7 k7 a8 k8 a12 x6 x7) inb_S2048x2560_S512x2560_1024_0) rfl rfl _ _ _ _

theorem bp_21 : BlkP (mkD x0 x1 x2 x3 x4 x6 x7 (kernelRun0_C.sl.r_3 c a6 k6 x5) (kernelRun0_C.sl.r_4 i)) 1344 (ra a3 k3 x2 inb_S2048x128_S64x128_1344_0) (rd a13.view (kernelRun0_C.sl.HS1_3 c a1 k1 a5 k5 x0 x4) inb_S512x512_S64x128_320_0) (rd a13.view (kernelRun0_C.sl.HS1_3 c a1 k1 a5 k5 x0 x4) inb_S512x512_S64x128_320_128) (rd a13.view (kernelRun0_C.sl.HS1_3 c a1 k1 a5 k5 x0 x4) inb_S512x512_S64x128_320_256) (rd a13.view (kernelRun0_C.sl.HS1_3 c a1 k1 a5 k5 x0 x4) inb_S512x512_S64x128_320_384) :=
  blkP_of _ a3 k3 _ a13.view (t := 1024) (oi := 320) (z_tile a1 k1 x0 a5 k5 x4 inb_S2048x2560_S512x2560_1024_0 inb_S512x2560_S512x2560_0_0) rfl rfl _ _ _ _

theorem bq_21 : BlkQ (mkD x0 x1 x2 x3 x4 x6 x7 (kernelRun0_C.sl.r_3 c a6 k6 x5) (kernelRun0_C.sl.r_4 i)) 1344 (rd a14.view (kernelRun0_C.sl.HS2_3 c a2 k2 a7 k7 a8 k8 a12 x1 x6 x7) inb_S512x512_S64x128_320_0) (rd a14.view (kernelRun0_C.sl.HS2_3 c a2 k2 a7 k7 a8 k8 a12 x1 x6 x7) inb_S512x512_S64x128_320_128) (rd a14.view (kernelRun0_C.sl.HS2_3 c a2 k2 a7 k7 a8 k8 a12 x1 x6 x7) inb_S512x512_S64x128_320_256) (rd a14.view (kernelRun0_C.sl.HS2_3 c a2 k2 a7 k7 a8 k8 a12 x1 x6 x7) inb_S512x512_S64x128_320_384) :=
  blkQ_of _ a14.view (t := 1024) (oi := 320) (y_tile a2 k2 x1 (wd c a7 k7 a8 k8 a12 x6 x7) inb_S2048x2560_S512x2560_1024_0) rfl rfl _ _ _ _

theorem bp_22 : BlkP (mkD x0 x1 x2 x3 x4 x6 x7 (kernelRun0_C.sl.r_3 c a6 k6 x5) (kernelRun0_C.sl.r_4 i)) 1408 (ra a3 k3 x2 inb_S2048x128_S64x128_1408_0) (rd a13.view (kernelRun0_C.sl.HS1_3 c a1 k1 a5 k5 x0 x4) inb_S512x512_S64x128_384_0) (rd a13.view (kernelRun0_C.sl.HS1_3 c a1 k1 a5 k5 x0 x4) inb_S512x512_S64x128_384_128) (rd a13.view (kernelRun0_C.sl.HS1_3 c a1 k1 a5 k5 x0 x4) inb_S512x512_S64x128_384_256) (rd a13.view (kernelRun0_C.sl.HS1_3 c a1 k1 a5 k5 x0 x4) inb_S512x512_S64x128_384_384) :=
  blkP_of _ a3 k3 _ a13.view (t := 1024) (oi := 384) (z_tile a1 k1 x0 a5 k5 x4 inb_S2048x2560_S512x2560_1024_0 inb_S512x2560_S512x2560_0_0) rfl rfl _ _ _ _

theorem bq_22 : BlkQ (mkD x0 x1 x2 x3 x4 x6 x7 (kernelRun0_C.sl.r_3 c a6 k6 x5) (kernelRun0_C.sl.r_4 i)) 1408 (rd a14.view (kernelRun0_C.sl.HS2_3 c a2 k2 a7 k7 a8 k8 a12 x1 x6 x7) inb_S512x512_S64x128_384_0) (rd a14.view (kernelRun0_C.sl.HS2_3 c a2 k2 a7 k7 a8 k8 a12 x1 x6 x7) inb_S512x512_S64x128_384_128) (rd a14.view (kernelRun0_C.sl.HS2_3 c a2 k2 a7 k7 a8 k8 a12 x1 x6 x7) inb_S512x512_S64x128_384_256) (rd a14.view (kernelRun0_C.sl.HS2_3 c a2 k2 a7 k7 a8 k8 a12 x1 x6 x7) inb_S512x512_S64x128_384_384) :=
  blkQ_of _ a14.view (t := 1024) (oi := 384) (y_tile a2 k2 x1 (wd c a7 k7 a8 k8 a12 x6 x7) inb_S2048x2560_S512x2560_1024_0) rfl rfl _ _ _ _

theorem bp_23 : BlkP (mkD x0 x1 x2 x3 x4 x6 x7 (kernelRun0_C.sl.r_3 c a6 k6 x5) (kernelRun0_C.sl.r_4 i)) 1472 (ra a3 k3 x2 inb_S2048x128_S64x128_1472_0) (rd a13.view (kernelRun0_C.sl.HS1_3 c a1 k1 a5 k5 x0 x4) inb_S512x512_S64x128_448_0) (rd a13.view (kernelRun0_C.sl.HS1_3 c a1 k1 a5 k5 x0 x4) inb_S512x512_S64x128_448_128) (rd a13.view (kernelRun0_C.sl.HS1_3 c a1 k1 a5 k5 x0 x4) inb_S512x512_S64x128_448_256) (rd a13.view (kernelRun0_C.sl.HS1_3 c a1 k1 a5 k5 x0 x4) inb_S512x512_S64x128_448_384) :=
  blkP_of _ a3 k3 _ a13.view (t := 1024) (oi := 448) (z_tile a1 k1 x0 a5 k5 x4 inb_S2048x2560_S512x2560_1024_0 inb_S512x2560_S512x2560_0_0) rfl rfl _ _ _ _

theorem bq_23 : BlkQ (mkD x0 x1 x2 x3 x4 x6 x7 (kernelRun0_C.sl.r_3 c a6 k6 x5) (kernelRun0_C.sl.r_4 i)) 1472 (rd a14.view (kernelRun0_C.sl.HS2_3 c a2 k2 a7 k7 a8 k8 a12 x1 x6 x7) inb_S512x512_S64x128_448_0) (rd a14.view (kernelRun0_C.sl.HS2_3 c a2 k2 a7 k7 a8 k8 a12 x1 x6 x7) inb_S512x512_S64x128_448_128) (rd a14.view (kernelRun0_C.sl.HS2_3 c a2 k2 a7 k7 a8 k8 a12 x1 x6 x7) inb_S512x512_S64x128_448_256) (rd a14.view (kernelRun0_C.sl.HS2_3 c a2 k2 a7 k7 a8 k8 a12 x1 x6 x7) inb_S512x512_S64x128_448_384) :=
  blkQ_of _ a14.view (t := 1024) (oi := 448) (y_tile a2 k2 x1 (wd c a7 k7 a8 k8 a12 x6 x7) inb_S2048x2560_S512x2560_1024_0) rfl rfl _ _ _ _

theorem bp_24 : BlkP (mkD x0 x1 x2 x3 x4 x6 x7 (kernelRun0_C.sl.r_3 c a6 k6 x5) (kernelRun0_C.sl.r_4 i)) 1536 (ra a3 k3 x2 inb_S2048x128_S64x128_1536_0) (rd a13.view (kernelRun0_C.sl.HS1_4 c a1 k1 a5 k5 x0 x4) inb_S512x512_S64x128_0_0) (rd a13.view (kernelRun0_C.sl.HS1_4 c a1 k1 a5 k5 x0 x4) inb_S512x512_S64x128_0_128) (rd a13.view (kernelRun0_C.sl.HS1_4 c a1 k1 a5 k5 x0 x4) inb_S512x512_S64x128_0_256) (rd a13.view (kernelRun0_C.sl.HS1_4 c a1 k1 a5 k5 x0 x4) inb_S512x512_S64x128_0_384) :=
  blkP_of _ a3 k3 _ a13.view (t := 1536) (oi := 0) (z_tile a1 k1 x0 a5 k5 x4 inb_S2048x2560_S512x2560_1536_0 inb_S512x2560_S512x2560_0_0) rfl rfl _ _ _ _

theorem bq_24 : BlkQ (mkD x0 x1 x2 x3 x4 x6 x7 (kernelRun0_C.sl.r_3 c a6 k6 x5) (kernelRun0_C.sl.r_4 i)) 1536 (rd a14.view (kernelRun0_C.sl.HS2_4 c a2 k2 a7 k7 a8 k8 a12 x1 x6 x7) inb_S512x512_S64x128_0_0) (rd a14.view (kernelRun0_C.sl.HS2_4 c a2 k2 a7 k7 a8 k8 a12 x1 x6 x7) inb_S512x512_S64x128_0_128) (rd a14.view (kernelRun0_C.sl.HS2_4 c a2 k2 a7 k7 a8 k8 a12 x1 x6 x7) inb_S512x512_S64x128_0_256) (rd a14.view (kernelRun0_C.sl.HS2_4 c a2 k2 a7 k7 a8 k8 a12 x1 x6 x7) inb_S512x512_S64x128_0_384) :=
  blkQ_of _ a14.view (t := 1536) (oi := 0) (y_tile a2 k2 x1 (wd c a7 k7 a8 k8 a12 x6 x7) inb_S2048x2560_S512x2560_1536_0) rfl rfl _ _ _ _

theorem bp_25 : BlkP (mkD x0 x1 x2 x3 x4 x6 x7 (kernelRun0_C.sl.r_3 c a6 k6 x5) (kernelRun0_C.sl.r_4 i)) 1600 (ra a3 k3 x2 inb_S2048x128_S64x128_1600_0) (rd a13.view (kernelRun0_C.sl.HS1_4 c a1 k1 a5 k5 x0 x4) inb_S512x512_S64x128_64_0) (rd a13.view (kernelRun0_C.sl.HS1_4 c a1 k1 a5 k5 x0 x4) inb_S512x512_S64x128_64_128) (rd a13.view (kernelRun0_C.sl.HS1_4 c a1 k1 a5 k5 x0 x4) inb_S512x512_S64x128_64_256) (rd a13.view (kernelRun0_C.sl.HS1_4 c a1 k1 a5 k5 x0 x4) inb_S512x512_S64x128_64_384) :=
  blkP_of _ a3 k3 _ a13.view (t := 1536) (oi := 64) (z_tile a1 k1 x0 a5 k5 x4 inb_S2048x2560_S512x2560_1536_0 inb_S512x2560_S512x2560_0_0) rfl rfl _ _ _ _

theorem bq_25 : BlkQ (mkD x0 x1 x2 x3 x4 x6 x7 (kernelRun0_C.sl.r_3 c a6 k6 x5) (kernelRun0_C.sl.r_4 i)) 1600 (rd a14.view (kernelRun0_C.sl.HS2_4 c a2 k2 a7 k7 a8 k8 a12 x1 x6 x7) inb_S512x512_S64x128_64_0) (rd a14.view (kernelRun0_C.sl.HS2_4 c a2 k2 a7 k7 a8 k8 a12 x1 x6 x7) inb_S512x512_S64x128_64_128) (rd a14.view (kernelRun0_C.sl.HS2_4 c a2 k2 a7 k7 a8 k8 a12 x1 x6 x7) inb_S512x512_S64x128_64_256) (rd a14.view (kernelRun0_C.sl.HS2_4 c a2 k2 a7 k7 a8 k8 a12 x1 x6 x7) inb_S512x512_S64x128_64_384) :=
  blkQ_of _ a14.view (t := 1536) (oi := 64) (y_tile a2 k2 x1 (wd c a7 k7 a8 k8 a12 x6 x7) inb_S2048x2560_S512x2560_1536_0) rfl rfl _ _ _ _

theorem bp_26 : BlkP (mkD x0 x1 x2 x3 x4 x6 x7 (kernelRun0_C.sl.r_3 c a6 k6 x5) (kernelRun0_C.sl.r_4 i)) 1664 (ra a3 k3 x2 inb_S2048x128_S64x128_1664_0) (rd a13.view (kernelRun0_C.sl.HS1_4 c a1 k1 a5 k5 x0 x4) inb_S512x512_S64x128_128_0) (rd a13.view (kernelRun0_C.sl.HS1_4 c a1 k1 a5 k5 x0 x4) inb_S512x512_S64x128_128_128) (rd a13.view (kernelRun0_C.sl.HS1_4 c a1 k1 a5 k5 x0 x4) inb_S512x512_S64x128_128_256) (rd a13.view (kernelRun0_C.sl.HS1_4 c a1 k1 a5 k5 x0 x4) inb_S512x512_S64x128_128_384) :=
  blkP_of _ a3 k3 _ a13.view (t := 1536) (oi := 128) (z_tile a1 k1 x0 a5 k5 x4 inb_S2048x2560_S512x2560_1536_0 inb_S512x2560_S512x2560_0_0) rfl rfl _ _ _ _

theorem bq_26 : BlkQ (mkD x0 x1 x2 x3 x4 x6 x7 (kernelRun0_C.sl.r_3 c a6 k6 x5) (kernelRun0_C.sl.r_4 i)) 1664 (rd a14.view (kernelRun0_C.sl.HS2_4 c a2 k2 a7 k7 a8 k8 a12 x1 x6 x7) inb_S512x512_S64x128_128_0) (rd a14.view (kernelRun0_C.sl.HS2_4 c a2 k2 a7 k7 a8 k8 a12 x1 x6 x7) inb_S512x512_S64x128_128_128) (rd a14.view (kernelRun0_C.sl.HS2_4 c a2 k2 a7 k7 a8 k8 a12 x1 x6 x7) inb_S512x512_S64x128_128_256) (rd a14.view (kernelRun0_C.sl.HS2_4 c a2 k2 a7 k7 a8 k8 a12 x1 x6 x7) inb_S512x512_S64x128_128_384) :=
  blkQ_of _ a14.view (t := 1536) (oi := 128) (y_tile a2 k2 x1 (wd c a7 k7 a8 k8 a12 x6 x7) inb_S2048x2560_S512x2560_1536_0) rfl rfl _ _ _ _

theorem bp_27 : BlkP (mkD x0 x1 x2 x3 x4 x6 x7 (kernelRun0_C.sl.r_3 c a6 k6 x5) (kernelRun0_C.sl.r_4 i)) 1728 (ra a3 k3 x2 inb_S2048x128_S64x128_1728_0) (rd a13.view (kernelRun0_C.sl.HS1_4 c a1 k1 a5 k5 x0 x4) inb_S512x512_S64x128_192_0) (rd a13.view (kernelRun0_C.sl.HS1_4 c a1 k1 a5 k5 x0 x4) inb_S512x512_S64x128_192_128) (rd a13.view (kernelRun0_C.sl.HS1_4 c a1 k1 a5 k5 x0 x4) inb_S512x512_S64x128_192_256) (rd a13.view (kernelRun0_C.sl.HS1_4 c a1 k1 a5 k5 x0 x4) inb_S512x512_S64x128_192_384) :=
  blkP_of _ a3 k3 _ a13.view (t := 1536) (oi := 192) (z_tile a1 k1 x0 a5 k5 x4 inb_S2048x2560_S512x2560_1536_0 inb_S512x2560_S512x2560_0_0) rfl rfl _ _ _ _

theorem bq_27 : BlkQ (mkD x0 x1 x2 x3 x4 x6 x7 (kernelRun0_C.sl.r_3 c a6 k6 x5) (kernelRun0_C.sl.r_4 i)) 1728 (rd a14.view (kernelRun0_C.sl.HS2_4 c a2 k2 a7 k7 a8 k8 a12 x1 x6 x7) inb_S512x512_S64x128_192_0) (rd a14.view (kernelRun0_C.sl.HS2_4 c a2 k2 a7 k7 a8 k8 a12 x1 x6 x7) inb_S512x512_S64x128_192_128) (rd a14.view (kernelRun0_C.sl.HS2_4 c a2 k2 a7 k7 a8 k8 a12 x1 x6 x7) inb_S512x512_S64x128_192_256) (rd a14.view (kernelRun0_C.sl.HS2_4 c a2 k2 a7 k7 a8 k8 a12 x1 x6 x7) inb_S512x512_S64x128_192_384) :=
  blkQ_of _ a14.view (t := 1536) (oi := 192) (y_tile a2 k2 x1 (wd c a7 k7 a8 k8 a12 x6 x7) inb_S2048x2560_S512x2560_1536_0) rfl rfl _ _ _ _

theorem bp_28 : BlkP (mkD x0 x1 x2 x3 x4 x6 x7 (kernelRun0_C.sl.r_3 c a6 k6 x5) (kernelRun0_C.sl.r_4 i)) 1792 (ra a3 k3 x2 inb_S2048x128_S64x128_1792_0) (rd a13.view (kernelRun0_C.sl.HS1_4 c a1 k1 a5 k5 x0 x4) inb_S512x512_S64x128_256_0) (rd a13.view (kernelRun0_C.sl.HS1_4 c a1 k1 a5 k5 x0 x4) inb_S512x512_S64x128_256_128) (rd a13.view (kernelRun0_C.sl.HS1_4 c a1 k1 a5 k5 x0 x4) inb_S512x512_S64x128_256_256) (rd a13.view (kernelRun0_C.sl.HS1_4 c a1 k1 a5 k5 x0 x4) inb_S512x512_S64x128_256_384) :=
  blkP_of _ a3 k3 _ a13.view (t := 1536) (oi := 256) (z_tile a1 k1 x0 a5 k5 x4 inb_S2048x2560_S512x2560_1536_0 inb_S512x2560_S512x2560_0_0) rfl rfl _ _ _ _

theorem bq_28 : BlkQ (mkD x0 x1 x2 x3 x4 x6 x7 (kernelRun0_C.sl.r_3 c a6 k6 x5) (kernelRun0_C.sl.r_4 i)) 1792 (rd a14.view (kernelRun0_C.sl.HS2_4 c a2 k2 a7 k7 a8 k8 a12 x1 x6 x7) inb_S512x512_S64x128_256_0) (rd a14.view (kernelRun0_C.sl.HS2_4 c a2 k2 a7 k7 a8 k8 a12 x1 x6 x7) inb_S512x512_S64x128_256_128) (rd a14.view (kernelRun0_C.sl.HS2_4 c a2 k2 a7 k7 a8 k8 a12 x1 x6 x7) inb_S512x512_S64x128_256_256) (rd a14.view (kernelRun0_C.sl.HS2_4 c a2 k2 a7 k7 a8 k8 a12 x1 x6 x7) inb_S512x512_S64x128_256_384) :=
  blkQ_of _ a14.view (t := 1536) (oi := 256) (y_tile a2 k2 x1 (wd c a7 k7 a8 k8 a12 x6 x7) inb_S2048x2560_S512x2560_1536_0) rfl rfl _ _ _ _

theorem bp_29 : BlkP (mkD x0 x1 x2 x3 x4 x6 x7 (kernelRun0_C.sl.r_3 c a6 k6 x5) (kernelRun0_C.sl.r_4 i)) 1856 (ra a3 k3 x2 inb_S2048x128_S64x128_1856_0) (rd a13.view (kernelRun0_C.sl.HS1_4 c a1 k1 a5 k5 x0 x4) inb_S512x512_S64x128_320_0) (rd a13.view (kernelRun0_C.sl.HS1_4 c a1 k1 a5 k5 x0 x4) inb_S512x512_S64x128_320_128) (rd a13.view (kernelRun0_C.sl.HS1_4 c a1 k1 a5 k5 x0 x4) inb_S512x512_S64x128_320_256) (rd a13.view (kernelRun0_C.sl.HS1_4 c a1 k1 a5 k5 x0 x4) inb_S512x512_S64x128_320_384) :=
  blkP_of _ a3 k3 _ a13.view (t := 1536) (oi := 320) (z_tile a1 k1 x0 a5 k5 x4 inb_S2048x2560_S512x2560_1536_0 inb_S512x2560_S512x2560_0_0) rfl rfl _ _ _ _

theorem bq_29 : BlkQ (mkD x0 x1 x2 x3 x4 x6 x7 (kernelRun0_C.sl.r_3 c a6 k6 x5) (kernelRun0_C.sl.r_4 i)) 1856 (rd a14.view (kernelRun0_C.sl.HS2_4 c a2 k2 a7 k7 a8 k8 a12 x1 x6 x7) inb_S512x512_S64x128_320_0) (rd a14.view (kernelRun0_C.sl.HS2_4 c a2 k2 a7 k7 a8 k8 a12 x1 x6 x7) inb_S512x512_S64x128_320_128) (rd a14.view (kernelRun0_C.sl.HS2_4 c a2 k2 a7 k7 a8 k8 a12 x1 x6 x7) inb_S512x512_S64x128_320_256) (rd a14.view (kernelRun0_C.sl.HS2_4 c a2 k2 a7 k7 a8 k8 a12 x1 x6 x7) inb_S512x512_S64x128_320_384) :=
  blkQ_of _ a14.view (t := 1536) (oi := 320) (y_tile a2 k2 x1 (wd c a7 k7 a8 k8 a12 x6 x7) inb_S2048x2560_S512x2560_1536_0) rfl rfl _ _ _ _

theorem bp_30 : BlkP (mkD x0 x1 x2 x3 x4 x6 x7 (kernelRun0_C.sl.r_3 c a6 k6 x5) (kernelRun0_C.sl.r_4 i)) 1920 (ra a3 k3 x2 inb_S2048x128_S64x128_1920_0) (rd a13.view (kernelRun0_C.sl.HS1_4 c a1 k1 a5 k5 x0 x4) inb_S512x512_S64x128_384_0) (rd a13.view (kernelRun0_C.sl.HS1_4 c a1 k1 a5 k5 x0 x4) inb_S512x512_S64x128_384_128) (rd a13.view (kernelRun0_C.sl.HS1_4 c a1 k1 a5 k5 x0 x4) inb_S512x512_S64x128_384_256) (rd a13.view (kernelRun0_C.sl.HS1_4 c a1 k1 a5 k5 x0 x4) inb_S512x512_S64x128_384_384) :=
  blkP_of _ a3 k3 _ a13.view (t := 1536) (oi := 384) (z_tile a1 k1 x0 a5 k5 x4 inb_S2048x2560_S512x2560_1536_0 inb_S512x2560_S512x2560_0_0) rfl rfl _ _ _ _

theorem bq_30 : BlkQ (mkD x0 x1 x2 x3 x4 x6 x7 (kernelRun0_C.sl.r_3 c a6 k6 x5) (kernelRun0_C.sl.r_4 i)) 1920 (rd a14.view (kernelRun0_C.sl.HS2_4 c a2 k2 a7 k7 a8 k8 a12 x1 x6 x7) inb_S512x512_S64x128_384_0) (rd a14.view (kernelRun0_C.sl.HS2_4 c a2 k2 a7 k7 a8 k8 a12 x1 x6 x7) inb_S512x512_S64x128_384_128) (rd a14.view (kernelRun0_C.sl.HS2_4 c a2 k2 a7 k7 a8 k8 a12 x1 x6 x7) inb_S512x512_S64x128_384_256) (rd a14.view (kernelRun0_C.sl.HS2_4 c a2 k2 a7 k7 a8 k8 a12 x1 x6 x7) inb_S512x512_S64x128_384_384) :=
  blkQ_of _ a14.view (t := 1536) (oi := 384) (y_tile a2 k2 x1 (wd c a7 k7 a8 k8 a12 x6 x7) inb_S2048x2560_S512x2560_1536_0) rfl rfl _ _ _ _

theorem bp_31 : BlkP (mkD x0 x1 x2 x3 x4 x6 x7 (kernelRun0_C.sl.r_3 c a6 k6 x5) (kernelRun0_C.sl.r_4 i)) 1984 (ra a3 k3 x2 inb_S2048x128_S64x128_1984_0) (rd a13.view (kernelRun0_C.sl.HS1_4 c a1 k1 a5 k5 x0 x4) inb_S512x512_S64x128_448_0) (rd a13.view (kernelRun0_C.sl.HS1_4 c a1 k1 a5 k5 x0 x4) inb_S512x512_S64x128_448_128) (rd a13.view (kernelRun0_C.sl.HS1_4 c a1 k1 a5 k5 x0 x4) inb_S512x512_S64x128_448_256) (rd a13.view (kernelRun0_C.sl.HS1_4 c a1 k1 a5 k5 x0 x4) inb_S512x512_S64x128_448_384) :=
  blkP_of _ a3 k3 _ a13.view (t := 1536) (oi := 448) (z_tile a1 k1 x0 a5 k5 x4 inb_S2048x2560_S512x2560_1536_0 inb_S512x2560_S512x2560_0_0) rfl rfl _ _ _ _

theorem bq_31 : BlkQ (mkD x0 x1 x2 x3 x4 x6 x7 (kernelRun0_C.sl.r_3 c a6 k6 x5) (kernelRun0_C.sl.r_4 i)) 1984 (rd a14.view (kernelRun0_C.sl.HS2_4 c a2 k2 a7 k7 a8 k8 a12 x1 x6 x7) inb_S512x512_S64x128_448_0) (rd a14.view (kernelRun0_C.sl.HS2_4 c a2 k2 a7 k7 a8 k8 a12 x1 x6 x7) inb_S512x512_S64x128_448_128) (rd a14.view (kernelRun0_C.sl.HS2_4 c a2 k2 a7 k7 a8 k8 a12 x1 x6 x7) inb_S512x512_S64x128_448_256) (rd a14.view (kernelRun0_C.sl.HS2_4 c a2 k2 a7 k7 a8 k8 a12 x1 x6 x7) inb_S512x512_S64x128_448_384) :=
  blkQ_of _ a14.view (t := 1536) (oi := 448) (y_tile a2 k2 x1 (wd c a7 k7 a8 k8 a12 x6 x7) inb_S2048x2560_S512x2560_1536_0) rfl rfl _ _ _ _

end Cert.Blk.CaseC

end
-- ==== Proof.CaseC.lean ====
/- The stores of the last case of the main call, one carried scratch at a time. -/
module

public import proofs.«01_k».proof.Proof.CaseCBlocks

@[expose] public section

set_option maxRecDepth 16384
set_option maxHeartbeats 4000000

noncomputable section

namespace Cert.Blk.CaseC

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : ¬cond0_0 i) (hc1 : cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32) (xs3 : Vec Ideal S2048x128 .f32) (xs4 : Vec Ideal S2048x128 .f32) (xs5 : Vec Ideal S2048x128 .f32) (xs6 : Vec Ideal S2048x128 .f32) (xs7 : Vec Ideal S2048x128 .f32) (xs8 : Vec Ideal S2048x128 .f32) (xs9 : Vec Ideal S2048x128 .f32)

/-- What the point leaves in scratch `a15`. -/
theorem pieces_3 : View.PiecesOf ((mkD x0 x1 x2 x3 x4 x6 x7 (kernelRun0_C.sl.r_3 c a6 k6 x5) (kernelRun0_C.sl.r_4 i)).gMP xs3) ((kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.1) := by
  have h0 := st_mp (bp_0 c i a1 k1 a3 k3 a5 k5 a6 k6 a13 x0 x1 x2 x3 x4 x5 x6 x7) (rows_unread a15 k15 xs3 inb_S2048x128_S64x128_0_0) (inb := inb_S2048x128_S64x128_0_0)
  have h1 := st_mp (bp_1 c i a1 k1 a3 k3 a5 k5 a6 k6 a13 x0 x1 x2 x3 x4 x5 x6 x7) (rows_unread a15 k15 xs3 inb_S2048x128_S64x128_64_0) (inb := inb_S2048x128_S64x128_64_0)
  have h2 := st_mp (bp_2 c i a1 k1 a3 k3 a5 k5 a6 k6 a13 x0 x1 x2 x3 x4 x5 x6 x7) (rows_unread a15 k15 xs3 inb_S2048x128_S64x128_128_0) (inb := inb_S2048x128_S64x128_128_0)
  have h3 := st_mp (bp_3 c i a1 k1 a3 k3 a5 k5 a6 k6 a13 x0 x1 x2 x3 x4 x5 x6 x7) (rows_unread a15 k15 xs3 inb_S2048x128_S64x128_192_0) (inb := inb_S2048x128_S64x128_192_0)
  have h4 := st_mp (bp_4 c i a1 k1 a3 k3 a5 k5 a6 k6 a13 x0 x1 x2 x3 x4 x5 x6 x7) (rows_unread a15 k15 xs3 inb_S2048x128_S64x128_256_0) (inb := inb_S2048x128_S64x128_256_0)
  have h5 := st_mp (bp_5 c i a1 k1 a3 k3 a5 k5 a6 k6 a13 x0 x1 x2 x3 x4 x5 x6 x7) (rows_unread a15 k15 xs3 inb_S2048x128_S64x128_320_0) (inb := inb_S2048x128_S64x128_320_0)
  have h6 := st_mp (bp_6 c i a1 k1 a3 k3 a5 k5 a6 k6 a13 x0 x1 x2 x3 x4 x5 x6 x7) (rows_unread a15 k15 xs3 inb_S2048x128_S64x128_384_0) (inb := inb_S2048x128_S64x128_384_0)
  have h7 := st_mp (bp_7 c i a1 k1 a3 k3 a5 k5 a6 k6 a13 x0 x1 x2 x3 x4 x5 x6 x7) (rows_unread a15 k15 xs3 inb_S2048x128_S64x128_448_0) (inb := inb_S2048x128_S64x128_448_0)
  have h8 := st_mp (bp_8 c i a1 k1 a3 k3 a5 k5 a6 k6 a13 x0 x1 x2 x3 x4 x5 x6 x7) (rows_unread a15 k15 xs3 inb_S2048x128_S64x128_512_0) (inb := inb_S2048x128_S64x128_512_0)
  have h9 := st_mp (bp_9 c i a1 k1 a3 k3 a5 k5 a6 k6 a13 x0 x1 x2 x3 x4 x5 x6 x7) (rows_unread a15 k15 xs3 inb_S2048x128_S64x128_576_0) (inb := inb_S2048x128_S64x128_576_0)
  have h10 := st_mp (bp_10 c i a1 k1 a3 k3 a5 k5 a6 k6 a13 x0 x1 x2 x3 x4 x5 x6 x7) (rows_unread a15 k15 xs3 inb_S2048x128_S64x128_640_0) (inb := inb_S2048x128_S64x128_640_0)
  have h11 := st_mp (bp_11 c i a1 k1 a3 k3 a5 k5 a6 k6 a13 x0 x1 x2 x3 x4 x5 x6 x7) (rows_unread a15 k15 xs3 inb_S2048x128_S64x128_704_0) (inb := inb_S2048x128_S64x128_704_0)
  have h12 := st_mp (bp_12 c i a1 k1 a3 k3 a5 k5 a6 k6 a13 x0 x1 x2 x3 x4 x5 x6 x7) (rows_unread a15 k15 xs3 inb_S2048x128_S64x128_768_0) (inb := inb_S2048x128_S64x128_768_0)
  have h13 := st_mp (bp_13 c i a1 k1 a3 k3 a5 k5 a6 k6 a13 x0 x1 x2 x3 x4 x5 x6 x7) (rows_unread a15 k15 xs3 inb_S2048x128_S64x128_832_0) (inb := inb_S2048x128_S64x128_832_0)
  have h14 := st_mp (bp_14 c i a1 k1 a3 k3 a5 k5 a6 k6 a13 x0 x1 x2 x3 x4 x5 x6 x7) (rows_unread a15 k15 xs3 inb_S2048x128_S64x128_896_0) (inb := inb_S2048x128_S64x128_896_0)
  have h15 := st_mp (bp_15 c i a1 k1 a3 k3 a5 k5 a6 k6 a13 x0 x1 x2 x3 x4 x5 x6 x7) (rows_unread a15 k15 xs3 inb_S2048x128_S64x128_960_0) (inb := inb_S2048x128_S64x128_960_0)
  have h16 := st_mp (bp_16 c i a1 k1 a3 k3 a5 k5 a6 k6 a13 x0 x1 x2 x3 x4 x5 x6 x7) (rows_unread a15 k15 xs3 inb_S2048x128_S64x128_1024_0) (inb := inb_S2048x128_S64x128_1024_0)
  have h17 := st_mp (bp_17 c i a1 k1 a3 k3 a5 k5 a6 k6 a13 x0 x1 x2 x3 x4 x5 x6 x7) (rows_unread a15 k15 xs3 inb_S2048x128_S64x128_1088_0) (inb := inb_S2048x128_S64x128_1088_0)
  have h18 := st_mp (bp_18 c i a1 k1 a3 k3 a5 k5 a6 k6 a13 x0 x1 x2 x3 x4 x5 x6 x7) (rows_unread a15 k15 xs3 inb_S2048x128_S64x128_1152_0) (inb := inb_S2048x128_S64x128_1152_0)
  have h19 := st_mp (bp_19 c i a1 k1 a3 k3 a5 k5 a6 k6 a13 x0 x1 x2 x3 x4 x5 x6 x7) (rows_unread a15 k15 xs3 inb_S2048x128_S64x128_1216_0) (inb := inb_S2048x128_S64x128_1216_0)
  have h20 := st_mp (bp_20 c i a1 k1 a3 k3 a5 k5 a6 k6 a13 x0 x1 x2 x3 x4 x5 x6 x7) (rows_unread a15 k15 xs3 inb_S2048x128_S64x128_1280_0) (inb := inb_S2048x128_S64x128_1280_0)
  have h21 := st_mp (bp_21 c i a1 k1 a3 k3 a5 k5 a6 k6 a13 x0 x1 x2 x3 x4 x5 x6 x7) (rows_unread a15 k15 xs3 inb_S2048x128_S64x128_1344_0) (inb := inb_S2048x128_S64x128_1344_0)
  have h22 := st_mp (bp_22 c i a1 k1 a3 k3 a5 k5 a6 k6 a13 x0 x1 x2 x3 x4 x5 x6 x7) (rows_unread a15 k15 xs3 inb_S2048x128_S64x128_1408_0) (inb := inb_S2048x128_S64x128_1408_0)
  have h23 := st_mp (bp_23 c i a1 k1 a3 k3 a5 k5 a6 k6 a13 x0 x1 x2 x3 x4 x5 x6 x7) (rows_unread a15 k15 xs3 inb_S2048x128_S64x128_1472_0) (inb := inb_S2048x128_S64x128_1472_0)
  have h24 := st_mp (bp_24 c i a1 k1 a3 k3 a5 k5 a6 k6 a13 x0 x1 x2 x3 x4 x5 x6 x7) (rows_unread a15 k15 xs3 inb_S2048x128_S64x128_1536_0) (inb := inb_S2048x128_S64x128_1536_0)
  have h25 := st_mp (bp_25 c i a1 k1 a3 k3 a5 k5 a6 k6 a13 x0 x1 x2 x3 x4 x5 x6 x7) (rows_unread a15 k15 xs3 inb_S2048x128_S64x128_1600_0) (inb := inb_S2048x128_S64x128_1600_0)
  have h26 := st_mp (bp_26 c i a1 k1 a3 k3 a5 k5 a6 k6 a13 x0 x1 x2 x3 x4 x5 x6 x7) (rows_unread a15 k15 xs3 inb_S2048x128_S64x128_1664_0) (inb := inb_S2048x128_S64x128_1664_0)
  have h27 := st_mp (bp_27 c i a1 k1 a3 k3 a5 k5 a6 k6 a13 x0 x1 x2 x3 x4 x5 x6 x7) (rows_unread a15 k15 xs3 inb_S2048x128_S64x128_1728_0) (inb := inb_S2048x128_S64x128_1728_0)
  have h28 := st_mp (bp_28 c i a1 k1 a3 k3 a5 k5 a6 k6 a13 x0 x1 x2 x3 x4 x5 x6 x7) (rows_unread a15 k15 xs3 inb_S2048x128_S64x128_1792_0) (inb := inb_S2048x128_S64x128_1792_0)
  have h29 := st_mp (bp_29 c i a1 k1 a3 k3 a5 k5 a6 k6 a13 x0 x1 x2 x3 x4 x5 x6 x7) (rows_unread a15 k15 xs3 inb_S2048x128_S64x128_1856_0) (inb := inb_S2048x128_S64x128_1856_0)
  have h30 := st_mp (bp_30 c i a1 k1 a3 k3 a5 k5 a6 k6 a13 x0 x1 x2 x3 x4 x5 x6 x7) (rows_unread a15 k15 xs3 inb_S2048x128_S64x128_1920_0) (inb := inb_S2048x128_S64x128_1920_0)
  have h31 := st_mp (bp_31 c i a1 k1 a3 k3 a5 k5 a6 k6 a13 x0 x1 x2 x3 x4 x5 x6 x7) (rows_unread a15 k15 xs3 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a16`. -/
theorem pieces_4 : View.PiecesOf ((mkD x0 x1 x2 x3 x4 x6 x7 (kernelRun0_C.sl.r_3 c a6 k6 x5) (kernelRun0_C.sl.r_4 i)).gSP xs3 xs4) ((kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.1) := by
  have h0 := st_sp (bp_0 c i a1 k1 a3 k3 a5 k5 a6 k6 a13 x0 x1 x2 x3 x4 x5 x6 x7) (rows_unread a15 k15 xs3 inb_S2048x128_S64x128_0_0) (rows_unread a16 k16 xs4 inb_S2048x128_S64x128_0_0) (inb := inb_S2048x128_S64x128_0_0)
  have h1 := st_sp (bp_1 c i a1 k1 a3 k3 a5 k5 a6 k6 a13 x0 x1 x2 x3 x4 x5 x6 x7) (rows_unread a15 k15 xs3 inb_S2048x128_S64x128_64_0) (rows_unread a16 k16 xs4 inb_S2048x128_S64x128_64_0) (inb := inb_S2048x128_S64x128_64_0)
  have h2 := st_sp (bp_2 c i a1 k1 a3 k3 a5 k5 a6 k6 a13 x0 x1 x2 x3 x4 x5 x6 x7) (rows_unread a15 k15 xs3 inb_S2048x128_S64x128_128_0) (rows_unread a16 k16 xs4 inb_S2048x128_S64x128_128_0) (inb := inb_S2048x128_S64x128_128_0)
  have h3 := st_sp (bp_3 c i a1 k1 a3 k3 a5 k5 a6 k6 a13 x0 x1 x2 x3 x4 x5 x6 x7) (rows_unread a15 k15 xs3 inb_S2048x128_S64x128_192_0) (rows_unread a16 k16 xs4 inb_S2048x128_S64x128_192_0) (inb := inb_S2048x128_S64x128_192_0)
  have h4 := st_sp (bp_4 c i a1 k1 a3 k3 a5 k5 a6 k6 a13 x0 x1 x2 x3 x4 x5 x6 x7) (rows_unread a15 k15 xs3 inb_S2048x128_S64x128_256_0) (rows_unread a16 k16 xs4 inb_S2048x128_S64x128_256_0) (inb := inb_S2048x128_S64x128_256_0)
  have h5 := st_sp (bp_5 c i a1 k1 a3 k3 a5 k5 a6 k6 a13 x0 x1 x2 x3 x4 x5 x6 x7) (rows_unread a15 k15 xs3 inb_S2048x128_S64x128_320_0) (rows_unread a16 k16 xs4 inb_S2048x128_S64x128_320_0) (inb := inb_S2048x128_S64x128_320_0)
  have h6 := st_sp (bp_6 c i a1 k1 a3 k3 a5 k5 a6 k6 a13 x0 x1 x2 x3 x4 x5 x6 x7) (rows_unread a15 k15 xs3 inb_S2048x128_S64x128_384_0) (rows_unread a16 k16 xs4 inb_S2048x128_S64x128_384_0) (inb := inb_S2048x128_S64x128_384_0)
  have h7 := st_sp (bp_7 c i a1 k1 a3 k3 a5 k5 a6 k6 a13 x0 x1 x2 x3 x4 x5 x6 x7) (rows_unread a15 k15 xs3 inb_S2048x128_S64x128_448_0) (rows_unread a16 k16 xs4 inb_S2048x128_S64x128_448_0) (inb := inb_S2048x128_S64x128_448_0)
  have h8 := st_sp (bp_8 c i a1 k1 a3 k3 a5 k5 a6 k6 a13 x0 x1 x2 x3 x4 x5 x6 x7) (rows_unread a15 k15 xs3 inb_S2048x128_S64x128_512_0) (rows_unread a16 k16 xs4 inb_S2048x128_S64x128_512_0) (inb := inb_S2048x128_S64x128_512_0)
  have h9 := st_sp (bp_9 c i a1 k1 a3 k3 a5 k5 a6 k6 a13 x0 x1 x2 x3 x4 x5 x6 x7) (rows_unread a15 k15 xs3 inb_S2048x128_S64x128_576_0) (rows_unread a16 k16 xs4 inb_S2048x128_S64x128_576_0) (inb := inb_S2048x128_S64x128_576_0)
  have h10 := st_sp (bp_10 c i a1 k1 a3 k3 a5 k5 a6 k6 a13 x0 x1 x2 x3 x4 x5 x6 x7) (rows_unread a15 k15 xs3 inb_S2048x128_S64x128_640_0) (rows_unread a16 k16 xs4 inb_S2048x128_S64x128_640_0) (inb := inb_S2048x128_S64x128_640_0)
  have h11 := st_sp (bp_11 c i a1 k1 a3 k3 a5 k5 a6 k6 a13 x0 x1 x2 x3 x4 x5 x6 x7) (rows_unread a15 k15 xs3 inb_S2048x128_S64x128_704_0) (rows_unread a16 k16 xs4 inb_S2048x128_S64x128_704_0) (inb := inb_S2048x128_S64x128_704_0)
  have h12 := st_sp (bp_12 c i a1 k1 a3 k3 a5 k5 a6 k6 a13 x0 x1 x2 x3 x4 x5 x6 x7) (rows_unread a15 k15 xs3 inb_S2048x128_S64x128_768_0) (rows_unread a16 k16 xs4 inb_S2048x128_S64x128_768_0) (inb := inb_S2048x128_S64x128_768_0)
  have h13 := st_sp (bp_13 c i a1 k1 a3 k3 a5 k5 a6 k6 a13 x0 x1 x2 x3 x4 x5 x6 x7) (rows_unread a15 k15 xs3 inb_S2048x128_S64x128_832_0) (rows_unread a16 k16 xs4 inb_S2048x128_S64x128_832_0) (inb := inb_S2048x128_S64x128_832_0)
  have h14 := st_sp (bp_14 c i a1 k1 a3 k3 a5 k5 a6 k6 a13 x0 x1 x2 x3 x4 x5 x6 x7) (rows_unread a15 k15 xs3 inb_S2048x128_S64x128_896_0) (rows_unread a16 k16 xs4 inb_S2048x128_S64x128_896_0) (inb := inb_S2048x128_S64x128_896_0)
  have h15 := st_sp (bp_15 c i a1 k1 a3 k3 a5 k5 a6 k6 a13 x0 x1 x2 x3 x4 x5 x6 x7) (rows_unread a15 k15 xs3 inb_S2048x128_S64x128_960_0) (rows_unread a16 k16 xs4 inb_S2048x128_S64x128_960_0) (inb := inb_S2048x128_S64x128_960_0)
  have h16 := st_sp (bp_16 c i a1 k1 a3 k3 a5 k5 a6 k6 a13 x0 x1 x2 x3 x4 x5 x6 x7) (rows_unread a15 k15 xs3 inb_S2048x128_S64x128_1024_0) (rows_unread a16 k16 xs4 inb_S2048x128_S64x128_1024_0) (inb := inb_S2048x128_S64x128_1024_0)
  have h17 := st_sp (bp_17 c i a1 k1 a3 k3 a5 k5 a6 k6 a13 x0 x1 x2 x3 x4 x5 x6 x7) (rows_unread a15 k15 xs3 inb_S2048x128_S64x128_1088_0) (rows_unread a16 k16 xs4 inb_S2048x128_S64x128_1088_0) (inb := inb_S2048x128_S64x128_1088_0)
  have h18 := st_sp (bp_18 c i a1 k1 a3 k3 a5 k5 a6 k6 a13 x0 x1 x2 x3 x4 x5 x6 x7) (rows_unread a15 k15 xs3 inb_S2048x128_S64x128_1152_0) (rows_unread a16 k16 xs4 inb_S2048x128_S64x128_1152_0) (inb := inb_S2048x128_S64x128_1152_0)
  have h19 := st_sp (bp_19 c i a1 k1 a3 k3 a5 k5 a6 k6 a13 x0 x1 x2 x3 x4 x5 x6 x7) (rows_unread a15 k15 xs3 inb_S2048x128_S64x128_1216_0) (rows_unread a16 k16 xs4 inb_S2048x128_S64x128_1216_0) (inb := inb_S2048x128_S64x128_1216_0)
  have h20 := st_sp (bp_20 c i a1 k1 a3 k3 a5 k5 a6 k6 a13 x0 x1 x2 x3 x4 x5 x6 x7) (rows_unread a15 k15 xs3 inb_S2048x128_S64x128_1280_0) (rows_unread a16 k16 xs4 inb_S2048x128_S64x128_1280_0) (inb := inb_S2048x128_S64x128_1280_0)
  have h21 := st_sp (bp_21 c i a1 k1 a3 k3 a5 k5 a6 k6 a13 x0 x1 x2 x3 x4 x5 x6 x7) (rows_unread a15 k15 xs3 inb_S2048x128_S64x128_1344_0) (rows_unread a16 k16 xs4 inb_S2048x128_S64x128_1344_0) (inb := inb_S2048x128_S64x128_1344_0)
  have h22 := st_sp (bp_22 c i a1 k1 a3 k3 a5 k5 a6 k6 a13 x0 x1 x2 x3 x4 x5 x6 x7) (rows_unread a15 k15 xs3 inb_S2048x128_S64x128_1408_0) (rows_unread a16 k16 xs4 inb_S2048x128_S64x128_1408_0) (inb := inb_S2048x128_S64x128_1408_0)
  have h23 := st_sp (bp_23 c i a1 k1 a3 k3 a5 k5 a6 k6 a13 x0 x1 x2 x3 x4 x5 x6 x7) (rows_unread a15 k15 xs3 inb_S2048x128_S64x128_1472_0) (rows_unread a16 k16 xs4 inb_S2048x128_S64x128_1472_0) (inb := inb_S2048x128_S64x128_1472_0)
  have h24 := st_sp (bp_24 c i a1 k1 a3 k3 a5 k5 a6 k6 a13 x0 x1 x2 x3 x4 x5 x6 x7) (rows_unread a15 k15 xs3 inb_S2048x128_S64x128_1536_0) (rows_unread a16 k16 xs4 inb_S2048x128_S64x128_1536_0) (inb := inb_S2048x128_S64x128_1536_0)
  have h25 := st_sp (bp_25 c i a1 k1 a3 k3 a5 k5 a6 k6 a13 x0 x1 x2 x3 x4 x5 x6 x7) (rows_unread a15 k15 xs3 inb_S2048x128_S64x128_1600_0) (rows_unread a16 k16 xs4 inb_S2048x128_S64x128_1600_0) (inb := inb_S2048x128_S64x128_1600_0)
  have h26 := st_sp (bp_26 c i a1 k1 a3 k3 a5 k5 a6 k6 a13 x0 x1 x2 x3 x4 x5 x6 x7) (rows_unread a15 k15 xs3 inb_S2048x128_S64x128_1664_0) (rows_unread a16 k16 xs4 inb_S2048x128_S64x128_1664_0) (inb := inb_S2048x128_S64x128_1664_0)
  have h27 := st_sp (bp_27 c i a1 k1 a3 k3 a5 k5 a6 k6 a13 x0 x1 x2 x3 x4 x5 x6 x7) (rows_unread a15 k15 xs3 inb_S2048x128_S64x128_1728_0) (rows_unread a16 k16 xs4 inb_S2048x128_S64x128_1728_0) (inb := inb_S2048x128_S64x128_1728_0)
  have h28 := st_sp (bp_28 c i a1 k1 a3 k3 a5 k5 a6 k6 a13 x0 x1 x2 x3 x4 x5 x6 x7) (rows_unread a15 k15 xs3 inb_S2048x128_S64x128_1792_0) (rows_unread a16 k16 xs4 inb_S2048x128_S64x128_1792_0) (inb := inb_S2048x128_S64x128_1792_0)
  have h29 := st_sp (bp_29 c i a1 k1 a3 k3 a5 k5 a6 k6 a13 x0 x1 x2 x3 x4 x5 x6 x7) (rows_unread a15 k15 xs3 inb_S2048x128_S64x128_1856_0) (rows_unread a16 k16 xs4 inb_S2048x128_S64x128_1856_0) (inb := inb_S2048x128_S64x128_1856_0)
  have h30 := st_sp (bp_30 c i a1 k1 a3 k3 a5 k5 a6 k6 a13 x0 x1 x2 x3 x4 x5 x6 x7) (rows_unread a15 k15 xs3 inb_S2048x128_S64x128_1920_0) (rows_unread a16 k16 xs4 inb_S2048x128_S64x128_1920_0) (inb := inb_S2048x128_S64x128_1920_0)
  have h31 := st_sp (bp_31 c i a1 k1 a3 k3 a5 k5 a6 k6 a13 x0 x1 x2 x3 x4 x5 x6 x7) (rows_unread a15 k15 xs3 inb_S2048x128_S64x128_1984_0) (rows_unread a16 k16 xs4 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a17`. -/
theorem pieces_5 : View.PiecesOf ((mkD x0 x1 x2 x3 x4 x6 x7 (kernelRun0_C.sl.r_3 c a6 k6 x5) (kernelRun0_C.sl.r_4 i)).gTT xs3 xs5) ((kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.1) := by
  have h0 := st_tt (bp_0 c i a1 k1 a3 k3 a5 k5 a6 k6 a13 x0 x1 x2 x3 x4 x5 x6 x7) (bq_0 c i a2 k2 a6 k6 a7 k7 a8 k8 a12 a14 x0 x1 x2 x3 x4 x5 x6 x7) (rows_unread a15 k15 xs3 inb_S2048x128_S64x128_0_0) (rows_unread a17 k17 xs5 inb_S2048x128_S64x128_0_0) (inb := inb_S2048x128_S64x128_0_0)
  have h1 := st_tt (bp_1 c i a1 k1 a3 k3 a5 k5 a6 k6 a13 x0 x1 x2 x3 x4 x5 x6 x7) (bq_1 c i a2 k2 a6 k6 a7 k7 a8 k8 a12 a14 x0 x1 x2 x3 x4 x5 x6 x7) (rows_unread a15 k15 xs3 inb_S2048x128_S64x128_64_0) (rows_unread a17 k17 xs5 inb_S2048x128_S64x128_64_0) (inb := inb_S2048x128_S64x128_64_0)
  have h2 := st_tt (bp_2 c i a1 k1 a3 k3 a5 k5 a6 k6 a13 x0 x1 x2 x3 x4 x5 x6 x7) (bq_2 c i a2 k2 a6 k6 a7 k7 a8 k8 a12 a14 x0 x1 x2 x3 x4 x5 x6 x7) (rows_unread a15 k15 xs3 inb_S2048x128_S64x128_128_0) (rows_unread a17 k17 xs5 inb_S2048x128_S64x128_128_0) (inb := inb_S2048x128_S64x128_128_0)
  have h3 := st_tt (bp_3 c i a1 k1 a3 k3 a5 k5 a6 k6 a13 x0 x1 x2 x3 x4 x5 x6 x7) (bq_3 c i a2 k2 a6 k6 a7 k7 a8 k8 a12 a14 x0 x1 x2 x3 x4 x5 x6 x7) (rows_unread a15 k15 xs3 inb_S2048x128_S64x128_192_0) (rows_unread a17 k17 xs5 inb_S2048x128_S64x128_192_0) (inb := inb_S2048x128_S64x128_192_0)
  have h4 := st_tt (bp_4 c i a1 k1 a3 k3 a5 k5 a6 k6 a13 x0 x1 x2 x3 x4 x5 x6 x7) (bq_4 c i a2 k2 a6 k6 a7 k7 a8 k8 a12 a14 x0 x1 x2 x3 x4 x5 x6 x7) (rows_unread a15 k15 xs3 inb_S2048x128_S64x128_256_0) (rows_unread a17 k17 xs5 inb_S2048x128_S64x128_256_0) (inb := inb_S2048x128_S64x128_256_0)
  have h5 := st_tt (bp_5 c i a1 k1 a3 k3 a5 k5 a6 k6 a13 x0 x1 x2 x3 x4 x5 x6 x7) (bq_5 c i a2 k2 a6 k6 a7 k7 a8 k8 a12 a14 x0 x1 x2 x3 x4 x5 x6 x7) (rows_unread a15 k15 xs3 inb_S2048x128_S64x128_320_0) (rows_unread a17 k17 xs5 inb_S2048x128_S64x128_320_0) (inb := inb_S2048x128_S64x128_320_0)
  have h6 := st_tt (bp_6 c i a1 k1 a3 k3 a5 k5 a6 k6 a13 x0 x1 x2 x3 x4 x5 x6 x7) (bq_6 c i a2 k2 a6 k6 a7 k7 a8 k8 a12 a14 x0 x1 x2 x3 x4 x5 x6 x7) (rows_unread a15 k15 xs3 inb_S2048x128_S64x128_384_0) (rows_unread a17 k17 xs5 inb_S2048x128_S64x128_384_0) (inb := inb_S2048x128_S64x128_384_0)
  have h7 := st_tt (bp_7 c i a1 k1 a3 k3 a5 k5 a6 k6 a13 x0 x1 x2 x3 x4 x5 x6 x7) (bq_7 c i a2 k2 a6 k6 a7 k7 a8 k8 a12 a14 x0 x1 x2 x3 x4 x5 x6 x7) (rows_unread a15 k15 xs3 inb_S2048x128_S64x128_448_0) (rows_unread a17 k17 xs5 inb_S2048x128_S64x128_448_0) (inb := inb_S2048x128_S64x128_448_0)
  have h8 := st_tt (bp_8 c i a1 k1 a3 k3 a5 k5 a6 k6 a13 x0 x1 x2 x3 x4 x5 x6 x7) (bq_8 c i a2 k2 a6 k6 a7 k7 a8 k8 a12 a14 x0 x1 x2 x3 x4 x5 x6 x7) (rows_unread a15 k15 xs3 inb_S2048x128_S64x128_512_0) (rows_unread a17 k17 xs5 inb_S2048x128_S64x128_512_0) (inb := inb_S2048x128_S64x128_512_0)
  have h9 := st_tt (bp_9 c i a1 k1 a3 k3 a5 k5 a6 k6 a13 x0 x1 x2 x3 x4 x5 x6 x7) (bq_9 c i a2 k2 a6 k6 a7 k7 a8 k8 a12 a14 x0 x1 x2 x3 x4 x5 x6 x7) (rows_unread a15 k15 xs3 inb_S2048x128_S64x128_576_0) (rows_unread a17 k17 xs5 inb_S2048x128_S64x128_576_0) (inb := inb_S2048x128_S64x128_576_0)
  have h10 := st_tt (bp_10 c i a1 k1 a3 k3 a5 k5 a6 k6 a13 x0 x1 x2 x3 x4 x5 x6 x7) (bq_10 c i a2 k2 a6 k6 a7 k7 a8 k8 a12 a14 x0 x1 x2 x3 x4 x5 x6 x7) (rows_unread a15 k15 xs3 inb_S2048x128_S64x128_640_0) (rows_unread a17 k17 xs5 inb_S2048x128_S64x128_640_0) (inb := inb_S2048x128_S64x128_640_0)
  have h11 := st_tt (bp_11 c i a1 k1 a3 k3 a5 k5 a6 k6 a13 x0 x1 x2 x3 x4 x5 x6 x7) (bq_11 c i a2 k2 a6 k6 a7 k7 a8 k8 a12 a14 x0 x1 x2 x3 x4 x5 x6 x7) (rows_unread a15 k15 xs3 inb_S2048x128_S64x128_704_0) (rows_unread a17 k17 xs5 inb_S2048x128_S64x128_704_0) (inb := inb_S2048x128_S64x128_704_0)
  have h12 := st_tt (bp_12 c i a1 k1 a3 k3 a5 k5 a6 k6 a13 x0 x1 x2 x3 x4 x5 x6 x7) (bq_12 c i a2 k2 a6 k6 a7 k7 a8 k8 a12 a14 x0 x1 x2 x3 x4 x5 x6 x7) (rows_unread a15 k15 xs3 inb_S2048x128_S64x128_768_0) (rows_unread a17 k17 xs5 inb_S2048x128_S64x128_768_0) (inb := inb_S2048x128_S64x128_768_0)
  have h13 := st_tt (bp_13 c i a1 k1 a3 k3 a5 k5 a6 k6 a13 x0 x1 x2 x3 x4 x5 x6 x7) (bq_13 c i a2 k2 a6 k6 a7 k7 a8 k8 a12 a14 x0 x1 x2 x3 x4 x5 x6 x7) (rows_unread a15 k15 xs3 inb_S2048x128_S64x128_832_0) (rows_unread a17 k17 xs5 inb_S2048x128_S64x128_832_0) (inb := inb_S2048x128_S64x128_832_0)
  have h14 := st_tt (bp_14 c i a1 k1 a3 k3 a5 k5 a6 k6 a13 x0 x1 x2 x3 x4 x5 x6 x7) (bq_14 c i a2 k2 a6 k6 a7 k7 a8 k8 a12 a14 x0 x1 x2 x3 x4 x5 x6 x7) (rows_unread a15 k15 xs3 inb_S2048x128_S64x128_896_0) (rows_unread a17 k17 xs5 inb_S2048x128_S64x128_896_0) (inb := inb_S2048x128_S64x128_896_0)
  have h15 := st_tt (bp_15 c i a1 k1 a3 k3 a5 k5 a6 k6 a13 x0 x1 x2 x3 x4 x5 x6 x7) (bq_15 c i a2 k2 a6 k6 a7 k7 a8 k8 a12 a14 x0 x1 x2 x3 x4 x5 x6 x7) (rows_unread a15 k15 xs3 inb_S2048x128_S64x128_960_0) (rows_unread a17 k17 xs5 inb_S2048x128_S64x128_960_0) (inb := inb_S2048x128_S64x128_960_0)
  have h16 := st_tt (bp_16 c i a1 k1 a3 k3 a5 k5 a6 k6 a13 x0 x1 x2 x3 x4 x5 x6 x7) (bq_16 c i a2 k2 a6 k6 a7 k7 a8 k8 a12 a14 x0 x1 x2 x3 x4 x5 x6 x7) (rows_unread a15 k15 xs3 inb_S2048x128_S64x128_1024_0) (rows_unread a17 k17 xs5 inb_S2048x128_S64x128_1024_0) (inb := inb_S2048x128_S64x128_1024_0)
  have h17 := st_tt (bp_17 c i a1 k1 a3 k3 a5 k5 a6 k6 a13 x0 x1 x2 x3 x4 x5 x6 x7) (bq_17 c i a2 k2 a6 k6 a7 k7 a8 k8 a12 a14 x0 x1 x2 x3 x4 x5 x6 x7) (rows_unread a15 k15 xs3 inb_S2048x128_S64x128_1088_0) (rows_unread a17 k17 xs5 inb_S2048x128_S64x128_1088_0) (inb := inb_S2048x128_S64x128_1088_0)
  have h18 := st_tt (bp_18 c i a1 k1 a3 k3 a5 k5 a6 k6 a13 x0 x1 x2 x3 x4 x5 x6 x7) (bq_18 c i a2 k2 a6 k6 a7 k7 a8 k8 a12 a14 x0 x1 x2 x3 x4 x5 x6 x7) (rows_unread a15 k15 xs3 inb_S2048x128_S64x128_1152_0) (rows_unread a17 k17 xs5 inb_S2048x128_S64x128_1152_0) (inb := inb_S2048x128_S64x128_1152_0)
  have h19 := st_tt (bp_19 c i a1 k1 a3 k3 a5 k5 a6 k6 a13 x0 x1 x2 x3 x4 x5 x6 x7) (bq_19 c i a2 k2 a6 k6 a7 k7 a8 k8 a12 a14 x0 x1 x2 x3 x4 x5 x6 x7) (rows_unread a15 k15 xs3 inb_S2048x128_S64x128_1216_0) (rows_unread a17 k17 xs5 inb_S2048x128_S64x128_1216_0) (inb := inb_S2048x128_S64x128_1216_0)
  have h20 := st_tt (bp_20 c i a1 k1 a3 k3 a5 k5 a6 k6 a13 x0 x1 x2 x3 x4 x5 x6 x7) (bq_20 c i a2 k2 a6 k6 a7 k7 a8 k8 a12 a14 x0 x1 x2 x3 x4 x5 x6 x7) (rows_unread a15 k15 xs3 inb_S2048x128_S64x128_1280_0) (rows_unread a17 k17 xs5 inb_S2048x128_S64x128_1280_0) (inb := inb_S2048x128_S64x128_1280_0)
  have h21 := st_tt (bp_21 c i a1 k1 a3 k3 a5 k5 a6 k6 a13 x0 x1 x2 x3 x4 x5 x6 x7) (bq_21 c i a2 k2 a6 k6 a7 k7 a8 k8 a12 a14 x0 x1 x2 x3 x4 x5 x6 x7) (rows_unread a15 k15 xs3 inb_S2048x128_S64x128_1344_0) (rows_unread a17 k17 xs5 inb_S2048x128_S64x128_1344_0) (inb := inb_S2048x128_S64x128_1344_0)
  have h22 := st_tt (bp_22 c i a1 k1 a3 k3 a5 k5 a6 k6 a13 x0 x1 x2 x3 x4 x5 x6 x7) (bq_22 c i a2 k2 a6 k6 a7 k7 a8 k8 a12 a14 x0 x1 x2 x3 x4 x5 x6 x7) (rows_unread a15 k15 xs3 inb_S2048x128_S64x128_1408_0) (rows_unread a17 k17 xs5 inb_S2048x128_S64x128_1408_0) (inb := inb_S2048x128_S64x128_1408_0)
  have h23 := st_tt (bp_23 c i a1 k1 a3 k3 a5 k5 a6 k6 a13 x0 x1 x2 x3 x4 x5 x6 x7) (bq_23 c i a2 k2 a6 k6 a7 k7 a8 k8 a12 a14 x0 x1 x2 x3 x4 x5 x6 x7) (rows_unread a15 k15 xs3 inb_S2048x128_S64x128_1472_0) (rows_unread a17 k17 xs5 inb_S2048x128_S64x128_1472_0) (inb := inb_S2048x128_S64x128_1472_0)
  have h24 := st_tt (bp_24 c i a1 k1 a3 k3 a5 k5 a6 k6 a13 x0 x1 x2 x3 x4 x5 x6 x7) (bq_24 c i a2 k2 a6 k6 a7 k7 a8 k8 a12 a14 x0 x1 x2 x3 x4 x5 x6 x7) (rows_unread a15 k15 xs3 inb_S2048x128_S64x128_1536_0) (rows_unread a17 k17 xs5 inb_S2048x128_S64x128_1536_0) (inb := inb_S2048x128_S64x128_1536_0)
  have h25 := st_tt (bp_25 c i a1 k1 a3 k3 a5 k5 a6 k6 a13 x0 x1 x2 x3 x4 x5 x6 x7) (bq_25 c i a2 k2 a6 k6 a7 k7 a8 k8 a12 a14 x0 x1 x2 x3 x4 x5 x6 x7) (rows_unread a15 k15 xs3 inb_S2048x128_S64x128_1600_0) (rows_unread a17 k17 xs5 inb_S2048x128_S64x128_1600_0) (inb := inb_S2048x128_S64x128_1600_0)
  have h26 := st_tt (bp_26 c i a1 k1 a3 k3 a5 k5 a6 k6 a13 x0 x1 x2 x3 x4 x5 x6 x7) (bq_26 c i a2 k2 a6 k6 a7 k7 a8 k8 a12 a14 x0 x1 x2 x3 x4 x5 x6 x7) (rows_unread a15 k15 xs3 inb_S2048x128_S64x128_1664_0) (rows_unread a17 k17 xs5 inb_S2048x128_S64x128_1664_0) (inb := inb_S2048x128_S64x128_1664_0)
  have h27 := st_tt (bp_27 c i a1 k1 a3 k3 a5 k5 a6 k6 a13 x0 x1 x2 x3 x4 x5 x6 x7) (bq_27 c i a2 k2 a6 k6 a7 k7 a8 k8 a12 a14 x0 x1 x2 x3 x4 x5 x6 x7) (rows_unread a15 k15 xs3 inb_S2048x128_S64x128_1728_0) (rows_unread a17 k17 xs5 inb_S2048x128_S64x128_1728_0) (inb := inb_S2048x128_S64x128_1728_0)
  have h28 := st_tt (bp_28 c i a1 k1 a3 k3 a5 k5 a6 k6 a13 x0 x1 x2 x3 x4 x5 x6 x7) (bq_28 c i a2 k2 a6 k6 a7 k7 a8 k8 a12 a14 x0 x1 x2 x3 x4 x5 x6 x7) (rows_unread a15 k15 xs3 inb_S2048x128_S64x128_1792_0) (rows_unread a17 k17 xs5 inb_S2048x128_S64x128_1792_0) (inb := inb_S2048x128_S64x128_1792_0)
  have h29 := st_tt (bp_29 c i a1 k1 a3 k3 a5 k5 a6 k6 a13 x0 x1 x2 x3 x4 x5 x6 x7) (bq_29 c i a2 k2 a6 k6 a7 k7 a8 k8 a12 a14 x0 x1 x2 x3 x4 x5 x6 x7) (rows_unread a15 k15 xs3 inb_S2048x128_S64x128_1856_0) (rows_unread a17 k17 xs5 inb_S2048x128_S64x128_1856_0) (inb := inb_S2048x128_S64x128_1856_0)
  have h30 := st_tt (bp_30 c i a1 k1 a3 k3 a5 k5 a6 k6 a13 x0 x1 x2 x3 x4 x5 x6 x7) (bq_30 c i a2 k2 a6 k6 a7 k7 a8 k8 a12 a14 x0 x1 x2 x3 x4 x5 x6 x7) (rows_unread a15 k15 xs3 inb_S2048x128_S64x128_1920_0) (rows_unread a17 k17 xs5 inb_S2048x128_S64x128_1920_0) (inb := inb_S2048x128_S64x128_1920_0)
  have h31 := st_tt (bp_31 c i a1 k1 a3 k3 a5 k5 a6 k6 a13 x0 x1 x2 x3 x4 x5 x6 x7) (bq_31 c i a2 k2 a6 k6 a7 k7 a8 k8 a12 a14 x0 x1 x2 x3 x4 x5 x6 x7) (rows_unread a15 k15 xs3 inb_S2048x128_S64x128_1984_0) (rows_unread a17 k17 xs5 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a18`. -/
theorem pieces_6 : View.PiecesOf ((mkD x0 x1 x2 x3 x4 x6 x7 (kernelRun0_C.sl.r_3 c a6 k6 x5) (kernelRun0_C.sl.r_4 i)).gMQ xs6) ((kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.1) := by
  have h0 := st_mq (bq_0 c i a2 k2 a6 k6 a7 k7 a8 k8 a12 a14 x0 x1 x2 x3 x4 x5 x6 x7) (rows_unread a18 k18 xs6 inb_S2048x128_S64x128_0_0) (inb := inb_S2048x128_S64x128_0_0)
  have h1 := st_mq (bq_1 c i a2 k2 a6 k6 a7 k7 a8 k8 a12 a14 x0 x1 x2 x3 x4 x5 x6 x7) (rows_unread a18 k18 xs6 inb_S2048x128_S64x128_64_0) (inb := inb_S2048x128_S64x128_64_0)
  have h2 := st_mq (bq_2 c i a2 k2 a6 k6 a7 k7 a8 k8 a12 a14 x0 x1 x2 x3 x4 x5 x6 x7) (rows_unread a18 k18 xs6 inb_S2048x128_S64x128_128_0) (inb := inb_S2048x128_S64x128_128_0)
  have h3 := st_mq (bq_3 c i a2 k2 a6 k6 a7 k7 a8 k8 a12 a14 x0 x1 x2 x3 x4 x5 x6 x7) (rows_unread a18 k18 xs6 inb_S2048x128_S64x128_192_0) (inb := inb_S2048x128_S64x128_192_0)
  have h4 := st_mq (bq_4 c i a2 k2 a6 k6 a7 k7 a8 k8 a12 a14 x0 x1 x2 x3 x4 x5 x6 x7) (rows_unread a18 k18 xs6 inb_S2048x128_S64x128_256_0) (inb := inb_S2048x128_S64x128_256_0)
  have h5 := st_mq (bq_5 c i a2 k2 a6 k6 a7 k7 a8 k8 a12 a14 x0 x1 x2 x3 x4 x5 x6 x7) (rows_unread a18 k18 xs6 inb_S2048x128_S64x128_320_0) (inb := inb_S2048x128_S64x128_320_0)
  have h6 := st_mq (bq_6 c i a2 k2 a6 k6 a7 k7 a8 k8 a12 a14 x0 x1 x2 x3 x4 x5 x6 x7) (rows_unread a18 k18 xs6 inb_S2048x128_S64x128_384_0) (inb := inb_S2048x128_S64x128_384_0)
  have h7 := st_mq (bq_7 c i a2 k2 a6 k6 a7 k7 a8 k8 a12 a14 x0 x1 x2 x3 x4 x5 x6 x7) (rows_unread a18 k18 xs6 inb_S2048x128_S64x128_448_0) (inb := inb_S2048x128_S64x128_448_0)
  have h8 := st_mq (bq_8 c i a2 k2 a6 k6 a7 k7 a8 k8 a12 a14 x0 x1 x2 x3 x4 x5 x6 x7) (rows_unread a18 k18 xs6 inb_S2048x128_S64x128_512_0) (inb := inb_S2048x128_S64x128_512_0)
  have h9 := st_mq (bq_9 c i a2 k2 a6 k6 a7 k7 a8 k8 a12 a14 x0 x1 x2 x3 x4 x5 x6 x7) (rows_unread a18 k18 xs6 inb_S2048x128_S64x128_576_0) (inb := inb_S2048x128_S64x128_576_0)
  have h10 := st_mq (bq_10 c i a2 k2 a6 k6 a7 k7 a8 k8 a12 a14 x0 x1 x2 x3 x4 x5 x6 x7) (rows_unread a18 k18 xs6 inb_S2048x128_S64x128_640_0) (inb := inb_S2048x128_S64x128_640_0)
  have h11 := st_mq (bq_11 c i a2 k2 a6 k6 a7 k7 a8 k8 a12 a14 x0 x1 x2 x3 x4 x5 x6 x7) (rows_unread a18 k18 xs6 inb_S2048x128_S64x128_704_0) (inb := inb_S2048x128_S64x128_704_0)
  have h12 := st_mq (bq_12 c i a2 k2 a6 k6 a7 k7 a8 k8 a12 a14 x0 x1 x2 x3 x4 x5 x6 x7) (rows_unread a18 k18 xs6 inb_S2048x128_S64x128_768_0) (inb := inb_S2048x128_S64x128_768_0)
  have h13 := st_mq (bq_13 c i a2 k2 a6 k6 a7 k7 a8 k8 a12 a14 x0 x1 x2 x3 x4 x5 x6 x7) (rows_unread a18 k18 xs6 inb_S2048x128_S64x128_832_0) (inb := inb_S2048x128_S64x128_832_0)
  have h14 := st_mq (bq_14 c i a2 k2 a6 k6 a7 k7 a8 k8 a12 a14 x0 x1 x2 x3 x4 x5 x6 x7) (rows_unread a18 k18 xs6 inb_S2048x128_S64x128_896_0) (inb := inb_S2048x128_S64x128_896_0)
  have h15 := st_mq (bq_15 c i a2 k2 a6 k6 a7 k7 a8 k8 a12 a14 x0 x1 x2 x3 x4 x5 x6 x7) (rows_unread a18 k18 xs6 inb_S2048x128_S64x128_960_0) (inb := inb_S2048x128_S64x128_960_0)
  have h16 := st_mq (bq_16 c i a2 k2 a6 k6 a7 k7 a8 k8 a12 a14 x0 x1 x2 x3 x4 x5 x6 x7) (rows_unread a18 k18 xs6 inb_S2048x128_S64x128_1024_0) (inb := inb_S2048x128_S64x128_1024_0)
  have h17 := st_mq (bq_17 c i a2 k2 a6 k6 a7 k7 a8 k8 a12 a14 x0 x1 x2 x3 x4 x5 x6 x7) (rows_unread a18 k18 xs6 inb_S2048x128_S64x128_1088_0) (inb := inb_S2048x128_S64x128_1088_0)
  have h18 := st_mq (bq_18 c i a2 k2 a6 k6 a7 k7 a8 k8 a12 a14 x0 x1 x2 x3 x4 x5 x6 x7) (rows_unread a18 k18 xs6 inb_S2048x128_S64x128_1152_0) (inb := inb_S2048x128_S64x128_1152_0)
  have h19 := st_mq (bq_19 c i a2 k2 a6 k6 a7 k7 a8 k8 a12 a14 x0 x1 x2 x3 x4 x5 x6 x7) (rows_unread a18 k18 xs6 inb_S2048x128_S64x128_1216_0) (inb := inb_S2048x128_S64x128_1216_0)
  have h20 := st_mq (bq_20 c i a2 k2 a6 k6 a7 k7 a8 k8 a12 a14 x0 x1 x2 x3 x4 x5 x6 x7) (rows_unread a18 k18 xs6 inb_S2048x128_S64x128_1280_0) (inb := inb_S2048x128_S64x128_1280_0)
  have h21 := st_mq (bq_21 c i a2 k2 a6 k6 a7 k7 a8 k8 a12 a14 x0 x1 x2 x3 x4 x5 x6 x7) (rows_unread a18 k18 xs6 inb_S2048x128_S64x128_1344_0) (inb := inb_S2048x128_S64x128_1344_0)
  have h22 := st_mq (bq_22 c i a2 k2 a6 k6 a7 k7 a8 k8 a12 a14 x0 x1 x2 x3 x4 x5 x6 x7) (rows_unread a18 k18 xs6 inb_S2048x128_S64x128_1408_0) (inb := inb_S2048x128_S64x128_1408_0)
  have h23 := st_mq (bq_23 c i a2 k2 a6 k6 a7 k7 a8 k8 a12 a14 x0 x1 x2 x3 x4 x5 x6 x7) (rows_unread a18 k18 xs6 inb_S2048x128_S64x128_1472_0) (inb := inb_S2048x128_S64x128_1472_0)
  have h24 := st_mq (bq_24 c i a2 k2 a6 k6 a7 k7 a8 k8 a12 a14 x0 x1 x2 x3 x4 x5 x6 x7) (rows_unread a18 k18 xs6 inb_S2048x128_S64x128_1536_0) (inb := inb_S2048x128_S64x128_1536_0)
  have h25 := st_mq (bq_25 c i a2 k2 a6 k6 a7 k7 a8 k8 a12 a14 x0 x1 x2 x3 x4 x5 x6 x7) (rows_unread a18 k18 xs6 inb_S2048x128_S64x128_1600_0) (inb := inb_S2048x128_S64x128_1600_0)
  have h26 := st_mq (bq_26 c i a2 k2 a6 k6 a7 k7 a8 k8 a12 a14 x0 x1 x2 x3 x4 x5 x6 x7) (rows_unread a18 k18 xs6 inb_S2048x128_S64x128_1664_0) (inb := inb_S2048x128_S64x128_1664_0)
  have h27 := st_mq (bq_27 c i a2 k2 a6 k6 a7 k7 a8 k8 a12 a14 x0 x1 x2 x3 x4 x5 x6 x7) (rows_unread a18 k18 xs6 inb_S2048x128_S64x128_1728_0) (inb := inb_S2048x128_S64x128_1728_0)
  have h28 := st_mq (bq_28 c i a2 k2 a6 k6 a7 k7 a8 k8 a12 a14 x0 x1 x2 x3 x4 x5 x6 x7) (rows_unread a18 k18 xs6 inb_S2048x128_S64x128_1792_0) (inb := inb_S2048x128_S64x128_1792_0)
  have h29 := st_mq (bq_29 c i a2 k2 a6 k6 a7 k7 a8 k8 a12 a14 x0 x1 x2 x3 x4 x5 x6 x7) (rows_unread a18 k18 xs6 inb_S2048x128_S64x128_1856_0) (inb := inb_S2048x128_S64x128_1856_0)
  have h30 := st_mq (bq_30 c i a2 k2 a6 k6 a7 k7 a8 k8 a12 a14 x0 x1 x2 x3 x4 x5 x6 x7) (rows_unread a18 k18 xs6 inb_S2048x128_S64x128_1920_0) (inb := inb_S2048x128_S64x128_1920_0)
  have h31 := st_mq (bq_31 c i a2 k2 a6 k6 a7 k7 a8 k8 a12 a14 x0 x1 x2 x3 x4 x5 x6 x7) (rows_unread a18 k18 xs6 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a19`. -/
theorem pieces_7 : View.PiecesOf ((mkD x0 x1 x2 x3 x4 x6 x7 (kernelRun0_C.sl.r_3 c a6 k6 x5) (kernelRun0_C.sl.r_4 i)).gSQ xs6 xs7) ((kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.1) := by
  have h0 := st_sq (bq_0 c i a2 k2 a6 k6 a7 k7 a8 k8 a12 a14 x0 x1 x2 x3 x4 x5 x6 x7) (rows_unread a18 k18 xs6 inb_S2048x128_S64x128_0_0) (rows_unread a19 k19 xs7 inb_S2048x128_S64x128_0_0) (inb := inb_S2048x128_S64x128_0_0)
  have h1 := st_sq (bq_1 c i a2 k2 a6 k6 a7 k7 a8 k8 a12 a14 x0 x1 x2 x3 x4 x5 x6 x7) (rows_unread a18 k18 xs6 inb_S2048x128_S64x128_64_0) (rows_unread a19 k19 xs7 inb_S2048x128_S64x128_64_0) (inb := inb_S2048x128_S64x128_64_0)
  have h2 := st_sq (bq_2 c i a2 k2 a6 k6 a7 k7 a8 k8 a12 a14 x0 x1 x2 x3 x4 x5 x6 x7) (rows_unread a18 k18 xs6 inb_S2048x128_S64x128_128_0) (rows_unread a19 k19 xs7 inb_S2048x128_S64x128_128_0) (inb := inb_S2048x128_S64x128_128_0)
  have h3 := st_sq (bq_3 c i a2 k2 a6 k6 a7 k7 a8 k8 a12 a14 x0 x1 x2 x3 x4 x5 x6 x7) (rows_unread a18 k18 xs6 inb_S2048x128_S64x128_192_0) (rows_unread a19 k19 xs7 inb_S2048x128_S64x128_192_0) (inb := inb_S2048x128_S64x128_192_0)
  have h4 := st_sq (bq_4 c i a2 k2 a6 k6 a7 k7 a8 k8 a12 a14 x0 x1 x2 x3 x4 x5 x6 x7) (rows_unread a18 k18 xs6 inb_S2048x128_S64x128_256_0) (rows_unread a19 k19 xs7 inb_S2048x128_S64x128_256_0) (inb := inb_S2048x128_S64x128_256_0)
  have h5 := st_sq (bq_5 c i a2 k2 a6 k6 a7 k7 a8 k8 a12 a14 x0 x1 x2 x3 x4 x5 x6 x7) (rows_unread a18 k18 xs6 inb_S2048x128_S64x128_320_0) (rows_unread a19 k19 xs7 inb_S2048x128_S64x128_320_0) (inb := inb_S2048x128_S64x128_320_0)
  have h6 := st_sq (bq_6 c i a2 k2 a6 k6 a7 k7 a8 k8 a12 a14 x0 x1 x2 x3 x4 x5 x6 x7) (rows_unread a18 k18 xs6 inb_S2048x128_S64x128_384_0) (rows_unread a19 k19 xs7 inb_S2048x128_S64x128_384_0) (inb := inb_S2048x128_S64x128_384_0)
  have h7 := st_sq (bq_7 c i a2 k2 a6 k6 a7 k7 a8 k8 a12 a14 x0 x1 x2 x3 x4 x5 x6 x7) (rows_unread a18 k18 xs6 inb_S2048x128_S64x128_448_0) (rows_unread a19 k19 xs7 inb_S2048x128_S64x128_448_0) (inb := inb_S2048x128_S64x128_448_0)
  have h8 := st_sq (bq_8 c i a2 k2 a6 k6 a7 k7 a8 k8 a12 a14 x0 x1 x2 x3 x4 x5 x6 x7) (rows_unread a18 k18 xs6 inb_S2048x128_S64x128_512_0) (rows_unread a19 k19 xs7 inb_S2048x128_S64x128_512_0) (inb := inb_S2048x128_S64x128_512_0)
  have h9 := st_sq (bq_9 c i a2 k2 a6 k6 a7 k7 a8 k8 a12 a14 x0 x1 x2 x3 x4 x5 x6 x7) (rows_unread a18 k18 xs6 inb_S2048x128_S64x128_576_0) (rows_unread a19 k19 xs7 inb_S2048x128_S64x128_576_0) (inb := inb_S2048x128_S64x128_576_0)
  have h10 := st_sq (bq_10 c i a2 k2 a6 k6 a7 k7 a8 k8 a12 a14 x0 x1 x2 x3 x4 x5 x6 x7) (rows_unread a18 k18 xs6 inb_S2048x128_S64x128_640_0) (rows_unread a19 k19 xs7 inb_S2048x128_S64x128_640_0) (inb := inb_S2048x128_S64x128_640_0)
  have h11 := st_sq (bq_11 c i a2 k2 a6 k6 a7 k7 a8 k8 a12 a14 x0 x1 x2 x3 x4 x5 x6 x7) (rows_unread a18 k18 xs6 inb_S2048x128_S64x128_704_0) (rows_unread a19 k19 xs7 inb_S2048x128_S64x128_704_0) (inb := inb_S2048x128_S64x128_704_0)
  have h12 := st_sq (bq_12 c i a2 k2 a6 k6 a7 k7 a8 k8 a12 a14 x0 x1 x2 x3 x4 x5 x6 x7) (rows_unread a18 k18 xs6 inb_S2048x128_S64x128_768_0) (rows_unread a19 k19 xs7 inb_S2048x128_S64x128_768_0) (inb := inb_S2048x128_S64x128_768_0)
  have h13 := st_sq (bq_13 c i a2 k2 a6 k6 a7 k7 a8 k8 a12 a14 x0 x1 x2 x3 x4 x5 x6 x7) (rows_unread a18 k18 xs6 inb_S2048x128_S64x128_832_0) (rows_unread a19 k19 xs7 inb_S2048x128_S64x128_832_0) (inb := inb_S2048x128_S64x128_832_0)
  have h14 := st_sq (bq_14 c i a2 k2 a6 k6 a7 k7 a8 k8 a12 a14 x0 x1 x2 x3 x4 x5 x6 x7) (rows_unread a18 k18 xs6 inb_S2048x128_S64x128_896_0) (rows_unread a19 k19 xs7 inb_S2048x128_S64x128_896_0) (inb := inb_S2048x128_S64x128_896_0)
  have h15 := st_sq (bq_15 c i a2 k2 a6 k6 a7 k7 a8 k8 a12 a14 x0 x1 x2 x3 x4 x5 x6 x7) (rows_unread a18 k18 xs6 inb_S2048x128_S64x128_960_0) (rows_unread a19 k19 xs7 inb_S2048x128_S64x128_960_0) (inb := inb_S2048x128_S64x128_960_0)
  have h16 := st_sq (bq_16 c i a2 k2 a6 k6 a7 k7 a8 k8 a12 a14 x0 x1 x2 x3 x4 x5 x6 x7) (rows_unread a18 k18 xs6 inb_S2048x128_S64x128_1024_0) (rows_unread a19 k19 xs7 inb_S2048x128_S64x128_1024_0) (inb := inb_S2048x128_S64x128_1024_0)
  have h17 := st_sq (bq_17 c i a2 k2 a6 k6 a7 k7 a8 k8 a12 a14 x0 x1 x2 x3 x4 x5 x6 x7) (rows_unread a18 k18 xs6 inb_S2048x128_S64x128_1088_0) (rows_unread a19 k19 xs7 inb_S2048x128_S64x128_1088_0) (inb := inb_S2048x128_S64x128_1088_0)
  have h18 := st_sq (bq_18 c i a2 k2 a6 k6 a7 k7 a8 k8 a12 a14 x0 x1 x2 x3 x4 x5 x6 x7) (rows_unread a18 k18 xs6 inb_S2048x128_S64x128_1152_0) (rows_unread a19 k19 xs7 inb_S2048x128_S64x128_1152_0) (inb := inb_S2048x128_S64x128_1152_0)
  have h19 := st_sq (bq_19 c i a2 k2 a6 k6 a7 k7 a8 k8 a12 a14 x0 x1 x2 x3 x4 x5 x6 x7) (rows_unread a18 k18 xs6 inb_S2048x128_S64x128_1216_0) (rows_unread a19 k19 xs7 inb_S2048x128_S64x128_1216_0) (inb := inb_S2048x128_S64x128_1216_0)
  have h20 := st_sq (bq_20 c i a2 k2 a6 k6 a7 k7 a8 k8 a12 a14 x0 x1 x2 x3 x4 x5 x6 x7) (rows_unread a18 k18 xs6 inb_S2048x128_S64x128_1280_0) (rows_unread a19 k19 xs7 inb_S2048x128_S64x128_1280_0) (inb := inb_S2048x128_S64x128_1280_0)
  have h21 := st_sq (bq_21 c i a2 k2 a6 k6 a7 k7 a8 k8 a12 a14 x0 x1 x2 x3 x4 x5 x6 x7) (rows_unread a18 k18 xs6 inb_S2048x128_S64x128_1344_0) (rows_unread a19 k19 xs7 inb_S2048x128_S64x128_1344_0) (inb := inb_S2048x128_S64x128_1344_0)
  have h22 := st_sq (bq_22 c i a2 k2 a6 k6 a7 k7 a8 k8 a12 a14 x0 x1 x2 x3 x4 x5 x6 x7) (rows_unread a18 k18 xs6 inb_S2048x128_S64x128_1408_0) (rows_unread a19 k19 xs7 inb_S2048x128_S64x128_1408_0) (inb := inb_S2048x128_S64x128_1408_0)
  have h23 := st_sq (bq_23 c i a2 k2 a6 k6 a7 k7 a8 k8 a12 a14 x0 x1 x2 x3 x4 x5 x6 x7) (rows_unread a18 k18 xs6 inb_S2048x128_S64x128_1472_0) (rows_unread a19 k19 xs7 inb_S2048x128_S64x128_1472_0) (inb := inb_S2048x128_S64x128_1472_0)
  have h24 := st_sq (bq_24 c i a2 k2 a6 k6 a7 k7 a8 k8 a12 a14 x0 x1 x2 x3 x4 x5 x6 x7) (rows_unread a18 k18 xs6 inb_S2048x128_S64x128_1536_0) (rows_unread a19 k19 xs7 inb_S2048x128_S64x128_1536_0) (inb := inb_S2048x128_S64x128_1536_0)
  have h25 := st_sq (bq_25 c i a2 k2 a6 k6 a7 k7 a8 k8 a12 a14 x0 x1 x2 x3 x4 x5 x6 x7) (rows_unread a18 k18 xs6 inb_S2048x128_S64x128_1600_0) (rows_unread a19 k19 xs7 inb_S2048x128_S64x128_1600_0) (inb := inb_S2048x128_S64x128_1600_0)
  have h26 := st_sq (bq_26 c i a2 k2 a6 k6 a7 k7 a8 k8 a12 a14 x0 x1 x2 x3 x4 x5 x6 x7) (rows_unread a18 k18 xs6 inb_S2048x128_S64x128_1664_0) (rows_unread a19 k19 xs7 inb_S2048x128_S64x128_1664_0) (inb := inb_S2048x128_S64x128_1664_0)
  have h27 := st_sq (bq_27 c i a2 k2 a6 k6 a7 k7 a8 k8 a12 a14 x0 x1 x2 x3 x4 x5 x6 x7) (rows_unread a18 k18 xs6 inb_S2048x128_S64x128_1728_0) (rows_unread a19 k19 xs7 inb_S2048x128_S64x128_1728_0) (inb := inb_S2048x128_S64x128_1728_0)
  have h28 := st_sq (bq_28 c i a2 k2 a6 k6 a7 k7 a8 k8 a12 a14 x0 x1 x2 x3 x4 x5 x6 x7) (rows_unread a18 k18 xs6 inb_S2048x128_S64x128_1792_0) (rows_unread a19 k19 xs7 inb_S2048x128_S64x128_1792_0) (inb := inb_S2048x128_S64x128_1792_0)
  have h29 := st_sq (bq_29 c i a2 k2 a6 k6 a7 k7 a8 k8 a12 a14 x0 x1 x2 x3 x4 x5 x6 x7) (rows_unread a18 k18 xs6 inb_S2048x128_S64x128_1856_0) (rows_unread a19 k19 xs7 inb_S2048x128_S64x128_1856_0) (inb := inb_S2048x128_S64x128_1856_0)
  have h30 := st_sq (bq_30 c i a2 k2 a6 k6 a7 k7 a8 k8 a12 a14 x0 x1 x2 x3 x4 x5 x6 x7) (rows_unread a18 k18 xs6 inb_S2048x128_S64x128_1920_0) (rows_unread a19 k19 xs7 inb_S2048x128_S64x128_1920_0) (inb := inb_S2048x128_S64x128_1920_0)
  have h31 := st_sq (bq_31 c i a2 k2 a6 k6 a7 k7 a8 k8 a12 a14 x0 x1 x2 x3 x4 x5 x6 x7) (rows_unread a18 k18 xs6 inb_S2048x128_S64x128_1984_0) (rows_unread a19 k19 xs7 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a20`. -/
theorem pieces_8 : View.PiecesOf ((mkD x0 x1 x2 x3 x4 x6 x7 (kernelRun0_C.sl.r_3 c a6 k6 x5) (kernelRun0_C.sl.r_4 i)).gTP xs8) ((kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.2.1) := by
  have h0 := st_tp (bp_0 c i a1 k1 a3 k3 a5 k5 a6 k6 a13 x0 x1 x2 x3 x4 x5 x6 x7) (rows_unread a4 k4 x3 inb_S2048x128_S64x128_0_0) (rows_unread a20 k20 xs8 inb_S2048x128_S64x128_0_0) (inb := inb_S2048x128_S64x128_0_0)
  have h1 := st_tp (bp_1 c i a1 k1 a3 k3 a5 k5 a6 k6 a13 x0 x1 x2 x3 x4 x5 x6 x7) (rows_unread a4 k4 x3 inb_S2048x128_S64x128_64_0) (rows_unread a20 k20 xs8 inb_S2048x128_S64x128_64_0) (inb := inb_S2048x128_S64x128_64_0)
  have h2 := st_tp (bp_2 c i a1 k1 a3 k3 a5 k5 a6 k6 a13 x0 x1 x2 x3 x4 x5 x6 x7) (rows_unread a4 k4 x3 inb_S2048x128_S64x128_128_0) (rows_unread a20 k20 xs8 inb_S2048x128_S64x128_128_0) (inb := inb_S2048x128_S64x128_128_0)
  have h3 := st_tp (bp_3 c i a1 k1 a3 k3 a5 k5 a6 k6 a13 x0 x1 x2 x3 x4 x5 x6 x7) (rows_unread a4 k4 x3 inb_S2048x128_S64x128_192_0) (rows_unread a20 k20 xs8 inb_S2048x128_S64x128_192_0) (inb := inb_S2048x128_S64x128_192_0)
  have h4 := st_tp (bp_4 c i a1 k1 a3 k3 a5 k5 a6 k6 a13 x0 x1 x2 x3 x4 x5 x6 x7) (rows_unread a4 k4 x3 inb_S2048x128_S64x128_256_0) (rows_unread a20 k20 xs8 inb_S2048x128_S64x128_256_0) (inb := inb_S2048x128_S64x128_256_0)
  have h5 := st_tp (bp_5 c i a1 k1 a3 k3 a5 k5 a6 k6 a13 x0 x1 x2 x3 x4 x5 x6 x7) (rows_unread a4 k4 x3 inb_S2048x128_S64x128_320_0) (rows_unread a20 k20 xs8 inb_S2048x128_S64x128_320_0) (inb := inb_S2048x128_S64x128_320_0)
  have h6 := st_tp (bp_6 c i a1 k1 a3 k3 a5 k5 a6 k6 a13 x0 x1 x2 x3 x4 x5 x6 x7) (rows_unread a4 k4 x3 inb_S2048x128_S64x128_384_0) (rows_unread a20 k20 xs8 inb_S2048x128_S64x128_384_0) (inb := inb_S2048x128_S64x128_384_0)
  have h7 := st_tp (bp_7 c i a1 k1 a3 k3 a5 k5 a6 k6 a13 x0 x1 x2 x3 x4 x5 x6 x7) (rows_unread a4 k4 x3 inb_S2048x128_S64x128_448_0) (rows_unread a20 k20 xs8 inb_S2048x128_S64x128_448_0) (inb := inb_S2048x128_S64x128_448_0)
  have h8 := st_tp (bp_8 c i a1 k1 a3 k3 a5 k5 a6 k6 a13 x0 x1 x2 x3 x4 x5 x6 x7) (rows_unread a4 k4 x3 inb_S2048x128_S64x128_512_0) (rows_unread a20 k20 xs8 inb_S2048x128_S64x128_512_0) (inb := inb_S2048x128_S64x128_512_0)
  have h9 := st_tp (bp_9 c i a1 k1 a3 k3 a5 k5 a6 k6 a13 x0 x1 x2 x3 x4 x5 x6 x7) (rows_unread a4 k4 x3 inb_S2048x128_S64x128_576_0) (rows_unread a20 k20 xs8 inb_S2048x128_S64x128_576_0) (inb := inb_S2048x128_S64x128_576_0)
  have h10 := st_tp (bp_10 c i a1 k1 a3 k3 a5 k5 a6 k6 a13 x0 x1 x2 x3 x4 x5 x6 x7) (rows_unread a4 k4 x3 inb_S2048x128_S64x128_640_0) (rows_unread a20 k20 xs8 inb_S2048x128_S64x128_640_0) (inb := inb_S2048x128_S64x128_640_0)
  have h11 := st_tp (bp_11 c i a1 k1 a3 k3 a5 k5 a6 k6 a13 x0 x1 x2 x3 x4 x5 x6 x7) (rows_unread a4 k4 x3 inb_S2048x128_S64x128_704_0) (rows_unread a20 k20 xs8 inb_S2048x128_S64x128_704_0) (inb := inb_S2048x128_S64x128_704_0)
  have h12 := st_tp (bp_12 c i a1 k1 a3 k3 a5 k5 a6 k6 a13 x0 x1 x2 x3 x4 x5 x6 x7) (rows_unread a4 k4 x3 inb_S2048x128_S64x128_768_0) (rows_unread a20 k20 xs8 inb_S2048x128_S64x128_768_0) (inb := inb_S2048x128_S64x128_768_0)
  have h13 := st_tp (bp_13 c i a1 k1 a3 k3 a5 k5 a6 k6 a13 x0 x1 x2 x3 x4 x5 x6 x7) (rows_unread a4 k4 x3 inb_S2048x128_S64x128_832_0) (rows_unread a20 k20 xs8 inb_S2048x128_S64x128_832_0) (inb := inb_S2048x128_S64x128_832_0)
  have h14 := st_tp (bp_14 c i a1 k1 a3 k3 a5 k5 a6 k6 a13 x0 x1 x2 x3 x4 x5 x6 x7) (rows_unread a4 k4 x3 inb_S2048x128_S64x128_896_0) (rows_unread a20 k20 xs8 inb_S2048x128_S64x128_896_0) (inb := inb_S2048x128_S64x128_896_0)
  have h15 := st_tp (bp_15 c i a1 k1 a3 k3 a5 k5 a6 k6 a13 x0 x1 x2 x3 x4 x5 x6 x7) (rows_unread a4 k4 x3 inb_S2048x128_S64x128_960_0) (rows_unread a20 k20 xs8 inb_S2048x128_S64x128_960_0) (inb := inb_S2048x128_S64x128_960_0)
  have h16 := st_tp (bp_16 c i a1 k1 a3 k3 a5 k5 a6 k6 a13 x0 x1 x2 x3 x4 x5 x6 x7) (rows_unread a4 k4 x3 inb_S2048x128_S64x128_1024_0) (rows_unread a20 k20 xs8 inb_S2048x128_S64x128_1024_0) (inb := inb_S2048x128_S64x128_1024_0)
  have h17 := st_tp (bp_17 c i a1 k1 a3 k3 a5 k5 a6 k6 a13 x0 x1 x2 x3 x4 x5 x6 x7) (rows_unread a4 k4 x3 inb_S2048x128_S64x128_1088_0) (rows_unread a20 k20 xs8 inb_S2048x128_S64x128_1088_0) (inb := inb_S2048x128_S64x128_1088_0)
  have h18 := st_tp (bp_18 c i a1 k1 a3 k3 a5 k5 a6 k6 a13 x0 x1 x2 x3 x4 x5 x6 x7) (rows_unread a4 k4 x3 inb_S2048x128_S64x128_1152_0) (rows_unread a20 k20 xs8 inb_S2048x128_S64x128_1152_0) (inb := inb_S2048x128_S64x128_1152_0)
  have h19 := st_tp (bp_19 c i a1 k1 a3 k3 a5 k5 a6 k6 a13 x0 x1 x2 x3 x4 x5 x6 x7) (rows_unread a4 k4 x3 inb_S2048x128_S64x128_1216_0) (rows_unread a20 k20 xs8 inb_S2048x128_S64x128_1216_0) (inb := inb_S2048x128_S64x128_1216_0)
  have h20 := st_tp (bp_20 c i a1 k1 a3 k3 a5 k5 a6 k6 a13 x0 x1 x2 x3 x4 x5 x6 x7) (rows_unread a4 k4 x3 inb_S2048x128_S64x128_1280_0) (rows_unread a20 k20 xs8 inb_S2048x128_S64x128_1280_0) (inb := inb_S2048x128_S64x128_1280_0)
  have h21 := st_tp (bp_21 c i a1 k1 a3 k3 a5 k5 a6 k6 a13 x0 x1 x2 x3 x4 x5 x6 x7) (rows_unread a4 k4 x3 inb_S2048x128_S64x128_1344_0) (rows_unread a20 k20 xs8 inb_S2048x128_S64x128_1344_0) (inb := inb_S2048x128_S64x128_1344_0)
  have h22 := st_tp (bp_22 c i a1 k1 a3 k3 a5 k5 a6 k6 a13 x0 x1 x2 x3 x4 x5 x6 x7) (rows_unread a4 k4 x3 inb_S2048x128_S64x128_1408_0) (rows_unread a20 k20 xs8 inb_S2048x128_S64x128_1408_0) (inb := inb_S2048x128_S64x128_1408_0)
  have h23 := st_tp (bp_23 c i a1 k1 a3 k3 a5 k5 a6 k6 a13 x0 x1 x2 x3 x4 x5 x6 x7) (rows_unread a4 k4 x3 inb_S2048x128_S64x128_1472_0) (rows_unread a20 k20 xs8 inb_S2048x128_S64x128_1472_0) (inb := inb_S2048x128_S64x128_1472_0)
  have h24 := st_tp (bp_24 c i a1 k1 a3 k3 a5 k5 a6 k6 a13 x0 x1 x2 x3 x4 x5 x6 x7) (rows_unread a4 k4 x3 inb_S2048x128_S64x128_1536_0) (rows_unread a20 k20 xs8 inb_S2048x128_S64x128_1536_0) (inb := inb_S2048x128_S64x128_1536_0)
  have h25 := st_tp (bp_25 c i a1 k1 a3 k3 a5 k5 a6 k6 a13 x0 x1 x2 x3 x4 x5 x6 x7) (rows_unread a4 k4 x3 inb_S2048x128_S64x128_1600_0) (rows_unread a20 k20 xs8 inb_S2048x128_S64x128_1600_0) (inb := inb_S2048x128_S64x128_1600_0)
  have h26 := st_tp (bp_26 c i a1 k1 a3 k3 a5 k5 a6 k6 a13 x0 x1 x2 x3 x4 x5 x6 x7) (rows_unread a4 k4 x3 inb_S2048x128_S64x128_1664_0) (rows_unread a20 k20 xs8 inb_S2048x128_S64x128_1664_0) (inb := inb_S2048x128_S64x128_1664_0)
  have h27 := st_tp (bp_27 c i a1 k1 a3 k3 a5 k5 a6 k6 a13 x0 x1 x2 x3 x4 x5 x6 x7) (rows_unread a4 k4 x3 inb_S2048x128_S64x128_1728_0) (rows_unread a20 k20 xs8 inb_S2048x128_S64x128_1728_0) (inb := inb_S2048x128_S64x128_1728_0)
  have h28 := st_tp (bp_28 c i a1 k1 a3 k3 a5 k5 a6 k6 a13 x0 x1 x2 x3 x4 x5 x6 x7) (rows_unread a4 k4 x3 inb_S2048x128_S64x128_1792_0) (rows_unread a20 k20 xs8 inb_S2048x128_S64x128_1792_0) (inb := inb_S2048x128_S64x128_1792_0)
  have h29 := st_tp (bp_29 c i a1 k1 a3 k3 a5 k5 a6 k6 a13 x0 x1 x2 x3 x4 x5 x6 x7) (rows_unread a4 k4 x3 inb_S2048x128_S64x128_1856_0) (rows_unread a20 k20 xs8 inb_S2048x128_S64x128_1856_0) (inb := inb_S2048x128_S64x128_1856_0)
  have h30 := st_tp (bp_30 c i a1 k1 a3 k3 a5 k5 a6 k6 a13 x0 x1 x2 x3 x4 x5 x6 x7) (rows_unread a4 k4 x3 inb_S2048x128_S64x128_1920_0) (rows_unread a20 k20 xs8 inb_S2048x128_S64x128_1920_0) (inb := inb_S2048x128_S64x128_1920_0)
  have h31 := st_tp (bp_31 c i a1 k1 a3 k3 a5 k5 a6 k6 a13 x0 x1 x2 x3 x4 x5 x6 x7) (rows_unread a4 k4 x3 inb_S2048x128_S64x128_1984_0) (rows_unread a20 k20 xs8 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- What the point leaves in scratch `a21`. -/
theorem pieces_9 : View.PiecesOf ((mkD x0 x1 x2 x3 x4 x6 x7 (kernelRun0_C.sl.r_3 c a6 k6 x5) (kernelRun0_C.sl.r_4 i)).gTQ xs9) ((kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.2.2.1) := by
  have h0 := st_tq (bq_0 c i a2 k2 a6 k6 a7 k7 a8 k8 a12 a14 x0 x1 x2 x3 x4 x5 x6 x7) (rows_unread a4 k4 x3 inb_S2048x128_S64x128_0_0) (rows_unread a21 k21 xs9 inb_S2048x128_S64x128_0_0) (inb := inb_S2048x128_S64x128_0_0)
  have h1 := st_tq (bq_1 c i a2 k2 a6 k6 a7 k7 a8 k8 a12 a14 x0 x1 x2 x3 x4 x5 x6 x7) (rows_unread a4 k4 x3 inb_S2048x128_S64x128_64_0) (rows_unread a21 k21 xs9 inb_S2048x128_S64x128_64_0) (inb := inb_S2048x128_S64x128_64_0)
  have h2 := st_tq (bq_2 c i a2 k2 a6 k6 a7 k7 a8 k8 a12 a14 x0 x1 x2 x3 x4 x5 x6 x7) (rows_unread a4 k4 x3 inb_S2048x128_S64x128_128_0) (rows_unread a21 k21 xs9 inb_S2048x128_S64x128_128_0) (inb := inb_S2048x128_S64x128_128_0)
  have h3 := st_tq (bq_3 c i a2 k2 a6 k6 a7 k7 a8 k8 a12 a14 x0 x1 x2 x3 x4 x5 x6 x7) (rows_unread a4 k4 x3 inb_S2048x128_S64x128_192_0) (rows_unread a21 k21 xs9 inb_S2048x128_S64x128_192_0) (inb := inb_S2048x128_S64x128_192_0)
  have h4 := st_tq (bq_4 c i a2 k2 a6 k6 a7 k7 a8 k8 a12 a14 x0 x1 x2 x3 x4 x5 x6 x7) (rows_unread a4 k4 x3 inb_S2048x128_S64x128_256_0) (rows_unread a21 k21 xs9 inb_S2048x128_S64x128_256_0) (inb := inb_S2048x128_S64x128_256_0)
  have h5 := st_tq (bq_5 c i a2 k2 a6 k6 a7 k7 a8 k8 a12 a14 x0 x1 x2 x3 x4 x5 x6 x7) (rows_unread a4 k4 x3 inb_S2048x128_S64x128_320_0) (rows_unread a21 k21 xs9 inb_S2048x128_S64x128_320_0) (inb := inb_S2048x128_S64x128_320_0)
  have h6 := st_tq (bq_6 c i a2 k2 a6 k6 a7 k7 a8 k8 a12 a14 x0 x1 x2 x3 x4 x5 x6 x7) (rows_unread a4 k4 x3 inb_S2048x128_S64x128_384_0) (rows_unread a21 k21 xs9 inb_S2048x128_S64x128_384_0) (inb := inb_S2048x128_S64x128_384_0)
  have h7 := st_tq (bq_7 c i a2 k2 a6 k6 a7 k7 a8 k8 a12 a14 x0 x1 x2 x3 x4 x5 x6 x7) (rows_unread a4 k4 x3 inb_S2048x128_S64x128_448_0) (rows_unread a21 k21 xs9 inb_S2048x128_S64x128_448_0) (inb := inb_S2048x128_S64x128_448_0)
  have h8 := st_tq (bq_8 c i a2 k2 a6 k6 a7 k7 a8 k8 a12 a14 x0 x1 x2 x3 x4 x5 x6 x7) (rows_unread a4 k4 x3 inb_S2048x128_S64x128_512_0) (rows_unread a21 k21 xs9 inb_S2048x128_S64x128_512_0) (inb := inb_S2048x128_S64x128_512_0)
  have h9 := st_tq (bq_9 c i a2 k2 a6 k6 a7 k7 a8 k8 a12 a14 x0 x1 x2 x3 x4 x5 x6 x7) (rows_unread a4 k4 x3 inb_S2048x128_S64x128_576_0) (rows_unread a21 k21 xs9 inb_S2048x128_S64x128_576_0) (inb := inb_S2048x128_S64x128_576_0)
  have h10 := st_tq (bq_10 c i a2 k2 a6 k6 a7 k7 a8 k8 a12 a14 x0 x1 x2 x3 x4 x5 x6 x7) (rows_unread a4 k4 x3 inb_S2048x128_S64x128_640_0) (rows_unread a21 k21 xs9 inb_S2048x128_S64x128_640_0) (inb := inb_S2048x128_S64x128_640_0)
  have h11 := st_tq (bq_11 c i a2 k2 a6 k6 a7 k7 a8 k8 a12 a14 x0 x1 x2 x3 x4 x5 x6 x7) (rows_unread a4 k4 x3 inb_S2048x128_S64x128_704_0) (rows_unread a21 k21 xs9 inb_S2048x128_S64x128_704_0) (inb := inb_S2048x128_S64x128_704_0)
  have h12 := st_tq (bq_12 c i a2 k2 a6 k6 a7 k7 a8 k8 a12 a14 x0 x1 x2 x3 x4 x5 x6 x7) (rows_unread a4 k4 x3 inb_S2048x128_S64x128_768_0) (rows_unread a21 k21 xs9 inb_S2048x128_S64x128_768_0) (inb := inb_S2048x128_S64x128_768_0)
  have h13 := st_tq (bq_13 c i a2 k2 a6 k6 a7 k7 a8 k8 a12 a14 x0 x1 x2 x3 x4 x5 x6 x7) (rows_unread a4 k4 x3 inb_S2048x128_S64x128_832_0) (rows_unread a21 k21 xs9 inb_S2048x128_S64x128_832_0) (inb := inb_S2048x128_S64x128_832_0)
  have h14 := st_tq (bq_14 c i a2 k2 a6 k6 a7 k7 a8 k8 a12 a14 x0 x1 x2 x3 x4 x5 x6 x7) (rows_unread a4 k4 x3 inb_S2048x128_S64x128_896_0) (rows_unread a21 k21 xs9 inb_S2048x128_S64x128_896_0) (inb := inb_S2048x128_S64x128_896_0)
  have h15 := st_tq (bq_15 c i a2 k2 a6 k6 a7 k7 a8 k8 a12 a14 x0 x1 x2 x3 x4 x5 x6 x7) (rows_unread a4 k4 x3 inb_S2048x128_S64x128_960_0) (rows_unread a21 k21 xs9 inb_S2048x128_S64x128_960_0) (inb := inb_S2048x128_S64x128_960_0)
  have h16 := st_tq (bq_16 c i a2 k2 a6 k6 a7 k7 a8 k8 a12 a14 x0 x1 x2 x3 x4 x5 x6 x7) (rows_unread a4 k4 x3 inb_S2048x128_S64x128_1024_0) (rows_unread a21 k21 xs9 inb_S2048x128_S64x128_1024_0) (inb := inb_S2048x128_S64x128_1024_0)
  have h17 := st_tq (bq_17 c i a2 k2 a6 k6 a7 k7 a8 k8 a12 a14 x0 x1 x2 x3 x4 x5 x6 x7) (rows_unread a4 k4 x3 inb_S2048x128_S64x128_1088_0) (rows_unread a21 k21 xs9 inb_S2048x128_S64x128_1088_0) (inb := inb_S2048x128_S64x128_1088_0)
  have h18 := st_tq (bq_18 c i a2 k2 a6 k6 a7 k7 a8 k8 a12 a14 x0 x1 x2 x3 x4 x5 x6 x7) (rows_unread a4 k4 x3 inb_S2048x128_S64x128_1152_0) (rows_unread a21 k21 xs9 inb_S2048x128_S64x128_1152_0) (inb := inb_S2048x128_S64x128_1152_0)
  have h19 := st_tq (bq_19 c i a2 k2 a6 k6 a7 k7 a8 k8 a12 a14 x0 x1 x2 x3 x4 x5 x6 x7) (rows_unread a4 k4 x3 inb_S2048x128_S64x128_1216_0) (rows_unread a21 k21 xs9 inb_S2048x128_S64x128_1216_0) (inb := inb_S2048x128_S64x128_1216_0)
  have h20 := st_tq (bq_20 c i a2 k2 a6 k6 a7 k7 a8 k8 a12 a14 x0 x1 x2 x3 x4 x5 x6 x7) (rows_unread a4 k4 x3 inb_S2048x128_S64x128_1280_0) (rows_unread a21 k21 xs9 inb_S2048x128_S64x128_1280_0) (inb := inb_S2048x128_S64x128_1280_0)
  have h21 := st_tq (bq_21 c i a2 k2 a6 k6 a7 k7 a8 k8 a12 a14 x0 x1 x2 x3 x4 x5 x6 x7) (rows_unread a4 k4 x3 inb_S2048x128_S64x128_1344_0) (rows_unread a21 k21 xs9 inb_S2048x128_S64x128_1344_0) (inb := inb_S2048x128_S64x128_1344_0)
  have h22 := st_tq (bq_22 c i a2 k2 a6 k6 a7 k7 a8 k8 a12 a14 x0 x1 x2 x3 x4 x5 x6 x7) (rows_unread a4 k4 x3 inb_S2048x128_S64x128_1408_0) (rows_unread a21 k21 xs9 inb_S2048x128_S64x128_1408_0) (inb := inb_S2048x128_S64x128_1408_0)
  have h23 := st_tq (bq_23 c i a2 k2 a6 k6 a7 k7 a8 k8 a12 a14 x0 x1 x2 x3 x4 x5 x6 x7) (rows_unread a4 k4 x3 inb_S2048x128_S64x128_1472_0) (rows_unread a21 k21 xs9 inb_S2048x128_S64x128_1472_0) (inb := inb_S2048x128_S64x128_1472_0)
  have h24 := st_tq (bq_24 c i a2 k2 a6 k6 a7 k7 a8 k8 a12 a14 x0 x1 x2 x3 x4 x5 x6 x7) (rows_unread a4 k4 x3 inb_S2048x128_S64x128_1536_0) (rows_unread a21 k21 xs9 inb_S2048x128_S64x128_1536_0) (inb := inb_S2048x128_S64x128_1536_0)
  have h25 := st_tq (bq_25 c i a2 k2 a6 k6 a7 k7 a8 k8 a12 a14 x0 x1 x2 x3 x4 x5 x6 x7) (rows_unread a4 k4 x3 inb_S2048x128_S64x128_1600_0) (rows_unread a21 k21 xs9 inb_S2048x128_S64x128_1600_0) (inb := inb_S2048x128_S64x128_1600_0)
  have h26 := st_tq (bq_26 c i a2 k2 a6 k6 a7 k7 a8 k8 a12 a14 x0 x1 x2 x3 x4 x5 x6 x7) (rows_unread a4 k4 x3 inb_S2048x128_S64x128_1664_0) (rows_unread a21 k21 xs9 inb_S2048x128_S64x128_1664_0) (inb := inb_S2048x128_S64x128_1664_0)
  have h27 := st_tq (bq_27 c i a2 k2 a6 k6 a7 k7 a8 k8 a12 a14 x0 x1 x2 x3 x4 x5 x6 x7) (rows_unread a4 k4 x3 inb_S2048x128_S64x128_1728_0) (rows_unread a21 k21 xs9 inb_S2048x128_S64x128_1728_0) (inb := inb_S2048x128_S64x128_1728_0)
  have h28 := st_tq (bq_28 c i a2 k2 a6 k6 a7 k7 a8 k8 a12 a14 x0 x1 x2 x3 x4 x5 x6 x7) (rows_unread a4 k4 x3 inb_S2048x128_S64x128_1792_0) (rows_unread a21 k21 xs9 inb_S2048x128_S64x128_1792_0) (inb := inb_S2048x128_S64x128_1792_0)
  have h29 := st_tq (bq_29 c i a2 k2 a6 k6 a7 k7 a8 k8 a12 a14 x0 x1 x2 x3 x4 x5 x6 x7) (rows_unread a4 k4 x3 inb_S2048x128_S64x128_1856_0) (rows_unread a21 k21 xs9 inb_S2048x128_S64x128_1856_0) (inb := inb_S2048x128_S64x128_1856_0)
  have h30 := st_tq (bq_30 c i a2 k2 a6 k6 a7 k7 a8 k8 a12 a14 x0 x1 x2 x3 x4 x5 x6 x7) (rows_unread a4 k4 x3 inb_S2048x128_S64x128_1920_0) (rows_unread a21 k21 xs9 inb_S2048x128_S64x128_1920_0) (inb := inb_S2048x128_S64x128_1920_0)
  have h31 := st_tq (bq_31 c i a2 k2 a6 k6 a7 k7 a8 k8 a12 a14 x0 x1 x2 x3 x4 x5 x6 x7) (rows_unread a4 k4 x3 inb_S2048x128_S64x128_1984_0) (rows_unread a21 k21 xs9 inb_S2048x128_S64x128_1984_0) (inb := inb_S2048x128_S64x128_1984_0)
  refine pieces_to h31 (by congr 1) ?_
  refine pieces_to h30 (by congr 1) ?_
  refine pieces_to h29 (by congr 1) ?_
  refine pieces_to h28 (by congr 1) ?_
  refine pieces_to h27 (by congr 1) ?_
  refine pieces_to h26 (by congr 1) ?_
  refine pieces_to h25 (by congr 1) ?_
  refine pieces_to h24 (by congr 1) ?_
  refine pieces_to h23 (by congr 1) ?_
  refine pieces_to h22 (by congr 1) ?_
  refine pieces_to h21 (by congr 1) ?_
  refine pieces_to h20 (by congr 1) ?_
  refine pieces_to h19 (by congr 1) ?_
  refine pieces_to h18 (by congr 1) ?_
  refine pieces_to h17 (by congr 1) ?_
  refine pieces_to h16 (by congr 1) ?_
  refine pieces_to h15 (by congr 1) ?_
  refine pieces_to h14 (by congr 1) ?_
  refine pieces_to h13 (by congr 1) ?_
  refine pieces_to h12 (by congr 1) ?_
  refine pieces_to h11 (by congr 1) ?_
  refine pieces_to h10 (by congr 1) ?_
  refine pieces_to h9 (by congr 1) ?_
  refine pieces_to h8 (by congr 1) ?_
  refine pieces_to h7 (by congr 1) ?_
  refine pieces_to h6 (by congr 1) ?_
  refine pieces_to h5 (by congr 1) ?_
  refine pieces_to h4 (by congr 1) ?_
  refine pieces_to h3 (by congr 1) ?_
  refine pieces_to h2 (by congr 1) ?_
  refine pieces_to h1 (by congr 1) ?_
  refine pieces_to h0 (by congr 1) ?_
  exact trivial

/-- Scratch `a15` after the point. -/
theorem out_3 : sout0_C_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_C.sl.r_3 c a6 k6 x5) (kernelRun0_C.sl.r_4 i)).gMP xs3 := by
  funext y
  unfold sout0_C_3
  rw [View.read_writes_junk_eq_canon]
  exact View.canon_apply_of_pieces _ _ (pieces_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_C_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a16` after the point. -/
theorem out_4 : sout0_C_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_C.sl.r_3 c a6 k6 x5) (kernelRun0_C.sl.r_4 i)).gSP xs3 xs4 := by
  funext y
  unfold sout0_C_4
  rw [View.read_writes_junk_eq_canon]
  exact View.canon_apply_of_pieces _ _ (pieces_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_C_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a17` after the point. -/
theorem out_5 : sout0_C_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_C.sl.r_3 c a6 k6 x5) (kernelRun0_C.sl.r_4 i)).gTT xs3 xs5 := by
  funext y
  unfold sout0_C_5
  rw [View.read_writes_junk_eq_canon]
  exact View.canon_apply_of_pieces _ _ (pieces_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_C_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a18` after the point. -/
theorem out_6 : sout0_C_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_C.sl.r_3 c a6 k6 x5) (kernelRun0_C.sl.r_4 i)).gMQ xs6 := by
  funext y
  unfold sout0_C_6
  rw [View.read_writes_junk_eq_canon]
  exact View.canon_apply_of_pieces _ _ (pieces_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_C_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a19` after the point. -/
theorem out_7 : sout0_C_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_C.sl.r_3 c a6 k6 x5) (kernelRun0_C.sl.r_4 i)).gSQ xs6 xs7 := by
  funext y
  unfold sout0_C_7
  rw [View.read_writes_junk_eq_canon]
  exact View.canon_apply_of_pieces _ _ (pieces_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_C_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a20` after the point. -/
theorem out_8 : sout0_C_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_C.sl.r_3 c a6 k6 x5) (kernelRun0_C.sl.r_4 i)).gTP xs8 := by
  funext y
  unfold sout0_C_8
  rw [View.read_writes_junk_eq_canon]
  exact View.canon_apply_of_pieces _ _ (pieces_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_C_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

/-- Scratch `a21` after the point. -/
theorem out_9 : sout0_C_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = (mkD x0 x1 x2 x3 x4 x6 x7 (kernelRun0_C.sl.r_3 c a6 k6 x5) (kernelRun0_C.sl.r_4 i)).gTQ xs9 := by
  funext y
  unfold sout0_C_9
  rw [View.read_writes_junk_eq_canon]
  exact View.canon_apply_of_pieces _ _ (pieces_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).mem y (scover0_C_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 y)

end Cert.Blk.CaseC

end
-- ==== Proof.CaseCOut.lean ====
/- The three results that the last case of the main call stores, from the running values it leaves. -/
module

public import proofs.«01_k».proof.Proof.CaseC

@[expose] public section

set_option maxRecDepth 16384
set_option maxHeartbeats 4000000

noncomputable section

namespace Cert.Blk

open Idealize.ShloMosaic Idealize.ShloMosaic.TcCoe Idealize.SL.Sem
open Cert.KernelIdeal Cert.KernelIdeal.Gen

/-- A carried scratch read back whole, from stores that are its blocks and tile it. -/
theorem whole_read {sig : RefSig} {κ : Kind} {sp : Space} (v : View sig κ sp S2048x128 .f32) (L : List (View.Piece (Elt Ideal) S2048x128 .f32)) (W : Vec Ideal S2048x128 .f32)
    (h : View.PiecesOf W L) (hc : ∀ y, ∃ p ∈ L, y ∈ p.1.set) (inb : ∀ k, (![0, 0] : Fin 2 → ℕ) k + S2048x128.size k ≤ S2048x128.size k) :
    v.readCov L (Rect.unit (s := S2048x128) ![0, 0] S2048x128.size inb).toLoadRect = W := by
  rw [View.readCov_eq_canon']
  funext x
  rw [View.canon_apply_of_pieces W L h.mem _ (hc _)]
  congr 1
  funext a; apply Fin.ext
  refine Fin.cases ?_ (fun a => ?_) a
  · simp [LoadRect.idx, Rect.toLoadRect, Rect.unit]
  · obtain rfl : a = 0 := Subsingleton.elim _ _
    simp [LoadRect.idx, Rect.toLoadRect, Rect.unit]

theorem congr4 {α β : Type} (f : α → α → α → α → β) {a a' b b' c c' d d' : α} (ha : a = a') (hb : b = b') (hc : c = c') (hd : d = d') : f a b c d = f a' b' c' d' := by
  subst ha hb hc hd; rfl

end Cert.Blk

namespace Cert.Blk.CaseC

open Idealize.ShloMosaic Idealize.ShloMosaic.TcCoe Idealize.SL.Sem
open Cert.KernelIdeal Cert.KernelIdeal.Gen

variable (c : Dev nD) (i : grid0.Coords) (a1 : Memref sig .tc .vmem S2048x2560 .fp8e4m3) (k1 : a1.IsWhole) (a2 : Memref sig .tc .vmem S2048x2560 .bf16) (k2 : a2.IsWhole) (a3 : Memref sig .tc .vmem S2048x128 .f32) (k3 : a3.IsWhole) (a4 : Memref sig .tc .vmem S2048x128 .i32) (k4 : a4.IsWhole) (a5 : Memref sig .tc .vmem S512x2560 .fp8e4m3) (k5 : a5.IsWhole) (a6 : Memref sig .tc .vmem S1x512 .f32) (k6 : a6.IsWhole) (a7 : Memref sig .tc .vmem S256x2560 .i8) (k7 : a7.IsWhole) (a8 : Memref sig .tc .vmem S512x20 .f32) (k8 : a8.IsWhole) (a9 : Memref sig .tc .vmem S2048x1 .f32) (k9 : a9.IsWhole) (a10 : Memref sig .tc .vmem S2048x1 .f32) (k10 : a10.IsWhole) (a11 : Memref sig .tc .vmem S2048x1 .f32) (k11 : a11.IsWhole) (a12 : Memref sig .tc .vmem S512x2560 .bf16) (k12 : a12.IsWhole) (a13 : Memref sig .tc .vmem S512x512 .f32) (k13 : a13.IsWhole) (a14 : Memref sig .tc .vmem S512x512 .f32) (k14 : a14.IsWhole) (a15 : Memref sig .tc .vmem S2048x128 .f32) (k15 : a15.IsWhole) (a16 : Memref sig .tc .vmem S2048x128 .f32) (k16 : a16.IsWhole) (a17 : Memref sig .tc .vmem S2048x128 .f32) (k17 : a17.IsWhole) (a18 : Memref sig .tc .vmem S2048x128 .f32) (k18 : a18.IsWhole) (a19 : Memref sig .tc .vmem S2048x128 .f32) (k19 : a19.IsWhole) (a20 : Memref sig .tc .vmem S2048x128 .f32) (k20 : a20.IsWhole) (a21 : Memref sig .tc .vmem S2048x128 .f32) (k21 : a21.IsWhole) (hc0 : ¬cond0_0 i) (hc1 : cond0_1 i) (x0 : Vec Ideal S2048x2560 .fp8e4m3) (x1 : Vec Ideal S2048x2560 .bf16) (x2 : Vec Ideal S2048x128 .f32) (x3 : Vec Ideal S2048x128 .i32) (x4 : Vec Ideal S512x2560 .fp8e4m3) (x5 : Vec Ideal S1x512 .f32) (x6 : Vec Ideal S256x2560 .i8) (x7 : Vec Ideal S512x20 .f32) (xs3 : Vec Ideal S2048x128 .f32) (xs4 : Vec Ideal S2048x128 .f32) (xs5 : Vec Ideal S2048x128 .f32) (xs6 : Vec Ideal S2048x128 .f32) (xs7 : Vec Ideal S2048x128 .f32) (xs8 : Vec Ideal S2048x128 .f32) (xs9 : Vec Ideal S2048x128 .f32)

theorem rd_3 : a15.view.readCov (kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.1 (Rect.unit (s := S2048x128) ![0, 0] S2048x128.size inb_S2048x128_S2048x128_0_0).toLoadRect = ((mkD x0 x1 x2 x3 x4 x6 x7 (kernelRun0_C.sl.r_3 c a6 k6 x5) (kernelRun0_C.sl.r_4 i)).gMP xs3) :=
  whole_read _ _ _ (pieces_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (scover0_C_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) _

theorem rd_4 : a16.view.readCov (kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.1 (Rect.unit (s := S2048x128) ![0, 0] S2048x128.size inb_S2048x128_S2048x128_0_0).toLoadRect = ((mkD x0 x1 x2 x3 x4 x6 x7 (kernelRun0_C.sl.r_3 c a6 k6 x5) (kernelRun0_C.sl.r_4 i)).gSP xs3 xs4) :=
  whole_read _ _ _ (pieces_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (scover0_C_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) _

theorem rd_5 : a17.view.readCov (kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.1 (Rect.unit (s := S2048x128) ![0, 0] S2048x128.size inb_S2048x128_S2048x128_0_0).toLoadRect = ((mkD x0 x1 x2 x3 x4 x6 x7 (kernelRun0_C.sl.r_3 c a6 k6 x5) (kernelRun0_C.sl.r_4 i)).gTT xs3 xs5) :=
  whole_read _ _ _ (pieces_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (scover0_C_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) _

theorem rd_6 : a18.view.readCov (kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.1 (Rect.unit (s := S2048x128) ![0, 0] S2048x128.size inb_S2048x128_S2048x128_0_0).toLoadRect = ((mkD x0 x1 x2 x3 x4 x6 x7 (kernelRun0_C.sl.r_3 c a6 k6 x5) (kernelRun0_C.sl.r_4 i)).gMQ xs6) :=
  whole_read _ _ _ (pieces_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (scover0_C_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) _

theorem rd_7 : a19.view.readCov (kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.1 (Rect.unit (s := S2048x128) ![0, 0] S2048x128.size inb_S2048x128_S2048x128_0_0).toLoadRect = ((mkD x0 x1 x2 x3 x4 x6 x7 (kernelRun0_C.sl.r_3 c a6 k6 x5) (kernelRun0_C.sl.r_4 i)).gSQ xs6 xs7) :=
  whole_read _ _ _ (pieces_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (scover0_C_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) _

theorem rd_8 : a20.view.readCov (kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.2.1 (Rect.unit (s := S2048x128) ![0, 0] S2048x128.size inb_S2048x128_S2048x128_0_0).toLoadRect = ((mkD x0 x1 x2 x3 x4 x6 x7 (kernelRun0_C.sl.r_3 c a6 k6 x5) (kernelRun0_C.sl.r_4 i)).gTP xs8) :=
  whole_read _ _ _ (pieces_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (scover0_C_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) _

theorem rd_9 : a21.view.readCov (kernelRun0_C c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9).2.2.2.2.2.2.2.2.2.1 (Rect.unit (s := S2048x128) ![0, 0] S2048x128.size inb_S2048x128_S2048x128_0_0).toLoadRect = ((mkD x0 x1 x2 x3 x4 x6 x7 (kernelRun0_C.sl.r_3 c a6 k6 x5) (kernelRun0_C.sl.r_4 i)).gTQ xs9) :=
  whole_read _ _ _ (pieces_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (scover0_C_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) _

/-- The first result. -/
theorem res_8 : out0_C_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = k0_pay5 (k0_pay11 ((mkD x0 x1 x2 x3 x4 x6 x7 (kernelRun0_C.sl.r_3 c a6 k6 x5) (kernelRun0_C.sl.r_4 i)).gMP xs3) ((mkD x0 x1 x2 x3 x4 x6 x7 (kernelRun0_C.sl.r_3 c a6 k6 x5) (kernelRun0_C.sl.r_4 i)).gSP xs3 xs4)) (k0_pay14 ((mkD x0 x1 x2 x3 x4 x6 x7 (kernelRun0_C.sl.r_3 c a6 k6 x5) (kernelRun0_C.sl.r_4 i)).gTP xs8)) k0_pay15 := by
  unfold out0_C_8
  rw [View.read_writes_junk_eq_canon]
  refine (View.canon_cons_unit_lit inb_S2048x1_S2048x1_0_0 _ [] (by decide)).trans ?_
  exact congrArg₂ (fun a b => k0_pay5 a b k0_pay15) (congrArg₂ k0_pay11 (rd_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (rd_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9)) (congrArg k0_pay14 (rd_8 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9))

/-- The second result. -/
theorem res_9 : out0_C_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = k0_pay6 (k0_pay12 ((mkD x0 x1 x2 x3 x4 x6 x7 (kernelRun0_C.sl.r_3 c a6 k6 x5) (kernelRun0_C.sl.r_4 i)).gMQ xs6) ((mkD x0 x1 x2 x3 x4 x6 x7 (kernelRun0_C.sl.r_3 c a6 k6 x5) (kernelRun0_C.sl.r_4 i)).gSQ xs6 xs7)) ((mkD x0 x1 x2 x3 x4 x6 x7 (kernelRun0_C.sl.r_3 c a6 k6 x5) (kernelRun0_C.sl.r_4 i)).gTQ xs9) := by
  unfold out0_C_9
  rw [View.read_writes_junk_eq_canon]
  refine (View.canon_cons_unit_lit inb_S2048x1_S2048x1_0_0 _ [] (by decide)).trans ?_
  exact congrArg₂ k0_pay6 (congrArg₂ k0_pay12 (rd_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (rd_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9)) (rd_9 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9)

/-- The third result. -/
theorem res_10 : out0_C_10 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9 = k0_pay7 (k0_pay10 ((mkD x0 x1 x2 x3 x4 x6 x7 (kernelRun0_C.sl.r_3 c a6 k6 x5) (kernelRun0_C.sl.r_4 i)).gMP xs3) ((mkD x0 x1 x2 x3 x4 x6 x7 (kernelRun0_C.sl.r_3 c a6 k6 x5) (kernelRun0_C.sl.r_4 i)).gSP xs3 xs4)) (k0_pay11 ((mkD x0 x1 x2 x3 x4 x6 x7 (kernelRun0_C.sl.r_3 c a6 k6 x5) (kernelRun0_C.sl.r_4 i)).gMP xs3) ((mkD x0 x1 x2 x3 x4 x6 x7 (kernelRun0_C.sl.r_3 c a6 k6 x5) (kernelRun0_C.sl.r_4 i)).gSP xs3 xs4)) (k0_pay12 ((mkD x0 x1 x2 x3 x4 x6 x7 (kernelRun0_C.sl.r_3 c a6 k6 x5) (kernelRun0_C.sl.r_4 i)).gMQ xs6) ((mkD x0 x1 x2 x3 x4 x6 x7 (kernelRun0_C.sl.r_3 c a6 k6 x5) (kernelRun0_C.sl.r_4 i)).gSQ xs6 xs7)) (k0_pay13 ((mkD x0 x1 x2 x3 x4 x6 x7 (kernelRun0_C.sl.r_3 c a6 k6 x5) (kernelRun0_C.sl.r_4 i)).gMP xs3) ((mkD x0 x1 x2 x3 x4 x6 x7 (kernelRun0_C.sl.r_3 c a6 k6 x5) (kernelRun0_C.sl.r_4 i)).gTT xs3 xs5)) := by
  unfold out0_C_10
  rw [View.read_writes_junk_eq_canon]
  refine (View.canon_cons_unit_lit inb_S2048x1_S2048x1_0_0 _ [] (by decide)).trans ?_
  exact congr4 k0_pay7 (congrArg₂ k0_pay10 (rd_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (rd_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9)) (congrArg₂ k0_pay11 (rd_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (rd_4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9)) (congrArg₂ k0_pay12 (rd_6 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (rd_7 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9)) (congrArg₂ k0_pay13 (rd_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9) (rd_5 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 hc0 hc1 x0 x1 x2 x3 x4 x5 x6 x7 xs3 xs4 xs5 xs6 xs7 xs8 xs9))

end Cert.Blk.CaseC

end
-- ==== Proof.Inputs.lean ====
/- What the windows of the main call hold at a grid point, in terms of the program's arguments. -/
module

public import proofs.«01_k».proof.Proof.Tile

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The eight arguments of the program. -/
abbrev A0 (c : Dev nD) : FVec Ideal S2048x2560 .fp8e4m3 := m ((c : Thread nD τ).loc main_arg0)
abbrev A1 (c : Dev nD) : FVec Ideal S2x1024 .f32 := m ((c : Thread nD τ).loc main_arg1)
abbrev A2 (c : Dev nD) : FVec Ideal S2x1024x2560 .bf16 := m ((c : Thread nD τ).loc main_arg2)
abbrev A3 (c : Dev nD) : FVec Ideal S51200x2560 .fp8e4m3 := m ((c : Thread nD τ).loc main_arg3)
abbrev A4 (c : Dev nD) : FVec Ideal S51200 .f32 := m ((c : Thread nD τ).loc main_arg4)
abbrev A5 (c : Dev nD) : IVec S25600x2560 8 := m ((c : Thread nD τ).loc main_arg5)
abbrev A6 (c : Dev nD) : FVec Ideal S51200x20 .f32 := m ((c : Thread nD τ).loc main_arg6)
abbrev A7 (c : Dev nD) : IVec S2x1024 32 := m ((c : Thread nD τ).loc main_arg7)

theorem idxR : ∀ t : Fin cfg0.N, win0_0.index t = ![0, 0] ∧ win0_1.index t = ![0, 0] ∧ win0_2.index t = ![0, 0] ∧ win0_3.index t = ![0, 0] :=
  (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem coords_val : ∀ t : Fin cfg0.N, (grid0.coords t 0).val = t.val := (by decide +kernel : ∀ t : Fin grid0.N, _)
theorem lt_N (t : Fin cfg0.N) : t.val < 100 := lt_of_lt_of_eq t.isLt N_0

theorem iblk0 (c : Dev nD) (t : Fin cfg0.N) : iblk m c 0 t = A0 m c := by blk_ext! [iblk, V, idxR t]
theorem iblk1 (c : Dev nD) (t : Fin cfg0.N) : iblk m c 1 t = V m c main_v4 := by blk_ext! [iblk, idxR t]
theorem iblk2 (c : Dev nD) (t : Fin cfg0.N) : iblk m c 2 t = V m c main_v1 := by blk_ext! [iblk, idxR t]
theorem iblk3 (c : Dev nD) (t : Fin cfg0.N) : iblk m c 3 t = V m c main_v3 := by blk_ext! [iblk, idxR t]
theorem iblk4 (c : Dev nD) (t : Fin cfg0.N) (j : Fin 512) (k : Fin 2560) (h : 512 * t.val + j.val < 51200) :
    iblk m c 4 t (ix2 j k) = A3 m c (ix2 ⟨512 * t.val + j.val, h⟩ k) := by blk_ext [iblk, V, idx4 t]
theorem iblk5 (c : Dev nD) (t : Fin cfg0.N) (j : Fin 512) (h : 512 * t.val + j.val < 51200) :
    iblk m c 5 t (ix2 0 j) = V m c main_v5 (ix2 0 ⟨512 * t.val + j.val, h⟩) := by blk_ext [iblk, idx5 t]
theorem iblk6 (c : Dev nD) (t : Fin cfg0.N) (j : Fin 256) (k : Fin 2560) (h : 256 * t.val + j.val < 25600) :
    iblk m c 6 t (ix2 j k) = A5 m c (ix2 ⟨256 * t.val + j.val, h⟩ k) := by blk_ext [iblk, V, idx6 t]
theorem iblk7 (c : Dev nD) (t : Fin cfg0.N) (j : Fin 512) (g : Fin 20) (h : 512 * t.val + j.val < 51200) :
    iblk m c 7 t (ix2 j g) = A6 m c (ix2 ⟨512 * t.val + j.val, h⟩ g) := by blk_ext [iblk, V, idx7 t]

theorem entry1 (c : Dev nD) (r : Fin 2048) (k : Fin 2560) : V m c main_v4 (ix2 r k) = A2 m c (ix3 (⟨r.val / 1024, by omega⟩ : Fin 2) (⟨r.val % 1024, by omega⟩ : Fin 1024) k) := by
  entry_read
  pointwise
theorem entry2 (c : Dev nD) (r : Fin 2048) (l : Fin 128) : V m c main_v1 (ix2 r l) = A1 m c (ix2 (⟨r.val / 1024, by omega⟩ : Fin 2) (⟨r.val % 1024, by omega⟩ : Fin 1024)) := by
  entry_read
  pointwise
theorem entry3 (c : Dev nD) (r : Fin 2048) (l : Fin 128) : V m c main_v3 (ix2 r l) = A7 m c (ix2 (⟨r.val / 1024, by omega⟩ : Fin 2) (⟨r.val % 1024, by omega⟩ : Fin 1024)) := by
  entry_read
  pointwise
theorem entry5 (c : Dev nD) (v : Fin 51200) : V m c main_v5 (ix2 0 v) = A4 m c (ix1 v) := by
  entry_read
  pointwise

/-- The scaled column scales at an index. -/
theorem pay63_at (x : Vec Ideal S1x512 .f32) (j : Fin 512) : (k0_pay63 x (ix2 0 j) : EReal) = x (ix2 0 j) * (((Real.log 2)⁻¹ : ℝ) : EReal) := by
  pointwise [k0_pay63]
  rw [IdealRules.named_const.ideal_named_scalar _ _ _ _ rfl]

/-- The column numbers at an index. -/
theorem pay64_at (n : ℕ) (l : Fin 128) : k0_pay64 (BitVec.ofNat 32 n) (ix2 0 l) = BitVec.ofNat 32 (512 * n + l.val) := by
  pointwise [k0_pay64]
  show BitVec.ofNat 32 l.val + BitVec.ofNat 32 n * 512#32 = _
  rw [show (512#32 : BitVec 32) = BitVec.ofNat 32 512 from rfl, ← BitVec.ofNat_mul, ← BitVec.ofNat_add]
  congr 1; omega

end Cert.KernelIdeal.Value

end
-- ==== Proof.Online.lean ====
/- The mathematics of a softmax normaliser taken in one sweep, on the extended reals: a running maximum, a sum of
   exponentials that is rescaled whenever the maximum grows, and the same with a weight per column.  No program occurs here.
   Every statement holds for all extended reals, the infinite ones included: `exp2 (x - ⊤) = exp2 (⊥ - m) = 0`. -/
module

public import Idealize.ShloMosaic.PureOps.Ideal

@[expose] public section

noncomputable section

namespace Cert.Online

open Idealize.ShloMosaic

/-- The factor that turns natural units into base-2 units: `1 / ln 2`. -/
abbrev log2e : EReal := (((Real.log 2)⁻¹ : ℝ) : EReal)
/-- The factor back: `ln 2`. -/
abbrev ln2 : EReal := ((Real.log 2 : ℝ) : EReal)

theorem log_two_pos : 0 < Real.log 2 := Real.log_pos (by norm_num)

/-- `exp2` of a difference that is not positive is a real in `[0, 1]`: nonnegative. -/
theorem exp2_nonneg (x : EReal) : 0 ≤ Ideal.exp2 x := by
  induction x using EReal.rec with
  | bot => simp
  | top => simp
  | coe r => rw [Ideal.exp2_coe]; exact_mod_cast (Real.rpow_pos_of_pos (by norm_num) r).le

/-- … and it is `⊤` only at `⊤`. -/
theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

theorem sub_ne_top_of_le {m m' : EReal} (h : m ≤ m') : m - m' ≠ ⊤ := by
  induction m using EReal.rec with
  | bot => simp [sub_eq_add_neg]
  | top => obtain rfl : m' = ⊤ := top_le_iff.mp h; simp [sub_eq_add_neg]
  | coe r =>
    induction m' using EReal.rec with
    | bot => exact absurd h (by simp)
    | top => simp [sub_eq_add_neg]
    | coe r' => rw [← EReal.coe_sub]; exact EReal.coe_ne_top _

/-- Rescaling one exponential from the maximum `m` to the larger maximum `m'`. -/
theorem exp2_rescale {x m m' : EReal} (hx : x ≤ m) (hm : m ≤ m') :
    Ideal.exp2 (x - m) * Ideal.exp2 (m - m') = Ideal.exp2 (x - m') := by
  induction m' using EReal.rec with
  | bot =>
    obtain rfl : m = ⊥ := le_bot_iff.mp hm
    obtain rfl : x = ⊥ := le_bot_iff.mp hx
    simp [sub_eq_add_neg]
  | top => simp [sub_eq_add_neg]
  | coe r' =>
    induction m using EReal.rec with
    | bot => obtain rfl : x = ⊥ := le_bot_iff.mp hx; simp [sub_eq_add_neg]
    | top => exact absurd hm (by simp)
    | coe r =>
      induction x using EReal.rec with
      | bot => simp [sub_eq_add_neg]
      | top => exact absurd hx (by simp)
      | coe y =>
        rw [← EReal.coe_sub, ← EReal.coe_sub, ← EReal.coe_sub, Ideal.exp2_coe, Ideal.exp2_coe, Ideal.exp2_coe, ← EReal.coe_mul]
        congr 1
        show (2 : ℝ) ^ (y - r) * (2 : ℝ) ^ (r - r') = (2 : ℝ) ^ (y - r')
        rw [← Real.rpow_add (by norm_num)]
        congr 1; ring

/-- A nonnegative finite factor goes into a sum. -/
theorem sum_mul {ι : Type} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih =>
    rw [Finset.sum_insert hi, Finset.sum_insert hi, ← ih, mul_comm, EReal.left_distrib_of_nonneg_of_ne_top h0 ht,
      mul_comm a, mul_comm a]

/-- … and into a difference. -/
theorem sub_mul {a : EReal} (h0 : 0 ≤ a) (ht : a ≠ ⊤) (x y : EReal) : (x - y) * a = x * a - y * a := by
  rw [sub_eq_add_neg, sub_eq_add_neg, mul_comm, EReal.left_distrib_of_nonneg_of_ne_top h0 ht, mul_comm a, mul_comm a,
    EReal.neg_mul]

theorem log2e_nonneg : 0 ≤ log2e := EReal.coe_nonneg.mpr (inv_pos.mpr log_two_pos).le
theorem log2e_ne_top : log2e ≠ ⊤ := EReal.coe_ne_top _
theorem ln2_nonneg : 0 ≤ ln2 := EReal.coe_nonneg.mpr log_two_pos.le
theorem ln2_ne_top : ln2 ≠ ⊤ := EReal.coe_ne_top _

theorem log2e_mul_ln2 : log2e * ln2 = 1 := by
  rw [← EReal.coe_mul, inv_mul_cancel₀ log_two_pos.ne']; rfl

/-- The two factors undo each other. -/
theorem scaled_back (x : EReal) : x * log2e * ln2 = x := by rw [mul_assoc, log2e_mul_ln2, mul_one]

/-- A power of two of a number in base-2 units is the exponential of the number in natural units. -/
theorem exp2_scaled (x : EReal) : Ideal.exp2 (x * log2e) = Ideal.exp x := by
  induction x using EReal.rec with
  | bot => rw [EReal.bot_mul_coe_of_pos (inv_pos.mpr log_two_pos)]; rfl
  | top => rw [EReal.top_mul_coe_of_pos (inv_pos.mpr log_two_pos)]; rfl
  | coe r =>
    rw [← EReal.coe_mul, Ideal.exp2_coe, Ideal.exp_coe]
    congr 1
    show (2 : ℝ) ^ (r * (Real.log 2)⁻¹) = Real.exp r
    rw [Real.rpow_def_of_pos (by norm_num)]
    congr 1
    field_simp

/-- The difference of two scaled numbers. -/
theorem exp2_sub_scaled (x m : EReal) : Ideal.exp2 (x * log2e - m * log2e) = Ideal.exp (x - m) := by
  rw [← sub_mul log2e_nonneg log2e_ne_top, exp2_scaled]

/-! ## The sweep: columns `0 … k - 1` of one lane, values `f`, subtracted values `g`, `hit` the target column -/

variable (f g : ℕ → EReal) (hit : ℕ → Prop) [DecidablePred hit]

/-- The maximum of the first `k` columns (`⊥` of none). -/
def mx (k : ℕ) : EReal := (Finset.range k).sup f
/-- The sum of exponentials relative to that maximum. -/
def sm (k : ℕ) : EReal := ∑ j ∈ Finset.range k, Ideal.exp2 (f j - mx f k)
/-- The sum of exponentials, each with the weight `f j - g j`. -/
def wt (k : ℕ) : EReal := ∑ j ∈ Finset.range k, Ideal.exp2 (f j - mx f k) * (f j - g j)
/-- The value at the column that is hit, zero when none is. -/
def at' (k : ℕ) : EReal := ∑ j ∈ Finset.range k, if hit j then f j else 0

@[simp] theorem mx_zero : mx f 0 = ⊥ := rfl
@[simp] theorem sm_zero : sm f 0 = 0 := rfl
@[simp] theorem wt_zero : wt f g 0 = 0 := rfl
@[simp] theorem at'_zero : at' f hit 0 = 0 := rfl

theorem mx_succ (k : ℕ) : mx f (k + 1) = max (mx f k) (f k) := by
  rw [mx, Finset.range_add_one, Finset.sup_insert, sup_comm]; rfl

theorem le_mx {k j : ℕ} (h : j < k) : f j ≤ mx f k := Finset.le_sup (f := f) (Finset.mem_range.mpr h)

theorem mx_mono {k k' : ℕ} (h : k ≤ k') : mx f k ≤ mx f k' :=
  Finset.sup_mono (Finset.range_mono h)

/-- Four columns at once: the maximum. -/
theorem mx_four (k : ℕ) : mx f (k + 4) = max (max (max (max (mx f k) (f k)) (f (k + 1))) (f (k + 2))) (f (k + 3)) := by
  rw [mx_succ, mx_succ, mx_succ, mx_succ]

theorem scale_nonneg (k k' : ℕ) : 0 ≤ Ideal.exp2 (mx f k - mx f k') := exp2_nonneg _
theorem scale_ne_top {k k' : ℕ} (h : k ≤ k') : Ideal.exp2 (mx f k - mx f k') ≠ ⊤ :=
  exp2_ne_top (sub_ne_top_of_le (mx_mono f h))

/-- The sum of the first `k` columns, rescaled to a later maximum. -/
theorem sm_rescale {k : ℕ} {M : EReal} (h : mx f k ≤ M) :
    sm f k * Ideal.exp2 (mx f k - M) = ∑ j ∈ Finset.range k, Ideal.exp2 (f j - M) := by
  rw [sm, sum_mul _ _ (exp2_nonneg _) (exp2_ne_top (sub_ne_top_of_le h))]
  exact Finset.sum_congr rfl fun j hj => exp2_rescale (le_mx f (Finset.mem_range.mp hj)) h

/-- The weighted sum of the first `k` columns, rescaled to a later maximum. -/
theorem wt_rescale {k : ℕ} {M : EReal} (h : mx f k ≤ M) :
    wt f g k * Ideal.exp2 (mx f k - M) = ∑ j ∈ Finset.range k, Ideal.exp2 (f j - M) * (f j - g j) := by
  rw [wt, sum_mul _ _ (exp2_nonneg _) (exp2_ne_top (sub_ne_top_of_le h))]
  refine Finset.sum_congr rfl fun j hj => ?_
  rw [mul_right_comm, exp2_rescale (le_mx f (Finset.mem_range.mp hj)) h]

/-- Four columns at once: the sum of exponentials. -/
theorem sm_four (k : ℕ) : sm f (k + 4) = sm f k * Ideal.exp2 (mx f k - mx f (k + 4)) + Ideal.exp2 (f k - mx f (k + 4))
    + Ideal.exp2 (f (k + 1) - mx f (k + 4)) + Ideal.exp2 (f (k + 2) - mx f (k + 4)) + Ideal.exp2 (f (k + 3) - mx f (k + 4)) := by
  rw [sm_rescale f (mx_mono f (Nat.le_add_right k 4)), sm, Finset.sum_range_succ, Finset.sum_range_succ,
    Finset.sum_range_succ, Finset.sum_range_succ]

/-- Four columns at once: the weighted sum. -/
theorem wt_four (k : ℕ) : wt f g (k + 4) = wt f g k * Ideal.exp2 (mx f k - mx f (k + 4))
    + Ideal.exp2 (f k - mx f (k + 4)) * (f k - g k)
    + Ideal.exp2 (f (k + 1) - mx f (k + 4)) * (f (k + 1) - g (k + 1))
    + Ideal.exp2 (f (k + 2) - mx f (k + 4)) * (f (k + 2) - g (k + 2))
    + Ideal.exp2 (f (k + 3) - mx f (k + 4)) * (f (k + 3) - g (k + 3)) := by
  rw [wt_rescale f g (mx_mono f (Nat.le_add_right k 4)), wt, Finset.sum_range_succ, Finset.sum_range_succ,
    Finset.sum_range_succ, Finset.sum_range_succ]

/-- One column: overwriting at a hit is adding, when at most one column is hit. -/
theorem at'_succ (hone : ∀ i j, hit i → hit j → i = j) (k : ℕ) :
    at' f hit (k + 1) = if hit k then f k else at' f hit k := by
  rw [at', Finset.sum_range_succ]
  by_cases h : hit k
  · rw [if_pos h, if_pos h]
    have : ∑ j ∈ Finset.range k, (if hit j then f j else 0) = 0 := Finset.sum_eq_zero fun j hj => by
      rw [if_neg fun hj' => absurd (hone j k hj' h) (Finset.mem_range.mp hj).ne]
    rw [this, zero_add]
  · rw [if_neg h, if_neg h, add_zero]; rfl

/-- Four columns at once: the value at the hit. -/
theorem at'_four (hone : ∀ i j, hit i → hit j → i = j) (k : ℕ) :
    at' f hit (k + 4) = if hit (k + 3) then f (k + 3) else if hit (k + 2) then f (k + 2)
      else if hit (k + 1) then f (k + 1) else if hit k then f k else at' f hit k := by
  rw [at'_succ f hit hone, at'_succ f hit hone, at'_succ f hit hone, at'_succ f hit hone]

/-! ## The lanes put together: lane `l` holds columns `l, 128 + l, 256 + l, …` -/

/-- Lane `l`'s values in base-2 units. -/
def lane (z : ℕ → EReal) (l : ℕ) (j : ℕ) : EReal := z (128 * j + l) * log2e

/-- All `m` columns of all lanes are the columns `0 … 128 m - 1`. -/
theorem sum_lanes (m : ℕ) (h : ℕ → EReal) :
    ∑ l : Fin 128, ∑ j ∈ Finset.range m, h (128 * j + l.val) = ∑ v : Fin (m * 128), h v.val := by
  rw [Finset.sum_congr rfl fun (l : Fin 128) _ => (Fin.sum_univ_eq_sum_range (fun j => h (128 * j + l.val)) m).symm,
    Finset.sum_comm, ← Fintype.sum_prod_type']
  refine Fintype.sum_equiv finProdFinEquiv _ _ fun p => ?_
  rw [finProdFinEquiv_apply_val, add_comm]

theorem mul_log2e_mono : Monotone fun x : EReal => x * log2e := fun _ _ h => mul_le_mul_of_nonneg_right h log2e_nonneg

/-- The largest of the lanes' maxima is the maximum of all columns, in base-2 units. -/
theorem top_eq (m : ℕ) (z : ℕ → EReal) :
    (Finset.univ.sup fun l : Fin 128 => mx (lane z l.val) m) = (Finset.univ.sup fun v : Fin (m * 128) => z v.val) * log2e := by
  apply le_antisymm
  · refine Finset.sup_le fun l _ => Finset.sup_le fun j hj => ?_
    have hj := Finset.mem_range.mp hj
    have := l.isLt
    exact mul_log2e_mono (Finset.le_sup (f := fun v : Fin (m * 128) => z v.val) (Finset.mem_univ ⟨128 * j + l.val, by omega⟩))
  · rw [Finset.comp_sup_eq_sup_comp_of_is_total (fun x : EReal => x * log2e) mul_log2e_mono
      (EReal.bot_mul_coe_of_pos (inv_pos.mpr log_two_pos))]
    refine Finset.sup_le fun v _ => ?_
    have hv := v.isLt
    refine le_trans ?_ (Finset.le_sup (f := fun l : Fin 128 => mx (lane z l.val) m) (Finset.mem_univ ⟨v.val % 128, by omega⟩))
    refine le_trans (le_of_eq ?_) (le_mx (lane z (v.val % 128)) (k := m) (j := v.val / 128) (by omega))
    show z v.val * log2e = z (128 * (v.val / 128) + v.val % 128) * log2e
    rw [Nat.div_add_mod]

theorem mx_le_top (m : ℕ) (z : ℕ → EReal) (l : Fin 128) :
    mx (lane z l.val) m ≤ (Finset.univ.sup fun v : Fin (m * 128) => z v.val) * log2e := by
  rw [← top_eq]; exact Finset.le_sup (f := fun l : Fin 128 => mx (lane z l.val) m) (Finset.mem_univ l)

/-- The lanes' sums, rescaled to the common maximum and added: the sum of exponentials of all columns. -/
theorem merge_sm (m : ℕ) (z : ℕ → EReal) :
    (∑ l : Fin 128, sm (lane z l.val) m * Ideal.exp2 (mx (lane z l.val) m - (Finset.univ.sup fun v : Fin (m * 128) => z v.val) * log2e))
      = ∑ v : Fin (m * 128), Ideal.exp (z v.val - Finset.univ.sup fun v : Fin (m * 128) => z v.val) := by
  rw [← sum_lanes m fun v => Ideal.exp (z v - Finset.univ.sup fun v : Fin (m * 128) => z v.val)]
  refine Finset.sum_congr rfl fun l _ => ?_
  rw [sm_rescale _ (mx_le_top m z l)]
  exact Finset.sum_congr rfl fun j _ => exp2_sub_scaled _ _

/-- The lanes' weighted sums, rescaled, added and taken back to natural units. -/
theorem merge_wt (m : ℕ) (z w : ℕ → EReal) :
    (∑ l : Fin 128, wt (lane z l.val) (lane w l.val) m
        * Ideal.exp2 (mx (lane z l.val) m - (Finset.univ.sup fun v : Fin (m * 128) => z v.val) * log2e)) * ln2
      = ∑ v : Fin (m * 128), Ideal.exp (z v.val - Finset.univ.sup fun v : Fin (m * 128) => z v.val) * (z v.val - w v.val) := by
  rw [← sum_lanes m fun v => Ideal.exp (z v - Finset.univ.sup fun v : Fin (m * 128) => z v.val) * (z v - w v),
    sum_mul _ _ ln2_nonneg ln2_ne_top]
  refine Finset.sum_congr rfl fun l _ => ?_
  rw [wt_rescale _ _ (mx_le_top m z l), sum_mul _ _ ln2_nonneg ln2_ne_top]
  refine Finset.sum_congr rfl fun j _ => ?_
  rw [lane, lane, exp2_sub_scaled, ← sub_mul log2e_nonneg log2e_ne_top, mul_assoc, scaled_back]

/-- The lanes' values at the target, added and taken back to natural units. -/
theorem merge_at (m : ℕ) (z : ℕ → EReal) (hit : ℕ → Prop) [DecidablePred hit] :
    (∑ l : Fin 128, at' (lane z l.val) (fun j => hit (128 * j + l.val)) m) * ln2
      = ∑ v : Fin (m * 128), if hit v.val then z v.val else 0 := by
  rw [← sum_lanes m fun v => if hit v then z v else 0, sum_mul _ _ ln2_nonneg ln2_ne_top]
  refine Finset.sum_congr rfl fun l _ => ?_
  rw [at', sum_mul _ _ ln2_nonneg ln2_ne_top]
  refine Finset.sum_congr rfl fun j _ => ?_
  split
  · exact scaled_back _
  · exact zero_mul _

end Cert.Online

end
-- ==== Proof.Sweep.lean ====
/- One grid point advances the running values of every lane by four columns. -/
module

public import proofs.«01_k».proof.Proof.Inputs
public import proofs.«01_k».proof.Proof.Online

@[expose] public section

set_option maxRecDepth 16384

noncomputable section

namespace Cert.Blk

open Idealize.ShloMosaic Idealize.ShloMosaic.TcCoe Idealize.SL.Sem
open Cert.KernelIdeal Cert.KernelIdeal.Gen Cert.Online

/-- Column `v` is the target `T`. -/
def IsHit (T : BitVec 32) (v : ℕ) : Prop := v < 51200 ∧ T = BitVec.ofNat 32 v
instance (T : BitVec 32) : DecidablePred (IsHit T) := fun v => by unfold IsHit; infer_instance

theorem isHit_inj {T : BitVec 32} {v w : ℕ} (hv : IsHit T v) (hw : IsHit T w) : v = w := by
  have h := congrArg BitVec.toNat (hv.2.symm.trans hw.2)
  have a := hv.1
  have b := hw.1
  rw [BitVec.toNat_ofNat, BitVec.toNat_ofNat, Nat.mod_eq_of_lt (by omega), Nat.mod_eq_of_lt (by omega)] at h
  exact h

/-- The kernel's comparison with a chunk's column numbers is the hit. -/
theorem hit_iff (T : BitVec 32) (n l k e : ℕ) (hn : n < 100) (hl : l < 128) (hk : k < 4) (he : e = 128 * k) :
    (T = BitVec.ofNat 32 (512 * n + l) + BitVec.ofNat 32 e) ↔ IsHit T (128 * (4 * n + k) + l) := by
  rw [← BitVec.ofNat_add, show 512 * n + l + e = 128 * (4 * n + k) + l by omega]
  exact ⟨fun h => ⟨by omega, h⟩, fun h => h.2⟩

variable (z w : Fin 2048 → ℕ → EReal) (T : Fin 2048 → BitVec 32)

/-- The running maxima of all lanes after `k` columns of each. -/
def vM (k : ℕ) : Vec Ideal S2048x128 .f32 := fun y => mx (lane (z (y 0)) (y 1).val) k
/-- The running sums of exponentials. -/
def vS (k : ℕ) : Vec Ideal S2048x128 .f32 := fun y => sm (lane (z (y 0)) (y 1).val) k
/-- The running weighted sums. -/
def vT (k : ℕ) : Vec Ideal S2048x128 .f32 := fun y => wt (lane (z (y 0)) (y 1).val) (lane (w (y 0)) (y 1).val) k
/-- The values at the target. -/
def vA (k : ℕ) : Vec Ideal S2048x128 .f32 := fun y => at' (lane (z (y 0)) (y 1).val) (fun j => IsHit (T (y 0)) (128 * j + (y 1).val)) k

/-- The data of point `n`: four columns of each lane, the targets and the column numbers. -/
structure Good (D : Data) (n : ℕ) : Prop where
  hn : n < 100
  hP : ∀ (r : Fin 2048) (l : Fin 128) (k : Fin 4), D.P r l k = lane (z r) l.val (4 * n + k.val)
  hQ : ∀ (r : Fin 2048) (l : Fin 128) (k : Fin 4), D.Q r l k = lane (w r) l.val (4 * n + k.val)
  hT : ∀ y : S2048x128.Idx, D.T y = T (y 0)
  hN : ∀ l : Fin 128, D.N (ix2 0 l) = BitVec.ofNat 32 (512 * n + l.val)

theorem up_mx {f : ℕ → EReal} {p : Fin 4 → EReal} {n : ℕ} (h : ∀ k, p k = f (4 * n + k.val)) : upM (mx f (4 * n)) p = mx f (4 * (n + 1)) := by
  rw [upM, h, h, h, h]; exact (mx_four f (4 * n)).symm
theorem up_sm {f : ℕ → EReal} {p : Fin 4 → EReal} {n : ℕ} (h : ∀ k, p k = f (4 * n + k.val)) : upS (sm f (4 * n)) (mx f (4 * n)) p = sm f (4 * (n + 1)) := by
  rw [upS, up_mx h, h, h, h, h]; exact (sm_four f (4 * n)).symm
theorem up_wt {f g : ℕ → EReal} {p q : Fin 4 → EReal} {n : ℕ} (h : ∀ k, p k = f (4 * n + k.val)) (hq : ∀ k, q k = g (4 * n + k.val)) :
    upT (wt f g (4 * n)) (mx f (4 * n)) p q = wt f g (4 * (n + 1)) := by
  rw [upT, up_mx h, h, h, h, h, hq, hq, hq, hq]; exact (wt_four f g (4 * n)).symm
theorem up_at {f : ℕ → EReal} {p : Fin 4 → EReal} {n l : ℕ} {T L : BitVec 32} (h : ∀ k, p k = f (4 * n + k.val)) (hn : n < 100) (hl : l < 128)
    (hL : L = BitVec.ofNat 32 (512 * n + l)) :
    upA (at' f (fun j => IsHit T (128 * j + l)) (4 * n)) T L p = at' f (fun j => IsHit T (128 * j + l)) (4 * (n + 1)) := by
  subst hL
  have hit := fun k e hk he => hit_iff T n l k e hn hl hk he
  rw [show 4 * (n + 1) = 4 * n + 4 by ring, at'_four f (fun j => IsHit T (128 * j + l)) (fun i j hi hj => by have := isHit_inj hi hj; omega), upA, h, h, h, h,
    show (384#32 : BitVec 32) = BitVec.ofNat 32 384 from rfl, show (256#32 : BitVec 32) = BitVec.ofNat 32 256 from rfl,
    show (128#32 : BitVec 32) = BitVec.ofNat 32 128 from rfl, show (0#32 : BitVec 32) = BitVec.ofNat 32 0 from rfl]
  refine if_congr (hit 3 384 (by omega) rfl) rfl (if_congr (hit 2 256 (by omega) rfl) rfl (if_congr (hit 1 128 (by omega) rfl) rfl (if_congr (hit 0 0 (by omega) rfl) rfl rfl)))

variable {z w T} {D : Data} {n : ℕ} (g : Good z w T D n)
include g

theorem step_mp : D.gMP (vM z (4 * n)) = vM z (4 * (n + 1)) := funext fun y => up_mx (g.hP (y 0) (y 1))
theorem step_mq : D.gMQ (vM w (4 * n)) = vM w (4 * (n + 1)) := funext fun y => up_mx (g.hQ (y 0) (y 1))
theorem step_sp : D.gSP (vM z (4 * n)) (vS z (4 * n)) = vS z (4 * (n + 1)) := funext fun y => up_sm (g.hP (y 0) (y 1))
theorem step_sq : D.gSQ (vM w (4 * n)) (vS w (4 * n)) = vS w (4 * (n + 1)) := funext fun y => up_sm (g.hQ (y 0) (y 1))
theorem step_tt : D.gTT (vM z (4 * n)) (vT z w (4 * n)) = vT z w (4 * (n + 1)) := funext fun y => up_wt (g.hP (y 0) (y 1)) (g.hQ (y 0) (y 1))
theorem step_tp : D.gTP (vA z T (4 * n)) = vA z T (4 * (n + 1)) := funext fun y => by
  unfold Data.gTP; rw [g.hT y]; exact up_at (g.hP (y 0) (y 1)) g.hn (y 1).isLt (g.hN (y 1))
theorem step_tq : D.gTQ (vA w T (4 * n)) = vA w T (4 * (n + 1)) := funext fun y => by
  unfold Data.gTQ; rw [g.hT y]; exact up_at (g.hQ (y 0) (y 1)) g.hn (y 1).isLt (g.hN (y 1))

end Cert.Blk

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ)

/-- The policy logits of the program's arguments. -/
abbrev ZP (c : Dev nD) (r : Fin 2048) : Fin 51200 → EReal := Heads.zP (A0 m c) (A1 m c) (A3 m c) (A4 m c) r
/-- The reference model's logits of the program's arguments. -/
abbrev ZQ (c : Dev nD) (r : Fin 2048) : Fin 51200 → EReal := Heads.zQ (A2 m c) (A5 m c) (A6 m c) r
/-- The target of a token row. -/
abbrev T (c : Dev nD) (r : Fin 2048) : BitVec 32 := A7 m c (ix2 (⟨r.val / 1024, by omega⟩ : Fin 2) (⟨r.val % 1024, by omega⟩ : Fin 1024))

/-- A row of logits as a sequence (0 past the end). -/
def seq (f : Fin 51200 → EReal) (v : ℕ) : EReal := if h : v < 51200 then f ⟨v, h⟩ else 0
theorem seq_lt (f : Fin 51200 → EReal) {v : ℕ} (h : v < 51200) : seq f v = f ⟨v, h⟩ := dif_pos h
/-- The policy logits, row by row. -/
abbrev SP (c : Dev nD) (r : Fin 2048) : ℕ → EReal := seq (ZP m c r)
/-- The reference model's logits, row by row. -/
abbrev SQ (c : Dev nD) (r : Fin 2048) : ℕ → EReal := seq (ZQ m c r)

theorem lane_lt (f : Fin 51200 → EReal) {l j v : ℕ} (hv : v = 128 * j + l) (h : v < 51200) : Online.lane (seq f) l j = f ⟨v, h⟩ * (((Real.log 2)⁻¹ : ℝ) : EReal) := by
  subst hv
  unfold Online.lane
  rw [seq_lt f h]

/-- The data of a grid point, from blocks that hold the point's part of the arguments. -/
theorem good_of (c : Dev nD) (n : ℕ) (hn : n < 100) (x0 : Vec Ideal S2048x2560 .fp8e4m3) (x1 : Vec Ideal S2048x2560 .bf16) (x2 : Vec Ideal S2048x128 .f32)
    (x3 : Vec Ideal S2048x128 .i32) (x4 : Vec Ideal S512x2560 .fp8e4m3) (x6 : Vec Ideal S256x2560 .i8) (x7 : Vec Ideal S512x20 .f32)
    (W : FVec Ideal S1x512 .f32) (N : IVec S1x128 32) (h0 : x0 = A0 m c)
    (h1 : ∀ (r : Fin 2048) (k : Fin 2560), x1 (ix2 r k) = A2 m c (ix3 (⟨r.val / 1024, by omega⟩ : Fin 2) (⟨r.val % 1024, by omega⟩ : Fin 1024) k))
    (h2 : ∀ (r : Fin 2048) (l : Fin 128), x2 (ix2 r l) = A1 m c (ix2 (⟨r.val / 1024, by omega⟩ : Fin 2) (⟨r.val % 1024, by omega⟩ : Fin 1024)))
    (h3 : ∀ (r : Fin 2048) (l : Fin 128), x3 (ix2 r l) = T m c r)
    (h4 : ∀ (j : Fin 512) (k : Fin 2560) (h : 512 * n + j.val < 51200), x4 (ix2 j k) = A3 m c (ix2 ⟨512 * n + j.val, h⟩ k))
    (h6 : ∀ (j : Fin 256) (k : Fin 2560) (h : 256 * n + j.val < 25600), x6 (ix2 j k) = A5 m c (ix2 ⟨256 * n + j.val, h⟩ k))
    (h7 : ∀ (j : Fin 512) (g : Fin 20) (h : 512 * n + j.val < 51200), x7 (ix2 j g) = A6 m c (ix2 ⟨512 * n + j.val, h⟩ g))
    (hW : ∀ (j : Fin 512) (h : 512 * n + j.val < 51200), (W (ix2 0 j) : EReal) = A4 m c (ix1 ⟨512 * n + j.val, h⟩) * (((Real.log 2)⁻¹ : ℝ) : EReal))
    (hN : ∀ l : Fin 128, N (ix2 0 l) = BitVec.ofNat 32 (512 * n + l.val)) :
    Blk.Good (SP m c) (SQ m c) (T m c) (Blk.mkD x0 x1 x2 x3 x4 x6 x7 W N) n where
  hn := hn
  hT y := by
    have h := h3 (y 0) (y 1)
    have e : (ix2 (y 0) (y 1) : S2048x128.Idx) = y := ix2_eta y
    rw [e] at h; exact h
  hN := hN
  hP r l k := by
    have hv : 512 * n + (Blk.col k l).val < 51200 := by have := (Blk.col k l).isLt; omega
    rw [lane_lt (ZP m c r) (v := 512 * n + (Blk.col k l).val) (by show 512 * n + (128 * k.val + l.val) = _; ring) hv]
    show (∑ i : Fin 2560, (x0 (ix2 r i) * x4 (ix2 (Blk.col k l) i) : EReal)) * ((x2 (ix2 r l) : EReal) * W (ix2 0 (Blk.col k l))) = _
    rw [hW _ hv, h0, h2, ← mul_assoc, ← mul_assoc, ZP, Heads.zP, ← mul_assoc]
    congr 3
    exact Finset.sum_congr rfl fun i _ => by rw [h4 _ _ hv]
  hQ r l k := by
    have hv : 512 * n + (Blk.col k l).val < 51200 := by have := (Blk.col k l).isLt; omega
    rw [lane_lt (ZQ m c r) (v := 512 * n + (Blk.col k l).val) (by show 512 * n + (128 * k.val + l.val) = _; ring) hv]
    show (∑ i : Fin 2560, (x1 (ix2 r i) * Blk.WD x6 x7 (ix2 (Blk.col k l) i) : EReal)) * _ = _
    rw [ZQ, Heads.zQ]
    refine congrArg (fun x : EReal => x * _) (Finset.sum_congr rfl fun i _ => ?_)
    have hc := (Blk.col k l).isLt
    have e6 := h6 (⟨(Blk.col k l).val / 2, by omega⟩ : Fin 256) i (by show 256 * n + (Blk.col k l).val / 2 < _; omega)
    have e7 := h7 (Blk.col k l) (⟨i.val / 128, by omega⟩ : Fin 20) hv
    have ew : (Blk.WD x6 x7 (ix2 (Blk.col k l) i) : EReal)
        = Heads.nib (x6 (ix2 (⟨(Blk.col k l).val / 2, by omega⟩ : Fin 256) i)) (Blk.col k l).val * x7 (ix2 (Blk.col k l) (⟨i.val / 128, by omega⟩ : Fin 20)) := rfl
    have ei : (⟨256 * n + (Blk.col k l).val / 2, by omega⟩ : Fin 25600) = ⟨(512 * n + (Blk.col k l).val) / 2, by omega⟩ := Fin.ext (by show 256 * n + (Blk.col k l).val / 2 = (512 * n + (Blk.col k l).val) / 2; omega)
    have ep : ∀ b : BitVec 8, Heads.nibble b (Blk.col k l).val = Heads.nibble b (512 * n + (Blk.col k l).val) := fun b => by
      unfold Heads.nibble; rw [show (512 * n + (Blk.col k l).val) % 2 = (Blk.col k l).val % 2 by omega]
    rw [h1, ew, e6, e7]
    unfold Heads.nib
    rw [ep, ei]

/-- The data of a grid point, from the blocks its windows hold. -/
theorem good (c : Dev nD) (t : Fin cfg0.N) (n : ℕ) (hn : t.val = n) (W : FVec Ideal S1x512 .f32) (N : IVec S1x128 32)
    (x5 : Vec Ideal S1x512 .f32) (hx : x5 = iblk m c 5 t) (hW : ∀ j : Fin 512, (W (ix2 0 j) : EReal) = x5 (ix2 0 j) * (((Real.log 2)⁻¹ : ℝ) : EReal))
    (hN : ∀ l : Fin 128, N (ix2 0 l) = BitVec.ofNat 32 (512 * n + l.val)) :
    Blk.Good (SP m c) (SQ m c) (T m c) (Blk.mkD (iblk m c 0 t) (iblk m c 1 t) (iblk m c 2 t) (iblk m c 3 t) (iblk m c 4 t) (iblk m c 6 t) (iblk m c 7 t) W N) n := by
  subst hn
  refine good_of m c t.val (lt_N t) _ _ _ _ _ _ _ W N (iblk0 m c t) ?_ ?_ ?_ (iblk4 m c t) (iblk6 m c t) (iblk7 m c t) ?_ hN
  · intro r k; rw [iblk1]; exact entry1 m c r k
  · intro r l; rw [iblk2]; exact entry2 m c r l
  · intro r l; rw [iblk3]; exact entry3 m c r l
  · intro j h
    have e := (iblk5 m c t j h).trans (entry5 m c _)
    rw [hW, hx]; exact congrArg (fun x : EReal => x * _) e

end Cert.KernelIdeal.Value

end
-- ==== Proof.Merge.lean ====
/- The results from the lanes' running values after the last column. -/
module

public import proofs.«01_k».proof.Proof.Sweep

@[expose] public section

set_option maxRecDepth 16384

noncomputable section

namespace Cert.Blk

open Idealize.ShloMosaic Idealize.ShloMosaic.TcCoe Idealize.SL.Sem
open Cert.KernelIdeal Cert.KernelIdeal.Gen Cert.Online
open Cert.KernelIdeal.Value (seq seq_lt)

/-! ## The last point's operations at an index -/

section
variable (M S A : Vec Ideal S2048x128 .f32) (a b d e : FVec Ideal S2048x1 .f32) (r : Fin 2048)

theorem pay8_at : (k0_pay8 M (ix2 r 0) : EReal) = Finset.univ.sup fun l : Fin 128 => (M (ix2 r l) : EReal) := by
  pointwise [k0_pay8]
  rw [Heads.neg_inf, Heads.fold_max]
theorem pay9_at (l : Fin 128) : (k0_pay9 M (ix2 r l) : EReal) = Ideal.exp2 (M (ix2 r l) - k0_pay8 M (ix2 r 0)) := by
  unfold k0_pay9
  generalize k0_pay8 M = y
  pointwise
  rfl
theorem pay10_at : (k0_pay10 M S (ix2 r 0) : EReal) = ∑ l : Fin 128, (S (ix2 r l) : EReal) * k0_pay9 M (ix2 r l) := by
  unfold k0_pay10
  generalize k0_pay9 M = y
  pointwise
theorem pay11_at : (k0_pay11 M S (ix2 r 0) : EReal) = k0_pay8 M (ix2 r 0) * ln2 + Ideal.log (k0_pay10 M S (ix2 r 0)) := by
  unfold k0_pay11
  generalize k0_pay8 M = x, k0_pay10 M S = y
  pointwise
  rw [IdealRules.named_const.ideal_named_scalar _ _ _ _ rfl]
theorem pay12_eq : k0_pay12 M S = k0_pay11 M S := rfl
theorem pay13_at : (k0_pay13 M S (ix2 r 0) : EReal) = (∑ l : Fin 128, (S (ix2 r l) : EReal) * k0_pay9 M (ix2 r l)) * ln2 := by
  unfold k0_pay13
  generalize k0_pay9 M = y
  pointwise
  rw [IdealRules.named_const.ideal_named_scalar _ _ _ _ rfl]
theorem pay14_at : (k0_pay14 A (ix2 r 0) : EReal) = ∑ l : Fin 128, (A (ix2 r l) : EReal) := by
  pointwise [k0_pay14]
theorem pay15_at : (k0_pay15 (F := Ideal) (ix2 r 0) : EReal) = ln2 := by
  pointwise [k0_pay15]
  rw [IdealRules.named_const.ideal_named_scalar _ _ _ _ rfl]
theorem pay5_at : (k0_pay5 a b d (ix2 r 0) : EReal) = b (ix2 r 0) * d (ix2 r 0) - a (ix2 r 0) := by
  pointwise [k0_pay5]
theorem pay6_eq : k0_pay6 a A = k0_pay5 a (k0_pay14 A) k0_pay15 := rfl
theorem pay7_at : (k0_pay7 a b d e (ix2 r 0) : EReal) = Ideal.div (e (ix2 r 0)) (a (ix2 r 0)) - b (ix2 r 0) + d (ix2 r 0) := by
  pointwise [k0_pay7]
end

/-! ## The lanes of one row put together -/

theorem sup_seq {N : ℕ} (hN : N = 51200) (f : Fin 51200 → EReal) : (Finset.univ.sup fun v : Fin N => seq f v.val) = Heads.top f := by
  subst hN
  exact Finset.sup_congr rfl fun v _ => seq_lt f v.isLt
theorem sum_seq {N : ℕ} (hN : N = 51200) (F : ℕ → EReal) (G : Fin 51200 → EReal) (h : ∀ v : Fin 51200, F v.val = G v) : (∑ v : Fin N, F v.val) = ∑ v, G v := by
  subst hN
  exact Finset.sum_congr rfl fun v _ => h v

variable {z w : Fin 2048 → ℕ → EReal} {T : Fin 2048 → BitVec 32} {r : Fin 2048} {f g : Fin 51200 → EReal}

theorem top_at (hz : z r = seq f) : (k0_pay8 (vM z 400) (ix2 r 0) : EReal) = Heads.top f * log2e := by
  rw [pay8_at]
  have h := top_eq 400 (seq f)
  rw [sup_seq (by norm_num)] at h
  rw [← h, ← hz]
  exact Finset.sup_congr rfl fun l _ => rfl

theorem scale_at (hz : z r = seq f) (l : Fin 128) : (k0_pay9 (vM z 400) (ix2 r l) : EReal) = Ideal.exp2 (mx (lane (seq f) l.val) 400 - Heads.top f * log2e) := by
  rw [pay9_at, top_at hz, ← hz]; rfl

theorem mass_at (hz : z r = seq f) : (k0_pay10 (vM z 400) (vS z 400) (ix2 r 0) : EReal) = Heads.mass f := by
  rw [pay10_at]
  have h := merge_sm 400 (seq f)
  rw [sup_seq (by norm_num), sum_seq (by norm_num) (fun v => Ideal.exp (seq f v - Heads.top f)) (fun v => Ideal.exp (f v - Heads.top f)) (fun v => by rw [seq_lt f v.isLt])] at h
  rw [Heads.mass, ← h]
  exact Finset.sum_congr rfl fun l _ => by rw [scale_at hz, ← hz]; rfl

theorem lse_at (hz : z r = seq f) : (k0_pay11 (vM z 400) (vS z 400) (ix2 r 0) : EReal) = Heads.lse f := by
  rw [pay11_at, top_at hz, mass_at hz, scaled_back, Heads.lse]

theorem num_at (hz : z r = seq f) (hw : w r = seq g) :
    (k0_pay13 (vM z 400) (vT z w 400) (ix2 r 0) : EReal) = ∑ v, Ideal.exp (f v - Heads.top f) * (f v - g v) := by
  rw [pay13_at]
  have h := merge_wt 400 (seq f) (seq g)
  rw [sup_seq (by norm_num), sum_seq (by norm_num) (fun v => Ideal.exp (seq f v - Heads.top f) * (seq f v - seq g v)) (fun v => Ideal.exp (f v - Heads.top f) * (f v - g v))
    (fun v => by rw [seq_lt f v.isLt, seq_lt g v.isLt])] at h
  rw [← h]
  refine congrArg (fun x : EReal => x * ln2) (Finset.sum_congr rfl fun l _ => ?_)
  rw [scale_at hz, ← hz, ← hw]; rfl

theorem pick_at (hz : z r = seq f) : (k0_pay14 (vA z T 400) (ix2 r 0) : EReal) * ln2 = Heads.pick f (T r) := by
  rw [pay14_at]
  have h := merge_at 400 (seq f) (IsHit (T r))
  rw [sum_seq (by norm_num) (fun v => if IsHit (T r) v then seq f v else 0) (fun v => if T r = BitVec.ofNat 32 v.val then f v else 0)
    (fun v => by
      rw [seq_lt f v.isLt]
      exact if_congr ⟨fun h => h.2, fun h => ⟨v.isLt, h⟩⟩ rfl rfl)] at h
  rw [Heads.pick, ← h]
  refine congrArg (fun x : EReal => x * ln2) (Finset.sum_congr rfl fun l _ => ?_)
  rw [← hz]; rfl

/-- The log-probability of the target. -/
theorem logp_at (hz : z r = seq f) : (k0_pay5 (k0_pay11 (vM z 400) (vS z 400)) (k0_pay14 (vA z T 400)) k0_pay15 (ix2 r 0) : EReal) = Heads.logp f (T r) := by
  rw [pay5_at, lse_at hz, pay15_at, pick_at hz, Heads.logp]

/-- The same, as the second result spells it. -/
theorem logp_at' (hz : z r = seq f) : (k0_pay6 (k0_pay12 (vM z 400) (vS z 400)) (vA z T 400) (ix2 r 0) : EReal) = Heads.logp f (T r) := by
  rw [pay6_eq, pay12_eq]; exact logp_at hz

/-- The divergence. -/
theorem kl_at (hz : z r = seq f) (hw : w r = seq g) :
    (k0_pay7 (k0_pay10 (vM z 400) (vS z 400)) (k0_pay11 (vM z 400) (vS z 400)) (k0_pay12 (vM w 400) (vS w 400)) (k0_pay13 (vM z 400) (vT z w 400)) (ix2 r 0) : EReal) = Heads.kl f g := by
  rw [pay7_at, pay12_eq, mass_at hz, lse_at hz, lse_at hw, num_at hz hw, Heads.kl]

end Cert.Blk

end
-- ==== Proof.Points.lean ====
/- The running values after every grid point, and the results after the last. -/
module

public import proofs.«01_k».proof.Proof.CaseA1
public import proofs.«01_k».proof.Proof.CaseA2
public import proofs.«01_k».proof.Proof.CaseA3
public import proofs.«01_k».proof.Proof.CaseB
public import proofs.«01_k».proof.Proof.CaseCOut
public import proofs.«01_k».proof.Proof.Merge

@[expose] public section

set_option maxRecDepth 16384

noncomputable section

namespace Cert.KernelIdeal.Value

open Idealize.ShloMosaic Idealize.ShloMosaic.TcCoe Idealize.SL.Sem
open Cert.KernelIdeal Cert.KernelIdeal.Gen Cert.Blk

/-- The scaled column scales, read from the buffer that holds the point's scales. -/
theorem scales_at {sp : Space} (a : Memref sig .tc sp S1x512 .f32) (ha : a.IsWhole) (x : Vec Ideal S1x512 .f32) (j : Fin 512) :
    (k0_pay63 (View.readAt (Elt Ideal) a.view (Rect.unit (s := S1x512) ![0, 0] S1x512.size inb_S1x512_S1x512_0_0).toLoadRect (ha.unread x)) (ix2 0 j) : EReal)
      = x (ix2 0 j) * (((Real.log 2)⁻¹ : ℝ) : EReal) := by
  rw [pay63_at]
  have h := unread_at a ha x inb_S1x512_S1x512_0_0 (0 : Fin 1) j (by omega) (by omega)
  simp only [Nat.zero_add] at h
  exact congrArg (fun y : EReal => y * _) h

theorem cols_at (t : Fin cfg0.N) (n : ℕ) (hn : t.val = n) (l : Fin 128) : k0_pay64 (BitVec.ofNat 32 (grid0.coords t 0).val) (ix2 0 l) = BitVec.ofNat 32 (512 * n + l.val) := by
  rw [coords_val, hn, pay64_at]

variable (m : (ℓ : Loc nD τ sig) → Buf (Elt Ideal) ℓ)

/-- The seven running vectors after `k` columns of every lane. -/
def Run (c : Dev nD) (k : ℕ) : Vec Ideal S2048x128 .f32 × Vec Ideal S2048x128 .f32 × Vec Ideal S2048x128 .f32 × Vec Ideal S2048x128 .f32
    × Vec Ideal S2048x128 .f32 × Vec Ideal S2048x128 .f32 × Vec Ideal S2048x128 .f32 :=
  (vM (SP m c) k, vS (SP m c) k, vT (SP m c) (SQ m c) k, vM (SQ m c) k, vS (SQ m c) k, vA (SP m c) (T m c) k, vA (SQ m c) (T m c) k)

theorem run_ext {c : Dev nD} {k : ℕ} {v1 v2 v3 v4 v5 v6 v7 : Vec Ideal S2048x128 .f32} (h1 : v1 = vM (SP m c) k) (h2 : v2 = vS (SP m c) k) (h3 : v3 = vT (SP m c) (SQ m c) k)
    (h4 : v4 = vM (SQ m c) k) (h5 : v5 = vS (SQ m c) k) (h6 : v6 = vA (SP m c) (T m c) k) (h7 : v7 = vA (SQ m c) (T m c) k) :
    (v1, v2, v3, v4, v5, v6, v7) = Run m c k := by
  subst h1 h2 h3 h4 h5 h6 h7; rfl

/-! ## The fills of the first point -/

theorem fill16 (z : Fin 2048 → ℕ → EReal) : k0_pay16 (F := Ideal) = vM z (4 * 0) := by
  funext y; unfold k0_pay16; pointwise; rw [IdealRules.named_const.ideal_named_scalar _ _ _ _ rfl]; rfl
theorem fill17 (z : Fin 2048 → ℕ → EReal) : k0_pay17 (F := Ideal) = vM z (4 * 0) := by
  funext y; unfold k0_pay17; pointwise; rw [IdealRules.named_const.ideal_named_scalar _ _ _ _ rfl]; rfl
theorem fill18 (z : Fin 2048 → ℕ → EReal) : k0_pay18 (F := Ideal) = vS z (4 * 0) := by
  funext y; unfold k0_pay18; pointwise; rfl
theorem fill19 (z w : Fin 2048 → ℕ → EReal) : k0_pay19 (F := Ideal) = vT z w (4 * 0) := by
  funext y; unfold k0_pay19; pointwise; rfl
theorem fill20 (z : Fin 2048 → ℕ → EReal) : k0_pay20 (F := Ideal) = vS z (4 * 0) := by
  funext y; unfold k0_pay20; pointwise; rfl
theorem fill21 (z : Fin 2048 → ℕ → EReal) (T : Fin 2048 → BitVec 32) : k0_pay21 (F := Ideal) = vA z T (4 * 0) := by
  funext y; unfold k0_pay21; pointwise; rfl
theorem fill22 (z : Fin 2048 → ℕ → EReal) (T : Fin 2048 → BitVec 32) : k0_pay22 (F := Ideal) = vA z T (4 * 0) := by
  funext y; unfold k0_pay22; pointwise; rfl

/-! ## The points -/

theorem goodA (c : Dev nD) (t : Fin cfg0.N) (n : ℕ) (hn : t.val = n) :
    Good (SP m c) (SQ m c) (T m c) (mkD (iblk m c 0 t) (iblk m c 1 t) (iblk m c 2 t) (iblk m c 3 t) (iblk m c 4 t) (iblk m c 6 t) (iblk m c 7 t)
      (kernelRun0_A.sl.r_3 c (ms0_5 t) (hs0_5 t) (iblk m c 5 t)) (kernelRun0_A.sl.r_4 (grid0.coords t))) n :=
  good m c t n hn _ _ (iblk m c 5 t) rfl (scales_at (ms0_5 t) (hs0_5 t) _) (cols_at t n hn)
theorem goodB (c : Dev nD) (t : Fin cfg0.N) (n : ℕ) (hn : t.val = n) :
    Good (SP m c) (SQ m c) (T m c) (mkD (iblk m c 0 t) (iblk m c 1 t) (iblk m c 2 t) (iblk m c 3 t) (iblk m c 4 t) (iblk m c 6 t) (iblk m c 7 t)
      (kernelRun0_B.sl.r_3 c (ms0_5 t) (hs0_5 t) (iblk m c 5 t)) (kernelRun0_B.sl.r_4 (grid0.coords t))) n :=
  good m c t n hn _ _ (iblk m c 5 t) rfl (scales_at (ms0_5 t) (hs0_5 t) _) (cols_at t n hn)
theorem goodC (c : Dev nD) (t : Fin cfg0.N) (n : ℕ) (hn : t.val = n) :
    Good (SP m c) (SQ m c) (T m c) (mkD (iblk m c 0 t) (iblk m c 1 t) (iblk m c 2 t) (iblk m c 3 t) (iblk m c 4 t) (iblk m c 6 t) (iblk m c 7 t)
      (kernelRun0_C.sl.r_3 c (ms0_5 t) (hs0_5 t) (iblk m c 5 t)) (kernelRun0_C.sl.r_4 (grid0.coords t))) n :=
  good m c t n hn _ _ (iblk m c 5 t) rfl (scales_at (ms0_5 t) (hs0_5 t) _) (cols_at t n hn)

/-- After the first point every lane has seen its first four columns. -/
theorem run_zero (c : Dev nD) (hn : 0 < cfg0.N) : (outsAt0 m c 0 hn).2.2.2 = Run m c (4 * (0 + 1)) := by
  have g := goodA m c ⟨0, hn⟩ 0 rfl
  have h0 : (⟨0, hn⟩ : Fin cfg0.N).val % 100 = 0 := Nat.zero_mod _
  have h1 : ¬(⟨0, hn⟩ : Fin cfg0.N).val % 100 = 99 := by show ¬0 % 100 = 99; decide
  refine (congrArg (·.2.2.2) (outsAt0_A m c ⟨0, hn⟩ h0 h1)).trans (run_ext m ?_ ?_ ?_ ?_ ?_ ?_ ?_)
  · rw [CaseA.out_3, fill16 (SP m c)]; exact step_mp g
  · rw [CaseA.out_4, fill16 (SP m c), fill18 (SP m c)]; exact step_sp g
  · rw [CaseA.out_5, fill16 (SP m c), fill19 (SP m c) (SQ m c)]; exact step_tt g
  · rw [CaseA.out_6, fill17 (SQ m c)]; exact step_mq g
  · rw [CaseA.out_7, fill17 (SQ m c), fill20 (SQ m c)]; exact step_sq g
  · rw [CaseA.out_8, fill21 (SP m c) (T m c)]; exact step_tp g
  · rw [CaseA.out_9, fill22 (SQ m c) (T m c)]; exact step_tq g

/-- A point in the middle takes four more columns. -/
theorem run_succ (c : Dev nD) (n : ℕ) (hn : n + 1 < cfg0.N) (h9 : n + 1 < 99) (ih : (outsAt0 m c n (Nat.lt_of_succ_lt hn)).2.2.2 = Run m c (4 * (n + 1))) :
    (outsAt0 m c (n + 1) hn).2.2.2 = Run m c (4 * (n + 1 + 1)) := by
  have g := goodB m c ⟨n + 1, hn⟩ (n + 1) rfl
  have h0 : ¬(⟨n + 1, hn⟩ : Fin cfg0.N).val % 100 = 0 := by show ¬(n + 1) % 100 = 0; omega
  have h1 : ¬(⟨n + 1, hn⟩ : Fin cfg0.N).val % 100 = 99 := by show ¬(n + 1) % 100 = 99; omega
  refine (congrArg (·.2.2.2) (outsAt0_B m c ⟨n + 1, hn⟩ h0 h1)).trans ?_
  show (_, _, _, _, _, _, _) = _
  simp only [Nat.add_sub_cancel, ih]
  refine run_ext m ?_ ?_ ?_ ?_ ?_ ?_ ?_
  · rw [CaseB.out_3]; exact step_mp g
  · rw [CaseB.out_4]; exact step_sp g
  · rw [CaseB.out_5]; exact step_tt g
  · rw [CaseB.out_6]; exact step_mq g
  · rw [CaseB.out_7]; exact step_sq g
  · rw [CaseB.out_8]; exact step_tp g
  · rw [CaseB.out_9]; exact step_tq g

/-- After point `n`, before the last, every lane has seen `4 (n + 1)` columns. -/
theorem run_at (c : Dev nD) : ∀ (n : ℕ) (hn : n < cfg0.N), n < 99 → (outsAt0 m c n hn).2.2.2 = Run m c (4 * (n + 1))
  | 0, hn, _ => run_zero m c hn
  | n + 1, hn, h9 => run_succ m c n hn h9 (run_at c n _ (by omega))

/-- The last point: the three results, over the running values of all 400 columns of every lane. -/
theorem run_last (c : Dev nD) (t : Fin cfg0.N) (ht : t.val = 99) (h0 : ¬t.val % 100 = 0) (h1 : t.val % 100 = 99)
    (ih : (outsAt0 m c (t.val - 1) (Nat.lt_of_le_of_lt (Nat.sub_le _ _) t.isLt)).2.2.2 = Run m c (4 * 99)) :
    (outsAt0 m c t.val t.isLt).1 = k0_pay5 (k0_pay11 (vM (SP m c) (4 * (99 + 1))) (vS (SP m c) (4 * (99 + 1)))) (k0_pay14 (vA (SP m c) (T m c) (4 * (99 + 1)))) k0_pay15
    ∧ (outsAt0 m c t.val t.isLt).2.1 = k0_pay6 (k0_pay12 (vM (SQ m c) (4 * (99 + 1))) (vS (SQ m c) (4 * (99 + 1)))) (vA (SQ m c) (T m c) (4 * (99 + 1)))
    ∧ (outsAt0 m c t.val t.isLt).2.2.1 = k0_pay7 (k0_pay10 (vM (SP m c) (4 * (99 + 1))) (vS (SP m c) (4 * (99 + 1)))) (k0_pay11 (vM (SP m c) (4 * (99 + 1))) (vS (SP m c) (4 * (99 + 1))))
        (k0_pay12 (vM (SQ m c) (4 * (99 + 1))) (vS (SQ m c) (4 * (99 + 1)))) (k0_pay13 (vM (SP m c) (4 * (99 + 1))) (vT (SP m c) (SQ m c) (4 * (99 + 1)))) := by
  have g := goodC m c t 99 ht
  rw [outsAt0_C m c t h0 h1]
  simp only [ih]
  refine ⟨?_, ?_, ?_⟩
  · rw [CaseC.res_8]
    exact congrArg₂ (fun a b => k0_pay5 a b k0_pay15) (congrArg₂ k0_pay11 (step_mp g) (step_sp g)) (congrArg k0_pay14 (step_tp g))
  · rw [CaseC.res_9]
    exact congrArg₂ k0_pay6 (congrArg₂ k0_pay12 (step_mq g) (step_sq g)) (step_tq g)
  · rw [CaseC.res_10]
    exact congr4 k0_pay7 (congrArg₂ k0_pay10 (step_mp g) (step_sp g)) (congrArg₂ k0_pay11 (step_mp g) (step_sp g)) (congrArg₂ k0_pay12 (step_mq g) (step_sq g))
      (congrArg₂ k0_pay13 (step_mp g) (step_tt g))

/-- The last point. -/
abbrev tLast : Fin cfg0.N := ⟨99, lt_of_lt_of_eq (by decide) N_0.symm⟩

/-- The first result: the policy's log-probabilities of the targets. -/
theorem result8 (c : Dev nD) (r : Fin 2048) : G8 m c (ix2 r 0) = Heads.logp (ZP m c r) (T m c r) := by
  rw [G8_last, ← outsAt0_sweep m c 99 tLast.isLt]
  exact (congrFun (run_last m c tLast rfl (by decide) (by decide) (run_at m c 98 _ (by decide))).1 (ix2 r 0)).trans (logp_at rfl)
/-- The second result: the reference model's log-probabilities of the targets. -/
theorem result9 (c : Dev nD) (r : Fin 2048) : G9 m c (ix2 r 0) = Heads.logp (ZQ m c r) (T m c r) := by
  rw [G9_last, ← outsAt0_sweep m c 99 tLast.isLt]
  exact (congrFun (run_last m c tLast rfl (by decide) (by decide) (run_at m c 98 _ (by decide))).2.1 (ix2 r 0)).trans (logp_at' rfl)
/-- The third result: the divergence. -/
theorem result10 (c : Dev nD) (r : Fin 2048) : G10 m c (ix2 r 0) = Heads.kl (ZP m c r) (ZQ m c r) := by
  rw [G10_last, ← outsAt0_sweep m c 99 tLast.isLt]
  exact (congrFun (run_last m c tLast rfl (by decide) (by decide) (run_at m c 98 _ (by decide))).2.2 (ix2 r 0)).trans (kl_at rfl rfl)

end Cert.KernelIdeal.Value

end
-- ==== Proof.Reference.lean ====
/- What the reference program computes. -/
module

public import proofs.«01_k».proof.Proof.Gen.ReferenceIdeal.Value
public import proofs.«01_k».proof.Proof.Heads
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen

/-- The low nibble as the reference reads it. -/
theorem low : ∀ b : BitVec 8, (Scalar.select
      (IntOp.cmpi .sge (IntOp.andi (BitVec.setWidth 32 b) 15#32) 8#32)
      (IntOp.subi (IntOp.andi (BitVec.setWidth 32 b) 15#32) 16#32)
      (IntOp.andi (BitVec.setWidth 32 b) 15#32)).toInt = Heads.nibble b 0 := by decide

/-- The high nibble as the reference reads it. -/
theorem high : ∀ b : BitVec 8, (Scalar.select
      (IntOp.cmpi .sge (IntOp.shrsi .vector (BitVec.setWidth 32 b) 4#32) 8#32)
      (IntOp.subi (IntOp.shrsi .vector (BitVec.setWidth 32 b) 4#32) 16#32)
      (IntOp.shrsi .vector (BitVec.setWidth 32 b) 4#32)).toInt = Heads.nibble b 1 := by decide

/-- The policy logits of the reference at an index. -/
theorem payP (a : FVec Ideal S2048x2560 .fp8e4m3) (s : FVec Ideal S2048x1 .f32) (w : FVec Ideal S51200x2560 .fp8e4m3)
    (ws : FVec Ideal S1x51200 .f32) (r : Fin 2048) (v : Fin 51200) :
    (k0_pay8 (F := Ideal) a s w ws (ix2 r v) : EReal) = (∑ k : Fin 2560, (a (ix2 r k) * w (ix2 v k) : EReal)) * ((s (ix2 r 0) : EReal) * ws (ix2 0 v)) := by
  pointwise [k0_pay8]

/-- The reference model's logits at an index. -/
theorem payQ (a : FVec Ideal S2048x2560 .bf16) (w : IVec S25600x2560 8)
    (ws : FVec Ideal S51200x20 .f32) (r : Fin 2048) (v : Fin 51200) :
    (k0_pay13 (k0_pay6 (F := Ideal) a) (k0_pay10 (F := Ideal) w) (k0_pay11 ws) (k0_pay12 (F := Ideal) w) (ix2 r v) : EReal)
    = ∑ k : Fin 2560, (a (ix2 r k) : EReal)
    * (Heads.nib (w (ix2 (⟨v.val / 2, by omega⟩ : Fin 25600) k)) v.val * ws (ix2 v (⟨k.val / 128, by omega⟩ : Fin 20))) := by
  pointwise [k0_pay13, k0_pay6, k0_pay10, k0_pay11, k0_pay12, k0_pay9]
  split
  · have e : (⟨v.val / 2 * 2, by omega⟩ : Fin 51200) = v := Fin.ext (by simp; omega)
    have h0 : v.val % 2 = 0 := by omega
    simp only [e, FloatOps.sitofp, low, Heads.nib, Heads.nibble_even _ h0]
  · have e : (⟨v.val / 2 * 2 + 1, by omega⟩ : Fin 51200) = v := Fin.ext (by simp; omega)
    have h0 : v.val % 2 = 1 := by omega
    simp only [e, FloatOps.sitofp, high, Heads.nib, Heads.nibble_odd _ h0]

variable (m : (ℓ : Loc nD τ sig) → Buf (Elt Ideal) ℓ)

/-- The eight arguments of the program. -/
abbrev A0 (c : Dev nD) : FVec Ideal S2048x2560 .fp8e4m3 := m ((c : Thread nD τ).loc main_arg0)
abbrev A1 (c : Dev nD) : FVec Ideal S2x1024 .f32 := m ((c : Thread nD τ).loc main_arg1)
abbrev A2 (c : Dev nD) : FVec Ideal S2x1024x2560 .bf16 := m ((c : Thread nD τ).loc main_arg2)
abbrev A3 (c : Dev nD) : FVec Ideal S51200x2560 .fp8e4m3 := m ((c : Thread nD τ).loc main_arg3)
abbrev A4 (c : Dev nD) : FVec Ideal S51200 .f32 := m ((c : Thread nD τ).loc main_arg4)
abbrev A5 (c : Dev nD) : IVec S25600x2560 8 := m ((c : Thread nD τ).loc main_arg5)
abbrev A6 (c : Dev nD) : FVec Ideal S51200x20 .f32 := m ((c : Thread nD τ).loc main_arg6)
abbrev A7 (c : Dev nD) : IVec S2x1024 32 := m ((c : Thread nD τ).loc main_arg7)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

theorem iblk0 (c : Dev nD) (t : Fin cfg0.N) : iblk m c 0 t = A0 m c := by blk_ext! [iblk, V, idx t]
theorem iblk3 (c : Dev nD) (t : Fin cfg0.N) : iblk m c 3 t = A3 m c := by blk_ext! [iblk, V, idx t]
theorem iblk5 (c : Dev nD) (t : Fin cfg0.N) : iblk m c 5 t = A5 m c := by blk_ext! [iblk, V, idx t]
theorem iblk6 (c : Dev nD) (t : Fin cfg0.N) : iblk m c 6 t = A6 m c := by blk_ext! [iblk, V, idx t]
theorem iblk1 (c : Dev nD) (t : Fin cfg0.N) : iblk m c 1 t = V m c main_v0 := by blk_ext! [iblk, idx t]
theorem iblk2 (c : Dev nD) (t : Fin cfg0.N) : iblk m c 2 t = V m c main_v1 := by blk_ext! [iblk, idx t]
theorem iblk4 (c : Dev nD) (t : Fin cfg0.N) : iblk m c 4 t = V m c main_v2 := by blk_ext! [iblk, idx t]
theorem iblk7 (c : Dev nD) (t : Fin cfg0.N) : iblk m c 7 t = V m c main_v3 := by blk_ext! [iblk, idx t]

theorem entry1 (c : Dev nD) (r : Fin 2048) : V m c main_v0 (ix2 r 0) = A1 m c (ix2 (⟨r.val / 1024, by omega⟩ : Fin 2) (⟨r.val % 1024, by omega⟩ : Fin 1024)) := by
  entry_read
  pointwise
theorem entry2 (c : Dev nD) (r : Fin 2048) (k : Fin 2560) : V m c main_v1 (ix2 r k) = A2 m c (ix3 (⟨r.val / 1024, by omega⟩ : Fin 2) (⟨r.val % 1024, by omega⟩ : Fin 1024) k) := by
  entry_read
  pointwise
theorem entry4 (c : Dev nD) (v : Fin 51200) : V m c main_v2 (ix2 0 v) = A4 m c (ix1 v) := by
  entry_read
  pointwise
theorem entry7 (c : Dev nD) (r : Fin 2048) : V m c main_v3 (ix2 r 0) = A7 m c (ix2 (⟨r.val / 1024, by omega⟩ : Fin 2) (⟨r.val % 1024, by omega⟩ : Fin 1024)) := by
  entry_read
  pointwise

/-- The log-probabilities as the program's payloads compute them from a matrix of logits. -/
abbrev LOGP (z : FVec Ideal S2048x51200 .f32) (t : IVec S2048x1 32) : FVec Ideal S2048x1 .f32 :=
  k0_pay3 (k0_pay14 z) (k0_pay21 t z) (k0_pay23 z)

/-- The divergence as the program's payloads compute it from two matrices of logits. -/
abbrev KL (y z : FVec Ideal S2048x51200 .f32) : FVec Ideal S2048x1 .f32 :=
  addf (subf (divf (shapeCast S2048x1 (multiReduction .add [1] S2048 (mulf (k0_pay16 y) (subf y z)) 0x00000000#32 reduces_S2048x51200_S2048 (.inl rfl) rfl)
    shapeCasts_S2048_S2048x1) (k0_pay17 y)) (k0_pay1 (k0_pay14 y) (k0_pay23 y))) (k0_pay2 (k0_pay14 z) (k0_pay17 z))

/-- The greatest logit of a row. -/
theorem max_at (z : FVec Ideal S2048x51200 .f32) (r : Fin 2048) :
    (k0_pay14 z (ix2 r 0) : EReal) = Heads.top (fun v => z (ix2 r v)) := by
  pointwise [k0_pay14]
  rw [Heads.neg_inf, Heads.fold_max, Heads.top]

/-- A sum along the columns. -/
theorem sum_at (x : FVec Ideal S2048x51200 .f32) (r : Fin 2048) :
    (shapeCast S2048x1 (multiReduction .add [1] S2048 x 0x00000000#32 reduces_S2048x51200_S2048 (.inl rfl) rfl) shapeCasts_S2048_S2048x1 (ix2 r 0) : EReal)
     = ∑ v : Fin 51200, x (ix2 r v) := by
  pointwise

/-- An exponential, the greatest logit subtracted. -/
theorem exp_at (z : FVec Ideal S2048x51200 .f32) (r : Fin 2048) (v : Fin 51200) :
    (k0_pay16 z (ix2 r v) : EReal) = Ideal.exp (z (ix2 r v) - Heads.top (fun v => z (ix2 r v))) := by
  have h : (k0_pay16 z (ix2 r v) : EReal) = Ideal.exp (z (ix2 r v) - k0_pay14 z (ix2 r 0)) := by
    unfold k0_pay16
    generalize k0_pay14 z = y
    pointwise
  rw [h, max_at]

/-- The logit kept at the target alone. -/
theorem hot_at (t : IVec S2048x1 32) (z : FVec Ideal S2048x51200 .f32) (r : Fin 2048) (v : Fin 51200) :
    (select (k0_pay20 t) z (broadcast S2048x51200 (Scalar.ofBits (F := Ideal) .f32 0x00000000#32)) (ix2 r v) : EReal) = if t (ix2 r 0) = BitVec.ofNat 32 v.val then z (ix2 r v) else 0 := by
  pointwise [k0_pay20]
  rw [Heads.select_eq]

/-- The sum of the exponentials. -/
theorem mass_at (z : FVec Ideal S2048x51200 .f32) (r : Fin 2048) :
    (k0_pay17 z (ix2 r 0) : EReal) = Heads.mass (fun v => z (ix2 r v)) := by
  unfold k0_pay17 Heads.mass
  rw [sum_at]
  exact Finset.sum_congr rfl fun v _ => exp_at z r v

theorem add_log_at (x y : FVec Ideal S2048x1 .f32) (r : Fin 2048) (a b : EReal) (ha : (x (ix2 r 0) : EReal) = a) (hb : (y (ix2 r 0) : EReal) = b) :
    (addf x (log y) (ix2 r 0) : EReal) = a + Ideal.log b := by
  subst ha hb
  pointwise

/-- The logarithm of the sum of the exponentials. -/
theorem lse_at (z : FVec Ideal S2048x51200 .f32) (r : Fin 2048) :
    (k0_pay1 (k0_pay14 z) (k0_pay23 z) (ix2 r 0) : EReal) = Heads.lse (fun v => z (ix2 r v)) := by
  unfold k0_pay1 k0_pay23 Heads.lse
  exact add_log_at _ _ r _ _ (max_at z r) (mass_at z r)

/-- The same, spelt the other way. -/
theorem lse_at' (z : FVec Ideal S2048x51200 .f32) (r : Fin 2048) :
    (k0_pay2 (k0_pay14 z) (k0_pay17 z) (ix2 r 0) : EReal) = Heads.lse (fun v => z (ix2 r v)) := by
  unfold k0_pay2 Heads.lse
  exact add_log_at _ _ r _ _ (max_at z r) (mass_at z r)

/-- The target's logit. -/
theorem pick_at (t : IVec S2048x1 32) (z : FVec Ideal S2048x51200 .f32) (r : Fin 2048) :
    (k0_pay21 t z (ix2 r 0) : EReal) = Heads.pick (fun v => z (ix2 r v)) (t (ix2 r 0)) := by
  unfold k0_pay21 Heads.pick
  rw [sum_at]
  exact Finset.sum_congr rfl fun v _ => hot_at t z r v

/-- The log-probabilities at an index. -/
theorem logp_at (z : FVec Ideal S2048x51200 .f32) (t : IVec S2048x1 32) (r : Fin 2048) :
    (LOGP z t (ix2 r 0) : EReal) = Heads.logp (fun v => z (ix2 r v)) (t (ix2 r 0)) := by
  have h : (LOGP z t (ix2 r 0) : EReal) = k0_pay21 t z (ix2 r 0) - k0_pay1 (k0_pay14 z) (k0_pay23 z) (ix2 r 0) := by
    unfold LOGP k0_pay3
    generalize k0_pay1 (k0_pay14 z) (k0_pay23 z) = x, k0_pay21 t z = y
    pointwise
  rw [h, pick_at, lse_at, Heads.logp]

/-- A weighted sum of the differences. -/
theorem num_at (e y z : FVec Ideal S2048x51200 .f32) (r : Fin 2048) :
    (shapeCast S2048x1 (multiReduction .add [1] S2048 (mulf e (subf y z)) 0x00000000#32 reduces_S2048x51200_S2048 (.inl rfl) rfl) shapeCasts_S2048_S2048x1 (ix2 r 0) : EReal)
     = ∑ v : Fin 51200, (e (ix2 r v) * (y (ix2 r v) - z (ix2 r v)) : EReal) := by
  pointwise

/-- The divergence at an index. -/
theorem kl_at (y z : FVec Ideal S2048x51200 .f32) (r : Fin 2048) :
    (KL y z (ix2 r 0) : EReal) = Heads.kl (fun v => y (ix2 r v)) (fun v => z (ix2 r v)) := by
  have h : (KL y z (ix2 r 0) : EReal) = Ideal.div (∑ v : Fin 51200, (k0_pay16 y (ix2 r v) * (y (ix2 r v) - z (ix2 r v)) : EReal)) (k0_pay17 y (ix2 r 0))
      - k0_pay1 (k0_pay14 y) (k0_pay23 y) (ix2 r 0) + k0_pay2 (k0_pay14 z) (k0_pay17 z) (ix2 r 0) := by
    rw [← num_at]
    unfold KL
    generalize k0_pay1 (k0_pay14 y) (k0_pay23 y) = x, k0_pay17 y = u, k0_pay2 (k0_pay14 z) _ = w,
      shapeCast S2048x1 (multiReduction .add [1] S2048 (mulf (k0_pay16 y) (subf y z)) 0x00000000#32 reduces_S2048x51200_S2048 (.inl rfl) rfl) _ = n
    pointwise
  rw [h, mass_at, lse_at, lse_at', Heads.kl]
  simp only [exp_at]

/-- The reference model's logits as the program's payload. -/
abbrev PQ (a : FVec Ideal S2048x2560 .bf16) (w : IVec S25600x2560 8) (ws : FVec Ideal S51200x20 .f32) : FVec Ideal S2048x51200 .f32 :=
  k0_pay13 (k0_pay6 (F := Ideal) a) (k0_pay10 (F := Ideal) w) (k0_pay11 ws) (k0_pay12 (F := Ideal) w)

/-- The second result's payload over the blocks. -/
abbrev P9 (t : IVec S2048x1 32) (a : FVec Ideal S2048x2560 .bf16) (w : IVec S25600x2560 8) (ws : FVec Ideal S51200x20 .f32) : FVec Ideal S2048x1 .f32 :=
  k0_pay4 (k0_pay15 (k0_pay6 (F := Ideal) a) (k0_pay10 (F := Ideal) w) (k0_pay11 ws) (k0_pay12 (F := Ideal) w))
    (k0_pay19 (k0_pay6 (F := Ideal) a) (k0_pay10 (F := Ideal) w) (k0_pay11 ws) (k0_pay12 (F := Ideal) w))
    (k0_pay22 (k0_pay6 (F := Ideal) a) (k0_pay7 (F := Ideal) t) (k0_pay10 (F := Ideal) w) (k0_pay11 ws) (k0_pay12 (F := Ideal) w))

/-- The third result's payload over the blocks. -/
abbrev P10 (a : FVec Ideal S2048x2560 .fp8e4m3) (s : FVec Ideal S2048x1 .f32) (w : FVec Ideal S51200x2560 .fp8e4m3)
    (ws : FVec Ideal S1x51200 .f32) (a' : FVec Ideal S2048x2560 .bf16) (w' : IVec S25600x2560 8) (ws' : FVec Ideal S51200x20 .f32) : FVec Ideal S2048x1 .f32 :=
  k0_pay5 (k0_pay14 (k0_pay8 a s w ws))
    (k0_pay15 (k0_pay6 (F := Ideal) a') (k0_pay10 (F := Ideal) w') (k0_pay11 ws') (k0_pay12 (F := Ideal) w'))
    (k0_pay17 (k0_pay8 a s w ws))
    (k0_pay18 (k0_pay6 (F := Ideal) a') (k0_pay8 a s w ws) (k0_pay10 (F := Ideal) w') (k0_pay11 ws') (k0_pay12 (F := Ideal) w'))
    (k0_pay19 (k0_pay6 (F := Ideal) a') (k0_pay10 (F := Ideal) w') (k0_pay11 ws') (k0_pay12 (F := Ideal) w'))
    (k0_pay23 (k0_pay8 a s w ws))

theorem p9_eq (t : IVec S2048x1 32) (a : FVec Ideal S2048x2560 .bf16) (w : IVec S25600x2560 8) (ws : FVec Ideal S51200x20 .f32) :
    P9 t a w ws = LOGP (PQ a w ws) (k0_pay7 (F := Ideal) t) := rfl

theorem p10_eq (a : FVec Ideal S2048x2560 .fp8e4m3) (s : FVec Ideal S2048x1 .f32) (w : FVec Ideal S51200x2560 .fp8e4m3)
    (ws : FVec Ideal S1x51200 .f32) (a' : FVec Ideal S2048x2560 .bf16) (w' : IVec S25600x2560 8) (ws' : FVec Ideal S51200x20 .f32) :
    P10 a s w ws a' w' ws' = KL (k0_pay8 a s w ws) (PQ a' w' ws') := rfl

theorem tgt_at (t : IVec S2048x1 32) (r : Fin 2048) : k0_pay7 (F := Ideal) t (ix2 r 0) = t (ix2 r 0) := by
  pointwise [k0_pay7]

/-- The policy logits of the program's arguments. -/
abbrev ZP (c : Dev nD) (r : Fin 2048) : Fin 51200 → EReal := Heads.zP (A0 m c) (A1 m c) (A3 m c) (A4 m c) r
/-- The reference model's logits of the program's arguments. -/
abbrev ZQ (c : Dev nD) (r : Fin 2048) : Fin 51200 → EReal := Heads.zQ (A2 m c) (A5 m c) (A6 m c) r
/-- The target of a token row. -/
abbrev T (c : Dev nD) (r : Fin 2048) : BitVec 32 := A7 m c (ix2 (⟨r.val / 1024, by omega⟩ : Fin 2) (⟨r.val % 1024, by omega⟩ : Fin 1024))

theorem zp_eq (c : Dev nD) (r : Fin 2048) (v : Fin 51200) :
    (k0_pay8 (F := Ideal) (A0 m c) (V m c main_v0) (A3 m c) (V m c main_v2) (ix2 r v) : EReal) = ZP m c r v := by
  rw [payP, entry1, entry4]; rfl

theorem zq_eq (c : Dev nD) (r : Fin 2048) (v : Fin 51200) :
    (PQ (V m c main_v1) (A5 m c) (A6 m c) (ix2 r v) : EReal)
      = ZQ m c r v := by
  refine (payQ _ _ _ r v).trans (Finset.sum_congr rfl fun k _ => ?_)
  exact congrArg (fun x : EReal => x * _) (entry2 m c r k)

/-- The first result: the policy's log-probabilities of the targets. -/
theorem final8 (c : Dev nD) (r : Fin 2048) : (dats m 0 c).arrAt 8 (cfgs 0).N (ix2 r 0) = Heads.logp (ZP m c r) (T m c r) := by
  have h : (dats m 0 c).arrAt 8 (cfgs 0).N = LOGP (k0_pay8 (A0 m c) (V m c main_v0) (A3 m c) (V m c main_v2)) (k0_pay7 (F := Ideal) (V m c main_v3)) := by
    refine (dats m 0 c).arrAt_eq_of_after_last 8 t0_0 (by decide +kernel) _ fun j => ?_
    blk_simp
    rw [after0_8]
    unfold_out out0_8
    simp only [iblk0, iblk1, iblk2, iblk3, iblk4, iblk5, iblk6, iblk7, r0_0, r0_1, r0_2, r0_3, r0_4, r0_5]
    frame_out
  rw [h, logp_at, tgt_at, entry7]
  exact congrArg (fun z => Heads.logp z (T m c r)) (funext fun v => zp_eq m c r v)

/-- The second result: the reference model's log-probabilities of the targets. -/
theorem final9 (c : Dev nD) (r : Fin 2048) : (dats m 0 c).arrAt 9 (cfgs 0).N (ix2 r 0) = Heads.logp (ZQ m c r) (T m c r) := by
  have h : (dats m 0 c).arrAt 9 (cfgs 0).N = P9 (V m c main_v3) (V m c main_v1) (A5 m c) (A6 m c) := by
    refine (dats m 0 c).arrAt_eq_of_after_last 9 t0_0 (by decide +kernel) _ fun j => ?_
    blk_simp
    rw [after0_9]
    unfold_out out0_9
    simp only [iblk0, iblk1, iblk2, iblk3, iblk4, iblk5, iblk6, iblk7, r0_0, r0_1, r0_2, r0_3, r0_4, r0_5]
    frame_out
  rw [h, p9_eq, logp_at, tgt_at, entry7]
  exact congrArg (fun z => Heads.logp z (T m c r)) (funext fun v => zq_eq m c r v)

/-- The third result: the divergence. -/
theorem final10 (c : Dev nD) (r : Fin 2048) : (dats m 0 c).arrAt 10 (cfgs 0).N (ix2 r 0) = Heads.kl (ZP m c r) (ZQ m c r) := by
  have h : (dats m 0 c).arrAt 10 (cfgs 0).N = P10 (A0 m c) (V m c main_v0) (A3 m c) (V m c main_v2) (V m c main_v1) (A5 m c) (A6 m c) := by
    refine (dats m 0 c).arrAt_eq_of_after_last 10 t0_0 (by decide +kernel) _ fun j => ?_
    blk_simp
    rw [after0_10]
    unfold_out out0_10
    simp only [iblk0, iblk1, iblk2, iblk3, iblk4, iblk5, iblk6, iblk7, r0_0, r0_1, r0_2, r0_3, r0_4, r0_5]
    frame_out
  rw [h, p10_eq, kl_at]
  exact congrArg₂ Heads.kl (funext fun v => zp_eq m c r v) (funext fun v => zq_eq m c r v)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Points
public import proofs.«01_k».proof.Proof.Reference
public import Idealize.ShloMosaic.Adequacy
public import Idealize.ShloMosaic.Init

@[expose] public section

noncomputable section

namespace Cert.Proof

open Idealize.ShloMosaic Idealize.SL.Sem Cert.Kernel

/-- A column vector is read at its rows. -/
theorem col_ext {a b : (⟨2, ![2048, 1]⟩ : Shape).Idx → EReal} (h : ∀ r : Fin 2048, a (ix2 r 0) = b (ix2 r 0)) : a = b := by
  funext y
  have e : (ix2 (y 0) 0 : (⟨2, ![2048, 1]⟩ : Shape).Idx) = y := by
    funext k
    refine Fin.cases rfl (fun k => ?_) k
    obtain rfl : k = 0 := Subsingleton.elim _ _
    exact (Subsingleton.elim (α := Fin 1) _ _)
  have := h (y 0)
  rw [e] at this
  exact this

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Equal arguments have equal policy logits. -/
theorem zp_agree (h0 : Cert.ReferenceIdeal.Value.A0 m' c = Cert.KernelIdeal.Value.A0 m c) (h1 : Cert.ReferenceIdeal.Value.A1 m' c = Cert.KernelIdeal.Value.A1 m c)
    (h3 : Cert.ReferenceIdeal.Value.A3 m' c = Cert.KernelIdeal.Value.A3 m c) (h4 : Cert.ReferenceIdeal.Value.A4 m' c = Cert.KernelIdeal.Value.A4 m c) (r : Fin 2048) :
    Cert.ReferenceIdeal.Value.ZP m' c r = Cert.KernelIdeal.Value.ZP m c r := by
  unfold Cert.ReferenceIdeal.Value.ZP Cert.KernelIdeal.Value.ZP
  rw [h0, h1, h3, h4]

/-- Equal arguments have equal reference logits. -/
theorem zq_agree (h2 : Cert.ReferenceIdeal.Value.A2 m' c = Cert.KernelIdeal.Value.A2 m c)
    (h5 : Cert.ReferenceIdeal.Value.A5 m' c = Cert.KernelIdeal.Value.A5 m c) (h6 : Cert.ReferenceIdeal.Value.A6 m' c = Cert.KernelIdeal.Value.A6 m c) (r : Fin 2048) :
    Cert.ReferenceIdeal.Value.ZQ m' c r = Cert.KernelIdeal.Value.ZQ m c r := by
  unfold Cert.ReferenceIdeal.Value.ZQ Cert.KernelIdeal.Value.ZQ
  rw [h2, h5, h6]

/-- Equal arguments have equal targets. -/
theorem t_agree (h7 : Cert.ReferenceIdeal.Value.A7 m' c = Cert.KernelIdeal.Value.A7 m c) (r : Fin 2048) :
    Cert.ReferenceIdeal.Value.T m' c r = Cert.KernelIdeal.Value.T m c r := by
  unfold Cert.ReferenceIdeal.Value.T Cert.KernelIdeal.Value.T
  rw [h7]
end

/-- The three results of the idealised kernel are the three results of the idealised reference, from equal arguments. -/
theorem algebraic : Cert.algebraic_KernelIdeal_ReferenceIdeal := by
  pair_intro
  · run_from Cert.KernelIdeal.Value.run m g
  · run_from Cert.ReferenceIdeal.Value.run_blocks m' g'
    all_goals obtain ⟨h0, h1, h2, h3, h4, h5, h6, h7⟩ := hagree c
    · refine col_ext fun r => ?_
      rw [Cert.KernelIdeal.Value.result8, ← zp_agree m m' c h0 h1 h3 h4, ← t_agree m m' c h7]
      exact Cert.ReferenceIdeal.Value.final8 m' c r
    · refine col_ext fun r => ?_
      rw [Cert.KernelIdeal.Value.result9, ← zq_agree m m' c h2 h5 h6, ← t_agree m m' c h7]
      exact Cert.ReferenceIdeal.Value.final9 m' c r
    · refine col_ext fun r => ?_
      rw [Cert.KernelIdeal.Value.result10, ← zp_agree m m' c h0 h1 h3 h4, ← zq_agree m m' c h2 h5 h6]
      exact Cert.ReferenceIdeal.Value.final10 m' c r

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩,
  algebraic⟩

end Cert.Proof

end
